-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def Pre_Kernel2 [hPre_planned : Cert.Pre_planned.Facts] (m : (ℓ : Loc Cert.Kernel2.nD Cert.Kernel2.τ Cert.Kernel2.sig) → Buf (Elt Bits) ℓ) : Prop :=
  ∀ c : Dev Cert.Kernel2.nD,
    (Cert.Pre_planned.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5))) = (fun _ => 1#1)

def Pre_Kernel2Ideal [hPre_planned : Cert.Pre_planned.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_planned.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_planned [hPre_planned : Cert.Pre_planned.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_planned.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite_ctx [hPre_finite_ctx : Cert.Pre_finite_ctx.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite_ctx.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite_ctx [hPre_finite_ctx : Cert.Pre_finite_ctx.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite_ctx.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Kernel2 [hKernel2 : Cert.Kernel2.Facts] [hPre_planned : Cert.Pre_planned.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] [hPre_planned : Cert.Pre_planned.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Reference2Ideal_pre_planned [hReference2Ideal : Cert.Reference2Ideal.Facts] [hPre_planned : Cert.Pre_planned.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_planned m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Kernel5Ideal_pre_finite_ctx [hKernel5Ideal : Cert.Kernel5Ideal.Facts] [hPre_finite_ctx : Cert.Pre_finite_ctx.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite_ctx m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Reference5Ideal_pre_finite_ctx [hReference5Ideal : Cert.Reference5Ideal.Facts] [hPre_finite_ctx : Cert.Pre_finite_ctx.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite_ctx m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def preserves_Kernel_KernelIdeal : Prop :=
  IdealRules.named_const.Statement Cert.KernelIdeal.κ "q_scale" .f32 0x3E38AA3B#32 (((1 / 8) * (Real.log 2)⁻¹ : ℝ) : EReal)

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v14_0)) (v1 : (c : Dev Cert.KernelIdeal.nD) → Buf (Elt Ideal) ((c.tc : Thread Cert.KernelIdeal.nD Cert.KernelIdeal.τ).loc Cert.KernelIdeal.main_v14_1)) (v2 : (c : Dev Cert.KernelIdeal.nD) → Buf (Elt Ideal) ((c.tc : Thread Cert.KernelIdeal.nD Cert.KernelIdeal.τ).loc Cert.KernelIdeal.main_v14_2)) (v3 : (c : Dev Cert.KernelIdeal.nD) → Buf (Elt Ideal) ((c.tc : Thread Cert.KernelIdeal.nD Cert.KernelIdeal.τ).loc Cert.KernelIdeal.main_v14_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14_0) = v0 c
          ∧ r.2.mem ((c.tc : Thread Cert.KernelIdeal.nD Cert.KernelIdeal.τ).loc Cert.KernelIdeal.main_v14_1) = v1 c
          ∧ r.2.mem ((c.tc : Thread Cert.KernelIdeal.nD Cert.KernelIdeal.τ).loc Cert.KernelIdeal.main_v14_2) = v2 c
          ∧ r.2.mem ((c.tc : Thread Cert.KernelIdeal.nD Cert.KernelIdeal.τ).loc Cert.KernelIdeal.main_v14_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_v29) = v1 c
          ∧ r.2.mem ((c.tc : Thread Cert.ReferenceIdeal.nD Cert.ReferenceIdeal.τ).loc Cert.ReferenceIdeal.main_v30) = v2 c
          ∧ r.2.mem ((c.tc : Thread Cert.ReferenceIdeal.nD Cert.ReferenceIdeal.τ).loc Cert.ReferenceIdeal.main_v31) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Kernel2_Kernel2Ideal : Prop :=
  IdealRules.bf16_pair.BufferStatement Cert.Kernel2Ideal.S3x1024x2x512 Cert.Kernel2Ideal.S3x1024x1x512
  ∧ IdealRules.bf16_pair.Statement Cert.Kernel2Ideal.S2048x512 Cert.Kernel2Ideal.S1024x512
  ∧ IdealRules.bf16_pair.Statement Cert.Kernel2Ideal.S1x1024x2x512 Cert.Kernel2Ideal.S1x1024x1x512
  ∧ IdealRules.bf16_pack.Statement Cert.Kernel2Ideal.S1024x512

def algebraic_Kernel2Ideal_Reference2Ideal [hKernel2Ideal : Cert.Kernel2Ideal.Facts] [hReference2Ideal : Cert.Reference2Ideal.Facts] [hPre_planned : Cert.Pre_planned.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v16)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v16) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v26) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  IdealRules.bf16_pair.Statement Cert.Kernel3Ideal.S2048x512 Cert.Kernel3Ideal.S1024x512

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v8)) (v1 : (c : Dev Cert.Kernel3Ideal.nD) → Buf (Elt Ideal) ((c.tc : Thread Cert.Kernel3Ideal.nD Cert.Kernel3Ideal.τ).loc Cert.Kernel3Ideal.main_v13)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v8) = v0 c
          ∧ r.2.mem ((c.tc : Thread Cert.Kernel3Ideal.nD Cert.Kernel3Ideal.τ).loc Cert.Kernel3Ideal.main_v13) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v30) = v0 c
          ∧ r.2.mem ((c.tc : Thread Cert.Reference3Ideal.nD Cert.Reference3Ideal.τ).loc Cert.Reference3Ideal.main_v31) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v6)) (v1 : (c : Dev Cert.Kernel4Ideal.nD) → Buf (Elt Ideal) ((c.tc : Thread Cert.Kernel4Ideal.nD Cert.Kernel4Ideal.τ).loc Cert.Kernel4Ideal.main_v8)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v6) = v0 c
          ∧ r.2.mem ((c.tc : Thread Cert.Kernel4Ideal.nD Cert.Kernel4Ideal.τ).loc Cert.Kernel4Ideal.main_v8) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v8) = v0 c
          ∧ r.2.mem ((c.tc : Thread Cert.Reference4Ideal.nD Cert.Reference4Ideal.τ).loc Cert.Reference4Ideal.main_v17) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  IdealRules.named_const.Statement Cert.Kernel5Ideal.κ "q_scale" .f32 0x3E38AA3B#32 (((1 / 8) * (Real.log 2)⁻¹ : ℝ) : EReal)

def algebraic_Kernel5Ideal_Reference5Ideal_pre_finite_ctx [hKernel5Ideal : Cert.Kernel5Ideal.Facts] [hReference5Ideal : Cert.Reference5Ideal.Facts] [hPre_finite_ctx : Cert.Pre_finite_ctx.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite_ctx m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v9)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v9) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v24) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite_scores : Cert.Pre_finite_scores.Facts) (hPre_planned : Cert.Pre_planned.Facts) (hPre_finite_ctx : Cert.Pre_finite_ctx.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2) (hPre_planned := hPre_planned)
    ∧ quiescent_Kernel2Ideal (hKernel2Ideal := hKernel2Ideal) (hPre_planned := hPre_planned)
    ∧ quiescent_Reference2Ideal (hReference2Ideal := hReference2Ideal)
    ∧ quiescent_Reference2Ideal_pre_planned (hReference2Ideal := hReference2Ideal) (hPre_planned := hPre_planned)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_finite_ctx (hKernel5Ideal := hKernel5Ideal) (hPre_finite_ctx := hPre_finite_ctx)
    ∧ quiescent_Reference5Ideal (hReference5Ideal := hReference5Ideal)
    ∧ quiescent_Reference5Ideal_pre_finite_ctx (hReference5Ideal := hReference5Ideal) (hPre_finite_ctx := hPre_finite_ctx)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal (hKernel2Ideal := hKernel2Ideal) (hReference2Ideal := hReference2Ideal) (hPre_planned := hPre_planned)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_finite_ctx (hKernel5Ideal := hKernel5Ideal) (hReference5Ideal := hReference5Ideal) (hPre_finite_ctx := hPre_finite_ctx)
-- ==== Pre_finite_ctx.lean ====
abbrev S16384x1024 : Shape := ⟨2, ![16384, 1024]⟩
abbrev S16384x256 : Shape := ⟨2, ![16384, 256]⟩
abbrev S8192x1024 : Shape := ⟨2, ![8192, 1024]⟩
abbrev S_ : Shape := ⟨0, ![]⟩
abbrev S8192x256 : Shape := ⟨2, ![8192, 256]⟩

class Facts : Prop where
  slices_S16384x1024_S8192x1024_0_0 : S16384x1024.Slices ![0, 0] S8192x1024
  bcast_S_S8192x1024 : S_.BroadcastsInDim S8192x1024 (![] : Fin 0 → Fin S8192x1024.rank)
  reducesTo_S8192x1024_S_d0_1 : S8192x1024.ReducesTo [0, 1] S_
  h_S_ : 0 < S_.numel
  slices_S16384x256_S8192x256_0_0 : S16384x256.Slices ![0, 0] S8192x256
  bcast_S_S8192x256 : S_.BroadcastsInDim S8192x256 (![] : Fin 0 → Fin S8192x256.rank)
  reducesTo_S8192x256_S_d0_1 : S8192x256.ReducesTo [0, 1] S_

variable [Facts]

def fn {F : FTy → Type} [FloatOps F] (main_arg0 : FVec F S16384x1024 .f32) (main_arg1 : FVec F S16384x256 .f32) (main_arg2 : FVec F S16384x256 .f32) : IVec S_ 1 :=
  let main_v0 : FVec F S8192x1024 .f32 := (extractStridedSlice S8192x1024 ![0, 0] · slices_S16384x1024_S8192x1024_0_0) main_arg0
  let main_v1 : FVec F S8192x1024 .f32 := Host.absf main_v0
  let main_cst : FVec F S_ .f32 := constant S_ .f32 0x7F800000#32
  let main_v2 : FVec F S8192x1024 .f32 := broadcastInDim S8192x1024 ![] bcast_S_S8192x1024 main_cst
  let main_v3 : IVec S8192x1024 1 := cmpf .olt main_v1 main_v2
  let main_c : IVec S_ 1 := constantI S_ 1 1#1
  let main_v4 : IVec S_ 1 := (fun x v => Host.reduce IntOp.andi x v reducesTo_S8192x1024_S_d0_1 h_S_) main_v3 main_c
  let main_v5 : FVec F S8192x256 .f32 := (extractStridedSlice S8192x256 ![0, 0] · slices_S16384x256_S8192x256_0_0) main_arg1
  let main_v6 : FVec F S8192x256 .f32 := Host.absf main_v5
  let main_cst_0 : FVec F S_ .f32 := constant S_ .f32 0x7F800000#32
  let main_v7 : FVec F S8192x256 .f32 := broadcastInDim S8192x256 ![] bcast_S_S8192x256 main_cst_0
  let main_v8 : IVec S8192x256 1 := cmpf .olt main_v6 main_v7
  let main_c_1 : IVec S_ 1 := constantI S_ 1 1#1
  let main_v9 : IVec S_ 1 := (fun x v => Host.reduce IntOp.andi x v reducesTo_S8192x256_S_d0_1 h_S_) main_v8 main_c_1
  let main_v10 : IVec S_ 1 := andi main_v4 main_v9
  main_v10
-- ==== Pre_finite_scores.lean ====
abbrev S16384x1024 : Shape := ⟨2, ![16384, 1024]⟩
abbrev S16384x256 : Shape := ⟨2, ![16384, 256]⟩
abbrev S8x512x4x64 : Shape := ⟨4, ![8, 512, 4, 64]⟩
abbrev S2x32x1024x256 : Shape := ⟨4, ![2, 32, 1024, 256]⟩
abbrev S2x32x256x1024 : Shape := ⟨4, ![2, 32, 256, 1024]⟩
abbrev S8192x1024 : Shape := ⟨2, ![8192, 1024]⟩
abbrev S_ : Shape := ⟨0, ![]⟩
abbrev S8192x256 : Shape := ⟨2, ![8192, 256]⟩

class Facts : Prop where
  slices_S16384x1024_S8192x1024_8192_0 : S16384x1024.Slices ![8192, 0] S8192x1024
  bcast_S_S8192x1024 : S_.BroadcastsInDim S8192x1024 (![] : Fin 0 → Fin S8192x1024.rank)
  reducesTo_S8192x1024_S_d0_1 : S8192x1024.ReducesTo [0, 1] S_
  h_S_ : 0 < S_.numel
  slices_S16384x256_S8192x256_8192_0 : S16384x256.Slices ![8192, 0] S8192x256
  bcast_S_S8192x256 : S_.BroadcastsInDim S8192x256 (![] : Fin 0 → Fin S8192x256.rank)
  reducesTo_S8192x256_S_d0_1 : S8192x256.ReducesTo [0, 1] S_
  bcast_S_S8x512x4x64 : S_.BroadcastsInDim S8x512x4x64 (![] : Fin 0 → Fin S8x512x4x64.rank)
  reducesTo_S8x512x4x64_S_d0_1_2_3 : S8x512x4x64.ReducesTo [0, 1, 2, 3] S_

variable [Facts]

def fn {F : FTy → Type} [FloatOps F] (main_arg0 : FVec F S16384x1024 .f32) (main_arg1 : FVec F S16384x256 .f32) (main_arg2 : FVec F S16384x256 .f32) (main_arg3 : FVec F S8x512x4x64 .f32) (main_arg4 : FVec F S8x512x4x64 .f32) (main_arg5 : FVec F S2x32x1024x256 .f32) (main_arg6 : FVec F S2x32x1024x256 .f32) (main_arg7 : FVec F S2x32x256x1024 .f32) (main_arg8 : FVec F S16384x1024 .bf16) : IVec S_ 1 :=
  let main_v0 : FVec F S8192x1024 .f32 := (extractStridedSlice S8192x1024 ![8192, 0] · slices_S16384x1024_S8192x1024_8192_0) main_arg0
  let main_v1 : FVec F S8192x1024 .f32 := Host.absf main_v0
  let main_cst : FVec F S_ .f32 := constant S_ .f32 0x7F800000#32
  let main_v2 : FVec F S8192x1024 .f32 := broadcastInDim S8192x1024 ![] bcast_S_S8192x1024 main_cst
  let main_v3 : IVec S8192x1024 1 := cmpf .olt main_v1 main_v2
  let main_c : IVec S_ 1 := constantI S_ 1 1#1
  let main_v4 : IVec S_ 1 := (fun x v => Host.reduce IntOp.andi x v reducesTo_S8192x1024_S_d0_1 h_S_) main_v3 main_c
  let main_v5 : FVec F S8192x256 .f32 := (extractStridedSlice S8192x256 ![8192, 0] · slices_S16384x256_S8192x256_8192_0) main_arg1
  let main_v6 : FVec F S8192x256 .f32 := Host.absf main_v5
  let main_cst_0 : FVec F S_ .f32 := constant S_ .f32 0x7F800000#32
  let main_v7 : FVec F S8192x256 .f32 := broadcastInDim S8192x256 ![] bcast_S_S8192x256 main_cst_0
  let main_v8 : IVec S8192x256 1 := cmpf .olt main_v6 main_v7
  let main_c_1 : IVec S_ 1 := constantI S_ 1 1#1
  let main_v9 : IVec S_ 1 := (fun x v => Host.reduce IntOp.andi x v reducesTo_S8192x256_S_d0_1 h_S_) main_v8 main_c_1
  let main_v10 : IVec S_ 1 := andi main_v4 main_v9
  let main_v11 : FVec F S8x512x4x64 .f32 := Host.absf main_arg3
  let main_cst_2 : FVec F S_ .f32 := constant S_ .f32 0x7F800000#32
  let main_v12 : FVec F S8x512x4x64 .f32 := broadcastInDim S8x512x4x64 ![] bcast_S_S8x512x4x64 main_cst_2
  let main_v13 : IVec S8x512x4x64 1 := cmpf .olt main_v11 main_v12
  let main_c_3 : IVec S_ 1 := constantI S_ 1 1#1
  let main_v14 : IVec S_ 1 := (fun x v => Host.reduce IntOp.andi x v reducesTo_S8x512x4x64_S_d0_1_2_3 h_S_) main_v13 main_c_3
  let main_v15 : IVec S_ 1 := andi main_v10 main_v14
  main_v15
-- ==== Pre_planned.lean ====
abbrev S64 : Shape := ⟨1, ![64]⟩
abbrev S1 : Shape := ⟨1, ![1]⟩
abbrev S65536x1024 : Shape := ⟨2, ![65536, 1024]⟩
abbrev S2x32x1024x256 : Shape := ⟨4, ![2, 32, 1024, 256]⟩
abbrev S2x32x256x1024 : Shape := ⟨4, ![2, 32, 256, 1024]⟩
abbrev S_ : Shape := ⟨0, ![]⟩

class Facts : Prop where
  bcast_S_S64 : S_.BroadcastsInDim S64 (![] : Fin 0 → Fin S64.rank)
  reducesTo_S64_S_d0 : S64.ReducesTo [0] S_
  h_S_ : 0 < S_.numel
  shapeCasts_S1_S_ : S1.ShapeCasts S_

variable [Facts]

def fn {F : FTy → Type} [FloatOps F] (main_arg0 : IVec S64 32) (main_arg1 : IVec S1 32) (main_arg2 : FVec F S65536x1024 .f32) (main_arg3 : FVec F S2x32x1024x256 .f32) (main_arg4 : FVec F S2x32x1024x256 .f32) (main_arg5 : FVec F S2x32x256x1024 .f32) : IVec S_ 1 :=
  let main_c : IVec S_ 32 := constantI S_ 32 0#32
  let main_v0 : IVec S64 32 := broadcastInDim S64 ![] bcast_S_S64 main_c
  let main_v1 : IVec S64 1 := cmpi .sge main_arg0 main_v0
  let main_c_0 : IVec S_ 32 := constantI S_ 32 32#32
  let main_v2 : IVec S64 32 := broadcastInDim S64 ![] bcast_S_S64 main_c_0
  let main_v3 : IVec S64 1 := cmpi .slt main_arg0 main_v2
  let main_v4 : IVec S64 1 := andi main_v1 main_v3
  let main_c_1 : IVec S_ 1 := constantI S_ 1 1#1
  let main_v5 : IVec S_ 1 := (fun x v => Host.reduce IntOp.andi x v reducesTo_S64_S_d0 h_S_) main_v4 main_c_1
  let main_v6 : IVec S_ 32 := shapeCast S_ main_arg1 shapeCasts_S1_S_
  let main_c_2 : IVec S_ 32 := constantI S_ 32 1#32
  let main_v7 : IVec S_ 1 := cmpi .sge main_v6 main_c_2
  let main_v8 : IVec S_ 1 := andi main_v5 main_v7
  let main_v9 : IVec S_ 32 := shapeCast S_ main_arg1 shapeCasts_S1_S_
  let main_c_3 : IVec S_ 32 := constantI S_ 32 64#32
  let main_v10 : IVec S_ 1 := cmpi .sle main_v9 main_c_3
  let main_v11 : IVec S_ 1 := andi main_v8 main_v10
  main_v11
-- ==== Kernel.lean ====
abbrev S16384x1024 : Shape := ⟨2, ![16384, 1024]⟩
abbrev S16384x256 : Shape := ⟨2, ![16384, 256]⟩
abbrev S8x512x4x64 : Shape := ⟨4, ![8, 512, 4, 64]⟩
abbrev S2x32x1024x256 : Shape := ⟨4, ![2, 32, 1024, 256]⟩
abbrev S2x32x256x1024 : Shape := ⟨4, ![2, 32, 256, 1024]⟩
abbrev S64x256x1024 : Shape := ⟨3, ![64, 256, 1024]⟩
abbrev S64x1024x256 : Shape := ⟨3, ![64, 1024, 256]⟩
abbrev S16384x4x64 : Shape := ⟨3, ![16384, 4, 64]⟩
abbrev S16384x4x128 : Shape := ⟨3, ![16384, 4, 128]⟩
abbrev S16384x512 : Shape := ⟨2, ![16384, 512]⟩
abbrev S256x16384 : Shape := ⟨2, ![256, 16384]⟩
abbrev S8x512x4x128 : Shape := ⟨4, ![8, 512, 4, 128]⟩
abbrev S8x512x512 : Shape := ⟨3, ![8, 512, 512]⟩
abbrev S8x512x256 : Shape := ⟨3, ![8, 512, 256]⟩
abbrev S8x256x512 : Shape := ⟨3, ![8, 256, 512]⟩
abbrev S1x1024x256 : Shape := ⟨3, ![1, 1024, 256]⟩
abbrev S1x512x512 : Shape := ⟨3, ![1, 512, 512]⟩
abbrev S1x256x512 : Shape := ⟨3, ![1, 256, 512]⟩
abbrev S1024x512 : Shape := ⟨2, ![1024, 512]⟩
abbrev S256x1024 : Shape := ⟨2, ![256, 1024]⟩
abbrev S1x2x1024x256 : Shape := ⟨4, ![1, 2, 1024, 256]⟩
abbrev S1x2x256x1024 : Shape := ⟨4, ![1, 2, 256, 1024]⟩
abbrev S1024x256 : Shape := ⟨2, ![1024, 256]⟩
abbrev S1x256x128 : Shape := ⟨3, ![1, 256, 128]⟩
abbrev S256x128 : Shape := ⟨2, ![256, 128]⟩
abbrev S128x256 : Shape := ⟨2, ![128, 256]⟩
abbrev S128x512 : Shape := ⟨2, ![128, 512]⟩
abbrev S256x512 : Shape := ⟨2, ![256, 512]⟩
abbrev S1x64x256 : Shape := ⟨3, ![1, 64, 256]⟩
abbrev S64x256 : Shape := ⟨2, ![64, 256]⟩
abbrev S512 : Shape := ⟨1, ![512]⟩
abbrev S1x512 : Shape := ⟨2, ![1, 512]⟩
abbrev S64x512 : Shape := ⟨2, ![64, 512]⟩

abbrev nBuf : Space → Nat
  | .hbm => 27
  | .vmem => 24
  | .smem => 0
  | _ => 0

abbrev bufTy : (tb : Table) → Fin (tcTables nBuf tb) → BufTy
  | .hbm, ⟨0, _⟩ => ⟨S16384x1024, .f32⟩
  | .hbm, ⟨1, _⟩ => ⟨S16384x256, .f32⟩
  | .hbm, ⟨2, _⟩ => ⟨S16384x256, .f32⟩
  | .hbm, ⟨3, _⟩ => ⟨S8x512x4x64, .f32⟩
  | .hbm, ⟨4, _⟩ => ⟨S8x512x4x64, .f32⟩
  | .hbm, ⟨5, _⟩ => ⟨S2x32x1024x256, .f32⟩
  | .hbm, ⟨6, _⟩ => ⟨S2x32x1024x256, .f32⟩
  | .hbm, ⟨7, _⟩ => ⟨S2x32x256x1024, .f32⟩
  | .hbm, ⟨8, _⟩ => ⟨S16384x1024, .bf16⟩
  | .hbm, ⟨9, _⟩ => ⟨S64x256x1024, .f32⟩
  | .hbm, ⟨10, _⟩ => ⟨S64x1024x256, .f32⟩
  | .hbm, ⟨11, _⟩ => ⟨S16384x4x64, .f32⟩
  | .hbm, ⟨12, _⟩ => ⟨S16384x4x128, .f32⟩
  | .hbm, ⟨13, _⟩ => ⟨S16384x512, .f32⟩
  | .hbm, ⟨14, _⟩ => ⟨S16384x512, .bf16⟩
  | .hbm, ⟨15, _⟩ => ⟨S256x16384, .f32⟩
  | .hbm, ⟨16, _⟩ => ⟨S256x16384, .bf16⟩
  | .hbm, ⟨17, _⟩ => ⟨S8x512x4x128, .f32⟩
  | .hbm, ⟨18, _⟩ => ⟨S8x512x512, .f32⟩
  | .hbm, ⟨19, _⟩ => ⟨S8x512x512, .bf16⟩
  | .hbm, ⟨20, _⟩ => ⟨S8x512x256, .f32⟩
  | .hbm, ⟨21, _⟩ => ⟨S8x256x512, .f32⟩
  | .hbm, ⟨22, _⟩ => ⟨S8x256x512, .bf16⟩
  | .hbm, ⟨23, _⟩ => ⟨S16384x1024, .bf16⟩
  | .hbm, ⟨24, _⟩ => ⟨S2x32x1024x256, .bf16⟩
  | .hbm, ⟨25, _⟩ => ⟨S2x32x1024x256, .bf16⟩
  | .hbm, ⟨26, _⟩ => ⟨S2x32x256x1024, .bf16⟩
  | .local _ .vmem, ⟨0, _⟩ => ⟨S1x1024x256, .f32⟩
  | .local _ .vmem, ⟨1, _⟩ => ⟨S1x1024x256, .f32⟩
  | .local _ .vmem, ⟨2, _⟩ => ⟨S1x512x512, .bf16⟩
  | .local _ .vmem, ⟨3, _⟩ => ⟨S1x512x512, .bf16⟩
  | .local _ .vmem, ⟨4, _⟩ => ⟨S1x256x512, .bf16⟩
  | .local _ .vmem, ⟨5, _⟩ => ⟨S1x256x512, .bf16⟩
  | .local _ .vmem, ⟨6, _⟩ => ⟨S1024x512, .bf16⟩
  | .local _ .vmem, ⟨7, _⟩ => ⟨S1024x512, .bf16⟩
  | .local _ .vmem, ⟨8, _⟩ => ⟨S256x1024, .bf16⟩
  | .local _ .vmem, ⟨9, _⟩ => ⟨S256x1024, .bf16⟩
  | .local _ .vmem, ⟨10, _⟩ => ⟨S1x2x1024x256, .f32⟩
  | .local _ .vmem, ⟨11, _⟩ => ⟨S1x2x1024x256, .f32⟩
  | .local _ .vmem, ⟨12, _⟩ => ⟨S1x2x1024x256, .f32⟩
  | .local _ .vmem, ⟨13, _⟩ => ⟨S1x2x1024x256, .f32⟩
  | .local _ .vmem, ⟨14, _⟩ => ⟨S1x2x256x1024, .f32⟩
  | .local _ .vmem, ⟨15, _⟩ => ⟨S1x2x256x1024, .f32⟩
  | .local _ .vmem, ⟨16, _⟩ => ⟨S256x1024, .bf16⟩
  | .local _ .vmem, ⟨17, _⟩ => ⟨S256x1024, .bf16⟩
  | .local _ .vmem, ⟨18, _⟩ => ⟨S1x2x1024x256, .bf16⟩
  | .local _ .vmem, ⟨19, _⟩ => ⟨S1x2x1024x256, .bf16⟩
  | .local _ .vmem, ⟨20, _⟩ => ⟨S1x2x1024x256, .bf16⟩
  | .local _ .vmem, ⟨21, _⟩ => ⟨S1x2x1024x256, .bf16⟩
  | .local _ .vmem, ⟨22, _⟩ => ⟨S1x2x256x1024, .bf16⟩
  | .local _ .vmem, ⟨23, _⟩ => ⟨S1x2x256x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14_0 : Ref sig .tc := ⟨.hbm, 23, rfl⟩
abbrev main_v14_1 : Ref sig .tc := ⟨.hbm, 24, rfl⟩
abbrev main_v14_2 : Ref sig .tc := ⟨.hbm, 25, rfl⟩
abbrev main_v14_3 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c32_i32 : BitVec 32 := 32#32
  let v1 : BitVec 32 := Scalar.addi c32_i32 v0
  let v2 : BitVec 32 := Scalar.addi v1 arg1
  let c0_i32 : BitVec 32 := 0#32
  let c0_i32_0 : BitVec 32 := 0#32
  let c0_i32_1 : BitVec 32 := 0#32
  ![v2.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_5 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c16_i32 : BitVec 32 := 16#32
  let v2 : BitVec 32 := Scalar.divsi v1 c16_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c16_i32 c0_i32_1
  let v9 : BitVec 32 := Scalar.extui v8
  let c0_i32_2 : BitVec 32 := 0#32
  let v10 : BitVec 1 := Scalar.cmpi .slt c16_i32 c0_i32_2
  let v11 : BitVec 32 := Scalar.extui v10
  let v12 : BitVec 32 := Scalar.subi v9 v11
  let v13 : BitVec 1 := Scalar.cmpi .ne v7 v12
  let v14 : BitVec 32 := Scalar.remsi v1 c16_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c4_i32_4 : BitVec 32 := 4#32
  let v19 : BitVec 32 := Scalar.muli arg0 c4_i32_4
  let v20 : BitVec 32 := Scalar.addi v19 arg1
  let c16_i32_5 : BitVec 32 := 16#32
  let c0_i32_6 : BitVec 32 := 0#32
  let v21 : BitVec 1 := Scalar.cmpi .eq c16_i32_5 c0_i32_6
  let c1_i32_7 : BitVec 32 := 1#32
  let v22 : BitVec 32 := Scalar.select v21 c1_i32_7 c16_i32_5
  let v23 : BitVec 32 := Scalar.remsi v20 v22
  let c0_i32_8 : BitVec 32 := 0#32
  let v24 : BitVec 1 := Scalar.cmpi .ne v23 c0_i32_8
  let c0_i32_9 : BitVec 32 := 0#32
  let v25 : BitVec 1 := Scalar.cmpi .slt v23 c0_i32_9
  let c0_i32_10 : BitVec 32 := 0#32
  let v26 : BitVec 1 := Scalar.cmpi .slt v22 c0_i32_10
  let v27 : BitVec 1 := Scalar.xori v25 v26
  let v28 : BitVec 1 := Scalar.andi v27 v24
  let v29 : BitVec 32 := Scalar.addi v23 v22
  let v30 : BitVec 32 := Scalar.select v28 v29 v23
  let c0_i32_11 : BitVec 32 := 0#32
  let c0_i32_12 : BitVec 32 := 0#32
  let c0_i32_13 : BitVec 32 := 0#32
  ![v18.toNat, v30.toNat, c0_i32_11.toNat, c0_i32_12.toNat]

def cc0_transform_6 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c16_i32 : BitVec 32 := 16#32
  let v2 : BitVec 32 := Scalar.divsi v1 c16_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c16_i32 c0_i32_1
  let v9 : BitVec 32 := Scalar.extui v8
  let c0_i32_2 : BitVec 32 := 0#32
  let v10 : BitVec 1 := Scalar.cmpi .slt c16_i32 c0_i32_2
  let v11 : BitVec 32 := Scalar.extui v10
  let v12 : BitVec 32 := Scalar.subi v9 v11
  let v13 : BitVec 1 := Scalar.cmpi .ne v7 v12
  let v14 : BitVec 32 := Scalar.remsi v1 c16_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c4_i32_4 : BitVec 32 := 4#32
  let v19 : BitVec 32 := Scalar.muli arg0 c4_i32_4
  let v20 : BitVec 32 := Scalar.addi v19 arg1
  let c16_i32_5 : BitVec 32 := 16#32
  let c0_i32_6 : BitVec 32 := 0#32
  let v21 : BitVec 1 := Scalar.cmpi .eq c16_i32_5 c0_i32_6
  let c1_i32_7 : BitVec 32 := 1#32
  let v22 : BitVec 32 := Scalar.select v21 c1_i32_7 c16_i32_5
  let v23 : BitVec 32 := Scalar.remsi v20 v22
  let c0_i32_8 : BitVec 32 := 0#32
  let v24 : BitVec 1 := Scalar.cmpi .ne v23 c0_i32_8
  let c0_i32_9 : BitVec 32 := 0#32
  let v25 : BitVec 1 := Scalar.cmpi .slt v23 c0_i32_9
  let c0_i32_10 : BitVec 32 := 0#32
  let v26 : BitVec 1 := Scalar.cmpi .slt v22 c0_i32_10
  let v27 : BitVec 1 := Scalar.xori v25 v26
  let v28 : BitVec 1 := Scalar.andi v27 v24
  let v29 : BitVec 32 := Scalar.addi v23 v22
  let v30 : BitVec 32 := Scalar.select v28 v29 v23
  let c0_i32_11 : BitVec 32 := 0#32
  let c0_i32_12 : BitVec 32 := 0#32
  let c0_i32_13 : BitVec 32 := 0#32
  ![v18.toNat, v30.toNat, c0_i32_11.toNat, c0_i32_12.toNat]

def cc0_transform_7 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c16_i32 : BitVec 32 := 16#32
  let v2 : BitVec 32 := Scalar.divsi v1 c16_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c16_i32 c0_i32_1
  let v9 : BitVec 32 := Scalar.extui v8
  let c0_i32_2 : BitVec 32 := 0#32
  let v10 : BitVec 1 := Scalar.cmpi .slt c16_i32 c0_i32_2
  let v11 : BitVec 32 := Scalar.extui v10
  let v12 : BitVec 32 := Scalar.subi v9 v11
  let v13 : BitVec 1 := Scalar.cmpi .ne v7 v12
  let v14 : BitVec 32 := Scalar.remsi v1 c16_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c4_i32_4 : BitVec 32 := 4#32
  let v19 : BitVec 32 := Scalar.muli arg0 c4_i32_4
  let v20 : BitVec 32 := Scalar.addi v19 arg1
  let c16_i32_5 : BitVec 32 := 16#32
  let c0_i32_6 : BitVec 32 := 0#32
  let v21 : BitVec 1 := Scalar.cmpi .eq c16_i32_5 c0_i32_6
  let c1_i32_7 : BitVec 32 := 1#32
  let v22 : BitVec 32 := Scalar.select v21 c1_i32_7 c16_i32_5
  let v23 : BitVec 32 := Scalar.remsi v20 v22
  let c0_i32_8 : BitVec 32 := 0#32
  let v24 : BitVec 1 := Scalar.cmpi .ne v23 c0_i32_8
  let c0_i32_9 : BitVec 32 := 0#32
  let v25 : BitVec 1 := Scalar.cmpi .slt v23 c0_i32_9
  let c0_i32_10 : BitVec 32 := 0#32
  let v26 : BitVec 1 := Scalar.cmpi .slt v22 c0_i32_10
  let v27 : BitVec 1 := Scalar.xori v25 v26
  let v28 : BitVec 1 := Scalar.andi v27 v24
  let v29 : BitVec 32 := Scalar.addi v23 v22
  let v30 : BitVec 32 := Scalar.select v28 v29 v23
  let c0_i32_11 : BitVec 32 := 0#32
  let c0_i32_12 : BitVec 32 := 0#32
  let c0_i32_13 : BitVec 32 := 0#32
  ![v18.toNat, v30.toNat, c0_i32_11.toNat, c0_i32_12.toNat]

def cc0_transform_9 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c32_i32 : BitVec 32 := 32#32
  let v1 : BitVec 32 := Scalar.addi c32_i32 v0
  let v2 : BitVec 32 := Scalar.addi v1 arg1
  let c0_i32 : BitVec 32 := 0#32
  let c0_i32_0 : BitVec 32 := 0#32
  ![v2.toNat, c0_i32.toNat]

def cc0_transform_10 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c16_i32 : BitVec 32 := 16#32
  let v2 : BitVec 32 := Scalar.divsi v1 c16_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c16_i32 c0_i32_1
  let v9 : BitVec 32 := Scalar.extui v8
  let c0_i32_2 : BitVec 32 := 0#32
  let v10 : BitVec 1 := Scalar.cmpi .slt c16_i32 c0_i32_2
  let v11 : BitVec 32 := Scalar.extui v10
  let v12 : BitVec 32 := Scalar.subi v9 v11
  let v13 : BitVec 1 := Scalar.cmpi .ne v7 v12
  let v14 : BitVec 32 := Scalar.remsi v1 c16_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c4_i32_4 : BitVec 32 := 4#32
  let v19 : BitVec 32 := Scalar.muli arg0 c4_i32_4
  let v20 : BitVec 32 := Scalar.addi v19 arg1
  let c16_i32_5 : BitVec 32 := 16#32
  let c0_i32_6 : BitVec 32 := 0#32
  let v21 : BitVec 1 := Scalar.cmpi .eq c16_i32_5 c0_i32_6
  let c1_i32_7 : BitVec 32 := 1#32
  let v22 : BitVec 32 := Scalar.select v21 c1_i32_7 c16_i32_5
  let v23 : BitVec 32 := Scalar.remsi v20 v22
  let c0_i32_8 : BitVec 32 := 0#32
  let v24 : BitVec 1 := Scalar.cmpi .ne v23 c0_i32_8
  let c0_i32_9 : BitVec 32 := 0#32
  let v25 : BitVec 1 := Scalar.cmpi .slt v23 c0_i32_9
  let c0_i32_10 : BitVec 32 := 0#32
  let v26 : BitVec 1 := Scalar.cmpi .slt v22 c0_i32_10
  let v27 : BitVec 1 := Scalar.xori v25 v26
  let v28 : BitVec 1 := Scalar.andi v27 v24
  let v29 : BitVec 32 := Scalar.addi v23 v22
  let v30 : BitVec 32 := Scalar.select v28 v29 v23
  let c0_i32_11 : BitVec 32 := 0#32
  let c0_i32_12 : BitVec 32 := 0#32
  let c0_i32_13 : BitVec 32 := 0#32
  ![v18.toNat, v30.toNat, c0_i32_11.toNat, c0_i32_12.toNat]

def cc0_transform_11 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c16_i32 : BitVec 32 := 16#32
  let v2 : BitVec 32 := Scalar.divsi v1 c16_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c16_i32 c0_i32_1
  let v9 : BitVec 32 := Scalar.extui v8
  let c0_i32_2 : BitVec 32 := 0#32
  let v10 : BitVec 1 := Scalar.cmpi .slt c16_i32 c0_i32_2
  let v11 : BitVec 32 := Scalar.extui v10
  let v12 : BitVec 32 := Scalar.subi v9 v11
  let v13 : BitVec 1 := Scalar.cmpi .ne v7 v12
  let v14 : BitVec 32 := Scalar.remsi v1 c16_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c4_i32_4 : BitVec 32 := 4#32
  let v19 : BitVec 32 := Scalar.muli arg0 c4_i32_4
  let v20 : BitVec 32 := Scalar.addi v19 arg1
  let c16_i32_5 : BitVec 32 := 16#32
  let c0_i32_6 : BitVec 32 := 0#32
  let v21 : BitVec 1 := Scalar.cmpi .eq c16_i32_5 c0_i32_6
  let c1_i32_7 : BitVec 32 := 1#32
  let v22 : BitVec 32 := Scalar.select v21 c1_i32_7 c16_i32_5
  let v23 : BitVec 32 := Scalar.remsi v20 v22
  let c0_i32_8 : BitVec 32 := 0#32
  let v24 : BitVec 1 := Scalar.cmpi .ne v23 c0_i32_8
  let c0_i32_9 : BitVec 32 := 0#32
  let v25 : BitVec 1 := Scalar.cmpi .slt v23 c0_i32_9
  let c0_i32_10 : BitVec 32 := 0#32
  let v26 : BitVec 1 := Scalar.cmpi .slt v22 c0_i32_10
  let v27 : BitVec 1 := Scalar.xori v25 v26
  let v28 : BitVec 1 := Scalar.andi v27 v24
  let v29 : BitVec 32 := Scalar.addi v23 v22
  let v30 : BitVec 32 := Scalar.select v28 v29 v23
  let c0_i32_11 : BitVec 32 := 0#32
  let c0_i32_12 : BitVec 32 := 0#32
  let c0_i32_13 : BitVec 32 := 0#32
  ![v18.toNat, v30.toNat, c0_i32_11.toNat, c0_i32_12.toNat]

def cc0_transform_12 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c16_i32 : BitVec 32 := 16#32
  let v2 : BitVec 32 := Scalar.divsi v1 c16_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c16_i32 c0_i32_1
  let v9 : BitVec 32 := Scalar.extui v8
  let c0_i32_2 : BitVec 32 := 0#32
  let v10 : BitVec 1 := Scalar.cmpi .slt c16_i32 c0_i32_2
  let v11 : BitVec 32 := Scalar.extui v10
  let v12 : BitVec 32 := Scalar.subi v9 v11
  let v13 : BitVec 1 := Scalar.cmpi .ne v7 v12
  let v14 : BitVec 32 := Scalar.remsi v1 c16_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c4_i32_4 : BitVec 32 := 4#32
  let v19 : BitVec 32 := Scalar.muli arg0 c4_i32_4
  let v20 : BitVec 32 := Scalar.addi v19 arg1
  let c16_i32_5 : BitVec 32 := 16#32
  let c0_i32_6 : BitVec 32 := 0#32
  let v21 : BitVec 1 := Scalar.cmpi .eq c16_i32_5 c0_i32_6
  let c1_i32_7 : BitVec 32 := 1#32
  let v22 : BitVec 32 := Scalar.select v21 c1_i32_7 c16_i32_5
  let v23 : BitVec 32 := Scalar.remsi v20 v22
  let c0_i32_8 : BitVec 32 := 0#32
  let v24 : BitVec 1 := Scalar.cmpi .ne v23 c0_i32_8
  let c0_i32_9 : BitVec 32 := 0#32
  let v25 : BitVec 1 := Scalar.cmpi .slt v23 c0_i32_9
  let c0_i32_10 : BitVec 32 := 0#32
  let v26 : BitVec 1 := Scalar.cmpi .slt v22 c0_i32_10
  let v27 : BitVec 1 := Scalar.xori v25 v26
  let v28 : BitVec 1 := Scalar.andi v27 v24
  let v29 : BitVec 32 := Scalar.addi v23 v22
  let v30 : BitVec 32 := Scalar.select v28 v29 v23
  let c0_i32_11 : BitVec 32 := 0#32
  let c0_i32_12 : BitVec 32 := 0#32
  let c0_i32_13 : BitVec 32 := 0#32
  ![v18.toNat, v30.toNat, c0_i32_11.toNat, c0_i32_12.toNat]

abbrev stage0_0 : Fin 2 → Memref sig .tc .vmem S1x1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x2x1024x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x2x1024x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x2x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x2x1024x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x2x1024x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x2x256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== KernelIdeal.lean ====
variable {F : FTy → Type} [FloatOps F] [Named F]
def κ : String → Option EReal := fun
  | "q_scale" => some (((1 / 8) * (Real.log 2)⁻¹ : ℝ) : EReal)
  | _ => none
-- ==== ReferenceIdeal.lean ====
abbrev S16384x1024 : Shape := ⟨2, ![16384, 1024]⟩
abbrev S16384x256 : Shape := ⟨2, ![16384, 256]⟩
abbrev S8x512x4x64 : Shape := ⟨4, ![8, 512, 4, 64]⟩
abbrev S2x32x1024x256 : Shape := ⟨4, ![2, 32, 1024, 256]⟩
abbrev S2x32x256x1024 : Shape := ⟨4, ![2, 32, 256, 1024]⟩
abbrev S8192x1024 : Shape := ⟨2, ![8192, 1024]⟩
abbrev S8x1024x4x4x64 : Shape := ⟨5, ![8, 1024, 4, 4, 64]⟩
abbrev S8192x256 : Shape := ⟨2, ![8192, 256]⟩
abbrev S8x1024x4x64 : Shape := ⟨4, ![8, 1024, 4, 64]⟩
abbrev S8x1536x4x64 : Shape := ⟨4, ![8, 1536, 4, 64]⟩
abbrev S8x4x1536x1024x4 : Shape := ⟨5, ![8, 4, 1536, 1024, 4]⟩
abbrev S8x4x4x1024x1536 : Shape := ⟨5, ![8, 4, 4, 1024, 1536]⟩
abbrev S_ : Shape := ⟨0, ![]⟩
abbrev S8x4x4x1024 : Shape := ⟨4, ![8, 4, 4, 1024]⟩
abbrev S8x4x4x1024x1 : Shape := ⟨5, ![8, 4, 4, 1024, 1]⟩
abbrev S8x4x64x4x1024 : Shape := ⟨5, ![8, 4, 64, 4, 1024]⟩

abbrev nBuf : Space → Nat
  | .hbm => 45
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x256, .f32⟩
  | .hbm, ⟨2, _⟩ => ⟨S16384x256, .f32⟩
  | .hbm, ⟨3, _⟩ => ⟨S8x512x4x64, .f32⟩
  | .hbm, ⟨4, _⟩ => ⟨S8x512x4x64, .f32⟩
  | .hbm, ⟨5, _⟩ => ⟨S2x32x1024x256, .f32⟩
  | .hbm, ⟨6, _⟩ => ⟨S2x32x1024x256, .f32⟩
  | .hbm, ⟨7, _⟩ => ⟨S2x32x256x1024, .f32⟩
  | .hbm, ⟨8, _⟩ => ⟨S16384x1024, .bf16⟩
  | .hbm, ⟨9, _⟩ => ⟨S8192x1024, .f32⟩
  | .hbm, ⟨10, _⟩ => ⟨S8x1024x4x4x64, .f32⟩
  | .hbm, ⟨11, _⟩ => ⟨S8192x256, .f32⟩
  | .hbm, ⟨12, _⟩ => ⟨S8x1024x4x64, .f32⟩
  | .hbm, ⟨13, _⟩ => ⟨S8x1536x4x64, .f32⟩
  | .hbm, ⟨14, _⟩ => ⟨S8192x256, .f32⟩
  | .hbm, ⟨15, _⟩ => ⟨S8x1024x4x64, .f32⟩
  | .hbm, ⟨16, _⟩ => ⟨S8x1536x4x64, .f32⟩
  | .hbm, ⟨17, _⟩ => ⟨S8x4x1536x1024x4, .f32⟩
  | .hbm, ⟨18, _⟩ => ⟨S8x4x4x1024x1536, .f32⟩
  | .hbm, ⟨19, _⟩ => ⟨S_, .f32⟩
  | .hbm, ⟨20, _⟩ => ⟨S8x4x4x1024x1536, .f32⟩
  | .hbm, ⟨21, _⟩ => ⟨S8x4x4x1024x1536, .f32⟩
  | .hbm, ⟨22, _⟩ => ⟨S_, .f32⟩
  | .hbm, ⟨23, _⟩ => ⟨S8x4x4x1024, .f32⟩
  | .hbm, ⟨24, _⟩ => ⟨S_, .f32⟩
  | .hbm, ⟨25, _⟩ => ⟨S8x4x4x1024, .f32⟩
  | .hbm, ⟨26, _⟩ => ⟨S8x4x4x1024, .f32⟩
  | .hbm, ⟨27, _⟩ => ⟨S8x4x4x1024x1, .f32⟩
  | .hbm, ⟨28, _⟩ => ⟨S8x4x4x1024x1536, .f32⟩
  | .hbm, ⟨29, _⟩ => ⟨S8x4x4x1024x1536, .f32⟩
  | .hbm, ⟨30, _⟩ => ⟨S8x4x4x1024x1536, .f32⟩
  | .hbm, ⟨31, _⟩ => ⟨S_, .f32⟩
  | .hbm, ⟨32, _⟩ => ⟨S8x4x4x1024, .f32⟩
  | .hbm, ⟨33, _⟩ => ⟨S8x4x4x1024x1, .f32⟩
  | .hbm, ⟨34, _⟩ => ⟨S8x4x4x1024x1536, .f32⟩
  | .hbm, ⟨35, _⟩ => ⟨S8x4x4x1024x1536, .f32⟩
  | .hbm, ⟨36, _⟩ => ⟨S8x4x64x4x1024, .f32⟩
  | .hbm, ⟨37, _⟩ => ⟨S8x1024x4x4x64, .f32⟩
  | .hbm, ⟨38, _⟩ => ⟨S8192x1024, .f32⟩
  | .hbm, ⟨39, _⟩ => ⟨S8192x1024, .bf16⟩
  | .hbm, ⟨40, _⟩ => ⟨S8192x1024, .bf16⟩
  | .hbm, ⟨41, _⟩ => ⟨S16384x1024, .bf16⟩
  | .hbm, ⟨42, _⟩ => ⟨S2x32x1024x256, .bf16⟩
  | .hbm, ⟨43, _⟩ => ⟨S2x32x1024x256, .bf16⟩
  | .hbm, ⟨44, _⟩ => ⟨S2x32x256x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_v11 : Ref sig .tc := ⟨.hbm, 21, rfl⟩
abbrev main_cst_0 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_2 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩

abbrev nD : Nat := 1
abbrev τ : Topo := Topo.v7x

variable {F : FTy → Type} [FloatOps F]
-- ==== Kernel2.lean ====
abbrev S64 : Shape := ⟨1, ![64]⟩
abbrev S1 : Shape := ⟨1, ![1]⟩
abbrev S65536x1024 : Shape := ⟨2, ![65536, 1024]⟩
abbrev S2x32x1024x256 : Shape := ⟨4, ![2, 32, 1024, 256]⟩
abbrev S2x32x256x1024 : Shape := ⟨4, ![2, 32, 256, 1024]⟩
abbrev S_ : Shape := ⟨0, ![]⟩
abbrev S65536x2x512 : Shape := ⟨3, ![65536, 2, 512]⟩
abbrev S131072x512 : Shape := ⟨2, ![131072, 512]⟩
abbrev S1x1x1024x256 : Shape := ⟨4, ![1, 1, 1024, 256]⟩
abbrev S1x1x256x1024 : Shape := ⟨4, ![1, 1, 256, 1024]⟩
abbrev S2048x512 : Shape := ⟨2, ![2048, 512]⟩
abbrev S3x1024x512 : Shape := ⟨3, ![3, 1024, 512]⟩
abbrev S3 : Shape := ⟨1, ![3]⟩
abbrev S1x1024x512 : Shape := ⟨3, ![1, 1024, 512]⟩
abbrev S1024x512 : Shape := ⟨2, ![1024, 512]⟩
abbrev S65536x512 : Shape := ⟨2, ![65536, 512]⟩
abbrev S1024x1024 : Shape := ⟨2, ![1024, 1024]⟩
abbrev S1024x256 : Shape := ⟨2, ![1024, 256]⟩
abbrev S256x1024 : Shape := ⟨2, ![256, 1024]⟩

abbrev nBuf : Space → Nat
  | .hbm => 25
  | .vmem => 9
  | .smem => 2
  | _ => 0

abbrev bufTy : (tb : Table) → Fin (tcTables nBuf tb) → BufTy
  | .hbm, ⟨0, _⟩ => ⟨S65536x1024, .f32⟩
  | .hbm, ⟨1, _⟩ => ⟨S2x32x1024x256, .f32⟩
  | .hbm, ⟨2, _⟩ => ⟨S2x32x1024x256, .f32⟩
  | .hbm, ⟨3, _⟩ => ⟨S2x32x256x1024, .f32⟩
  | .hbm, ⟨4, _⟩ => ⟨S65536x1024, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S65536x1024, .i32⟩
  | .hbm, ⟨9, _⟩ => ⟨S65536x1024, .i1⟩
  | .hbm, ⟨10, _⟩ => ⟨S65536x1024, .bf16⟩
  | .hbm, ⟨11, _⟩ => ⟨S65536x2x512, .bf16⟩
  | .hbm, ⟨12, _⟩ => ⟨S65536x2x512, .bf16⟩
  | .hbm, ⟨13, _⟩ => ⟨S131072x512, .bf16⟩
  | .hbm, ⟨14, _⟩ => ⟨S2x32x1024x256, .bf16⟩
  | .hbm, ⟨15, _⟩ => ⟨S2x32x1024x256, .bf16⟩
  | .hbm, ⟨16, _⟩ => ⟨S2x32x256x1024, .bf16⟩
  | .hbm, ⟨17, _⟩ => ⟨S131072x512, .bf16⟩
  | .hbm, ⟨18, _⟩ => ⟨S65536x2x512, .bf16⟩
  | .hbm, ⟨19, _⟩ => ⟨S65536x2x512, .bf16⟩
  | .hbm, ⟨20, _⟩ => ⟨S65536x1024, .bf16⟩
  | .hbm, ⟨21, _⟩ => ⟨S_, .f32⟩
  | .hbm, ⟨22, _⟩ => ⟨S_, .bf16⟩
  | .hbm, ⟨23, _⟩ => ⟨S65536x1024, .bf16⟩
  | .hbm, ⟨24, _⟩ => ⟨S65536x1024, .bf16⟩
  | .local _ .vmem, ⟨0, _⟩ => ⟨S1x1x1024x256, .bf16⟩
  | .local _ .vmem, ⟨1, _⟩ => ⟨S1x1x1024x256, .bf16⟩
  | .local _ .vmem, ⟨2, _⟩ => ⟨S1x1x1024x256, .bf16⟩
  | .local _ .vmem, ⟨3, _⟩ => ⟨S1x1x1024x256, .bf16⟩
  | .local _ .vmem, ⟨4, _⟩ => ⟨S1x1x256x1024, .bf16⟩
  | .local _ .vmem, ⟨5, _⟩ => ⟨S1x1x256x1024, .bf16⟩
  | .local _ .vmem, ⟨6, _⟩ => ⟨S2048x512, .bf16⟩
  | .local _ .vmem, ⟨7, _⟩ => ⟨S2048x512, .bf16⟩
  | .local _ .vmem, ⟨8, _⟩ => ⟨S3x1024x512, .i32⟩
  | .local _ .smem, ⟨0, _⟩ => ⟨S64, .i32⟩
  | .local _ .smem, ⟨1, _⟩ => ⟨S1, .i32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst : Ref sig .tc := ⟨.hbm, 21, rfl⟩
abbrev main_call0_v0 : Ref sig .tc := ⟨.hbm, 22, rfl⟩
abbrev main_call0_v1 : Ref sig .tc := ⟨.hbm, 23, rfl⟩
abbrev main_v16 : Ref sig .tc := ⟨.hbm, 24, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [BitOps F]

abbrev grid0 : Pipeline.Grid := ⟨1, ![64], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) : BitVec 1 :=
  let arg0 : BitVec 32 := BitVec.ofNat 32 (i 0).val
  let c0_i32 : BitVec 32 := 0#32
  let v1 : BitVec 1 := Scalar.cmpi .eq arg0 c0_i32
  let v2 : BitVec 32 := Scalar.extui v1
  let c0_i32_0 : BitVec 32 := 0#32
  let v3 : BitVec 1 := Scalar.cmpi .ne v2 c0_i32_0
  v3

def k0_off2 : Fin 1 → Nat :=
  let c0_i32_6 : BitVec 32 := 0#32
  let c3_i32 : BitVec 32 := 3#32
  let v17 : BitVec 32 := Scalar.remsi c0_i32_6 c3_i32
  ![v17.toNat]
def k0_off3 : Fin 3 → Nat :=
  let c0_i32_6 : BitVec 32 := 0#32
  let c3_i32 : BitVec 32 := 3#32
  let v17 : BitVec 32 := Scalar.remsi c0_i32_6 c3_i32
  let c0_i32_7 : BitVec 32 := 0#32
  let c0_i32_8 : BitVec 32 := 0#32
  ![v17.toNat, 0, 0]
def k0_off4 : Fin 1 → Nat :=
  let c1_i32_6 : BitVec 32 := 1#32
  let c3_i32 : BitVec 32 := 3#32
  let v17 : BitVec 32 := Scalar.remsi c1_i32_6 c3_i32
  ![v17.toNat]
def k0_off5 : Fin 3 → Nat :=
  let c1_i32_6 : BitVec 32 := 1#32
  let c3_i32 : BitVec 32 := 3#32
  let v17 : BitVec 32 := Scalar.remsi c1_i32_6 c3_i32
  let c0_i32_7 : BitVec 32 := 0#32
  let c0_i32_8 : BitVec 32 := 0#32
  ![v17.toNat, 0, 0]
def k0_off6 (i : grid0.Coords) : Fin 1 → Nat :=
  let arg0 : BitVec 32 := BitVec.ofNat 32 (i 0).val
  let c2_i32_3 : BitVec 32 := 2#32
  let v11 : BitVec 32 := Scalar.addi arg0 c2_i32_3
  let c3_i32 : BitVec 32 := 3#32
  let v12 : BitVec 32 := Scalar.remsi v11 c3_i32
  ![v12.toNat]
def k0_off7 (i : grid0.Coords) : Fin 3 → Nat :=
  let arg0 : BitVec 32 := BitVec.ofNat 32 (i 0).val
  let c2_i32_3 : BitVec 32 := 2#32
  let v11 : BitVec 32 := Scalar.addi arg0 c2_i32_3
  let c3_i32 : BitVec 32 := 3#32
  let v12 : BitVec 32 := Scalar.remsi v11 c3_i32
  let c0_i32_4 : BitVec 32 := 0#32
  let c0_i32_5 : BitVec 32 := 0#32
  ![v12.toNat, 0, 0]
def k0_off8 (i : grid0.Coords) : Fin 2 → Nat :=
  let arg0 : BitVec 32 := BitVec.ofNat 32 (i 0).val
  let c2_i32_3 : BitVec 32 := 2#32
  let v11 : BitVec 32 := Scalar.addi arg0 c2_i32_3
  let c1024_i32 : BitVec 32 := 1024#32
  let v13 : BitVec 32 := Scalar.muli v11 c1024_i32
  let c0_i32_6 : BitVec 32 := 0#32
  ![Nat.mul 2 v13.toNat, 0]
def k0_cond4 (i : grid0.Coords) (v0 : BitVec 32) : BitVec 1 :=
  let arg0 : BitVec 32 := BitVec.ofNat 32 (i 0).val
  let c2_i32 : BitVec 32 := 2#32
  let v4 : BitVec 32 := Scalar.addi arg0 c2_i32
  let v5 : BitVec 1 := Scalar.cmpi .slt v4 v0
  let v6 : BitVec 32 := Scalar.extui v5
  let c0_i32_1 : BitVec 32 := 0#32
  let v7 : BitVec 1 := Scalar.cmpi .ne v6 c0_i32_1
  v7

def k0_chk1 (i : grid0.Coords) (v0 : BitVec 32) : Prop :=
  (∀ (k0_h4 : k0_cond4 i v0 = 1#1), ∀ a, (k0_off8 i) a + S2048x512.size a ≤ S131072x512.size a) ∧
  (∀ (k0_h4 : k0_cond4 i v0 = 1#1), ∀ (hinb : ∀ a, (k0_off8 i) a + S2048x512.size a ≤ S131072x512.size a), (Rect.unit (s := S131072x512) (k0_off8 i) S2048x512.size hinb).WholeWords (EltTy.packing .bf16))
theorem k0_off8_inb : ∀ (i : grid0.Coords) (v0 : BitVec 32) (k0_hw1 : k0_chk1 i v0), ∀ (k0_h4 : k0_cond4 i v0 = 1#1), ∀ a, (k0_off8 i) a + S2048x512.size a ≤ S131072x512.size a := fun i v0 k0_hw1 k0_h4 => k0_hw1.1 k0_h4
theorem k0_off8_wordsbf16 : ∀ (i : grid0.Coords) (v0 : BitVec 32) (k0_hw1 : k0_chk1 i v0), ∀ (k0_h4 : k0_cond4 i v0 = 1#1), (Rect.unit (s := S131072x512) (k0_off8 i) S2048x512.size (k0_off8_inb i v0 k0_hw1 k0_h4)).WholeWords (EltTy.packing .bf16) := fun i v0 k0_hw1 k0_h4 => k0_hw1.2 k0_h4 (k0_off8_inb i v0 k0_hw1 k0_h4)

def k0_off9 (i : grid0.Coords) : Fin 1 → Nat :=
  let arg0 : BitVec 32 := BitVec.ofNat 32 (i 0).val
  let c3_i32 : BitVec 32 := 3#32
  let v11 : BitVec 32 := Scalar.remsi arg0 c3_i32
  ![v11.toNat]
def k0_off10 (i : grid0.Coords) : Fin 3 → Nat :=
  let arg0 : BitVec 32 := BitVec.ofNat 32 (i 0).val
  let c3_i32 : BitVec 32 := 3#32
  let v11 : BitVec 32 := Scalar.remsi arg0 c3_i32
  let c0_i32_3 : BitVec 32 := 0#32
  let c0_i32_4 : BitVec 32 := 0#32
  ![v11.toNat, 0, 0]
def k0_off11 (i : grid0.Coords) : Fin 2 → Nat :=
  let arg0 : BitVec 32 := BitVec.ofNat 32 (i 0).val
  let c1024_i32 : BitVec 32 := 1024#32
  let v12 : BitVec 32 := Scalar.muli arg0 c1024_i32
  let c0_i32_5 : BitVec 32 := 0#32
  ![Nat.mul 2 v12.toNat, 0]
def k0_off12 (i : grid0.Coords) : Fin 3 → Nat :=
  let arg0 : BitVec 32 := BitVec.ofNat 32 (i 0).val
  let c3_i32_6 : BitVec 32 := 3#32
  let v19 : BitVec 32 := Scalar.remsi arg0 c3_i32_6
  let v20 : Index := Scalar.indexCast v19
  let c0_7 : Index := 0#32
  let c0_8 : Index := 0#32
  ![v20.toNat, 0, 0]
def k0_cond5 (i : grid0.Coords) (v0 : BitVec 32) : BitVec 1 :=
  let arg0 : BitVec 32 := BitVec.ofNat 32 (i 0).val
  let v8 : BitVec 1 := Scalar.cmpi .slt arg0 v0
  let v9 : BitVec 32 := Scalar.extui v8
  let c0_i32_2 : BitVec 32 := 0#32
  let v10 : BitVec 1 := Scalar.cmpi .ne v9 c0_i32_2
  v10

def cc0_transform_1 (k0_off1_inb : ∀ i : grid0.Coords, ∀ a, (k0_off1 i) a + S1.size a ≤ S64.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S64) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_2 (k0_off1_inb : ∀ i : grid0.Coords, ∀ a, (k0_off1 i) a + S1.size a ≤ S64.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S64) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_3 (k0_off1_inb : ∀ i : grid0.Coords, ∀ a, (k0_off1 i) a + S1.size a ≤ S64.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S64) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_4 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

abbrev stage0_0 : Fin 2 → Memref sig .tc .vmem S1x1x1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Kernel2Ideal.lean ====
abbrev S64 : Shape := ⟨1, ![64]⟩
abbrev S1 : Shape := ⟨1, ![1]⟩
abbrev S65536x1024 : Shape := ⟨2, ![65536, 1024]⟩
abbrev S2x32x1024x256 : Shape := ⟨4, ![2, 32, 1024, 256]⟩
abbrev S2x32x256x1024 : Shape := ⟨4, ![2, 32, 256, 1024]⟩
abbrev S_ : Shape := ⟨0, ![]⟩
abbrev S65536x2x512 : Shape := ⟨3, ![65536, 2, 512]⟩
abbrev S131072x512 : Shape := ⟨2, ![131072, 512]⟩
abbrev S1x1x1024x256 : Shape := ⟨4, ![1, 1, 1024, 256]⟩
abbrev S1x1x256x1024 : Shape := ⟨4, ![1, 1, 256, 1024]⟩
abbrev S2048x512 : Shape := ⟨2, ![2048, 512]⟩
abbrev S3x1024x512 : Shape := ⟨3, ![3, 1024, 512]⟩
abbrev S3x1024x2x512 : Shape := ⟨4, ![3, 1024, 2, 512]⟩
abbrev S3x1024x1x512 : Shape := ⟨4, ![3, 1024, 1, 512]⟩
abbrev S3 : Shape := ⟨1, ![3]⟩
abbrev S1x1024x2x512 : Shape := ⟨4, ![1, 1024, 2, 512]⟩
abbrev S1024x2x512 : Shape := ⟨3, ![1024, 2, 512]⟩
abbrev S65536x512 : Shape := ⟨2, ![65536, 512]⟩
abbrev S1024x512 : Shape := ⟨2, ![1024, 512]⟩
abbrev S1x1024x512 : Shape := ⟨3, ![1, 1024, 512]⟩
abbrev S1x1024x1x512 : Shape := ⟨4, ![1, 1024, 1, 512]⟩
abbrev S1024x1024 : Shape := ⟨2, ![1024, 1024]⟩
abbrev S1024x256 : Shape := ⟨2, ![1024, 256]⟩
abbrev S256x1024 : Shape := ⟨2, ![256, 1024]⟩

abbrev nBuf : Space → Nat
  | .hbm => 25
  | .vmem => 9
  | .smem => 2
  | _ => 0

abbrev bufTy : (tb : Table) → Fin (tcTables nBuf tb) → BufTy
  | .hbm, ⟨0, _⟩ => ⟨S65536x1024, .f32⟩
  | .hbm, ⟨1, _⟩ => ⟨S2x32x1024x256, .f32⟩
  | .hbm, ⟨2, _⟩ => ⟨S2x32x1024x256, .f32⟩
  | .hbm, ⟨3, _⟩ => ⟨S2x32x256x1024, .f32⟩
  | .hbm, ⟨4, _⟩ => ⟨S65536x1024, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S65536x1024, .i32⟩
  | .hbm, ⟨9, _⟩ => ⟨S65536x1024, .i1⟩
  | .hbm, ⟨10, _⟩ => ⟨S65536x1024, .bf16⟩
  | .hbm, ⟨11, _⟩ => ⟨S65536x2x512, .bf16⟩
  | .hbm, ⟨12, _⟩ => ⟨S65536x2x512, .bf16⟩
  | .hbm, ⟨13, _⟩ => ⟨S131072x512, .bf16⟩
  | .hbm, ⟨14, _⟩ => ⟨S2x32x1024x256, .bf16⟩
  | .hbm, ⟨15, _⟩ => ⟨S2x32x1024x256, .bf16⟩
  | .hbm, ⟨16, _⟩ => ⟨S2x32x256x1024, .bf16⟩
  | .hbm, ⟨17, _⟩ => ⟨S131072x512, .bf16⟩
  | .hbm, ⟨18, _⟩ => ⟨S65536x2x512, .bf16⟩
  | .hbm, ⟨19, _⟩ => ⟨S65536x2x512, .bf16⟩
  | .hbm, ⟨20, _⟩ => ⟨S65536x1024, .bf16⟩
  | .hbm, ⟨21, _⟩ => ⟨S_, .f32⟩
  | .hbm, ⟨22, _⟩ => ⟨S_, .bf16⟩
  | .hbm, ⟨23, _⟩ => ⟨S65536x1024, .bf16⟩
  | .hbm, ⟨24, _⟩ => ⟨S65536x1024, .bf16⟩
  | .local _ .vmem, ⟨0, _⟩ => ⟨S1x1x1024x256, .bf16⟩
  | .local _ .vmem, ⟨1, _⟩ => ⟨S1x1x1024x256, .bf16⟩
  | .local _ .vmem, ⟨2, _⟩ => ⟨S1x1x1024x256, .bf16⟩
  | .local _ .vmem, ⟨3, _⟩ => ⟨S1x1x1024x256, .bf16⟩
  | .local _ .vmem, ⟨4, _⟩ => ⟨S1x1x256x1024, .bf16⟩
  | .local _ .vmem, ⟨5, _⟩ => ⟨S1x1x256x1024, .bf16⟩
  | .local _ .vmem, ⟨6, _⟩ => ⟨S2048x512, .bf16⟩
  | .local _ .vmem, ⟨7, _⟩ => ⟨S2048x512, .bf16⟩
  | .local _ .vmem, ⟨8, _⟩ => ⟨S3x1024x2x512, .bf16⟩
  | .local _ .smem, ⟨0, _⟩ => ⟨S64, .i32⟩
  | .local _ .smem, ⟨1, _⟩ => ⟨S1, .i32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst : Ref sig .tc := ⟨.hbm, 21, rfl⟩
abbrev main_call0_v0 : Ref sig .tc := ⟨.hbm, 22, rfl⟩
abbrev main_call0_v1 : Ref sig .tc := ⟨.hbm, 23, rfl⟩
abbrev main_v16 : Ref sig .tc := ⟨.hbm, 24, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![64], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) : BitVec 1 :=
  let arg0 : BitVec 32 := BitVec.ofNat 32 (i 0).val
  let c0_i32 : BitVec 32 := 0#32
  let v1 : BitVec 1 := Scalar.cmpi .eq arg0 c0_i32
  let v2 : BitVec 32 := Scalar.extui v1
  let c0_i32_0 : BitVec 32 := 0#32
  let v3 : BitVec 1 := Scalar.cmpi .ne v2 c0_i32_0
  v3

def k0_off2 : Fin 1 → Nat :=
  let c0_i32_6 : BitVec 32 := 0#32
  let c3_i32 : BitVec 32 := 3#32
  let v17 : BitVec 32 := Scalar.remsi c0_i32_6 c3_i32
  ![v17.toNat]
def k0_off3 : Fin 4 → Nat :=
  let c0_i32_6 : BitVec 32 := 0#32
  let c3_i32 : BitVec 32 := 3#32
  let v17 : BitVec 32 := Scalar.remsi c0_i32_6 c3_i32
  let c0_i32_7 : BitVec 32 := 0#32
  let c0_i32_8 : BitVec 32 := 0#32
  ![v17.toNat, 0, 0, 0]
def k0_off4 : Fin 1 → Nat :=
  let c1_i32_6 : BitVec 32 := 1#32
  let c3_i32 : BitVec 32 := 3#32
  let v17 : BitVec 32 := Scalar.remsi c1_i32_6 c3_i32
  ![v17.toNat]
def k0_off5 : Fin 4 → Nat :=
  let c1_i32_6 : BitVec 32 := 1#32
  let c3_i32 : BitVec 32 := 3#32
  let v17 : BitVec 32 := Scalar.remsi c1_i32_6 c3_i32
  let c0_i32_7 : BitVec 32 := 0#32
  let c0_i32_8 : BitVec 32 := 0#32
  ![v17.toNat, 0, 0, 0]
def k0_off6 (i : grid0.Coords) : Fin 1 → Nat :=
  let arg0 : BitVec 32 := BitVec.ofNat 32 (i 0).val
  let c2_i32_3 : BitVec 32 := 2#32
  let v11 : BitVec 32 := Scalar.addi arg0 c2_i32_3
  let c3_i32 : BitVec 32 := 3#32
  let v12 : BitVec 32 := Scalar.remsi v11 c3_i32
  ![v12.toNat]
def k0_off7 (i : grid0.Coords) : Fin 4 → Nat :=
  let arg0 : BitVec 32 := BitVec.ofNat 32 (i 0).val
  let c2_i32_3 : BitVec 32 := 2#32
  let v11 : BitVec 32 := Scalar.addi arg0 c2_i32_3
  let c3_i32 : BitVec 32 := 3#32
  let v12 : BitVec 32 := Scalar.remsi v11 c3_i32
  let c0_i32_4 : BitVec 32 := 0#32
  let c0_i32_5 : BitVec 32 := 0#32
  ![v12.toNat, 0, 0, 0]
def k0_off8 (i : grid0.Coords) : Fin 2 → Nat :=
  let arg0 : BitVec 32 := BitVec.ofNat 32 (i 0).val
  let c2_i32_3 : BitVec 32 := 2#32
  let v11 : BitVec 32 := Scalar.addi arg0 c2_i32_3
  let c1024_i32 : BitVec 32 := 1024#32
  let v13 : BitVec 32 := Scalar.muli v11 c1024_i32
  let c0_i32_6 : BitVec 32 := 0#32
  ![Nat.mul 2 v13.toNat, 0]
def k0_cond4 (i : grid0.Coords) (v0 : BitVec 32) : BitVec 1 :=
  let arg0 : BitVec 32 := BitVec.ofNat 32 (i 0).val
  let c2_i32 : BitVec 32 := 2#32
  let v4 : BitVec 32 := Scalar.addi arg0 c2_i32
  let v5 : BitVec 1 := Scalar.cmpi .slt v4 v0
  let v6 : BitVec 32 := Scalar.extui v5
  let c0_i32_1 : BitVec 32 := 0#32
  let v7 : BitVec 1 := Scalar.cmpi .ne v6 c0_i32_1
  v7

def k0_chk1 (i : grid0.Coords) (v0 : BitVec 32) : Prop :=
  (∀ (k0_h4 : k0_cond4 i v0 = 1#1), ∀ a, (k0_off8 i) a + S2048x512.size a ≤ S131072x512.size a) ∧
  (∀ (k0_h4 : k0_cond4 i v0 = 1#1), ∀ (hinb : ∀ a, (k0_off8 i) a + S2048x512.size a ≤ S131072x512.size a), (Rect.unit (s := S131072x512) (k0_off8 i) S2048x512.size hinb).WholeWords (EltTy.packing .bf16)) ∧
  (∀ (k0_h4 : k0_cond4 i v0 = 1#1), ∀ (hinb : ∀ a, (k0_off8 i) a + S2048x512.size a ≤ S131072x512.size a), (Rect.unit (s := S131072x512) (k0_off8 i) S2048x512.size hinb).LeadingBlock)
theorem k0_off8_inb : ∀ (i : grid0.Coords) (v0 : BitVec 32) (k0_hw1 : k0_chk1 i v0), ∀ (k0_h4 : k0_cond4 i v0 = 1#1), ∀ a, (k0_off8 i) a + S2048x512.size a ≤ S131072x512.size a := fun i v0 k0_hw1 k0_h4 => k0_hw1.1 k0_h4
theorem k0_off8_wordsbf16 : ∀ (i : grid0.Coords) (v0 : BitVec 32) (k0_hw1 : k0_chk1 i v0), ∀ (k0_h4 : k0_cond4 i v0 = 1#1), (Rect.unit (s := S131072x512) (k0_off8 i) S2048x512.size (k0_off8_inb i v0 k0_hw1 k0_h4)).WholeWords (EltTy.packing .bf16) := fun i v0 k0_hw1 k0_h4 => k0_hw1.2.1 k0_h4 (k0_off8_inb i v0 k0_hw1 k0_h4)
theorem k0_off8_leadingbf16 : ∀ (i : grid0.Coords) (v0 : BitVec 32) (k0_hw1 : k0_chk1 i v0), ∀ (k0_h4 : k0_cond4 i v0 = 1#1), (Rect.unit (s := S131072x512) (k0_off8 i) S2048x512.size (k0_off8_inb i v0 k0_hw1 k0_h4)).LeadingBlock := fun i v0 k0_hw1 k0_h4 => k0_hw1.2.2 k0_h4 (k0_off8_inb i v0 k0_hw1 k0_h4)

def k0_off9 (i : grid0.Coords) : Fin 1 → Nat :=
  let arg0 : BitVec 32 := BitVec.ofNat 32 (i 0).val
  let c3_i32 : BitVec 32 := 3#32
  let v11 : BitVec 32 := Scalar.remsi arg0 c3_i32
  ![v11.toNat]
def k0_off10 (i : grid0.Coords) : Fin 4 → Nat :=
  let arg0 : BitVec 32 := BitVec.ofNat 32 (i 0).val
  let c3_i32 : BitVec 32 := 3#32
  let v11 : BitVec 32 := Scalar.remsi arg0 c3_i32
  let c0_i32_3 : BitVec 32 := 0#32
  let c0_i32_4 : BitVec 32 := 0#32
  ![v11.toNat, 0, 0, 0]
def k0_off11 (i : grid0.Coords) : Fin 2 → Nat :=
  let arg0 : BitVec 32 := BitVec.ofNat 32 (i 0).val
  let c1024_i32 : BitVec 32 := 1024#32
  let v12 : BitVec 32 := Scalar.muli arg0 c1024_i32
  let c0_i32_5 : BitVec 32 := 0#32
  ![Nat.mul 2 v12.toNat, 0]
def k0_off12 (i : grid0.Coords) : Fin 4 → Nat :=
  let arg0 : BitVec 32 := BitVec.ofNat 32 (i 0).val
  let c3_i32_6 : BitVec 32 := 3#32
  let v19 : BitVec 32 := Scalar.remsi arg0 c3_i32_6
  let v20 : Index := Scalar.indexCast v19
  let c0_7 : Index := 0#32
  let c0_8 : Index := 0#32
  ![v20.toNat, 0, 0, 0]
def k0_cond5 (i : grid0.Coords) (v0 : BitVec 32) : BitVec 1 :=
  let arg0 : BitVec 32 := BitVec.ofNat 32 (i 0).val
  let v8 : BitVec 1 := Scalar.cmpi .slt arg0 v0
  let v9 : BitVec 32 := Scalar.extui v8
  let c0_i32_2 : BitVec 32 := 0#32
  let v10 : BitVec 1 := Scalar.cmpi .ne v9 c0_i32_2
  v10

def cc0_transform_1 (k0_off1_inb : ∀ i : grid0.Coords, ∀ a, (k0_off1 i) a + S1.size a ≤ S64.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S64) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_2 (k0_off1_inb : ∀ i : grid0.Coords, ∀ a, (k0_off1 i) a + S1.size a ≤ S64.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S64) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_3 (k0_off1_inb : ∀ i : grid0.Coords, ∀ a, (k0_off1 i) a + S1.size a ≤ S64.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S64) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_4 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

abbrev stage0_0 : Fin 2 → Memref sig .tc .vmem S1x1x1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference2Ideal.lean ====
abbrev S64 : Shape := ⟨1, ![64]⟩
abbrev S1 : Shape := ⟨1, ![1]⟩
abbrev S65536x1024 : Shape := ⟨2, ![65536, 1024]⟩
abbrev S2x32x1024x256 : Shape := ⟨4, ![2, 32, 1024, 256]⟩
abbrev S2x32x256x1024 : Shape := ⟨4, ![2, 32, 256, 1024]⟩
abbrev S64x1024 : Shape := ⟨2, ![64, 1024]⟩
abbrev S65536 : Shape := ⟨1, ![65536]⟩
abbrev S_ : Shape := ⟨0, ![]⟩
abbrev S65536x1 : Shape := ⟨2, ![65536, 1]⟩
abbrev S1x32 : Shape := ⟨2, ![1, 32]⟩
abbrev S65536x32 : Shape := ⟨2, ![65536, 32]⟩
abbrev S1x32x1024x256 : Shape := ⟨4, ![1, 32, 1024, 256]⟩
abbrev S32x1024x256 : Shape := ⟨3, ![32, 1024, 256]⟩
abbrev S65536x32x256 : Shape := ⟨3, ![65536, 32, 256]⟩
abbrev S65536x32x1 : Shape := ⟨3, ![65536, 32, 1]⟩
abbrev S1x32x256x1024 : Shape := ⟨4, ![1, 32, 256, 1024]⟩
abbrev S32x256x1024 : Shape := ⟨3, ![32, 256, 1024]⟩

abbrev nBuf : Space → Nat
  | .hbm => 47
  | .vmem => 0
  | .smem => 0
  | _ => 0

abbrev bufTy : (tb : Table) → Fin (tcTables nBuf tb) → BufTy
  | .hbm, ⟨0, _⟩ => ⟨S64, .i32⟩
  | .hbm, ⟨1, _⟩ => ⟨S1, .i32⟩
  | .hbm, ⟨2, _⟩ => ⟨S65536x1024, .f32⟩
  | .hbm, ⟨3, _⟩ => ⟨S2x32x1024x256, .f32⟩
  | .hbm, ⟨4, _⟩ => ⟨S2x32x1024x256, .f32⟩
  | .hbm, ⟨5, _⟩ => ⟨S2x32x256x1024, .f32⟩
  | .hbm, ⟨6, _⟩ => ⟨S64x1024, .i32⟩
  | .hbm, ⟨7, _⟩ => ⟨S65536, .i32⟩
  | .hbm, ⟨8, _⟩ => ⟨S65536, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S65536, .i32⟩
  | .hbm, ⟨13, _⟩ => ⟨S65536, .i1⟩
  | .hbm, ⟨14, _⟩ => ⟨S65536x1, .i32⟩
  | .hbm, ⟨15, _⟩ => ⟨S1x32, .i32⟩
  | .hbm, ⟨16, _⟩ => ⟨S65536x32, .i32⟩
  | .hbm, ⟨17, _⟩ => ⟨S65536x32, .i32⟩
  | .hbm, ⟨18, _⟩ => ⟨S65536x32, .i1⟩
  | .hbm, ⟨19, _⟩ => ⟨S65536x32, .f32⟩
  | .hbm, ⟨20, _⟩ => ⟨S65536x1, .i1⟩
  | .hbm, ⟨21, _⟩ => ⟨S65536x1, .f32⟩
  | .hbm, ⟨22, _⟩ => ⟨S65536x32, .f32⟩
  | .hbm, ⟨23, _⟩ => ⟨S65536x32, .f32⟩
  | .hbm, ⟨24, _⟩ => ⟨S1x32x1024x256, .f32⟩
  | .hbm, ⟨25, _⟩ => ⟨S32x1024x256, .f32⟩
  | .hbm, ⟨26, _⟩ => ⟨S65536x32x256, .f32⟩
  | .hbm, ⟨27, _⟩ => ⟨S1x32x1024x256, .f32⟩
  | .hbm, ⟨28, _⟩ => ⟨S32x1024x256, .f32⟩
  | .hbm, ⟨29, _⟩ => ⟨S65536x32x256, .f32⟩
  | .hbm, ⟨30, _⟩ => ⟨S65536x32x256, .f32⟩
  | .hbm, ⟨31, _⟩ => ⟨S65536x32x256, .f32⟩
  | .hbm, ⟨32, _⟩ => ⟨S_, .f32⟩
  | .hbm, ⟨33, _⟩ => ⟨S65536x32x256, .f32⟩
  | .hbm, ⟨34, _⟩ => ⟨S65536x32x256, .f32⟩
  | .hbm, ⟨35, _⟩ => ⟨S_, .f32⟩
  | .hbm, ⟨36, _⟩ => ⟨S65536x32x256, .f32⟩
  | .hbm, ⟨37, _⟩ => ⟨S65536x32x256, .f32⟩
  | .hbm, ⟨38, _⟩ => ⟨S65536x32x256, .f32⟩
  | .hbm, ⟨39, _⟩ => ⟨S65536x32x256, .f32⟩
  | .hbm, ⟨40, _⟩ => ⟨S65536x32x1, .f32⟩
  | .hbm, ⟨41, _⟩ => ⟨S65536x32x256, .f32⟩
  | .hbm, ⟨42, _⟩ => ⟨S65536x32x256, .f32⟩
  | .hbm, ⟨43, _⟩ => ⟨S1x32x256x1024, .f32⟩
  | .hbm, ⟨44, _⟩ => ⟨S32x256x1024, .f32⟩
  | .hbm, ⟨45, _⟩ => ⟨S65536x1024, .f32⟩
  | .hbm, ⟨46, _⟩ => ⟨S65536x1024, .bf16⟩
  | _, _ => ⟨S64, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_call1_v0 : Ref sig .tc := ⟨.hbm, 30, rfl⟩
abbrev main_call1_v1 : Ref sig .tc := ⟨.hbm, 31, rfl⟩
abbrev main_call1_cst : Ref sig .tc := ⟨.hbm, 32, rfl⟩
abbrev main_call1_v2 : Ref sig .tc := ⟨.hbm, 33, rfl⟩
abbrev main_call1_v3 : Ref sig .tc := ⟨.hbm, 34, rfl⟩
abbrev main_call1_cst_0 : Ref sig .tc := ⟨.hbm, 35, rfl⟩
abbrev main_call1_v4 : Ref sig .tc := ⟨.hbm, 36, rfl⟩
abbrev main_call1_v5 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩

abbrev nD : Nat := 1
abbrev τ : Topo := Topo.v7x

variable {F : FTy → Type} [FloatOps F]
-- ==== Kernel3.lean ====
abbrev S2x8192x1024 : Shape := ⟨3, ![2, 8192, 1024]⟩
abbrev S16384x1024 : Shape := ⟨2, ![16384, 1024]⟩
abbrev S16384x2 : Shape := ⟨2, ![16384, 2]⟩
abbrev S1x6144 : Shape := ⟨2, ![1, 6144]⟩
abbrev S8x6144 : Shape := ⟨2, ![8, 6144]⟩
abbrev S_ : Shape := ⟨0, ![]⟩
abbrev S7x6144 : Shape := ⟨2, ![7, 6144]⟩
abbrev S16x6144 : Shape := ⟨2, ![16, 6144]⟩
abbrev S16x6x1024 : Shape := ⟨3, ![16, 6, 1024]⟩
abbrev S2x16384 : Shape := ⟨2, ![2, 16384]⟩
abbrev S16384x2x512 : Shape := ⟨3, ![16384, 2, 512]⟩
abbrev S32768x512 : Shape := ⟨2, ![32768, 512]⟩
abbrev S8192x1024 : Shape := ⟨2, ![8192, 1024]⟩
abbrev S2048x512 : Shape := ⟨2, ![2048, 512]⟩
abbrev S1024x1024 : Shape := ⟨2, ![1024, 1024]⟩
abbrev S2x1024 : Shape := ⟨2, ![2, 1024]⟩
abbrev S1x6x1024 : Shape := ⟨3, ![1, 6, 1024]⟩
abbrev S128x1024 : Shape := ⟨2, ![128, 1024]⟩
abbrev S1x1024 : Shape := ⟨2, ![1, 1024]⟩
abbrev S1024x128 : Shape := ⟨2, ![1024, 128]⟩
abbrev S1024x1 : Shape := ⟨2, ![1024, 1]⟩
abbrev S1024x512 : Shape := ⟨2, ![1024, 512]⟩
abbrev S1x1x1024 : Shape := ⟨3, ![1, 1, 1024]⟩

abbrev nBuf : Space → Nat
  | .hbm => 21
  | .vmem => 24
  | .smem => 0
  | _ => 0

abbrev bufTy : (tb : Table) → Fin (tcTables nBuf tb) → BufTy
  | .hbm, ⟨0, _⟩ => ⟨S2x8192x1024, .f32⟩
  | .hbm, ⟨1, _⟩ => ⟨S2x8192x1024, .f32⟩
  | .hbm, ⟨2, _⟩ => ⟨S16384x1024, .f32⟩
  | .hbm, ⟨3, _⟩ => ⟨S16384x2, .f32⟩
  | .hbm, ⟨4, _⟩ => ⟨S1x6144, .f32⟩
  | .hbm, ⟨5, _⟩ => ⟨S8x6144, .f32⟩
  | .hbm, ⟨6, _⟩ => ⟨S_, .f32⟩
  | .hbm, ⟨7, _⟩ => ⟨S7x6144, .f32⟩
  | .hbm, ⟨8, _⟩ => ⟨S16x6144, .f32⟩
  | .hbm, ⟨9, _⟩ => ⟨S16x6x1024, .f32⟩
  | .hbm, ⟨10, _⟩ => ⟨S2x16384, .f32⟩
  | .hbm, ⟨11, _⟩ => ⟨S2x8192x1024, .bf16⟩
  | .hbm, ⟨12, _⟩ => ⟨S16384x2x512, .bf16⟩
  | .hbm, ⟨13, _⟩ => ⟨S16384x2x512, .bf16⟩
  | .hbm, ⟨14, _⟩ => ⟨S32768x512, .bf16⟩
  | .hbm, ⟨15, _⟩ => ⟨S8192x1024, .f32⟩
  | .hbm, ⟨16, _⟩ => ⟨S2x8192x1024, .bf16⟩
  | .hbm, ⟨17, _⟩ => ⟨S16384x2x512, .bf16⟩
  | .hbm, ⟨18, _⟩ => ⟨S16384x2x512, .bf16⟩
  | .hbm, ⟨19, _⟩ => ⟨S32768x512, .bf16⟩
  | .hbm, ⟨20, _⟩ => ⟨S8192x1024, .f32⟩
  | .local _ .vmem, ⟨0, _⟩ => ⟨S2048x512, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .bf16⟩
  | .local _ .vmem, ⟨4, _⟩ => ⟨S1024x1024, .f32⟩
  | .local _ .vmem, ⟨5, _⟩ => ⟨S1024x1024, .f32⟩
  | .local _ .vmem, ⟨6, _⟩ => ⟨S2x1024, .f32⟩
  | .local _ .vmem, ⟨7, _⟩ => ⟨S2x1024, .f32⟩
  | .local _ .vmem, ⟨8, _⟩ => ⟨S1x6x1024, .f32⟩
  | .local _ .vmem, ⟨9, _⟩ => ⟨S1x6x1024, .f32⟩
  | .local _ .vmem, ⟨10, _⟩ => ⟨S1024x1024, .f32⟩
  | .local _ .vmem, ⟨11, _⟩ => ⟨S1024x1024, .f32⟩
  | .local _ .vmem, ⟨12, _⟩ => ⟨S2048x512, .bf16⟩
  | .local _ .vmem, ⟨13, _⟩ => ⟨S2048x512, .bf16⟩
  | .local _ .vmem, ⟨14, _⟩ => ⟨S2048x512, .bf16⟩
  | .local _ .vmem, ⟨15, _⟩ => ⟨S2048x512, .bf16⟩
  | .local _ .vmem, ⟨16, _⟩ => ⟨S1024x1024, .f32⟩
  | .local _ .vmem, ⟨17, _⟩ => ⟨S1024x1024, .f32⟩
  | .local _ .vmem, ⟨18, _⟩ => ⟨S2x1024, .f32⟩
  | .local _ .vmem, ⟨19, _⟩ => ⟨S2x1024, .f32⟩
  | .local _ .vmem, ⟨20, _⟩ => ⟨S1x6x1024, .f32⟩
  | .local _ .vmem, ⟨21, _⟩ => ⟨S1x6x1024, .f32⟩
  | .local _ .vmem, ⟨22, _⟩ => ⟨S1024x1024, .f32⟩
  | .local _ .vmem, ⟨23, _⟩ => ⟨S1024x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg4_1 : Ref sig .tc := ⟨.vmem, 21, rfl⟩
abbrev cc1_stg5_0 : Ref sig .tc := ⟨.vmem, 22, rfl⟩
abbrev cc1_stg5_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem4_1 : DmaSem sig := 21
abbrev cc1_sem5_0 : DmaSem sig := 22
abbrev cc1_sem5_1 : DmaSem sig := 23

abbrev nD : Nat := 1
abbrev τ : Topo := Topo.v7x

variable {F : FTy → Type} [BitOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_4 (i : grid0.Coords) : Fin 3 → Nat :=
  let arg0 : BitVec 32 := BitVec.ofNat 32 (i 0).val
  let c0_i32 : BitVec 32 := 0#32
  let v0 : BitVec 32 := Scalar.addi c0_i32 arg0
  let c8_i32 : BitVec 32 := 8#32
  let v1 : BitVec 1 := Scalar.cmpi .slt v0 c8_i32
  let c8_i32_0 : BitVec 32 := 8#32
  let v2 : BitVec 32 := Scalar.subi v0 c8_i32_0
  let c1_i32 : BitVec 32 := 1#32
  let v3 : BitVec 32 := Scalar.divsi v2 c1_i32
  let c0_i32_1 : BitVec 32 := 0#32
  let v4 : BitVec 1 := Scalar.cmpi .sgt v2 c0_i32_1
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c0_i32_3 : BitVec 32 := 0#32
  let v9 : BitVec 1 := Scalar.cmpi .sgt c1_i32 c0_i32_3
  let v10 : BitVec 32 := Scalar.extui v9
  let c0_i32_4 : BitVec 32 := 0#32
  let v11 : BitVec 1 := Scalar.cmpi .slt c1_i32 c0_i32_4
  let v12 : BitVec 32 := Scalar.extui v11
  let v13 : BitVec 32 := Scalar.subi v10 v12
  let v14 : BitVec 1 := Scalar.cmpi .ne v8 v13
  let v15 : BitVec 32 := Scalar.remsi v2 c1_i32
  let c0_i32_5 : BitVec 32 := 0#32
  let v16 : BitVec 1 := Scalar.cmpi .ne v15 c0_i32_5
  let v17 : BitVec 1 := Scalar.andi v14 v16
  let c1_i32_6 : BitVec 32 := 1#32
  let v18 : BitVec 32 := Scalar.subi v3 c1_i32_6
  let v19 : BitVec 32 := Scalar.select v17 v18 v3
  let c1_i32_7 : BitVec 32 := 1#32
  let v20 : BitVec 32 := Scalar.addi c1_i32_7 v19
  let c0_i32_8 : BitVec 32 := 0#32
  let v21 : BitVec 32 := Scalar.select v1 c0_i32_8 v20
  let c0_i32_9 : BitVec 32 := 0#32
  let c0_i32_10 : BitVec 32 := 0#32
  let c0_i32_11 : BitVec 32 := 0#32
  ![v21.toNat, c0_i32_9.toNat, c0_i32_10.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x6x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![v0.toNat, c0_i32.toNat]

def cc1_transform_2 (i : grid1.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![v0.toNat, c0_i32.toNat]

def cc1_transform_3 (i : grid1.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc1_transform_4 (i : grid1.Coords) : Fin 3 → Nat :=
  let arg0 : BitVec 32 := BitVec.ofNat 32 (i 0).val
  let c8_i32 : BitVec 32 := 8#32
  let v0 : BitVec 32 := Scalar.addi c8_i32 arg0
  let c8_i32_0 : BitVec 32 := 8#32
  let v1 : BitVec 1 := Scalar.cmpi .slt v0 c8_i32_0
  let c8_i32_1 : BitVec 32 := 8#32
  let v2 : BitVec 32 := Scalar.subi v0 c8_i32_1
  let c1_i32 : BitVec 32 := 1#32
  let v3 : BitVec 32 := Scalar.divsi v2 c1_i32
  let c0_i32 : BitVec 32 := 0#32
  let v4 : BitVec 1 := Scalar.cmpi .sgt v2 c0_i32
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c0_i32_3 : BitVec 32 := 0#32
  let v9 : BitVec 1 := Scalar.cmpi .sgt c1_i32 c0_i32_3
  let v10 : BitVec 32 := Scalar.extui v9
  let c0_i32_4 : BitVec 32 := 0#32
  let v11 : BitVec 1 := Scalar.cmpi .slt c1_i32 c0_i32_4
  let v12 : BitVec 32 := Scalar.extui v11
  let v13 : BitVec 32 := Scalar.subi v10 v12
  let v14 : BitVec 1 := Scalar.cmpi .ne v8 v13
  let v15 : BitVec 32 := Scalar.remsi v2 c1_i32
  let c0_i32_5 : BitVec 32 := 0#32
  let v16 : BitVec 1 := Scalar.cmpi .ne v15 c0_i32_5
  let v17 : BitVec 1 := Scalar.andi v14 v16
  let c1_i32_6 : BitVec 32 := 1#32
  let v18 : BitVec 32 := Scalar.subi v3 c1_i32_6
  let v19 : BitVec 32 := Scalar.select v17 v18 v3
  let c1_i32_7 : BitVec 32 := 1#32
  let v20 : BitVec 32 := Scalar.addi c1_i32_7 v19
  let c0_i32_8 : BitVec 32 := 0#32
  let v21 : BitVec 32 := Scalar.select v1 c0_i32_8 v20
  let c0_i32_9 : BitVec 32 := 0#32
  let c0_i32_10 : BitVec 32 := 0#32
  let c0_i32_11 : BitVec 32 := 0#32
  ![v21.toNat, c0_i32_9.toNat, c0_i32_10.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2048x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x6x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1024x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]
-- ==== Kernel3Ideal.lean ====
variable {F : FTy → Type} [FloatOps F]
-- ==== Reference3Ideal.lean ====
abbrev S2x8192x1024 : Shape := ⟨3, ![2, 8192, 1024]⟩
abbrev S16384x1024 : Shape := ⟨2, ![16384, 1024]⟩
abbrev S16384x2 : Shape := ⟨2, ![16384, 2]⟩
abbrev S1x6144 : Shape := ⟨2, ![1, 6144]⟩
abbrev S8x6144 : Shape := ⟨2, ![8, 6144]⟩
abbrev S1x1x6x1024 : Shape := ⟨4, ![1, 1, 6, 1024]⟩
abbrev S1x1x1x1024 : Shape := ⟨4, ![1, 1, 1, 1024]⟩
abbrev S1x1x1024 : Shape := ⟨3, ![1, 1, 1024]⟩
abbrev S8192x2 : Shape := ⟨2, ![8192, 2]⟩
abbrev S2x8192 : Shape := ⟨2, ![2, 8192]⟩
abbrev S2x8192x1 : Shape := ⟨3, ![2, 8192, 1]⟩
abbrev S_ : Shape := ⟨0, ![]⟩
abbrev S8192x1024 : Shape := ⟨2, ![8192, 1024]⟩
abbrev S32x256x1024 : Shape := ⟨3, ![32, 256, 1024]⟩
abbrev S8x1x6x1024 : Shape := ⟨4, ![8, 1, 6, 1024]⟩
abbrev S8x1x1x1024 : Shape := ⟨4, ![8, 1, 1, 1024]⟩
abbrev S8x1x1024 : Shape := ⟨3, ![8, 1, 1024]⟩
abbrev S8x1024x1024 : Shape := ⟨3, ![8, 1024, 1024]⟩

abbrev nBuf : Space → Nat
  | .hbm => 40
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x8192x1024, .f32⟩
  | .hbm, ⟨2, _⟩ => ⟨S16384x1024, .f32⟩
  | .hbm, ⟨3, _⟩ => ⟨S16384x2, .f32⟩
  | .hbm, ⟨4, _⟩ => ⟨S1x6144, .f32⟩
  | .hbm, ⟨5, _⟩ => ⟨S8x6144, .f32⟩
  | .hbm, ⟨6, _⟩ => ⟨S1x1x6x1024, .f32⟩
  | .hbm, ⟨7, _⟩ => ⟨S1x1x1x1024, .f32⟩
  | .hbm, ⟨8, _⟩ => ⟨S1x1x1024, .f32⟩
  | .hbm, ⟨9, _⟩ => ⟨S8192x2, .f32⟩
  | .hbm, ⟨10, _⟩ => ⟨S2x8192, .f32⟩
  | .hbm, ⟨11, _⟩ => ⟨S2x8192x1, .f32⟩
  | .hbm, ⟨12, _⟩ => ⟨S2x8192x1024, .f32⟩
  | .hbm, ⟨13, _⟩ => ⟨S2x8192x1024, .f32⟩
  | .hbm, ⟨14, _⟩ => ⟨S_, .f32⟩
  | .hbm, ⟨15, _⟩ => ⟨S8192x1024, .f32⟩
  | .hbm, ⟨16, _⟩ => ⟨S32x256x1024, .f32⟩
  | .hbm, ⟨17, _⟩ => ⟨S8192x1024, .f32⟩
  | .hbm, ⟨18, _⟩ => ⟨S32x256x1024, .f32⟩
  | .hbm, ⟨19, _⟩ => ⟨S32x256x1024, .f32⟩
  | .hbm, ⟨20, _⟩ => ⟨S32x256x1024, .f32⟩
  | .hbm, ⟨21, _⟩ => ⟨S32x256x1024, .f32⟩
  | .hbm, ⟨22, _⟩ => ⟨S8x1x6x1024, .f32⟩
  | .hbm, ⟨23, _⟩ => ⟨S8x1x1x1024, .f32⟩
  | .hbm, ⟨24, _⟩ => ⟨S8x1x1024, .f32⟩
  | .hbm, ⟨25, _⟩ => ⟨S8192x2, .f32⟩
  | .hbm, ⟨26, _⟩ => ⟨S2x8192, .f32⟩
  | .hbm, ⟨27, _⟩ => ⟨S2x8192x1, .f32⟩
  | .hbm, ⟨28, _⟩ => ⟨S2x8192x1024, .f32⟩
  | .hbm, ⟨29, _⟩ => ⟨S2x8192x1024, .f32⟩
  | .hbm, ⟨30, _⟩ => ⟨S_, .f32⟩
  | .hbm, ⟨31, _⟩ => ⟨S8192x1024, .f32⟩
  | .hbm, ⟨32, _⟩ => ⟨S8x1024x1024, .f32⟩
  | .hbm, ⟨33, _⟩ => ⟨S8192x1024, .f32⟩
  | .hbm, ⟨34, _⟩ => ⟨S8x1024x1024, .f32⟩
  | .hbm, ⟨35, _⟩ => ⟨S8x1024x1024, .f32⟩
  | .hbm, ⟨36, _⟩ => ⟨S8x1024x1024, .f32⟩
  | .hbm, ⟨37, _⟩ => ⟨S8x1024x1024, .f32⟩
  | .hbm, ⟨38, _⟩ => ⟨S8192x1024, .f32⟩
  | .hbm, ⟨39, _⟩ => ⟨S8192x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_0 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩

abbrev nD : Nat := 1
abbrev τ : Topo := Topo.v7x

variable {F : FTy → Type} [FloatOps F]
-- ==== Kernel4.lean ====
abbrev S1024 : Shape := ⟨1, ![1024]⟩
abbrev S8x1024 : Shape := ⟨2, ![8, 1024]⟩
abbrev S2x1024x6144 : Shape := ⟨3, ![2, 1024, 6144]⟩
abbrev S2x6144 : Shape := ⟨2, ![2, 6144]⟩
abbrev S1x1024 : Shape := ⟨2, ![1, 1024]⟩
abbrev S_ : Shape := ⟨0, ![]⟩
abbrev S7x1024 : Shape := ⟨2, ![7, 1024]⟩
abbrev S16x1024 : Shape := ⟨2, ![16, 1024]⟩
abbrev S2x1x6144 : Shape := ⟨3, ![2, 1, 6144]⟩
abbrev S1x16x6144 : Shape := ⟨3, ![1, 16, 6144]⟩
abbrev S1x1024x1536 : Shape := ⟨3, ![1, 1024, 1536]⟩
abbrev S1x1x1536 : Shape := ⟨3, ![1, 1, 1536]⟩
abbrev S1x16x1536 : Shape := ⟨3, ![1, 16, 1536]⟩
abbrev S1024x1536 : Shape := ⟨2, ![1024, 1536]⟩
abbrev S16x1536 : Shape := ⟨2, ![16, 1536]⟩
abbrev S1x1536 : Shape := ⟨2, ![1, 1536]⟩
abbrev S1x1x6144 : Shape := ⟨3, ![1, 1, 6144]⟩
abbrev S1x6144 : Shape := ⟨2, ![1, 6144]⟩
abbrev S1x8x6144 : Shape := ⟨3, ![1, 8, 6144]⟩
abbrev S8x6144 : Shape := ⟨2, ![8, 6144]⟩

abbrev nBuf : Space → Nat
  | .hbm => 14
  | .vmem => 7
  | .smem => 0
  | _ => 0

abbrev bufTy : (tb : Table) → Fin (tcTables nBuf tb) → BufTy
  | .hbm, ⟨0, _⟩ => ⟨S1024, .f32⟩
  | .hbm, ⟨1, _⟩ => ⟨S8x1024, .f32⟩
  | .hbm, ⟨2, _⟩ => ⟨S2x1024x6144, .f32⟩
  | .hbm, ⟨3, _⟩ => ⟨S2x6144, .f32⟩
  | .hbm, ⟨4, _⟩ => ⟨S1x1024, .f32⟩
  | .hbm, ⟨5, _⟩ => ⟨S_, .f32⟩
  | .hbm, ⟨6, _⟩ => ⟨S7x1024, .f32⟩
  | .hbm, ⟨7, _⟩ => ⟨S16x1024, .f32⟩
  | .hbm, ⟨8, _⟩ => ⟨S2x1x6144, .f32⟩
  | .hbm, ⟨9, _⟩ => ⟨S1x16x6144, .f32⟩
  | .hbm, ⟨10, _⟩ => ⟨S1x1x6144, .f32⟩
  | .hbm, ⟨11, _⟩ => ⟨S1x6144, .f32⟩
  | .hbm, ⟨12, _⟩ => ⟨S1x8x6144, .f32⟩
  | .hbm, ⟨13, _⟩ => ⟨S8x6144, .f32⟩
  | .local _ .vmem, ⟨0, _⟩ => ⟨S16x1024, .f32⟩
  | .local _ .vmem, ⟨1, _⟩ => ⟨S1x1024x1536, .f32⟩
  | .local _ .vmem, ⟨2, _⟩ => ⟨S1x1024x1536, .f32⟩
  | .local _ .vmem, ⟨3, _⟩ => ⟨S1x1x1536, .f32⟩
  | .local _ .vmem, ⟨4, _⟩ => ⟨S1x1x1536, .f32⟩
  | .local _ .vmem, ⟨5, _⟩ => ⟨S1x16x1536, .f32⟩
  | .local _ .vmem, ⟨6, _⟩ => ⟨S1x16x1536, .f32⟩
  | _, _ => ⟨S1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x16x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference4Ideal.lean ====
abbrev S1024 : Shape := ⟨1, ![1024]⟩
abbrev S8x1024 : Shape := ⟨2, ![8, 1024]⟩
abbrev S2x1024x6144 : Shape := ⟨3, ![2, 1024, 6144]⟩
abbrev S2x6144 : Shape := ⟨2, ![2, 6144]⟩
abbrev S1x1024 : Shape := ⟨2, ![1, 1024]⟩
abbrev S_ : Shape := ⟨0, ![]⟩
abbrev S1x1024x6144 : Shape := ⟨3, ![1, 1024, 6144]⟩
abbrev S1024x6144 : Shape := ⟨2, ![1024, 6144]⟩
abbrev S1x6144 : Shape := ⟨2, ![1, 6144]⟩
abbrev S6144 : Shape := ⟨1, ![6144]⟩
abbrev S8x6144 : Shape := ⟨2, ![8, 6144]⟩

abbrev nBuf : Space → Nat
  | .hbm => 38
  | .vmem => 0
  | .smem => 0
  | _ => 0

abbrev bufTy : (tb : Table) → Fin (tcTables nBuf tb) → BufTy
  | .hbm, ⟨0, _⟩ => ⟨S1024, .f32⟩
  | .hbm, ⟨1, _⟩ => ⟨S8x1024, .f32⟩
  | .hbm, ⟨2, _⟩ => ⟨S2x1024x6144, .f32⟩
  | .hbm, ⟨3, _⟩ => ⟨S2x6144, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S_, .f32⟩
  | .hbm, ⟨8, _⟩ => ⟨S1x1024, .f32⟩
  | .hbm, ⟨9, _⟩ => ⟨S1x1024, .f32⟩
  | .hbm, ⟨10, _⟩ => ⟨S_, .f32⟩
  | .hbm, ⟨11, _⟩ => ⟨S1x1024, .f32⟩
  | .hbm, ⟨12, _⟩ => ⟨S1x1024, .f32⟩
  | .hbm, ⟨13, _⟩ => ⟨S1x1024, .f32⟩
  | .hbm, ⟨14, _⟩ => ⟨S1x1024x6144, .f32⟩
  | .hbm, ⟨15, _⟩ => ⟨S1024x6144, .f32⟩
  | .hbm, ⟨16, _⟩ => ⟨S1x6144, .f32⟩
  | .hbm, ⟨17, _⟩ => ⟨S1x6144, .f32⟩
  | .hbm, ⟨18, _⟩ => ⟨S6144, .f32⟩
  | .hbm, ⟨19, _⟩ => ⟨S1x6144, .f32⟩
  | .hbm, ⟨20, _⟩ => ⟨S1x6144, .f32⟩
  | .hbm, ⟨21, _⟩ => ⟨S8x1024, .f32⟩
  | .hbm, ⟨22, _⟩ => ⟨S8x1024, .f32⟩
  | .hbm, ⟨23, _⟩ => ⟨S_, .f32⟩
  | .hbm, ⟨24, _⟩ => ⟨S8x1024, .f32⟩
  | .hbm, ⟨25, _⟩ => ⟨S8x1024, .f32⟩
  | .hbm, ⟨26, _⟩ => ⟨S_, .f32⟩
  | .hbm, ⟨27, _⟩ => ⟨S8x1024, .f32⟩
  | .hbm, ⟨28, _⟩ => ⟨S8x1024, .f32⟩
  | .hbm, ⟨29, _⟩ => ⟨S8x1024, .f32⟩
  | .hbm, ⟨30, _⟩ => ⟨S1x1024x6144, .f32⟩
  | .hbm, ⟨31, _⟩ => ⟨S1024x6144, .f32⟩
  | .hbm, ⟨32, _⟩ => ⟨S8x6144, .f32⟩
  | .hbm, ⟨33, _⟩ => ⟨S1x6144, .f32⟩
  | .hbm, ⟨34, _⟩ => ⟨S6144, .f32⟩
  | .hbm, ⟨35, _⟩ => ⟨S1x6144, .f32⟩
  | .hbm, ⟨36, _⟩ => ⟨S8x6144, .f32⟩
  | .hbm, ⟨37, _⟩ => ⟨S8x6144, .f32⟩
  | _, _ => ⟨S1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_call1_v0 : Ref sig .tc := ⟨.hbm, 21, rfl⟩
abbrev main_call1_v1 : Ref sig .tc := ⟨.hbm, 22, rfl⟩
abbrev main_call1_cst : Ref sig .tc := ⟨.hbm, 23, rfl⟩
abbrev main_call1_v2 : Ref sig .tc := ⟨.hbm, 24, rfl⟩
abbrev main_call1_v3 : Ref sig .tc := ⟨.hbm, 25, rfl⟩
abbrev main_call1_cst_0 : Ref sig .tc := ⟨.hbm, 26, rfl⟩
abbrev main_call1_v4 : Ref sig .tc := ⟨.hbm, 27, rfl⟩
abbrev main_call1_v5 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩

abbrev nD : Nat := 1
abbrev τ : Topo := Topo.v7x

variable {F : FTy → Type} [FloatOps F]
-- ==== Kernel5.lean ====
abbrev S16384x1024 : Shape := ⟨2, ![16384, 1024]⟩
abbrev S16384x256 : Shape := ⟨2, ![16384, 256]⟩
abbrev S64x256x1024 : Shape := ⟨3, ![64, 256, 1024]⟩
abbrev S64x1024x256 : Shape := ⟨3, ![64, 1024, 256]⟩
abbrev S16384x4x64 : Shape := ⟨3, ![16384, 4, 64]⟩
abbrev S16384x4x128 : Shape := ⟨3, ![16384, 4, 128]⟩
abbrev S16384x512 : Shape := ⟨2, ![16384, 512]⟩
abbrev S256x16384 : Shape := ⟨2, ![256, 16384]⟩
abbrev S1x1024x256 : Shape := ⟨3, ![1, 1024, 256]⟩
abbrev S256x512 : Shape := ⟨2, ![256, 512]⟩
abbrev S256x256 : Shape := ⟨2, ![256, 256]⟩
abbrev S256x1024 : Shape := ⟨2, ![256, 1024]⟩
abbrev S1024x256 : Shape := ⟨2, ![1024, 256]⟩
abbrev S256x128 : Shape := ⟨2, ![256, 128]⟩
abbrev S128x256 : Shape := ⟨2, ![128, 256]⟩
abbrev S128x1024 : Shape := ⟨2, ![128, 1024]⟩
abbrev S64x256 : Shape := ⟨2, ![64, 256]⟩
abbrev S1024 : Shape := ⟨1, ![1024]⟩
abbrev S1x1024 : Shape := ⟨2, ![1, 1024]⟩
abbrev S64x1024 : Shape := ⟨2, ![64, 1024]⟩
abbrev S8192x1024 : Shape := ⟨2, ![8192, 1024]⟩

abbrev nBuf : Space → Nat
  | .hbm => 13
  | .vmem => 8
  | .smem => 0
  | _ => 0

abbrev bufTy : (tb : Table) → Fin (tcTables nBuf tb) → BufTy
  | .hbm, ⟨0, _⟩ => ⟨S16384x1024, .f32⟩
  | .hbm, ⟨1, _⟩ => ⟨S16384x256, .f32⟩
  | .hbm, ⟨2, _⟩ => ⟨S16384x256, .f32⟩
  | .hbm, ⟨3, _⟩ => ⟨S64x256x1024, .f32⟩
  | .hbm, ⟨4, _⟩ => ⟨S64x1024x256, .f32⟩
  | .hbm, ⟨5, _⟩ => ⟨S16384x4x64, .f32⟩
  | .hbm, ⟨6, _⟩ => ⟨S16384x4x128, .f32⟩
  | .hbm, ⟨7, _⟩ => ⟨S16384x512, .f32⟩
  | .hbm, ⟨8, _⟩ => ⟨S16384x512, .bf16⟩
  | .hbm, ⟨9, _⟩ => ⟨S256x16384, .f32⟩
  | .hbm, ⟨10, _⟩ => ⟨S256x16384, .bf16⟩
  | .hbm, ⟨11, _⟩ => ⟨S16384x1024, .bf16⟩
  | .hbm, ⟨12, _⟩ => ⟨S8192x1024, .bf16⟩
  | .local _ .vmem, ⟨0, _⟩ => ⟨S1x1024x256, .f32⟩
  | .local _ .vmem, ⟨1, _⟩ => ⟨S1x1024x256, .f32⟩
  | .local _ .vmem, ⟨2, _⟩ => ⟨S256x512, .bf16⟩
  | .local _ .vmem, ⟨3, _⟩ => ⟨S256x512, .bf16⟩
  | .local _ .vmem, ⟨4, _⟩ => ⟨S256x256, .bf16⟩
  | .local _ .vmem, ⟨5, _⟩ => ⟨S256x256, .bf16⟩
  | .local _ .vmem, ⟨6, _⟩ => ⟨S256x1024, .bf16⟩
  | .local _ .vmem, ⟨7, _⟩ => ⟨S256x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Kernel5Ideal.lean ====
variable {F : FTy → Type} [FloatOps F] [Named F]
def κ : String → Option EReal := fun
  | "q_scale" => some (((1 / 8) * (Real.log 2)⁻¹ : ℝ) : EReal)
  | _ => none
-- ==== Reference5Ideal.lean ====
abbrev S16384x1024 : Shape := ⟨2, ![16384, 1024]⟩
abbrev S16384x256 : Shape := ⟨2, ![16384, 256]⟩
abbrev S8192x1024 : Shape := ⟨2, ![8192, 1024]⟩
abbrev S32x256x4x4x64 : Shape := ⟨5, ![32, 256, 4, 4, 64]⟩
abbrev S8192x256 : Shape := ⟨2, ![8192, 256]⟩
abbrev S32x256x4x64 : Shape := ⟨4, ![32, 256, 4, 64]⟩
abbrev S32x4x256x256x4 : Shape := ⟨5, ![32, 4, 256, 256, 4]⟩
abbrev S32x4x4x256x256 : Shape := ⟨5, ![32, 4, 4, 256, 256]⟩
abbrev S_ : Shape := ⟨0, ![]⟩
abbrev S32x4x4x256 : Shape := ⟨4, ![32, 4, 4, 256]⟩
abbrev S32x4x4x256x1 : Shape := ⟨5, ![32, 4, 4, 256, 1]⟩
abbrev S32x4x64x4x256 : Shape := ⟨5, ![32, 4, 64, 4, 256]⟩

abbrev nBuf : Space → Nat
  | .hbm => 32
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x256, .f32⟩
  | .hbm, ⟨2, _⟩ => ⟨S16384x256, .f32⟩
  | .hbm, ⟨3, _⟩ => ⟨S8192x1024, .f32⟩
  | .hbm, ⟨4, _⟩ => ⟨S32x256x4x4x64, .f32⟩
  | .hbm, ⟨5, _⟩ => ⟨S8192x256, .f32⟩
  | .hbm, ⟨6, _⟩ => ⟨S32x256x4x64, .f32⟩
  | .hbm, ⟨7, _⟩ => ⟨S8192x256, .f32⟩
  | .hbm, ⟨8, _⟩ => ⟨S32x256x4x64, .f32⟩
  | .hbm, ⟨9, _⟩ => ⟨S32x4x256x256x4, .f32⟩
  | .hbm, ⟨10, _⟩ => ⟨S32x4x4x256x256, .f32⟩
  | .hbm, ⟨11, _⟩ => ⟨S_, .f32⟩
  | .hbm, ⟨12, _⟩ => ⟨S32x4x4x256x256, .f32⟩
  | .hbm, ⟨13, _⟩ => ⟨S32x4x4x256x256, .f32⟩
  | .hbm, ⟨14, _⟩ => ⟨S_, .f32⟩
  | .hbm, ⟨15, _⟩ => ⟨S32x4x4x256, .f32⟩
  | .hbm, ⟨16, _⟩ => ⟨S_, .f32⟩
  | .hbm, ⟨17, _⟩ => ⟨S32x4x4x256, .f32⟩
  | .hbm, ⟨18, _⟩ => ⟨S32x4x4x256, .f32⟩
  | .hbm, ⟨19, _⟩ => ⟨S32x4x4x256x1, .f32⟩
  | .hbm, ⟨20, _⟩ => ⟨S32x4x4x256x256, .f32⟩
  | .hbm, ⟨21, _⟩ => ⟨S32x4x4x256x256, .f32⟩
  | .hbm, ⟨22, _⟩ => ⟨S32x4x4x256x256, .f32⟩
  | .hbm, ⟨23, _⟩ => ⟨S_, .f32⟩
  | .hbm, ⟨24, _⟩ => ⟨S32x4x4x256, .f32⟩
  | .hbm, ⟨25, _⟩ => ⟨S32x4x4x256x1, .f32⟩
  | .hbm, ⟨26, _⟩ => ⟨S32x4x4x256x256, .f32⟩
  | .hbm, ⟨27, _⟩ => ⟨S32x4x4x256x256, .f32⟩
  | .hbm, ⟨28, _⟩ => ⟨S32x4x64x4x256, .f32⟩
  | .hbm, ⟨29, _⟩ => ⟨S32x256x4x4x64, .f32⟩
  | .hbm, ⟨30, _⟩ => ⟨S8192x1024, .f32⟩
  | .hbm, ⟨31, _⟩ => ⟨S8192x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩

abbrev nD : Nat := 1
abbrev τ : Topo := Topo.v7x

variable {F : FTy → Type} [FloatOps F]
-- ==== Proof.Planned.lean ====
/-
  The plan's precondition, decoded: every row tile names one of the 32 experts, and the count is one to 64.
-/
module

public import proofs.«01_k».proof.Pre_planned
public import Idealize.ShloMosaic.Lib.ReduceAll
public import Idealize.ShloMosaic.Lib.WordCmp
public import Idealize.ShloMosaic.Lib.ValueLayout

@[expose] public section

set_option maxRecDepth 16384

noncomputable section

namespace Cert.Pre_planned

open Idealize.ShloMosaic Idealize.ShloMosaic.ValueIdx

/-- The shape relations the precondition's operations take. -/
theorem facts : Facts where
  bcast_S_S64 := by decide
  reducesTo_S64_S_d0 := by decide
  h_S_ := by decide
  shapeCasts_S1_S_ := by decide

/-- A scalar's shape, or one of a single entry, has at most one index. -/
instance : Subsingleton S_.Idx := ⟨fun _ _ => funext fun a => a.elim0⟩
/-- A scalar's shape, or one of a single entry, has at most one index. -/
instance : Subsingleton S1.Idx := ⟨fun i j => funext fun a => Fin.ext (by
  match a with | ⟨0, h⟩ => have hi : (i ⟨0, h⟩).val < 1 := (i ⟨0, h⟩).isLt
                           have hj : (j ⟨0, h⟩).val < 1 := (j ⟨0, h⟩).isLt
                           omega)⟩

/-- A word between two small bounds as a signed number is between them as a natural one. -/
theorem toNat_of_toInt (w : BitVec 32) (h : 0 ≤ w.toInt) : (w.toNat : Int) = w.toInt := by
  have := BitVec.toInt_eq_toNat_cond w
  split at this <;> omega

/-- The precondition bounds the tables' words. -/
theorem bounds {F : FTy → Type} [FloatOps F] [Facts] (a0 : IVec S64 32) (a1 : IVec S1 32) (a2 : FVec F S65536x1024 .f32)
    (a3 a4 : FVec F S2x32x1024x256 .f32) (a5 : FVec F S2x32x256x1024 .f32) (h : fn a0 a1 a2 a3 a4 a5 = fun _ => 1#1) :
    (∀ t : S64.Idx, (a0 t).toNat < 32) ∧ ∀ j : S1.Idx, 1 ≤ (a1 j).toNat ∧ (a1 j).toNat ≤ 64 := by
  have h0 := congrFun h (Shape.Idx.first Facts.h_S_)
  unfold fn at h0
  dsimp only at h0
  obtain ⟨h1, hle⟩ := IntOp.andi_eq_one.1 h0
  obtain ⟨hte, hge⟩ := IntOp.andi_eq_one.1 h1
  refine ⟨fun t => ?_, fun j => ?_⟩
  · obtain ⟨ha, hb⟩ := IntOp.andi_eq_one.1 (Host.reduce_andi_all _ _ _ _ _ hte t)
    have ha : (0#32 : BitVec 32).toInt ≤ (a0 t).toInt := IntOp.cmpi_sge.1 ha
    have hb : (a0 t).toInt < (32#32 : BitVec 32).toInt := IntOp.cmpi_slt.1 hb
    have e0 : (0#32 : BitVec 32).toInt = 0 := by decide
    have e1 : (32#32 : BitVec 32).toInt = 32 := by decide
    have := toNat_of_toInt (a0 t) (by omega)
    omega
  · have hge : (1#32 : BitVec 32).toInt ≤ (shapeCast S_ a1 Facts.shapeCasts_S1_S_ (Shape.Idx.first Facts.h_S_)).toInt := IntOp.cmpi_sge.1 hge
    have hle : (shapeCast S_ a1 Facts.shapeCasts_S1_S_ (Shape.Idx.first Facts.h_S_)).toInt ≤ (64#32 : BitVec 32).toInt := IntOp.cmpi_sle.1 hle
    have e : shapeCast S_ a1 Facts.shapeCasts_S1_S_ (Shape.Idx.first Facts.h_S_) = a1 j := congrArg a1 (Subsingleton.elim _ _)
    rw [e] at hge hle
    have e0 : (1#32 : BitVec 32).toInt = 1 := by decide
    have e1 : (64#32 : BitVec 32).toInt = 64 := by decide
    have := toNat_of_toInt (a1 j) (by omega)
    omega

end Cert.Pre_planned

end
-- ==== Proof.ExpertsRing.lean ====
/-
  The experts call at the idealized program: the names its body's slices go by (row tile, slot, semaphore), the words it
  computes in closed form, and what it holds of its own between grid points.
-/
module

public import proofs.«01_k».proof.Proof.Gen.Kernel2Ideal.Launch
public import Idealize.ShloMosaic.Lib.Pipeline.FrameSuffix
public import Idealize.ShloMosaic.Lib.Pipeline.TableIdle
public import Idealize.ShloMosaic.Lib.Ring
public import Idealize.ShloMosaic.Lib.Affine
public import Idealize.ShloMosaic.Lib.Tactic
public import Idealize.ShloMosaic.Lib.WordCmp

@[expose] public section

set_option maxRecDepth 16384

noncomputable section

namespace Cert.Proof.Experts

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ
/-- No call is counted. -/
abbrev 𝒱₀ : Variants := Variants.none

/-- The activations left in HBM, the call's own slots, the count's table. -/
abbrev xM : Memref sig .tc .hbm S131072x512 .bf16 := Memref.whole main_v8
/-- The ring's buffer. -/
abbrev bufM : Memref sig .tc .vmem S3x1024x2x512 .bf16 := Memref.whole cc0_scratch0
/-- The table of the used count. -/
abbrev cntM : Memref sig .tc .smem S1 .i32 := Memref.whole main_arg1

/-- Where row tile `b` starts, where slot `s` starts, where its semaphore is. -/
abbrev tileOff (b : Fin 64) : Fin 2 → Nat := ![2048 * b.val, 0]
/-- A row tile lies in the array. -/
theorem tileOff_inb (b : Fin 64) : ∀ a, tileOff b a + S2048x512.size a ≤ S131072x512.size a := by
  have := b.isLt; intro a; fin_cases a
  · show 2048 * b.val + 2048 ≤ 131072; omega
  · show 0 + 512 ≤ 512; omega
/-- Where slot `s` starts in the buffer. -/
abbrev slotOff (s : Fin 3) : Fin 4 → Nat := ![s.val, 0, 0, 0]
/-- A slot lies in the buffer. -/
theorem slotOff_inb (s : Fin 3) : ∀ a, slotOff s a + S1x1024x2x512.size a ≤ S3x1024x2x512.size a := by
  have := s.isLt; intro a; fin_cases a
  · show s.val + 1 ≤ 3; omega
  · show 0 + 1024 ≤ 1024; omega
  · show 0 + 2 ≤ 2; omega
  · show 0 + 512 ≤ 512; omega
/-- Where slot `s`'s semaphore is. -/
abbrev semOff (s : Fin 3) : Fin 1 → Nat := ![s.val]
/-- A slot's semaphore lies in the array of semaphores. -/
theorem semOff_inb (s : Fin 3) : ∀ a, semOff s a + S1.size a ≤ S3.size a := by
  have := s.isLt; intro a; fin_cases a; show s.val + 1 ≤ 3; omega

/-- A row tile moves whole words and is one run of the array. -/
theorem tile_words : ∀ b : Fin 64, (Rect.unit (s := S131072x512) (tileOff b) S2048x512.size (tileOff_inb b)).WholeWords (EltTy.packing .bf16) := by decide +kernel
/-- A row tile is one run of the array. -/
theorem tile_lead : ∀ b : Fin 64, (Rect.unit (s := S131072x512) (tileOff b) S2048x512.size (tileOff_inb b)).LeadingBlock := by decide +kernel

/-- Row tile `b` of the activations, its rows seen in pairs as the transfer sees them. -/
def tile (b : Fin 64) : Memref sig .tc .hbm S1024x2x512 .bf16 :=
  (xM.slice (Rect.unit (s := S131072x512) (tileOff b) S2048x512.size (tileOff_inb b)) (fun _ => rfl)).reshape S1024x2x512
    Facts₀.reshapes_S2048x512_S1024x2x512.1 Facts₀.reshapes_S2048x512_S1024x2x512.2 ((Memref.isWhole_whole _ : xM.IsWhole).contiguous.slice _ (tile_lead b))
/-- Slot `s` of the buffer. -/
def rslot (s : Fin 3) : Memref sig .tc .vmem S1024x2x512 .bf16 :=
  (bufM.slice (Rect.unit (s := S3x1024x2x512) (slotOff s) S1x1024x2x512.size (slotOff_inb s)) (fun _ => rfl)).squeeze S1024x2x512 Facts₀.squeezes_S1x1024x2x512_S1024x2x512
/-- Slot `s`'s semaphore. -/
def csm (s : Fin 3) : DmaSems sig S_ := (cc0_scratch1.slice (Rect.unit (s := S3) (semOff s) S1.size (semOff_inb s))).squeeze S_ Facts₀.squeezes_S1_S_

/-- A slot's offset is closed. -/
instance (s : Fin 3) : ClosedOff (slotOff s) := ⟨slotOff s, rfl⟩
/-- A tile's offset is closed. -/
instance (b : Fin 64) : ClosedOff (tileOff b) := ⟨tileOff b, rfl⟩

/-! ## The offsets at a grid point -/

section Chain
variable (i : grid0.Coords)

/-- A grid point's number is below 64. -/
theorem t_lt : (i 0).val < 64 := (i 0).isLt

/-- The semaphore waited for at a point is its slot's. -/
theorem off9_eq : k0_off9 i = semOff (Ring.sl 3 (i 0).val) := k0_off9_eq i
/-- The slot waited for at a point is its own. -/
theorem off10_eq : k0_off10 i = slotOff (Ring.sl 3 (i 0).val) := k0_off10_eq i
/-- The slot read at a point is its own. -/
theorem off12_eq : k0_off12 i = slotOff (Ring.sl 3 (i 0).val) := k0_off12_eq i
/-- The semaphore of the transfer started at a point is that of two ahead. -/
theorem off6_eq : k0_off6 i = semOff (Ring.sl 3 ((i 0).val + 2)) := k0_off6_eq i
/-- The slot of the transfer started at a point is that of two ahead. -/
theorem off7_eq : k0_off7 i = slotOff (Ring.sl 3 ((i 0).val + 2)) := k0_off7_eq i
/-- The transfer started at a point reads from row 2048 times two ahead. -/
theorem off8_closed : ∀ i : grid0.Coords, k0_off8 i = ![2048 * ((i 0).val + 2), 0] := by decide +kernel
/-- The transfer started at a point reads the tile two ahead. -/
theorem off8_eq (h : (i 0).val + 2 < 64) : k0_off8 i = tileOff (Ring.bk 64 ((i 0).val + 2)) := by
  rw [off8_closed]; unfold tileOff; rw [Ring.bk_val h]

/-- A semaphore at a slot's offset is the slot's. -/
theorem csm_congr {off : Fin 1 → Nat} {s : Fin 3} (e : off = semOff s) (hh) :
    (cc0_scratch1.slice (Rect.unit (s := S3) off S1.size hh)).squeeze S_ Facts₀.squeezes_S1_S_ = csm s := by
  subst e; rfl
/-- A slice of the buffer at a slot's offset is the slot. -/
theorem rslot_congr {off : Fin 4 → Nat} {s : Fin 3} (e : off = slotOff s) (hh hs) :
    (bufM.slice (Rect.unit (s := S3x1024x2x512) off S1x1024x2x512.size hh) hs).squeeze S1024x2x512 Facts₀.squeezes_S1x1024x2x512_S1024x2x512 = rslot s := by
  subst e; rfl
/-- A slice of the array at a tile's offset is the tile. -/
theorem tile_congr {off : Fin 2 → Nat} {b : Fin 64} (e : off = tileOff b) (hh hs h1 h2 h3) :
    (xM.slice (Rect.unit (s := S131072x512) off S2048x512.size hh) hs).reshape S1024x2x512 h1 h2 h3 = tile b := by
  subst e; rfl

/-- The first transfer's semaphore is slot zero's. -/
@[sl_canon] theorem semL0 (hh) : (cc0_scratch1.slice (Rect.unit (s := S3) k0_off2 S1.size hh)).squeeze S_ Facts₀.squeezes_S1_S_ = csm (Ring.sl 3 0) := csm_congr k0_off2_eq _
/-- The second transfer's semaphore is slot one's. -/
@[sl_canon] theorem semL1 (hh) : (cc0_scratch1.slice (Rect.unit (s := S3) k0_off4 S1.size hh)).squeeze S_ Facts₀.squeezes_S1_S_ = csm (Ring.sl 3 1) := csm_congr k0_off4_eq _
/-- The first transfer goes to slot zero. -/
@[sl_canon] theorem slotL0 (hh hs) : (bufM.slice (Rect.unit (s := S3x1024x2x512) k0_off3 S1x1024x2x512.size hh) hs).squeeze S1024x2x512 Facts₀.squeezes_S1x1024x2x512_S1024x2x512 = rslot (Ring.sl 3 0) := rslot_congr k0_off3_eq _ _
/-- The second transfer goes to slot one. -/
@[sl_canon] theorem slotL1 (hh hs) : (bufM.slice (Rect.unit (s := S3x1024x2x512) k0_off5 S1x1024x2x512.size hh) hs).squeeze S1024x2x512 Facts₀.squeezes_S1x1024x2x512_S1024x2x512 = rslot (Ring.sl 3 1) := rslot_congr k0_off5_eq _ _
/-- The first transfer reads tile zero. -/
@[sl_canon] theorem tileL0 (hh hs h1 h2 h3) : (xM.slice (Rect.unit (s := S131072x512) ![0, 0] S2048x512.size hh) hs).reshape S1024x2x512 h1 h2 h3 = tile (Ring.bk 64 0) := tile_congr (by decide) _ _ _ _ _
/-- The second transfer reads tile one. -/
@[sl_canon] theorem tileL1 (hh hs h1 h2 h3) : (xM.slice (Rect.unit (s := S131072x512) ![2048, 0] S2048x512.size hh) hs).reshape S1024x2x512 h1 h2 h3 = tile (Ring.bk 64 1) := tile_congr (by decide) _ _ _ _ _
/-- The semaphore of a point's transfer is that of two ahead. -/
@[sl_canon] theorem semI (hh) : (cc0_scratch1.slice (Rect.unit (s := S3) (k0_off6 i) S1.size hh)).squeeze S_ Facts₀.squeezes_S1_S_ = csm (Ring.sl 3 ((i 0).val + 2)) := csm_congr (off6_eq i) _
/-- A point's transfer goes to the slot of two ahead. -/
@[sl_canon] theorem slotI (hh hs) : (bufM.slice (Rect.unit (s := S3x1024x2x512) (k0_off7 i) S1x1024x2x512.size hh) hs).squeeze S1024x2x512 Facts₀.squeezes_S1x1024x2x512_S1024x2x512 = rslot (Ring.sl 3 ((i 0).val + 2)) := rslot_congr (off7_eq i) _ _
/-- A point's transfer reads the tile two ahead. -/
@[sl_canon] theorem tileI (h : (i 0).val + 2 < 64) (hh hs h1 h2 h3) : (xM.slice (Rect.unit (s := S131072x512) (k0_off8 i) S2048x512.size hh) hs).reshape S1024x2x512 h1 h2 h3 = tile (Ring.bk 64 ((i 0).val + 2)) := tile_congr (off8_eq i h) _ _ _ _ _
/-- The semaphore a point waits for is its own slot's. -/
@[sl_canon] theorem semW (hh) : (cc0_scratch1.slice (Rect.unit (s := S3) (k0_off9 i) S1.size hh)).squeeze S_ Facts₀.squeezes_S1_S_ = csm (Ring.sl 3 (i 0).val) := csm_congr (off9_eq i) _
/-- The slot a point waits for is its own. -/
@[sl_canon] theorem slotW (hh hs) : (bufM.slice (Rect.unit (s := S3x1024x2x512) (k0_off10 i) S1x1024x2x512.size hh) hs).squeeze S1024x2x512 Facts₀.squeezes_S1x1024x2x512_S1024x2x512 = rslot (Ring.sl 3 (i 0).val) := rslot_congr (off10_eq i) _ _
/-- The load's own offsets, of the slot waited for. -/
instance closedLoad (i : grid0.Coords) : ClosedOff (k0_off12 i) := ⟨slotOff (Ring.sl 3 (i 0).val), off12_eq i⟩

end Chain

/-! ## The count's conditions -/

/-- What a count read as a word is: at least one row tile, at most all. -/
def CntOK (u : BitVec 32) : Prop := 1 ≤ u.toNat ∧ u.toNat ≤ 64

section Conds
variable (i : grid0.Coords) (u : BitVec 32) (hu : CntOK u)

/-- The body's two guards, for every point and count: two ahead is used, the point is used. -/
theorem cond_ok : ∀ (i : grid0.Coords) (n : Fin 65),
    (k0_cond4 i (BitVec.ofNat 32 n.val) = 1#1 ↔ (i 0).val + 2 < n.val)
    ∧ (k0_cond5 i (BitVec.ofNat 32 n.val) = 1#1 ↔ (i 0).val < n.val) := by decide +kernel
/-- The guards of the first two transfers, for every count. -/
theorem pro_ok : ∀ (n : Fin 65),
    (Scalar.cmpi .ne (Scalar.extui (Scalar.cmpi .sgt (BitVec.ofNat 32 n.val) 0#32) : BitVec 32) 0#32 = 1#1 ↔ 0 < n.val)
    ∧ (Scalar.cmpi .ne (Scalar.extui (Scalar.cmpi .sgt (BitVec.ofNat 32 n.val) 1#32) : BitVec 32) 0#32 = 1#1 ↔ 1 < n.val) := by decide +kernel
/-- The guard of the filling holds at the first point alone. -/
theorem cond1_iff : ∀ i : grid0.Coords, k0_cond1 i = 1#1 ↔ (i 0).val = 0 := by decide +kernel

include hu in
/-- A count of at most 64 is the word of its number. -/
theorem u_eq : u = BitVec.ofNat 32 (⟨u.toNat, by have := hu.2; omega⟩ : Fin 65).val := by simp
include hu in
/-- A transfer is started when the tile two ahead is used. -/
theorem cond4_iff : k0_cond4 i u = 1#1 ↔ (i 0).val + 2 < u.toNat := by
  have h := (cond_ok i ⟨u.toNat, by have := hu.2; omega⟩).1
  rwa [← u_eq u hu] at h
include hu in
/-- A tile is computed when it is used. -/
theorem cond5_iff : k0_cond5 i u = 1#1 ↔ (i 0).val < u.toNat := by
  have h := (cond_ok i ⟨u.toNat, by have := hu.2; omega⟩).2
  rwa [← u_eq u hu] at h
include hu in
/-- The first transfer is started when a tile is used. -/
theorem pro0_iff : Scalar.cmpi .ne (Scalar.extui (Scalar.cmpi .sgt u 0#32) : BitVec 32) 0#32 = 1#1 ↔ 0 < u.toNat := by
  have h := (pro_ok ⟨u.toNat, by have := hu.2; omega⟩).1
  rwa [← u_eq u hu] at h
include hu in
/-- The second transfer is started when two tiles are used. -/
theorem pro1_iff : Scalar.cmpi .ne (Scalar.extui (Scalar.cmpi .sgt u 1#32) : BitVec 32) 0#32 = 1#1 ↔ 1 < u.toNat := by
  have h := (pro_ok ⟨u.toNat, by have := hu.2; omega⟩).2
  rwa [← u_eq u hu] at h

include hu in
/-- The check the body makes of the count holds. -/
theorem chk : k0_chk1 i u := by
  have hlt : k0_cond4 i u = 1#1 → (i 0).val + 2 < 64 := fun h => by
    have := (cond4_iff i u hu).mp h; have := hu.2; omega
  refine ⟨fun h => ?_, fun h => ?_, fun h => ?_⟩
  · rw [off8_eq i (hlt h)]; exact tileOff_inb _
  · rw [off8_eq i (hlt h)]; exact fun _ => tile_words _
  · rw [off8_eq i (hlt h)]; exact fun _ => tile_lead _

end Conds

/-! ## The pieces: a tile home, a slot held, a slot's cell, a slot in flight -/

section Pieces
variable (c : Dev nD) (X : Buf (Elt F) (xM.view.loc (c : Thread nD τ)))

/-- Slot `s`'s semaphore, at zero. -/
abbrev cellP (s : Fin 3) : sProp 𝕄 := semVal ((c : Thread nD τ), SemLoc.dma (csm s).sem) 0
/-- Slot `s` of the buffer, held with its contents. -/
abbrev slotP (s : Fin 3) (f : Buf (Elt F) ((rslot s).view.loc (c : Thread nD τ))) : sProp 𝕄 :=
  (rslot s).view.loc (c : Thread nD τ) ↦[(rslot s).view.set]{fullShare} f
/-- Tile `b` HOME: held on its elements at the activations' contents. -/
abbrev homeP (b : Fin 64) : sProp 𝕄 := (tile b).view.loc (c : Thread nD τ) ↦[(tile b).view.set]{fullShare} X
/-- A tile's rows in pairs, as the transfer reads them. -/
abbrev payload (b : Fin 64) : S1024x2x512.Idx → Elt F .bf16 := ReadAs.same.apply ((tile b).view.read (Elt F) X)
/-- What tile `b`'s transfer leaves in slot `s` over prior contents `f`. -/
abbrev landed (s : Fin 3) (b : Fin 64) (f : Buf (Elt F) ((rslot s).view.loc (c : Thread nD τ))) : Buf (Elt F) ((rslot s).view.loc (c : Thread nD τ)) :=
  (rslot s).view.writes (Elt F) f [⟨Rect.whole S1024x2x512, payload c X b⟩]
/-- Slot `s` IN FLIGHT with tile `b`, issued over `f`. -/
abbrev flightP (s : Fin 3) (b : Fin 64) (f : Buf (Elt F) ((rslot s).view.loc (c : Thread nD τ))) : sProp 𝕄 :=
  Transfers.Flight countersEmb (c : Thread nD τ) (SemLoc.dma (csm s).sem) () 65536 iprop(slotP c s (landed c X s b f) ∗ homeP c X b)

end Pieces

end Cert.Proof.Experts

end
-- ==== Proof.ExpertsBody.lean ====
/-
  The experts call at the idealized program: its body run at one grid point, by where the point stands in the ring.
-/
module

public import proofs.«01_k».proof.Proof.ExpertsRing

@[expose] public section

set_option maxRecDepth 16384

noncomputable section

namespace Cert.Proof.Experts

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Body

variable (c : Dev nD) (X : Buf (Elt F) (xM.view.loc (c : Thread nD τ)))
  (i : grid0.Coords)
  (a4 : Memref sig .tc .vmem S1x1x1024x256 .bf16) (h4 : a4.IsWhole)
  (a5 : Memref sig .tc .vmem S1x1x1024x256 .bf16) (h5 : a5.IsWhole)
  (a6 : Memref sig .tc .vmem S1x1x256x1024 .bf16) (h6 : a6.IsWhole)
  (a7 : Memref sig .tc .vmem S2048x512 .bf16) (h7 : a7.IsWhole)

/-- The body at grid point `i` on the given staging memrefs. -/
abbrev bodyG : Prog (TpuEff nD τ sig (Elt F) Λ₀ .tc) PUnit :=
  cc0_moe_experts i (Memref.whole main_arg0) (Memref.isWhole_whole _) cntM (Memref.isWhole_whole _) xM (Memref.isWhole_whole _)
    a4 h4 a5 h5 a6 h6 a7 h7 bufM (Memref.isWhole_whole _) cc0_scratch1

/-- The body's half of the table of the used count. -/
abbrev cntP (T : Buf (Elt F) (cntM.view.loc (c : Thread nD τ))) : sProp 𝕄 := cntM.view.loc (c : Thread nD τ) ↦{fullShare.right} T
/-- The count the body reads. -/
abbrev cntOf (T : Buf (Elt F) (cntM.view.loc (c : Thread nD τ))) : BitVec 32 :=
  cntM.view.readAt (Elt F) (Rect.unit (s := S1) ![0] S1.size Facts₀.inb_S1_S1_0).toLoadRect T (Shape.Idx.first (by decide))

/-- The whole of the output's block. -/
abbrev R7 : Rect S2048x512 := Rect.unit (s := S2048x512) ![0, 0] S2048x512.size Facts₀.inb_S2048x512_S2048x512_0_0

/-- A window's buffer, held whole with its contents. -/
abbrev winP {S : Shape} {e : EltTy} (a : Memref sig .tc .vmem S e) (g : Buf (Elt F) (a.view.loc (c : Thread nD τ))) : sProp 𝕄 :=
  a.view.loc (c : Thread nD τ) ↦[a.view.set]{fullShare} g

variable (T : Buf (Elt F) (cntM.view.loc (c : Thread nD τ)))
  (g4 : Buf (Elt F) (a4.view.loc (c : Thread nD τ))) (g5 : Buf (Elt F) (a5.view.loc (c : Thread nD τ)))
  (g6 : Buf (Elt F) (a6.view.loc (c : Thread nD τ))) (g7 : Buf (Elt F) (a7.view.loc (c : Thread nD τ)))

/-- What the body only reads at a point. -/
abbrev readsP : sProp 𝕄 := iprop(cntP c T ∗ winP c a4 g4 ∗ winP c a5 g5 ∗ winP c a6 g6)

set_option backward.proofsInPublic true in
/-- A middle point: wait for its own tile, start the tile two ahead. -/
def midRun (hu : CntOK (cntOf c T)) (ht : (i 0).val ≠ 0) (hB : (i 0).val + 2 < (cntOf c T).toNat) :
    { w : (R7).shape.Idx → Elt F .bf16 //
      iprop(readsP c a4 a5 a6 T g4 g5 g6 ∗ winP c a7 g7 ∗ (∃ W, owes (c : Thread nD τ) 0 W)
        ∗ homeP c X (Ring.bk 64 ((i 0).val + 2))
        ∗ (∃ f, flightP c X (Ring.sl 3 (i 0).val) (Ring.bk 64 (i 0).val) f)
        ∗ cellP c (Ring.sl 3 ((i 0).val + 2)) ∗ (∃ f, slotP c (Ring.sl 3 ((i 0).val + 2)) f))
      ⊢ wp frame (wpE (defs₀ (F := F)) 𝒱₀ (c : Thread nD τ) none) Set.univ (bodyG i a4 h4 a5 h5 a6 h6 a7 h7)
        (fun _ => iprop(readsP c a4 a5 a6 T g4 g5 g6 ∗ winP c a7 (a7.view.writes (Elt F) g7 [⟨R7, w⟩]) ∗ (∃ W, owes (c : Thread nD τ) 0 W)
        ∗ homeP c X (Ring.bk 64 (i 0).val)
        ∗ (∃ f, flightP c X (Ring.sl 3 ((i 0).val + 2)) (Ring.bk 64 ((i 0).val + 2)) f)
        ∗ cellP c (Ring.sl 3 (i 0).val) ∗ (∃ f, slotP c (Ring.sl 3 (i 0).val) f))) } := by
  refine ⟨?_, ?run⟩
  case run =>
    have h64 : (i 0).val + 2 < 64 := by have := hu.2; omega
    have hc1 : ¬ k0_cond1 i = 1#1 := fun h => ht ((cond1_iff i).mp h)
    have hc4 : k0_cond4 i (cntOf c T) = 1#1 := (cond4_iff i _ hu).mpr hB
    have hc5 : k0_cond5 i (cntOf c T) = 1#1 := (cond5_iff i _ hu).mpr (by omega)
    have hchk : k0_chk1 i (cntOf c T) := chk i _ hu
    iintro ⟨⟨HT, H4, H5, H6⟩, H7, ⟨%W, HW⟩, Hg, ⟨%f0, HF0⟩, Hc, ⟨%f2, Hs⟩⟩
    sl_exec
    sl_step
    isplitl [HT H4 H5 H6]
    · isplitl [HT]; · iexact HT
      isplitl [H4]; · iexact H4
      isplitl [H5]; · iexact H5
      iexact H6
    isplitl [H7]; · iexact H7
    isplitl [HW]; · iexists _; iexact HW
    isplitl [HF0_src]; · iexact HF0_src
    isplitl [Hc]; · iexists f2; iexact Hc
    isplitl [HF0]; · iexact HF0
    iexists _; iexact HF0_dst

set_option backward.proofsInPublic true in
/-- One of the last two points that have a tile: wait for it, start nothing. -/
def tailRun (hu : CntOK (cntOf c T)) (ht : (i 0).val ≠ 0) (hB : (cntOf c T).toNat ≤ (i 0).val + 2) (hl : (i 0).val < (cntOf c T).toNat) :
    { w : (R7).shape.Idx → Elt F .bf16 //
      iprop(readsP c a4 a5 a6 T g4 g5 g6 ∗ winP c a7 g7 ∗ (∃ W, owes (c : Thread nD τ) 0 W)
        ∗ (∃ f, flightP c X (Ring.sl 3 (i 0).val) (Ring.bk 64 (i 0).val) f))
      ⊢ wp frame (wpE (defs₀ (F := F)) 𝒱₀ (c : Thread nD τ) none) Set.univ (bodyG i a4 h4 a5 h5 a6 h6 a7 h7)
        (fun _ => iprop(readsP c a4 a5 a6 T g4 g5 g6 ∗ winP c a7 (a7.view.writes (Elt F) g7 [⟨R7, w⟩]) ∗ (∃ W, owes (c : Thread nD τ) 0 W)
        ∗ homeP c X (Ring.bk 64 (i 0).val)
        ∗ cellP c (Ring.sl 3 (i 0).val) ∗ (∃ f, slotP c (Ring.sl 3 (i 0).val) f))) } := by
  refine ⟨?_, ?run⟩
  case run =>
    have hc1 : ¬ k0_cond1 i = 1#1 := fun h => ht ((cond1_iff i).mp h)
    have hc4 : ¬ k0_cond4 i (cntOf c T) = 1#1 := fun h => by have := (cond4_iff i _ hu).mp h; omega
    have hc5 : k0_cond5 i (cntOf c T) = 1#1 := (cond5_iff i _ hu).mpr hl
    have hchk : k0_chk1 i (cntOf c T) := chk i _ hu
    iintro ⟨⟨HT, H4, H5, H6⟩, H7, ⟨%W, HW⟩, ⟨%f0, HF0⟩⟩
    sl_exec
    sl_step
    isplitl [HT H4 H5 H6]
    · isplitl [HT]; · iexact HT
      isplitl [H4]; · iexact H4
      isplitl [H5]; · iexact H5
      iexact H6
    isplitl [H7]; · iexact H7
    isplitl [HW]; · iexists _; iexact HW
    isplitl [HF0_src]; · iexact HF0_src
    isplitl [HF0]; · iexact HF0
    iexists _; iexact HF0_dst

/-- A point past the last tile: nothing is done. -/
theorem idleRun (hu : CntOK (cntOf c T)) (ht : (i 0).val ≠ 0) (hl : (cntOf c T).toNat ≤ (i 0).val) :
      iprop(cntP c T ∗ (∃ W, owes (c : Thread nD τ) 0 W))
      ⊢ wp frame (wpE (defs₀ (F := F)) 𝒱₀ (c : Thread nD τ) none) Set.univ (bodyG i a4 h4 a5 h5 a6 h6 a7 h7)
        (fun _ => iprop(cntP c T ∗ (∃ W, owes (c : Thread nD τ) 0 W))) := by
    have hc1 : ¬ k0_cond1 i = 1#1 := fun h => ht ((cond1_iff i).mp h)
    have hc4 : ¬ k0_cond4 i (cntOf c T) = 1#1 := fun h => by have := (cond4_iff i _ hu).mp h; omega
    have hc5 : ¬ k0_cond5 i (cntOf c T) = 1#1 := fun h => by have := (cond5_iff i _ hu).mp h; omega
    have hchk : k0_chk1 i (cntOf c T) := chk i _ hu
    iintro ⟨HT, ⟨%W, HW⟩⟩
    sl_exec
    sl_step
    isplitl [HT]; · iexact HT
    iexists _; iexact HW

/-- The first grid point. -/
def i0 : grid0.Coords := grid0.coords ⟨0, by decide⟩
/-- The first grid point has number zero. -/
theorem i0_val : (i0 0).val = 0 := by decide
/-- The first point's slot is slot zero's. -/
@[sl_canon] theorem sl_zero : Ring.sl 3 (i0 0).val = Ring.sl 3 0 := by rw [i0_val]
/-- The slot two ahead of the first point is that of tile two. -/
@[sl_canon] theorem sl_two : Ring.sl 3 ((i0 0).val + 2) = Ring.sl 3 2 := by rw [i0_val]
/-- The first point's tile is tile zero. -/
@[sl_canon] theorem bk_zero : Ring.bk 64 (i0 0).val = Ring.bk 64 0 := by rw [i0_val]
/-- The tile two ahead of the first point is tile two. -/
@[sl_canon] theorem bk_two : Ring.bk 64 ((i0 0).val + 2) = Ring.bk 64 2 := by rw [i0_val]
/-- The load's offsets at the first point. -/
instance closedLoad0 : ClosedOff (k0_off12 i0) := ⟨slotOff (Ring.sl 3 0), by rw [off12_eq, i0_val]⟩

set_option backward.proofsInPublic true in
/-- The first point, three tiles or more: start tiles 0, 1, 2, wait for tile 0. -/
def firstRun (hu : CntOK (cntOf c T)) (hB : 2 < (cntOf c T).toNat) :
    { w : (R7).shape.Idx → Elt F .bf16 //
      iprop(readsP c a4 a5 a6 T g4 g5 g6 ∗ winP c a7 g7 ∗ (∃ W, owes (c : Thread nD τ) 0 W)
        ∗ homeP c X (Ring.bk 64 0) ∗ homeP c X (Ring.bk 64 1) ∗ homeP c X (Ring.bk 64 2)
        ∗ Ring.free (cellP c) (slotP c) (Ring.sl 3 0) ∗ Ring.free (cellP c) (slotP c) (Ring.sl 3 1) ∗ Ring.free (cellP c) (slotP c) (Ring.sl 3 2))
      ⊢ wp frame (wpE (defs₀ (F := F)) 𝒱₀ (c : Thread nD τ) none) Set.univ (bodyG i0 a4 h4 a5 h5 a6 h6 a7 h7)
        (fun _ => iprop(readsP c a4 a5 a6 T g4 g5 g6 ∗ winP c a7 (a7.view.writes (Elt F) g7 [⟨R7, w⟩]) ∗ (∃ W, owes (c : Thread nD τ) 0 W)
        ∗ homeP c X (Ring.bk 64 0)
        ∗ (∃ f, flightP c X (Ring.sl 3 1) (Ring.bk 64 1) f) ∗ (∃ f, flightP c X (Ring.sl 3 2) (Ring.bk 64 2) f)
        ∗ Ring.free (cellP c) (slotP c) (Ring.sl 3 0))) } := by
  refine ⟨?_, ?run⟩
  case run =>
    have hi := i0_val
    have h64 : (i0 0).val + 2 < 64 := by omega
    have hc1 : k0_cond1 i0 = 1#1 := (cond1_iff i0).mpr hi
    have hp0 := (pro0_iff (cntOf c T) hu).mpr (by omega)
    have hp1 := (pro1_iff (cntOf c T) hu).mpr (by omega)
    have hc4 : k0_cond4 i0 (cntOf c T) = 1#1 := (cond4_iff i0 _ hu).mpr (by omega)
    have hc5 : k0_cond5 i0 (cntOf c T) = 1#1 := (cond5_iff i0 _ hu).mpr (by omega)
    have hchk : k0_chk1 i0 (cntOf c T) := chk i0 _ hu
    iintro ⟨⟨HT, H4, H5, H6⟩, H7, ⟨%W, HW⟩, Hg0, Hg1, Hg2, ⟨Hc0, ⟨%f0, Hs0⟩⟩, ⟨Hc1, ⟨%f1, Hs1⟩⟩, ⟨Hc2, ⟨%f2, Hs2⟩⟩⟩
    sl_exec
    sl_step
    isplitl [HT H4 H5 H6]
    · isplitl [HT]; · iexact HT
      isplitl [H4]; · iexact H4
      isplitl [H5]; · iexact H5
      iexact H6
    isplitl [H7]; · iexact H7
    isplitl [HW]; · iexists _; iexact HW
    isplitl [Hg0]; · iexact Hg0
    isplitl [Hc1]; · iexists f1; iexact Hc1
    isplitl [Hc2]; · iexists f2; iexact Hc2
    isplitl [Hc0]; · iexact Hc0
    iexists _; iexact Hs0

set_option backward.proofsInPublic true in
/-- The first point, two tiles: start them, wait for tile 0. -/
def firstRun2 (hu : CntOK (cntOf c T)) (hB : (cntOf c T).toNat = 2) :
    { w : (R7).shape.Idx → Elt F .bf16 //
      iprop(readsP c a4 a5 a6 T g4 g5 g6 ∗ winP c a7 g7 ∗ (∃ W, owes (c : Thread nD τ) 0 W)
        ∗ homeP c X (Ring.bk 64 0) ∗ homeP c X (Ring.bk 64 1)
        ∗ Ring.free (cellP c) (slotP c) (Ring.sl 3 0) ∗ Ring.free (cellP c) (slotP c) (Ring.sl 3 1))
      ⊢ wp frame (wpE (defs₀ (F := F)) 𝒱₀ (c : Thread nD τ) none) Set.univ (bodyG i0 a4 h4 a5 h5 a6 h6 a7 h7)
        (fun _ => iprop(readsP c a4 a5 a6 T g4 g5 g6 ∗ winP c a7 (a7.view.writes (Elt F) g7 [⟨R7, w⟩]) ∗ (∃ W, owes (c : Thread nD τ) 0 W)
        ∗ homeP c X (Ring.bk 64 0)
        ∗ (∃ f, flightP c X (Ring.sl 3 1) (Ring.bk 64 1) f)
        ∗ Ring.free (cellP c) (slotP c) (Ring.sl 3 0))) } := by
  refine ⟨?_, ?run⟩
  case run =>
    have hi := i0_val
    have hc1 : k0_cond1 i0 = 1#1 := (cond1_iff i0).mpr hi
    have hp0 := (pro0_iff (cntOf c T) hu).mpr (by omega)
    have hp1 := (pro1_iff (cntOf c T) hu).mpr (by omega)
    have hc4 : ¬ k0_cond4 i0 (cntOf c T) = 1#1 := fun h => by have := (cond4_iff i0 _ hu).mp h; omega
    have hc5 : k0_cond5 i0 (cntOf c T) = 1#1 := (cond5_iff i0 _ hu).mpr (by omega)
    have hchk : k0_chk1 i0 (cntOf c T) := chk i0 _ hu
    iintro ⟨⟨HT, H4, H5, H6⟩, H7, ⟨%W, HW⟩, Hg0, Hg1, ⟨Hc0, ⟨%f0, Hs0⟩⟩, ⟨Hc1, ⟨%f1, Hs1⟩⟩⟩
    sl_exec
    sl_step
    isplitl [HT H4 H5 H6]
    · isplitl [HT]; · iexact HT
      isplitl [H4]; · iexact H4
      isplitl [H5]; · iexact H5
      iexact H6
    isplitl [H7]; · iexact H7
    isplitl [HW]; · iexists _; iexact HW
    isplitl [Hg0]; · iexact Hg0
    isplitl [Hc1]; · iexists f1; iexact Hc1
    isplitl [Hc0]; · iexact Hc0
    iexists _; iexact Hs0

set_option backward.proofsInPublic true in
/-- The first point, one tile: start it, wait for tile 0. -/
def firstRun1 (hu : CntOK (cntOf c T)) (hB : (cntOf c T).toNat = 1) :
    { w : (R7).shape.Idx → Elt F .bf16 //
      iprop(readsP c a4 a5 a6 T g4 g5 g6 ∗ winP c a7 g7 ∗ (∃ W, owes (c : Thread nD τ) 0 W)
        ∗ homeP c X (Ring.bk 64 0)
        ∗ Ring.free (cellP c) (slotP c) (Ring.sl 3 0))
      ⊢ wp frame (wpE (defs₀ (F := F)) 𝒱₀ (c : Thread nD τ) none) Set.univ (bodyG i0 a4 h4 a5 h5 a6 h6 a7 h7)
        (fun _ => iprop(readsP c a4 a5 a6 T g4 g5 g6 ∗ winP c a7 (a7.view.writes (Elt F) g7 [⟨R7, w⟩]) ∗ (∃ W, owes (c : Thread nD τ) 0 W)
        ∗ homeP c X (Ring.bk 64 0)
        ∗ Ring.free (cellP c) (slotP c) (Ring.sl 3 0))) } := by
  refine ⟨?_, ?run⟩
  case run =>
    have hi := i0_val
    have hc1 : k0_cond1 i0 = 1#1 := (cond1_iff i0).mpr hi
    have hp0 := (pro0_iff (cntOf c T) hu).mpr (by omega)
    have hp1 : ¬ _ := fun h => by have := (pro1_iff (cntOf c T) hu).mp h; omega
    have hc4 : ¬ k0_cond4 i0 (cntOf c T) = 1#1 := fun h => by have := (cond4_iff i0 _ hu).mp h; omega
    have hc5 : k0_cond5 i0 (cntOf c T) = 1#1 := (cond5_iff i0 _ hu).mpr (by omega)
    have hchk : k0_chk1 i0 (cntOf c T) := chk i0 _ hu
    iintro ⟨⟨HT, H4, H5, H6⟩, H7, ⟨%W, HW⟩, Hg0, ⟨Hc0, ⟨%f0, Hs0⟩⟩⟩
    sl_exec
    sl_step
    isplitl [HT H4 H5 H6]
    · isplitl [HT]; · iexact HT
      isplitl [H4]; · iexact H4
      isplitl [H5]; · iexact H5
      iexact H6
    isplitl [H7]; · iexact H7
    isplitl [HW]; · iexists _; iexact HW
    isplitl [Hg0]; · iexact Hg0
    isplitl [Hc0]; · iexact Hc0
    iexists _; iexact Hs0

end Body

end Cert.Proof.Experts

end
-- ==== Proof.ExpertsOut.lean ====
/-
  The experts call at the idealized program: what a grid point writes, as a function of the row tile's pairs of rows and of
  the three weight blocks, and that each of the body's runs writes it.
-/
module

public import proofs.«01_k».proof.Proof.ExpertsBody
public import Idealize.ShloMosaic.Lib.VecWindow

@[expose] public section

set_option maxRecDepth 16384

noncomputable section

namespace Cert.Proof.Experts

open Cert.Kernel2Ideal Cert.Kernel2Ideal.Gen
open Idealize.ShloMosaic
open Idealize.ShloMosaic.TcCoe Idealize.ShloMosaic.Tactic

variable {F : FTy → Type} [FloatOps F]

/-- The tile's rows, put back together from the pairs' second and first halves. -/
def rowsIn (raw : Vec F S1x1024x2x512 .bf16) : FVec F S1024x1024 .bf16 :=
  truncf .bf16 (concatenate S1024x1024 1 [⟨S1024x512, extf .f32 (shapeCast S1024x512 (shapeCast S1x1024x512 (rowsOfParity 1 S1x1024x1x512 raw Facts₀.bitcasts_S1x1024x2x512_w16_S1x1024x1x512_w32) Facts₀.shapeCasts_S1x1024x1x512_S1x1024x512) Facts₀.shapeCasts_S1x1024x512_S1024x512) Facts₀.bitsLt_bf16_f32⟩,
    ⟨S1024x512, extf .f32 (shapeCast S1024x512 (shapeCast S1x1024x512 (rowsOfParity 0 S1x1024x1x512 raw Facts₀.bitcasts_S1x1024x2x512_w16_S1x1024x1x512_w32) Facts₀.shapeCasts_S1x1024x1x512_S1x1024x512) Facts₀.shapeCasts_S1x1024x512_S1024x512) Facts₀.bitsLt_bf16_f32⟩] Facts₀.concatenates_S1024x512_S1024x512_S1024x1024_d1) Facts₀.bitsLt_bf16_f32

/-- The expert's hidden rows. -/
def hidden (x : FVec F S1024x1024 .bf16) (wg wu : Vec F S1x1x1024x256 .bf16) : FVec F S1024x256 .bf16 :=
  let g := matmul dot_S1024x1024_S1024x256_S1024x256_1_0_0_1_n_n none x (shapeCast S1024x256 wg Facts₀.shapeCasts_S1x1x1024x256_S1024x256) (constant S1024x256 .f32 0x00000000#32)
  let u := matmul dot_S1024x1024_S1024x256_S1024x256_1_0_0_1_n_n none x (shapeCast S1024x256 wu Facts₀.shapeCasts_S1x1x1024x256_S1024x256) (constant S1024x256 .f32 0x00000000#32)
  truncf .bf16 (mulf (mulf g (divf (broadcast S1024x256 (Scalar.ofBits .f32 0x3F800000#32))
    (addf (broadcast S1024x256 (Scalar.ofBits .f32 0x3F800000#32)) (exp (subf (broadcast S1024x256 (Scalar.ofBits .f32 0x00000000#32)) g))))) u) Facts₀.bitsLt_bf16_f32

/-- The expert's output rows. -/
def rowsOut (x : FVec F S1024x1024 .bf16) (wg wu : Vec F S1x1x1024x256 .bf16) (wd : Vec F S1x1x256x1024 .bf16) : FVec F S1024x1024 .f32 :=
  extf .f32 (truncf .bf16 (matmul dot_S1024x256_S256x1024_S1024x1024_1_0_0_1_n_n none (hidden x wg wu) (shapeCast S256x1024 wd Facts₀.shapeCasts_S1x1x256x1024_S256x1024) (constant S1024x1024 .f32 0x00000000#32)) Facts₀.bitsLt_bf16_f32) Facts₀.bitsLt_bf16_f32

/-- What the point writes: the output rows' halves, second half first, row by row. -/
def moeOutR (raw : Vec F S1x1024x2x512 .bf16) (wg wu : Vec F S1x1x1024x256 .bf16) (wd : Vec F S1x1x256x1024 .bf16) : Vec F S2048x512 .bf16 :=
  interleaveRows S2048x512
    (truncf .bf16 (extractStridedSlice S1024x512 ![0, 512] (rowsOut (rowsIn raw) wg wu wd) Facts₀.slices_S1024x1024_o0_512_S1024x512) Facts₀.bitsLt_bf16_f32)
    (truncf .bf16 (extractStridedSlice S1024x512 ![0, 0] (rowsOut (rowsIn raw) wg wu wd) Facts₀.slices_S1024x1024_o0_0_S1024x512) Facts₀.bitsLt_bf16_f32)
    Facts₀.bitcasts_S2048x512_w16_S1024x512_w32

/-- A slot's shape with a leading one is the slot's shape. -/
theorem casts_pairs : S1024x2x512.ShapeCasts S1x1024x2x512 := by decide

/-- … of the pairs as the transfer delivers them. -/
def moeOut (p : S1024x2x512.Idx → Elt F .bf16) (wg wu : Vec F S1x1x1024x256 .bf16) (wd : Vec F S1x1x256x1024 .bf16) : Vec F S2048x512 .bf16 :=
  moeOutR (shapeCast S1x1024x2x512 p casts_pairs) wg wu wd

section
variable (c : Dev nD) (X : Buf (Elt F) (xM.view.loc (c : Thread nD τ)))
  (i : grid0.Coords)
  (a4 : Memref sig .tc .vmem S1x1x1024x256 .bf16) (h4 : a4.IsWhole)
  (a5 : Memref sig .tc .vmem S1x1x1024x256 .bf16) (h5 : a5.IsWhole)
  (a6 : Memref sig .tc .vmem S1x1x256x1024 .bf16) (h6 : a6.IsWhole)
  (a7 : Memref sig .tc .vmem S2048x512 .bf16) (h7 : a7.IsWhole)
variable (T : Buf (Elt F) (cntM.view.loc (c : Thread nD τ)))
  (g4 : Buf (Elt F) (a4.view.loc (c : Thread nD τ))) (g5 : Buf (Elt F) (a5.view.loc (c : Thread nD τ)))
  (g6 : Buf (Elt F) (a6.view.loc (c : Thread nD τ))) (g7 : Buf (Elt F) (a7.view.loc (c : Thread nD τ)))

/-- A load of a landed slot reads the transferred pairs. -/
theorem raw_eq {off : Fin 4 → Nat} (s : Fin 3) (e : off = slotOff s) (hh) (f : (rslot s).view.ty.Contents (Elt F)) (p : S1024x2x512.Idx → Elt F .bf16) :
    View.readAt (Elt F) bufM.view (Rect.unit (s := S3x1024x2x512) off S1x1024x2x512.size hh).toLoadRect ((rslot s).view.writes (Elt F) f [⟨Rect.whole S1024x2x512, p⟩])
      = shapeCast S1x1024x2x512 p casts_pairs := by
  subst e
  funext k
  have h := congrFun (View.read_writes_whole (Val := Elt F) (rslot s).view f p) (Shape.reshapeEquiv casts_pairs k)
  refine Eq.trans ?_ h
  exact congrArg (fun z => bufM.view.read (Elt F) ((rslot s).view.writes (Elt F) f [⟨Rect.whole S1024x2x512, p⟩]) ((Rect.unit (s := S3x1024x2x512) (slotOff s) S1x1024x2x512.size (slotOff_inb s)).emb z))
    ((Shape.reshapeEquiv_reshapeEquiv _ _ k).trans (Shape.reshapeEquiv_self _ k)).symm

/-- … so does this run. -/
theorem midRun_eq (hu : CntOK (cntOf c T)) (ht : (i 0).val ≠ 0) (hB : (i 0).val + 2 < (cntOf c T).toNat) :
    (midRun c X i a4 h4 a5 h5 a6 h6 a7 h7 T g4 g5 g6 g7 hu ht hB).1
      = moeOut (payload c X (Ring.bk 64 (i 0).val)) (a4.view.read (Elt F) g4) (a5.view.read (Elt F) g5) (a6.view.read (Elt F) g6) := by
  have h := raw_eq (Ring.sl 3 (i 0).val) (off12_eq i) (k0_off12_inb i) ((rslot (Ring.sl 3 (i 0).val)).view.junk) (payload c X (Ring.bk 64 (i 0).val))
  unfold moeOut
  rw [← h, ← View.readAt_full a4.view g4 (off := ![0,0,0,0]) Facts₀.inb_S1x1x1024x256_S1x1x1024x256_0_0_0_0,
    ← View.readAt_full a5.view g5 (off := ![0,0,0,0]) Facts₀.inb_S1x1x1024x256_S1x1x1024x256_0_0_0_0,
    ← View.readAt_full a6.view g6 (off := ![0,0,0,0]) Facts₀.inb_S1x1x256x1024_S1x1x256x1024_0_0_0_0]
  rfl

/-- … so does this run. -/
theorem tailRun_eq (hu : CntOK (cntOf c T)) (ht : (i 0).val ≠ 0) (hB : (cntOf c T).toNat ≤ (i 0).val + 2) (hl : (i 0).val < (cntOf c T).toNat) :
    (tailRun c X i a4 h4 a5 h5 a6 h6 a7 h7 T g4 g5 g6 g7 hu ht hB hl).1
      = moeOut (payload c X (Ring.bk 64 (i 0).val)) (a4.view.read (Elt F) g4) (a5.view.read (Elt F) g5) (a6.view.read (Elt F) g6) := by
  have h := raw_eq (Ring.sl 3 (i 0).val) (off12_eq i) (k0_off12_inb i) ((rslot (Ring.sl 3 (i 0).val)).view.junk) (payload c X (Ring.bk 64 (i 0).val))
  unfold moeOut
  rw [← h, ← View.readAt_full a4.view g4 (off := ![0,0,0,0]) Facts₀.inb_S1x1x1024x256_S1x1x1024x256_0_0_0_0,
    ← View.readAt_full a5.view g5 (off := ![0,0,0,0]) Facts₀.inb_S1x1x1024x256_S1x1x1024x256_0_0_0_0,
    ← View.readAt_full a6.view g6 (off := ![0,0,0,0]) Facts₀.inb_S1x1x256x1024_S1x1x256x1024_0_0_0_0]
  rfl

/-- … so does this run. -/
theorem firstRun_eq (hu : CntOK (cntOf c T)) (hB : 2 < (cntOf c T).toNat) :
    (firstRun c X a4 h4 a5 h5 a6 h6 a7 h7 T g4 g5 g6 g7 hu hB).1
      = moeOut (payload c X (Ring.bk 64 0)) (a4.view.read (Elt F) g4) (a5.view.read (Elt F) g5) (a6.view.read (Elt F) g6) := by
  have h := raw_eq (Ring.sl 3 0) ((off12_eq i0).trans (by rw [i0_val])) (k0_off12_inb i0) ((rslot (Ring.sl 3 0)).view.junk) (payload c X (Ring.bk 64 0))
  unfold moeOut
  rw [← h, ← View.readAt_full a4.view g4 (off := ![0,0,0,0]) Facts₀.inb_S1x1x1024x256_S1x1x1024x256_0_0_0_0,
    ← View.readAt_full a5.view g5 (off := ![0,0,0,0]) Facts₀.inb_S1x1x1024x256_S1x1x1024x256_0_0_0_0,
    ← View.readAt_full a6.view g6 (off := ![0,0,0,0]) Facts₀.inb_S1x1x256x1024_S1x1x256x1024_0_0_0_0]
  rfl

/-- … so does this run. -/
theorem firstRun2_eq (hu : CntOK (cntOf c T)) (hB : (cntOf c T).toNat = 2) :
    (firstRun2 c X a4 h4 a5 h5 a6 h6 a7 h7 T g4 g5 g6 g7 hu hB).1
      = moeOut (payload c X (Ring.bk 64 0)) (a4.view.read (Elt F) g4) (a5.view.read (Elt F) g5) (a6.view.read (Elt F) g6) := by
  have h := raw_eq (Ring.sl 3 0) ((off12_eq i0).trans (by rw [i0_val])) (k0_off12_inb i0) ((rslot (Ring.sl 3 0)).view.junk) (payload c X (Ring.bk 64 0))
  unfold moeOut
  rw [← h, ← View.readAt_full a4.view g4 (off := ![0,0,0,0]) Facts₀.inb_S1x1x1024x256_S1x1x1024x256_0_0_0_0,
    ← View.readAt_full a5.view g5 (off := ![0,0,0,0]) Facts₀.inb_S1x1x1024x256_S1x1x1024x256_0_0_0_0,
    ← View.readAt_full a6.view g6 (off := ![0,0,0,0]) Facts₀.inb_S1x1x256x1024_S1x1x256x1024_0_0_0_0]
  rfl

/-- … so does this run. -/
theorem firstRun1_eq (hu : CntOK (cntOf c T)) (hB : (cntOf c T).toNat = 1) :
    (firstRun1 c X a4 h4 a5 h5 a6 h6 a7 h7 T g4 g5 g6 g7 hu hB).1
      = moeOut (payload c X (Ring.bk 64 0)) (a4.view.read (Elt F) g4) (a5.view.read (Elt F) g5) (a6.view.read (Elt F) g6) := by
  have h := raw_eq (Ring.sl 3 0) ((off12_eq i0).trans (by rw [i0_val])) (k0_off12_inb i0) ((rslot (Ring.sl 3 0)).view.junk) (payload c X (Ring.bk 64 0))
  unfold moeOut
  rw [← h, ← View.readAt_full a4.view g4 (off := ![0,0,0,0]) Facts₀.inb_S1x1x1024x256_S1x1x1024x256_0_0_0_0,
    ← View.readAt_full a5.view g5 (off := ![0,0,0,0]) Facts₀.inb_S1x1x1024x256_S1x1x1024x256_0_0_0_0,
    ← View.readAt_full a6.view g6 (off := ![0,0,0,0]) Facts₀.inb_S1x1x256x1024_S1x1x256x1024_0_0_0_0]
  rfl

end

end Cert.Proof.Experts

end
-- ==== Proof.ExpertsTab.lean ====
/-
  The experts call at the idealized program: its two tables — each row tile's expert, how many row tiles there are — and
  what the pipeline's schedule is at them: which blocks are moved, which points are idle.
-/
module

public import proofs.«01_k».proof.Proof.ExpertsBody
public import Idealize.ShloMosaic.Lib.ValueIdxCore

@[expose] public section

set_option maxRecDepth 16384

noncomputable section

namespace Cert.Proof.Experts

open Cert.Kernel2Ideal Cert.Kernel2Ideal.Gen
open Idealize.ShloMosaic
open Idealize.ShloMosaic.TcCoe Idealize.ShloMosaic.Tactic Idealize.ShloMosaic.ValueIdx

variable {F : FTy → Type} [FloatOps F]

/-- Row tile `t`'s expert, as a word. -/
def teW (pf : pre0.Contents (Elt F)) (t : Fin 64) : BitVec 32 := (pf 0 : S64.Idx → BitVec 32) (ix1 t)
/-- The count of row tiles, as a word. -/
def cntW (pf : pre0.Contents (Elt F)) : BitVec 32 := (pf 1 : S1.Idx → BitVec 32) (ix1 ⟨0, by decide⟩)

/-- What the precondition says of the tables: every row tile names one of the 32 experts, and the count is one to 64. -/
structure TabOK (pf : pre0.Contents (Elt F)) : Prop where
  te : ∀ t, (teW pf t).toNat < 32
  cnt : CntOK (cntW pf)

/-- The used count is the second table's entry. -/
theorem cntW_atD (pf : pre0.Contents (Elt F)) : pf.atD 1 ![0] = cntW pf := by
  have h : ∀ a, (![0] : Fin 1 → Nat) a + 1 ≤ S1.size a := by decide
  refine (dif_pos h).trans (congrArg (pf 1) (funext fun a => Fin.ext ?_))
  match a with | ⟨0, _⟩ => rfl

/-- Reading the second table gives the used count. -/
theorem at_cnt (pf : pre0.Contents (Elt F)) (hi) (h1) : pf.at 1 (Rect.unit (s := S1) ![0] S1.size hi) h1 = cntW pf := by
  refine congrArg (pf 1) (funext fun a => Fin.ext ?_)
  match a with | ⟨0, _⟩ => rfl

/-- Reading the first table at a point gives the point's entry. -/
theorem at_te (pf : pre0.Contents (Elt F)) (i : grid0.Coords) (n : Nat) (hn : n = (i 0).val) (hi) (h1) :
    pf.at 0 (Rect.unit (s := S64) ![n] S1.size hi) h1 = teW pf (i 0) := by
  refine congrArg (pf 0) (funext fun a => Fin.ext ?_)
  match a with
  | ⟨0, _⟩ => exact (Nat.add_zero _).trans hn

/-- A grid point's number as a word and back. -/
theorem arg_val : ∀ i : grid0.Coords, (Scalar.indexCast (BitVec.ofNat 32 (i 0).val) : BitVec 32).toNat = (i 0).val := by decide +kernel

/-- Window 0's block follows the table. -/
theorem ix_1 (pf : pre0.Contents (Elt F)) (i : grid0.Coords) : cc0_transform_1 Facts₀.k0_off1_inb Facts₀.numel1_S1 pf i = ![0, (teW pf (i 0)).toNat, 0, 0] :=
  congrArg (fun v : BitVec 32 => (![0, v.toNat, 0, 0] : Fin 4 → Nat)) (at_te pf i _ (arg_val i) _ _)
/-- Window 1's block follows the table. -/
theorem ix_2 (pf : pre0.Contents (Elt F)) (i : grid0.Coords) : cc0_transform_2 Facts₀.k0_off1_inb Facts₀.numel1_S1 pf i = ![0, (teW pf (i 0)).toNat, 0, 0] :=
  congrArg (fun v : BitVec 32 => (![0, v.toNat, 0, 0] : Fin 4 → Nat)) (at_te pf i _ (arg_val i) _ _)
/-- Window 2's block follows the table. -/
theorem ix_3 (pf : pre0.Contents (Elt F)) (i : grid0.Coords) : cc0_transform_3 Facts₀.k0_off1_inb Facts₀.numel1_S1 pf i = ![0, (teW pf (i 0)).toNat, 0, 0] :=
  congrArg (fun v : BitVec 32 => (![0, v.toNat, 0, 0] : Fin 4 → Nat)) (at_te pf i _ (arg_val i) _ _)

/-- The smaller of a point and the last used tile, on words and on numbers. -/
theorem min_word : ∀ (t : Fin 64) (n : Fin 64), (Scalar.minsi (BitVec.ofNat 32 t.val) (Scalar.subi (BitVec.ofNat 32 (n.val + 1)) 1#32) : BitVec 32).toNat = min t.val n.val := by decide +kernel

/-- The result's row tile at a point: its own, or the last one. -/
theorem ix_4 (pf : pre0.Contents (Elt F)) (hu : CntOK (cntW pf)) (i : grid0.Coords) :
    cc0_transform_4 Facts₀.inb_S1_S1_0 Facts₀.numel1_S1 pf i = ![min (i 0).val ((cntW pf).toNat - 1), 0] := by
  have h := min_word (i 0) ⟨(cntW pf).toNat - 1, by have := hu.1; have := hu.2; omega⟩
  have e : BitVec.ofNat 32 ((cntW pf).toNat - 1 + 1) = cntW pf := by
    rw [Nat.sub_add_cancel hu.1]; simp
  simp only at h
  rw [e] at h
  refine Eq.trans ?_ (congrArg (fun v : Nat => (![v, 0] : Fin 2 → Nat)) h)
  exact congrArg (fun v : BitVec 32 => (![(Scalar.minsi (BitVec.ofNat 32 (i 0).val) (Scalar.subi v 1#32)).toNat, 0] : Fin 2 → Nat)) (at_cnt pf _ _)

/-- An expert's block lies in the gate and up weights. -/
theorem inbW (e : Fin 32) : ∀ a, ((![0, e.val, 0, 0] : Fin 4 → Nat) a + 1) * S1x1x1024x256.size a ≤ S2x32x1024x256.size a := by
  have := e.isLt; intro a; fin_cases a
  · show (0 + 1) * 1 ≤ 2; omega
  · show (e.val + 1) * 1 ≤ 32; omega
  · show (0 + 1) * 1024 ≤ 1024; omega
  · show (0 + 1) * 256 ≤ 256; omega
/-- An expert's block lies in the down weights. -/
theorem inbD (e : Fin 32) : ∀ a, ((![0, e.val, 0, 0] : Fin 4 → Nat) a + 1) * S1x1x256x1024.size a ≤ S2x32x256x1024.size a := by
  have := e.isLt; intro a; fin_cases a
  · show (0 + 1) * 1 ≤ 2; omega
  · show (e.val + 1) * 1 ≤ 32; omega
  · show (0 + 1) * 256 ≤ 256; omega
  · show (0 + 1) * 1024 ≤ 1024; omega
/-- A row tile's block lies in the output. -/
theorem inbO (e : Fin 64) : ∀ a, ((![e.val, 0] : Fin 2 → Nat) a + 1) * S2048x512.size a ≤ S131072x512.size a := by
  have := e.isLt; intro a; fin_cases a
  · show (e.val + 1) * 2048 ≤ 131072; omega
  · show (0 + 1) * 512 ≤ 512; omega
/-- An expert's block of the gate or up weights is whole words. -/
theorem wordsW : ∀ e : Fin 32, (Rect.block (s := S2x32x1024x256) S1x1x1024x256.size ![0, e.val, 0, 0] (inbW e)).WholeWords (EltTy.packing .bf16) := by decide +kernel
/-- An expert's block of the down weights is whole words. -/
theorem wordsD : ∀ e : Fin 32, (Rect.block (s := S2x32x256x1024) S1x1x256x1024.size ![0, e.val, 0, 0] (inbD e)).WholeWords (EltTy.packing .bf16) := by decide +kernel
/-- A row tile's block of the output is whole words. -/
theorem wordsO : ∀ e : Fin 64, (Rect.block (s := S131072x512) S2048x512.size ![e.val, 0] (inbO e)).WholeWords (EltTy.packing .bf16) := by decide +kernel

/-- The tables are admissible: every block lies in its array and moves whole words. -/
theorem tab_ok (pf : pre0.Contents (Elt F)) (h : TabOK pf) : ok0 pf := by
  refine ⟨fun i => ?_, fun i => ?_, fun i => ?_, fun i => ?_⟩
  · rw [ix_1]; exact ⟨inbW ⟨_, h.te _⟩, .inr (wordsW ⟨_, h.te _⟩)⟩
  · rw [ix_2]; exact ⟨inbW ⟨_, h.te _⟩, .inr (wordsW ⟨_, h.te _⟩)⟩
  · rw [ix_3]; exact ⟨inbD ⟨_, h.te _⟩, .inr (wordsD ⟨_, h.te _⟩)⟩
  · rw [ix_4 pf h.cnt]
    have hl : min (i 0).val ((cntW pf).toNat - 1) < 64 := by have := (i 0).isLt; have := h.cnt.2; omega
    exact ⟨inbO ⟨_, hl⟩, .inr (wordsO ⟨_, hl⟩)⟩

/-- The admissible tables, for the one region. -/
def adm (pf : pre0.Contents (Elt F)) (h : TabOK pf) : (p : Fin 1) → (pcfgs (F := F) p).Adm := fun _ => ⟨pf, tab_ok pf h⟩

/-- The pipeline at the tables. -/
abbrev cfgA (pf : pre0.Contents (Elt F)) (h : TabOK pf) : Pipeline.Cfg sig Λ₀ := Pipeline.pin pcfgs (adm pf h) 0

section Sched
variable (pf : pre0.Contents (Elt F)) (h : TabOK pf)

/-- A point's coordinate is its number. -/
theorem coords_val : ∀ t : Fin grid0.N, ((grid0.coords t) 0).val = t.val := by decide +kernel

/-- The grid has 64 points. -/
theorem N_eq : (cfgA pf h).N = 64 := N_0

/-- The output's block at a point is its tile, or the last used one. -/
theorem index_3 (t : Fin (cfgA pf h).N) : ((cfgA pf h).win 3).index t = ![min t.val ((cntW pf).toNat - 1), 0] := by
  have := ix_4 pf h.cnt (grid0.coords t)
  rw [coords_val] at this
  exact this

/-- The result's row tile is written back where the next point has another, and at the last point. -/
theorem flush_iff (t : Fin (cfgA pf h).N) : ((cfgA pf h).win 3).flush t = true ↔ (t.val + 1 < (cntW pf).toNat ∨ t.val = 63) := by
  have hN := N_eq pf h
  have ht := t.isLt
  have h64 := h.cnt.2
  unfold Pipeline.Window.flush
  show (true && _) = true ↔ _
  rw [Bool.true_and, Bool.or_eq_true, decide_eq_true_iff, decide_eq_true_iff]
  constructor
  · rintro (e | ⟨h1, e⟩)
    · right; have : t.val + 1 = 64 := e.trans N_0; omega
    · left; by_contra hc; apply e
      refine (index_3 pf h ⟨t.val + 1, h1⟩).trans (Eq.trans ?_ (index_3 pf h t).symm)
      show (![min (t.val + 1) ((cntW pf).toNat - 1), 0] : Fin 2 → Nat) = _
      rw [show min (t.val + 1) ((cntW pf).toNat - 1) = min t.val ((cntW pf).toNat - 1) by omega]
  · rintro (e | e)
    · right
      refine ⟨by show t.val + 1 < grid0.N; rw [N_0]; omega, fun e' => ?_⟩
      have e2 : (![min (t.val + 1) ((cntW pf).toNat - 1), 0] : Fin 2 → Nat) = ![min t.val ((cntW pf).toNat - 1), 0] :=
        (index_3 pf h ⟨t.val + 1, _⟩).symm.trans (e'.trans (index_3 pf h t))
      have := congrFun e2 0
      simp only [Matrix.cons_val_zero] at this
      omega
    · left; show t.val + 1 = grid0.N; rw [N_0]; omega

/-- The output's window is idle just past the used count. -/
theorem idle_iff (i : grid0.Coords) : (cfgA pf h).idle 3 i = true ↔ (cntW pf).toNat ≤ (i 0).val := by
  show (!(k0_cond5 i (pf.atD 1 ![0]) == 1#1)) = true ↔ _
  rw [cntW_atD]
  have := cond5_iff i _ h.cnt
  constructor
  · intro hh
    by_contra hc
    rw [this.mpr (by omega)] at hh
    exact absurd hh (by decide)
  · intro hh
    have : ¬ k0_cond5 i (cntW pf) = 1#1 := fun e => by have := this.mp e; omega
    simpa using this
end Sched

end Cert.Proof.Experts

end
-- ==== Proof.ExpertsInv.lean ====
/-
  The experts call's ring between two grid points, for any pieces: which row tiles are home, which are in flight, which
  slots are free, when only the first `n` tiles are ever moved.
-/
module

public import Idealize.ShloMosaic.Lib.Ring
public import Idealize.ShloMosaic.Lib.Tactic

@[expose] public section

noncomputable section

namespace Cert.Proof.ExpertsInv

open Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.Ring

variable {M : Type} [URA M] {C : Fin 3 → Type}
variable (cell : Fin 3 → sProp M) (slot : (s : Fin 3) → C s → sProp M) (home : Fin 64 → sProp M)
  (flight : (s : Fin 3) → Fin 64 → C s → sProp M)

/-- Slot `k`'s role: in flight with tile `k` if there is such a tile, else free. -/
def role (n k : ℕ) : sProp M := if k < n then inflight flight (sl 3 k) (bk 64 k) else free cell slot (sl 3 k)

/-- A tile below the count has its transfer on the way. -/
theorem role_lt {n k : ℕ} (h : k < n) : role cell slot flight n k = inflight flight (sl 3 k) (bk 64 k) := if_pos h
/-- Past the count a slot is free. -/
theorem role_ge {n k : ℕ} (h : n ≤ k) : role cell slot flight n k = free cell slot (sl 3 k) := if_neg (by omega)

/-- The ring once `m` tiles are done, `m` at least one. -/
def held (n m : ℕ) : sProp M :=
  iprop(bigSep (rangeSet 64 0 m) home ∗ bigSep (rangeSet 64 (min (m + 2) n) 64) home
    ∗ role cell slot flight n m ∗ role cell slot flight n (m + 1) ∗ free cell slot (sl 3 (m + 2)))

/-- The ring before the first point. -/
def fresh : sProp M := iprop(bigSep Finset.univ home ∗ free cell slot 0 ∗ free cell slot 1 ∗ free cell slot 2)

variable {n m : ℕ} (hn : n ≤ 64)

/-- The tile of a number below 64 is that number. -/
theorem bk_eq {k : ℕ} (h : k < 64) : bk 64 k = ⟨k, h⟩ := Fin.ext (bk_val h)

include hn in
/-- Tile `m` done: it goes back to the tiles home before it. -/
theorem home_done (h : m < 64) : iprop(bigSep (rangeSet 64 0 m) home ∗ home (bk 64 m)) ⊢ bigSep (rangeSet 64 0 (m + 1)) home := by
  rw [bigSep_rangeSet_last (lo := 0) (hi := m + 1) (by omega) (by omega), bk_eq h]
  simp only [Nat.add_sub_cancel]
  iintro ⟨HA, HB⟩
  isplitl [HB]; · iexact HB
  iexact HA

include hn in
/-- The ring at a point with a tile to start, opened. -/
theorem held_mid (h : m + 2 < n) : held cell slot home flight n m
    ⊢ iprop(home (bk 64 (m + 2)) ∗ inflight flight (sl 3 m) (bk 64 m) ∗ free cell slot (sl 3 (m + 2))
      ∗ (bigSep (rangeSet 64 0 m) home ∗ bigSep (rangeSet 64 (m + 3) 64) home ∗ inflight flight (sl 3 (m + 1)) (bk 64 (m + 1)))) := by
  unfold held
  rw [role_lt cell slot flight (by omega), role_lt cell slot flight (by omega), Nat.min_eq_left (by omega),
    bigSep_rangeSet_head (lo := m + 2) (by omega) (by omega), bk_eq (k := m + 2) (by omega)]
  iintro ⟨HA, ⟨Hh, HB⟩, H0, H1, H2⟩
  isplitl [Hh]; · iexact Hh
  isplitl [H0]; · iexact H0
  isplitl [H2]; · iexact H2
  isplitl [HA]; · iexact HA
  isplitl [HB]; · iexact HB
  iexact H1

include hn in
/-- … and closed after it. -/
theorem held_mid_next (h : m + 2 < n) :
    iprop(home (bk 64 m) ∗ inflight flight (sl 3 (m + 2)) (bk 64 (m + 2)) ∗ free cell slot (sl 3 m)
      ∗ (bigSep (rangeSet 64 0 m) home ∗ bigSep (rangeSet 64 (m + 3) 64) home ∗ inflight flight (sl 3 (m + 1)) (bk 64 (m + 1))))
    ⊢ held cell slot home flight n (m + 1) := by
  unfold held
  rw [role_lt cell slot flight (by omega), role_lt cell slot flight (by omega), Nat.min_eq_left (by omega),
    show m + 1 + 2 = m + 3 from rfl, show m + 1 + 1 = m + 2 from rfl, sl_add 3 m]
  iintro ⟨Hh, H2, H0, HA, HB, H1⟩
  isplitl [HA Hh]
  · iapply (home_done home hn (m := m) (by omega))
    isplitl [HA]; · iexact HA
    iexact Hh
  isplitl [HB]; · iexact HB
  isplitl [H1]; · iexact H1
  isplitl [H2]; · iexact H2
  iexact H0

include hn in
/-- The ring at one of the last points with a tile, opened. -/
theorem held_tail (h : m < n) (h2 : n ≤ m + 2) : held cell slot home flight n m
    ⊢ iprop(inflight flight (sl 3 m) (bk 64 m)
      ∗ (bigSep (rangeSet 64 0 m) home ∗ bigSep (rangeSet 64 n 64) home ∗ role cell slot flight n (m + 1) ∗ free cell slot (sl 3 (m + 2)))) := by
  unfold held
  rw [role_lt cell slot flight h, Nat.min_eq_right h2]
  iintro ⟨HA, HB, H0, H1, H2⟩
  isplitl [H0]; · iexact H0
  isplitl [HA]; · iexact HA
  isplitl [HB]; · iexact HB
  isplitl [H1]; · iexact H1
  iexact H2

include hn in
/-- … and closed after it. -/
theorem held_tail_next (h : m < n) (h2 : n ≤ m + 2) :
    iprop(home (bk 64 m) ∗ free cell slot (sl 3 m)
      ∗ (bigSep (rangeSet 64 0 m) home ∗ bigSep (rangeSet 64 n 64) home ∗ role cell slot flight n (m + 1) ∗ free cell slot (sl 3 (m + 2))))
    ⊢ held cell slot home flight n (m + 1) := by
  unfold held
  rw [Nat.min_eq_right (by omega : n ≤ m + 1 + 2), show m + 1 + 2 = m + 3 from rfl, show m + 1 + 1 = m + 2 from rfl,
    sl_add 3 m, role_ge cell slot flight (k := m + 2) h2]
  iintro ⟨Hh, H0, HA, HB, H1, H2⟩
  isplitl [HA Hh]
  · iapply (home_done home hn (m := m) (by omega))
    isplitl [HA]; · iexact HA
    iexact Hh
  isplitl [HB]; · iexact HB
  isplitl [H1]; · iexact H1
  isplitl [H2]; · iexact H2
  iexact H0

/-- The first tile apart. -/
theorem univ_one : bigSep Finset.univ home = iprop(home (bk 64 0) ∗ bigSep (rangeSet 64 1 64) home) := by
  rw [← rangeSet_univ, bigSep_rangeSet_head (lo := 0) (by omega) (by omega), bk_eq (k := 0) (by omega)]
/-- The second. -/
theorem one_two : bigSep (rangeSet 64 1 64) home = iprop(home (bk 64 1) ∗ bigSep (rangeSet 64 2 64) home) := by
  rw [bigSep_rangeSet_head (lo := 1) (by omega) (by omega), bk_eq (k := 1) (by omega)]
/-- The third. -/
theorem two_three : bigSep (rangeSet 64 2 64) home = iprop(home (bk 64 2) ∗ bigSep (rangeSet 64 3 64) home) := by
  rw [bigSep_rangeSet_head (lo := 2) (by omega) (by omega), bk_eq (k := 2) (by omega)]
/-- One tile home is tile zero home. -/
theorem zero_one : bigSep (rangeSet 64 0 1) home = home (bk 64 0) := by
  rw [bigSep_rangeSet_head (lo := 0) (by omega) (by omega), bk_eq (k := 0) (by omega), bigSep_rangeSet_empty (by omega)]
  exact equiv_iff.mp sep_emp

/-- The ring after the first point, three tiles or more. -/
theorem held_one3 (h : 2 < n) :
    iprop(home (bk 64 0) ∗ inflight flight (sl 3 1) (bk 64 1) ∗ inflight flight (sl 3 2) (bk 64 2) ∗ free cell slot (sl 3 0) ∗ bigSep (rangeSet 64 3 64) home)
    ⊢ held cell slot home flight n 1 := by
  unfold held
  rw [role_lt cell slot flight (by omega), role_lt cell slot flight (by omega), Nat.min_eq_left (by omega), zero_one,
    show sl 3 (1 + 2) = sl 3 0 from by decide]
  iintro ⟨Hh, H1, H2, H0, HB⟩
  isplitl [Hh]; · iexact Hh
  isplitl [HB]; · iexact HB
  isplitl [H1]; · iexact H1
  isplitl [H2]; · iexact H2
  iexact H0

/-- The same, two tiles. -/
theorem held_one2 (h : n = 2) :
    iprop(home (bk 64 0) ∗ inflight flight (sl 3 1) (bk 64 1) ∗ free cell slot (sl 3 0) ∗ free cell slot 2 ∗ bigSep (rangeSet 64 2 64) home)
    ⊢ held cell slot home flight n 1 := by
  subst h
  unfold held
  rw [role_lt cell slot flight (by omega), role_ge cell slot flight (by omega), Nat.min_eq_right (by omega), zero_one,
    show sl 3 (1 + 2) = sl 3 0 from by decide, show sl 3 (1 + 1) = 2 from by decide]
  iintro ⟨Hh, H1, H0, H2, HB⟩
  isplitl [Hh]; · iexact Hh
  isplitl [HB]; · iexact HB
  isplitl [H1]; · iexact H1
  isplitl [H2]; · iexact H2
  iexact H0

/-- The same, one tile. -/
theorem held_one1 (h : n = 1) :
    iprop(home (bk 64 0) ∗ free cell slot (sl 3 0) ∗ free cell slot 1 ∗ free cell slot 2 ∗ bigSep (rangeSet 64 1 64) home)
    ⊢ held cell slot home flight n 1 := by
  subst h
  unfold held
  rw [role_ge cell slot flight (by omega), role_ge cell slot flight (by omega), Nat.min_eq_right (by omega), zero_one,
    show sl 3 (1 + 2) = sl 3 0 from by decide, show sl 3 (1 + 1) = 2 from by decide, show sl 3 1 = 1 from by decide]
  iintro ⟨Hh, H0, H1, H2, HB⟩
  isplitl [Hh]; · iexact Hh
  isplitl [HB]; · iexact HB
  isplitl [H1]; · iexact H1
  isplitl [H2]; · iexact H2
  iexact H0

include hn in
/-- After the last tile every tile is home and every slot free. -/
theorem held_end : held cell slot home flight n n ⊢ fresh cell slot home := by
  unfold held fresh
  rw [role_ge cell slot flight (by omega), role_ge cell slot flight (by omega), Nat.min_eq_right (by omega),
    ← rangeSet_univ, bigSep_rangeSet_split (a := 0) (b := n) (d := 64) (by omega) hn]
  iintro ⟨HA, HB, H⟩
  isplitl [HA HB]
  · isplitl [HA]; · iexact HA
    iexact HB
  iapply (free3_of_roles (free cell slot) n); iexact H

end Cert.Proof.ExpertsInv

end
-- ==== Proof.ExpertsDat.lean ====
/-
  The experts call at the idealized program: what the pipeline holds at each grid point, what the body leaves there, and
  the body's triple at every point.
-/
module

public import proofs.«01_k».proof.Proof.ExpertsOut
public import proofs.«01_k».proof.Proof.ExpertsTab
public import proofs.«01_k».proof.Proof.ExpertsInv

@[expose] public section

set_option maxRecDepth 16384

noncomputable section

namespace Cert.Proof.Experts

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Data

variable (pf : pre0.Contents (Elt F)) (h : TabOK pf) (V : Dev nD → Valuation τ sig (Elt F)) (c : Dev nD)

/-- A window's array at the region's entry. -/
abbrev AW (w : Fin (cfgA pf h).W) : Buf (Elt F) (((cfgA pf h).win w).arr.view.loc (c : Thread nD τ)) := V c (Proc.devRef .tc (Pipeline.arrRef spec0 w))
/-- The activations at the region's entry. -/
abbrev XW : Buf (Elt F) (xM.view.loc (c : Thread nD τ)) := V c (Proc.devRef .tc main_v8)
/-- The count's table. -/
abbrev TW : Buf (Elt F) (cntM.view.loc (c : Thread nD τ)) := pf 1

/-- The last point with a row tile, up to `t`. -/
def lastOf (t : ℕ) : ℕ := min t ((cntW pf).toNat - 1)
include h in
/-- The last used tile at a point is a grid point. -/
theorem lastOf_lt (t : ℕ) : lastOf pf t < (cfgA pf h).N := by
  have := N_eq pf h; have := h.cnt.1; have := h.cnt.2; unfold lastOf; omega

/-- What the body leaves in the result's staging buffer at a point with a row tile. -/
def tileOut (n : ℕ) (hn : n < (cfgA pf h).N) : S2048x512.Idx → Elt F .bf16 :=
  moeOut (payload c (XW V c) (Ring.bk 64 n)) (Pipeline.heldIn (c := c) (cfgA pf h) (AW pf h V c) 0 n hn)
    (Pipeline.heldIn (c := c) (cfgA pf h) (AW pf h V c) 1 n hn) (Pipeline.heldIn (c := c) (cfgA pf h) (AW pf h V c) 2 n hn)

/-- The ring before point `t`. -/
def ringAt (t : ℕ) : sProp 𝕄 :=
  if t = 0 then ExpertsInv.fresh (cellP c) (slotP c) (homeP c (XW V c))
  else ExpertsInv.held (cellP c) (slotP c) (homeP c (XW V c)) (flightP c (XW V c)) (cntW pf).toNat (min t (cntW pf).toNat)

/-- The core's own generator register and the other table's half. -/
def besides : sProp 𝕄 := iprop((∃ r, prngReg c r) ∗ ((c : Thread nD τ).loc main_arg0) ↦{fullShare.right} pf 0)

/-- What the pipeline holds and what the body leaves. -/
def dats (_ : Fin 1) (c : Dev nD) : Dat τ (Elt F) Unit ℕ (Pipeline.UD sig nD τ) ℕ (cfgA pf h) c where
  A w := AW pf h V c w
  after w t := match w with
    | ⟨0, _⟩ => Pipeline.heldIn (c := c) (cfgA pf h) (AW pf h V c) 0 t.val t.isLt
    | ⟨1, _⟩ => Pipeline.heldIn (c := c) (cfgA pf h) (AW pf h V c) 1 t.val t.isLt
    | ⟨2, _⟩ => Pipeline.heldIn (c := c) (cfgA pf h) (AW pf h V c) 2 t.val t.isLt
    | ⟨3, _⟩ => tileOut pf h V c (lastOf pf t.val) (lastOf_lt pf h t.val)
  Φ t := iprop(ringAt pf V c t.val ∗ cntP c (TW pf c) ∗ besides pf c)
  q _ := fullShare
  owed _ := 0

/-- The data of the pipeline on one device. -/
abbrev D := dats pf h V 0 c

/-- Before a point, window 0 holds its block of the gate weights. -/
theorem before_0 (t : Fin (cfgA pf h).N) (d) : (D pf h V c).before 0 t d = Pipeline.heldIn (c := c) (cfgA pf h) (AW pf h V c) 0 t.val t.isLt :=
  Dat.before_eq_heldIn (D pf h V c) 0 rfl (fun _ => rfl) (fun _ _ => rfl) (fun _ => rfl) t d
/-- Before a point, window 1 holds its block of the up weights. -/
theorem before_1 (t : Fin (cfgA pf h).N) (d) : (D pf h V c).before 1 t d = Pipeline.heldIn (c := c) (cfgA pf h) (AW pf h V c) 1 t.val t.isLt :=
  Dat.before_eq_heldIn (D pf h V c) 1 rfl (fun _ => rfl) (fun _ _ => rfl) (fun _ => rfl) t d
/-- Before a point, window 2 holds its block of the down weights. -/
theorem before_2 (t : Fin (cfgA pf h).N) (d) : (D pf h V c).before 2 t d = Pipeline.heldIn (c := c) (cfgA pf h) (AW pf h V c) 2 t.val t.isLt :=
  Dat.before_eq_heldIn (D pf h V c) 2 rfl (fun _ => rfl) (fun _ _ => rfl) (fun _ => rfl) t d
/-- After a point, the output's window holds the last used tile's result. -/
theorem after_3 (t : Fin (cfgA pf h).N) : (D pf h V c).after 3 t = tileOut pf h V c (lastOf pf t.val) (lastOf_lt pf h t.val) := rfl

/-- A tile's result depends on the tile's number alone. -/
theorem tileOut_congr {n n' : ℕ} (e : n = n') (hn hn') : tileOut pf h V c n hn = tileOut pf h V c n' hn' := by subst e; rfl

/-- Past the last row tile the result's buffer is the one the last row tile was left in. -/
theorem fresh_false : ∀ (n : ℕ), (cntW pf).toNat ≤ n → n < 64 → (cfgA pf h).fresh 3 n = false
  | 0, hn, _ => by have := h.cnt.1; omega
  | n + 1, hn, h64 => by
    have hlt : n < (cfgA pf h).N := by rw [N_eq]; omega
    rw [Cfg.fresh_succ _ _ n hlt]
    have hf : ((cfgA pf h).win 3).flush ⟨n, hlt⟩ = false := by
      rw [Bool.eq_false_iff]; intro e
      have := (flush_iff pf h ⟨n, hlt⟩).mp e
      simp only at this
      omega
    rw [hf, Bool.false_or]
    by_cases hi : (cntW pf).toNat ≤ n
    · rw [fresh_false n hi (by omega), Bool.and_false]
    · have : (cfgA pf h).idle 3 ((cfgA pf h).grid.coords ⟨n, hlt⟩) = false := by
        rw [Bool.eq_false_iff]; intro e
        have := (idle_iff pf h _).mp e
        rw [show ((cfgA pf h).grid.coords ⟨n, hlt⟩ 0).val = n from coords_val ⟨n, hlt⟩] at this
        omega
      rw [this, Bool.false_and]

/-- Past the used tiles a point leaves the output's window as it was. -/
theorem before_idle (t : Fin (cfgA pf h).N) (ht : (cntW pf).toNat ≤ t.val) (d) : (D pf h V c).before 3 t d = (D pf h V c).after 3 t := by
  have h64 : t.val < 64 := (N_eq pf h) ▸ t.isLt
  have hc : ∀ (t : Fin (cfgA pf h).N) (_ : t.val ≠ 0), (cntW pf).toNat ≤ t.val → (D pf h V c).after 3 t = (D pf h V c).after 3 ⟨t.val - 1, by omega⟩ := by
    intro t h0 hl
    rw [after_3, after_3]
    apply tileOut_congr
    unfold lastOf
    simp only
    omega
  rw [Dat.before_out_traj (D pf h V c) 3 rfl (fun _ _ => rfl) (fun t h0 hi _ => hc t h0 (by
    have := (idle_iff pf h _).mp hi
    rwa [show ((cfgA pf h).grid.coords t 0).val = t.val from coords_val t] at this)) t.val t rfl d]
  rw [fresh_false pf h t.val ht h64]
  exact (hc t (by have := h.cnt.1; omega) ht).symm

/-- The count that the body reads is the table's. -/
theorem cntOf_eq : cntOf c (TW pf c) = cntW pf := by
  refine congrArg (pf 1) (funext fun a => Fin.ext ?_)
  match a with | ⟨0, _⟩ => rfl

end Data

end Cert.Proof.Experts

end
-- ==== Proof.ExpertsPoint.lean ====
/-
  The experts call at the idealized program: the body's triple at every grid point.
-/
module

public import proofs.«01_k».proof.Proof.ExpertsDat

@[expose] public section

set_option maxRecDepth 16384

noncomputable section

namespace Cert.Proof.Experts

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Points

variable (pf : pre0.Contents (Elt F)) (h : TabOK pf) (V : Dev nD → Valuation τ sig (Elt F)) (c : Dev nD)
  (i : grid0.Coords) (t : ℕ)
  (a4 : Memref sig .tc .vmem S1x1x1024x256 .bf16) (h4 : a4.IsWhole)
  (a5 : Memref sig .tc .vmem S1x1x1024x256 .bf16) (h5 : a5.IsWhole)
  (a6 : Memref sig .tc .vmem S1x1x256x1024 .bf16) (h6 : a6.IsWhole)
  (a7 : Memref sig .tc .vmem S2048x512 .bf16) (h7 : a7.IsWhole)
  (g4 : Buf (Elt F) (a4.view.loc (c : Thread nD τ))) (g5 : Buf (Elt F) (a5.view.loc (c : Thread nD τ)))
  (g6 : Buf (Elt F) (a6.view.loc (c : Thread nD τ))) (g7 : Buf (Elt F) (a7.view.loc (c : Thread nD τ)))

/-- A triple under a frame. -/
theorem framed {p : Prog (TpuEff nD τ sig (Elt F) Λ₀ .tc) PUnit} {P Q R Pre Post : sProp 𝕄}
    (hrun : P ⊢ wp frame (wpE (defs₀ (F := F)) 𝒱₀ (c : Thread nD τ) none) Set.univ p (fun _ => Q))
    (hpre : Pre ⊢ iprop(P ∗ R)) (hpost : iprop(Q ∗ R) ⊢ Post) :
    Pre ⊢ wp frame (wpE (defs₀ (F := F)) 𝒱₀ (c : Thread nD τ) none) Set.univ p (fun _ => Post) :=
  hpre.trans ((sep_mono hrun .rfl).trans ((wp_frame_r _ _ _).trans (wp_mono _ _ _ fun _ => hpost)))

/-- What the body leaves in the result's buffer at tile `b`. -/
abbrev wOut (b : Fin 64) : (R7).shape.Idx → Elt F .bf16 :=
  moeOut (payload c (XW V c) b) (a4.view.read (Elt F) g4) (a5.view.read (Elt F) g5) (a6.view.read (Elt F) g6)

/-- Before and after a point. -/
abbrev ptPre : sProp 𝕄 := iprop(ringAt pf V c t ∗ readsP c a4 a5 a6 (TW pf c) g4 g5 g6 ∗ winP c a7 g7 ∗ (∃ W, owes (c : Thread nD τ) 0 W))
/-- What a point leaves: the ring one tile on, and the output's window with the tile's result. -/
abbrev ptPost : sProp 𝕄 := iprop(ringAt pf V c (t + 1) ∗ readsP c a4 a5 a6 (TW pf c) g4 g5 g6
  ∗ winP c a7 (a7.view.writes (Elt F) g7 [⟨R7, wOut V c a4 a5 a6 g4 g5 g6 (Ring.bk 64 t)⟩]) ∗ (∃ W, owes (c : Thread nD τ) 0 W))

/-- Before the first point every tile is home and every slot is free. -/
theorem ringAt_zero : ringAt pf V c 0 = iprop(bigSep Finset.univ (homeP c (XW V c)) ∗ Ring.free (cellP c) (slotP c) (Ring.sl 3 0)
    ∗ Ring.free (cellP c) (slotP c) (Ring.sl 3 1) ∗ Ring.free (cellP c) (slotP c) (Ring.sl 3 2)) := by
  unfold ringAt; rw [if_pos rfl]; rfl
/-- Between used tiles the ring is that of the tiles done. -/
theorem ringAt_pos (h0 : t ≠ 0) (hl : t ≤ (cntW pf).toNat) : ringAt pf V c t
    = ExpertsInv.held (cellP c) (slotP c) (homeP c (XW V c)) (flightP c (XW V c)) (cntW pf).toNat t := by
  unfold ringAt; rw [if_neg h0, Nat.min_eq_left hl]
/-- Past the used tiles the ring stays as the last of them left it. -/
theorem ringAt_past (hl : (cntW pf).toNat ≤ t) (hpos : 1 ≤ (cntW pf).toNat) : ringAt pf V c t
    = ExpertsInv.held (cellP c) (slotP c) (homeP c (XW V c)) (flightP c (XW V c)) (cntW pf).toNat (cntW pf).toNat := by
  unfold ringAt; rw [if_neg (by omega), Nat.min_eq_right hl]

include h

/-- A point with a past and a transfer to start: its body's run. -/
theorem point_mid (hi : (i 0).val = t) (h0 : t ≠ 0) (hB : t + 2 < (cntW pf).toNat) :
    ptPre pf V c t a4 a5 a6 a7 g4 g5 g6 g7
    ⊢ wp frame (wpE (defs₀ (F := F)) 𝒱₀ (c : Thread nD τ) none) Set.univ (bodyG i a4 h4 a5 h5 a6 h6 a7 h7) (fun _ => ptPost pf V c t a4 a5 a6 a7 g4 g5 g6 g7) := by
  subst hi
  have hu : CntOK (cntOf c (TW pf c)) := by rw [cntOf_eq]; exact h.cnt
  have hB' : (i 0).val + 2 < (cntOf c (TW pf c)).toNat := by rw [cntOf_eq]; exact hB
  have h64 := h.cnt.2
  refine framed c (midRun c (XW V c) i a4 h4 a5 h5 a6 h6 a7 h7 (TW pf c) g4 g5 g6 g7 hu h0 hB').2
    (R := iprop(bigSep (Ring.rangeSet 64 0 (i 0).val) (homeP c (XW V c)) ∗ bigSep (Ring.rangeSet 64 ((i 0).val + 3) 64) (homeP c (XW V c))
      ∗ Ring.inflight (flightP c (XW V c)) (Ring.sl 3 ((i 0).val + 1)) (Ring.bk 64 ((i 0).val + 1)))) ?_ ?_
  · unfold ptPre
    rw [ringAt_pos pf V c _ h0 (by omega)]
    iintro ⟨HR, Hr, H7, HW⟩
    ihave HR' := (ExpertsInv.held_mid (cellP c) (slotP c) (homeP c (XW V c)) (flightP c (XW V c)) h64 hB) $$ HR
    icases HR' with ⟨Hg, HF, ⟨Hc, Hs⟩, HK⟩
    isplitr [HK]
    · isplitl [Hr]; · iexact Hr
      isplitl [H7]; · iexact H7
      isplitl [HW]; · iexact HW
      isplitl [Hg]; · iexact Hg
      isplitl [HF]; · iexact HF
      isplitl [Hc]; · iexact Hc
      iexact Hs
    iexact HK
  · unfold ptPost
    rw [ringAt_pos pf V c _ (by omega) (by omega), midRun_eq]
    iintro ⟨⟨Hr, H7, HW, Hg, HF, Hc, Hs⟩, HK⟩
    isplitl [Hg HF Hc Hs HK]
    · iapply (ExpertsInv.held_mid_next (cellP c) (slotP c) (homeP c (XW V c)) (flightP c (XW V c)) h64 hB)
      isplitl [Hg]; · iexact Hg
      isplitl [HF]; · iexact HF
      isplitl [Hc Hs]
      · isplitl [Hc]; · iexact Hc
        iexact Hs
      iexact HK
    isplitl [Hr]; · iexact Hr
    isplitl [H7]; · iexact H7
    iexact HW

/-- A point near the end, with no further transfer to start: its body's run. -/
theorem point_tail (hi : (i 0).val = t) (h0 : t ≠ 0) (hB : (cntW pf).toNat ≤ t + 2) (hl : t < (cntW pf).toNat) :
    ptPre pf V c t a4 a5 a6 a7 g4 g5 g6 g7
    ⊢ wp frame (wpE (defs₀ (F := F)) 𝒱₀ (c : Thread nD τ) none) Set.univ (bodyG i a4 h4 a5 h5 a6 h6 a7 h7) (fun _ => ptPost pf V c t a4 a5 a6 a7 g4 g5 g6 g7) := by
  subst hi
  have hu : CntOK (cntOf c (TW pf c)) := by rw [cntOf_eq]; exact h.cnt
  have hB' : (cntOf c (TW pf c)).toNat ≤ (i 0).val + 2 := by rw [cntOf_eq]; exact hB
  have hl' : (i 0).val < (cntOf c (TW pf c)).toNat := by rw [cntOf_eq]; exact hl
  have h64 := h.cnt.2
  refine framed c (tailRun c (XW V c) i a4 h4 a5 h5 a6 h6 a7 h7 (TW pf c) g4 g5 g6 g7 hu h0 hB' hl').2
    (R := iprop(bigSep (Ring.rangeSet 64 0 (i 0).val) (homeP c (XW V c)) ∗ bigSep (Ring.rangeSet 64 (cntW pf).toNat 64) (homeP c (XW V c))
      ∗ ExpertsInv.role (cellP c) (slotP c) (flightP c (XW V c)) (cntW pf).toNat ((i 0).val + 1) ∗ Ring.free (cellP c) (slotP c) (Ring.sl 3 ((i 0).val + 2)))) ?_ ?_
  · unfold ptPre
    rw [ringAt_pos pf V c _ h0 (by omega)]
    iintro ⟨HR, Hr, H7, HW⟩
    ihave HR' := (ExpertsInv.held_tail (cellP c) (slotP c) (homeP c (XW V c)) (flightP c (XW V c)) h64 hl hB) $$ HR
    icases HR' with ⟨HF, HK⟩
    isplitr [HK]
    · isplitl [Hr]; · iexact Hr
      isplitl [H7]; · iexact H7
      isplitl [HW]; · iexact HW
      iexact HF
    iexact HK
  · unfold ptPost
    rw [ringAt_pos pf V c _ (by omega) (by omega), tailRun_eq]
    iintro ⟨⟨Hr, H7, HW, Hg, Hc, Hs⟩, HK⟩
    isplitl [Hg Hc Hs HK]
    · iapply (ExpertsInv.held_tail_next (cellP c) (slotP c) (homeP c (XW V c)) (flightP c (XW V c)) h64 hl hB)
      isplitl [Hg]; · iexact Hg
      isplitl [Hc Hs]
      · isplitl [Hc]; · iexact Hc
        iexact Hs
      iexact HK
    isplitl [Hr]; · iexact Hr
    isplitl [H7]; · iexact H7
    iexact HW

/-- The first point, which fills the ring: its body's run. -/
theorem point_first :
    ptPre pf V c 0 a4 a5 a6 a7 g4 g5 g6 g7
    ⊢ wp frame (wpE (defs₀ (F := F)) 𝒱₀ (c : Thread nD τ) none) Set.univ (bodyG i0 a4 h4 a5 h5 a6 h6 a7 h7) (fun _ => ptPost pf V c 0 a4 a5 a6 a7 g4 g5 g6 g7) := by
  have hu : CntOK (cntOf c (TW pf c)) := by rw [cntOf_eq]; exact h.cnt
  have h1 := h.cnt.1
  have h64 := h.cnt.2
  rcases (by omega : 2 < (cntW pf).toNat ∨ (cntW pf).toNat = 2 ∨ (cntW pf).toNat = 1) with hB | hB | hB
  · have hB' : 2 < (cntOf c (TW pf c)).toNat := by rw [cntOf_eq]; exact hB
    refine framed c (firstRun c (XW V c) a4 h4 a5 h5 a6 h6 a7 h7 (TW pf c) g4 g5 g6 g7 hu hB').2
      (R := bigSep (Ring.rangeSet 64 3 64) (homeP c (XW V c))) ?_ ?_
    · unfold ptPre
      rw [ringAt_zero, ExpertsInv.univ_one, ExpertsInv.one_two, ExpertsInv.two_three]
      iintro ⟨⟨⟨Hg0, Hg1, Hg2, HK⟩, Hf0, Hf1, Hf2⟩, Hr, H7, HW⟩
      isplitr [HK]
      · isplitl [Hr]; · iexact Hr
        isplitl [H7]; · iexact H7
        isplitl [HW]; · iexact HW
        isplitl [Hg0]; · iexact Hg0
        isplitl [Hg1]; · iexact Hg1
        isplitl [Hg2]; · iexact Hg2
        isplitl [Hf0]; · iexact Hf0
        isplitl [Hf1]; · iexact Hf1
        iexact Hf2
      iexact HK
    · unfold ptPost
      rw [ringAt_pos pf V c _ (by omega) (by omega), firstRun_eq]
      iintro ⟨⟨Hr, H7, HW, Hg0, HF1, HF2, Hf0⟩, HK⟩
      isplitl [Hg0 HF1 HF2 Hf0 HK]
      · iapply (ExpertsInv.held_one3 (cellP c) (slotP c) (homeP c (XW V c)) (flightP c (XW V c)) hB)
        isplitl [Hg0]; · iexact Hg0
        isplitl [HF1]; · iexact HF1
        isplitl [HF2]; · iexact HF2
        isplitl [Hf0]; · iexact Hf0
        iexact HK
      isplitl [Hr]; · iexact Hr
      isplitl [H7]; · iexact H7
      iexact HW
  · have hB' : (cntOf c (TW pf c)).toNat = 2 := by rw [cntOf_eq]; exact hB
    refine framed c (firstRun2 c (XW V c) a4 h4 a5 h5 a6 h6 a7 h7 (TW pf c) g4 g5 g6 g7 hu hB').2
      (R := iprop(Ring.free (cellP c) (slotP c) (Ring.sl 3 2) ∗ bigSep (Ring.rangeSet 64 2 64) (homeP c (XW V c)))) ?_ ?_
    · unfold ptPre
      rw [ringAt_zero, ExpertsInv.univ_one, ExpertsInv.one_two]
      iintro ⟨⟨⟨Hg0, Hg1, HK⟩, Hf0, Hf1, Hf2⟩, Hr, H7, HW⟩
      isplitr [HK Hf2]
      · isplitl [Hr]; · iexact Hr
        isplitl [H7]; · iexact H7
        isplitl [HW]; · iexact HW
        isplitl [Hg0]; · iexact Hg0
        isplitl [Hg1]; · iexact Hg1
        isplitl [Hf0]; · iexact Hf0
        iexact Hf1
      isplitl [Hf2]; · iexact Hf2
      iexact HK
    · unfold ptPost
      rw [ringAt_pos pf V c _ (by omega) (by omega), firstRun2_eq]
      iintro ⟨⟨Hr, H7, HW, Hg0, HF1, Hf0⟩, Hf2, HK⟩
      isplitl [Hg0 HF1 Hf2 Hf0 HK]
      · iapply (ExpertsInv.held_one2 (cellP c) (slotP c) (homeP c (XW V c)) (flightP c (XW V c)) hB)
        isplitl [Hg0]; · iexact Hg0
        isplitl [HF1]; · iexact HF1
        isplitl [Hf0]; · iexact Hf0
        isplitl [Hf2]; · iexact Hf2
        iexact HK
      isplitl [Hr]; · iexact Hr
      isplitl [H7]; · iexact H7
      iexact HW
  · have hB' : (cntOf c (TW pf c)).toNat = 1 := by rw [cntOf_eq]; exact hB
    refine framed c (firstRun1 c (XW V c) a4 h4 a5 h5 a6 h6 a7 h7 (TW pf c) g4 g5 g6 g7 hu hB').2
      (R := iprop(Ring.free (cellP c) (slotP c) (Ring.sl 3 1) ∗ Ring.free (cellP c) (slotP c) (Ring.sl 3 2) ∗ bigSep (Ring.rangeSet 64 1 64) (homeP c (XW V c)))) ?_ ?_
    · unfold ptPre
      rw [ringAt_zero, ExpertsInv.univ_one]
      iintro ⟨⟨⟨Hg0, HK⟩, Hf0, Hf1, Hf2⟩, Hr, H7, HW⟩
      isplitr [HK Hf1 Hf2]
      · isplitl [Hr]; · iexact Hr
        isplitl [H7]; · iexact H7
        isplitl [HW]; · iexact HW
        isplitl [Hg0]; · iexact Hg0
        iexact Hf0
      isplitl [Hf1]; · iexact Hf1
      isplitl [Hf2]; · iexact Hf2
      iexact HK
    · unfold ptPost
      rw [ringAt_pos pf V c _ (by omega) (by omega), firstRun1_eq]
      iintro ⟨⟨Hr, H7, HW, Hg0, Hf0⟩, Hf1, Hf2, HK⟩
      isplitl [Hg0 Hf1 Hf2 Hf0 HK]
      · iapply (ExpertsInv.held_one1 (cellP c) (slotP c) (homeP c (XW V c)) (flightP c (XW V c)) hB)
        isplitl [Hg0]; · iexact Hg0
        isplitl [Hf0]; · iexact Hf0
        isplitl [Hf1]; · iexact Hf1
        isplitl [Hf2]; · iexact Hf2
        iexact HK
      isplitl [Hr]; · iexact Hr
      isplitl [H7]; · iexact H7
      iexact HW

/-- A point with a row tile. -/
theorem point_live (hi : (i 0).val = t) (h00 : t = 0 → i = i0) (hl : t < (cntW pf).toNat) :
    ptPre pf V c t a4 a5 a6 a7 g4 g5 g6 g7
    ⊢ wp frame (wpE (defs₀ (F := F)) 𝒱₀ (c : Thread nD τ) none) Set.univ (bodyG i a4 h4 a5 h5 a6 h6 a7 h7) (fun _ => ptPost pf V c t a4 a5 a6 a7 g4 g5 g6 g7) := by
  by_cases h0 : t = 0
  · rw [h00 h0]; subst h0
    exact point_first pf h V c a4 h4 a5 h5 a6 h6 a7 h7 g4 g5 g6 g7
  · by_cases hB : t + 2 < (cntW pf).toNat
    · exact point_mid pf h V c i t a4 h4 a5 h5 a6 h6 a7 h7 g4 g5 g6 g7 hi h0 hB
    · exact point_tail pf h V c i t a4 h4 a5 h5 a6 h6 a7 h7 g4 g5 g6 g7 hi h0 (by omega) hl

/-- A point past the last row tile. -/
theorem point_idle (hi : (i 0).val = t) (hl : (cntW pf).toNat ≤ t) :
    iprop(ringAt pf V c t ∗ cntP c (TW pf c) ∗ (∃ W, owes (c : Thread nD τ) 0 W))
    ⊢ wp frame (wpE (defs₀ (F := F)) 𝒱₀ (c : Thread nD τ) none) Set.univ (bodyG i a4 h4 a5 h5 a6 h6 a7 h7)
      (fun _ => iprop(ringAt pf V c (t + 1) ∗ cntP c (TW pf c) ∗ (∃ W, owes (c : Thread nD τ) 0 W))) := by
  subst hi
  have hu : CntOK (cntOf c (TW pf c)) := by rw [cntOf_eq]; exact h.cnt
  have h1 := h.cnt.1
  refine framed c (idleRun c i a4 h4 a5 h5 a6 h6 a7 h7 (TW pf c) hu (by omega) (by rw [cntOf_eq]; exact hl)) (R := ringAt pf V c (i 0).val) ?_ ?_
  · iintro ⟨HR, HT, HW⟩
    isplitr [HR]
    · isplitl [HT]; · iexact HT
      iexact HW
    iexact HR
  · rw [ringAt_past pf V c _ hl h1, ringAt_past pf V c ((i 0).val + 1) (by omega) h1]
    iintro ⟨⟨HT, HW⟩, HR⟩
    isplitl [HR]; · iexact HR
    isplitl [HT]; · iexact HT
    iexact HW

end Points

end Cert.Proof.Experts

end
-- ==== Proof.ExpertsFrame.lean ====
/-
  The experts call at the idealized program: the body's obligation to the pipeline, the launch, the frame.
-/
module

public import proofs.«01_k».proof.Proof.ExpertsPoint

@[expose] public section

set_option maxRecDepth 16384

noncomputable section

namespace Cert.Proof.Experts

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Obligation

variable (pf : pre0.Contents (Elt F)) (h : TabOK pf) (V : Dev nD → Valuation τ sig (Elt F)) (c : Dev nD)

/-- A point's staging memrefs. -/
abbrev st0 (t : Fin (cfgA pf h).N) : Memref sig .tc .vmem S1x1x1024x256 .bf16 := ((cfgA pf h).win 0).stage ((cfgA pf h).slots t 0)
/-- Window 1's staging buffer at a point. -/
abbrev st1 (t : Fin (cfgA pf h).N) : Memref sig .tc .vmem S1x1x1024x256 .bf16 := ((cfgA pf h).win 1).stage ((cfgA pf h).slots t 1)
/-- Window 2's staging buffer at a point. -/
abbrev st2 (t : Fin (cfgA pf h).N) : Memref sig .tc .vmem S1x1x256x1024 .bf16 := ((cfgA pf h).win 2).stage ((cfgA pf h).slots t 2)
/-- Window 3's staging buffer at a point. -/
abbrev st3 (t : Fin (cfgA pf h).N) : Memref sig .tc .vmem S2048x512 .bf16 := ((cfgA pf h).win 3).stage ((cfgA pf h).slots t 3)
/-- Window 0's staging buffer is a whole buffer. -/
theorem hst0 (t : Fin (cfgA pf h).N) : (st0 pf h t).IsWhole := stage_whole0 0 _
/-- Window 1's staging buffer is a whole buffer. -/
theorem hst1 (t : Fin (cfgA pf h).N) : (st1 pf h t).IsWhole := stage_whole0 1 _
/-- Window 2's staging buffer is a whole buffer. -/
theorem hst2 (t : Fin (cfgA pf h).N) : (st2 pf h t).IsWhole := stage_whole0 2 _
/-- Window 3's staging buffer is a whole buffer. -/
theorem hst3 (t : Fin (cfgA pf h).N) : (st3 pf h t).IsWhole := stage_whole0 3 _

/-- The body table's entry is the body on the point's staging memrefs. -/
theorem defs_tc : (defs₀ (F := F)) .tc (cfgA pf h).body
    = fun a => bodyG (grid0.coords a.1) ((spec0 0).stage (a.2 0)) (stage_whole0 0 _) ((spec0 1).stage (a.2 1)) (stage_whole0 1 _)
      ((spec0 2).stage (a.2 2)) (stage_whole0 2 _) ((spec0 3).stage (a.2 3)) (stage_whole0 3 _) := rfl
/-- … at a point. -/
theorem prog_eq (t : Fin (cfgA pf h).N) : (defs₀ (F := F)) .tc (cfgA pf h).body ((cfgA pf h).bodyArgs t ((cfgA pf h).slots t))
    = bodyG (grid0.coords t) (st0 pf h t) (hst0 pf h t) (st1 pf h t) (hst1 pf h t) (st2 pf h t) (hst2 pf h t) (st3 pf h t) (hst3 pf h t) :=
  (congrFun (defs_tc pf h) _).trans rfl

/-- The point with number zero is the first grid point. -/
theorem coords_i0 (t : Fin (cfgA pf h).N) (ht : t.val = 0) : grid0.coords t = i0 := by
  obtain ⟨n, hn⟩ := t; simp only at ht; subst ht; rfl

/-- Before a point: the invariant, what the core owes, the four staging buffers. -/
def bodyPre (t : Fin (cfgA pf h).N) : sProp 𝕄 :=
  iprop((D pf h V c).Φ t.castSucc ∗ (D pf h V c).owesAt () t.castSucc
    ∗ (∃ d, owns (c : Thread nD τ) (st0 pf h t) fullShare ((D pf h V c).before 0 t d))
    ∗ (∃ d, owns (c : Thread nD τ) (st1 pf h t) fullShare ((D pf h V c).before 1 t d))
    ∗ (∃ d, owns (c : Thread nD τ) (st2 pf h t) fullShare ((D pf h V c).before 2 t d))
    ∗ (∃ d, owns (c : Thread nD τ) (st3 pf h t) fullShare ((D pf h V c).before 3 t d)))
/-- What is left of the result's staging buffer. -/
def post3 (t : Fin (cfgA pf h).N) : sProp 𝕄 :=
  match (cfgA pf h).idle 3 ((cfgA pf h).grid.coords t) with
  | true =>
    match ((cfgA pf h).win 3).flush t with
    | false => iprop(∃ d, owns (c : Thread nD τ) (st3 pf h t) fullShare ((D pf h V c).before 3 t d))
    | true => owns (c : Thread nD τ) (st3 pf h t) fullShare ((D pf h V c).after 3 t)
  | false => owns (c : Thread nD τ) (st3 pf h t) fullShare ((D pf h V c).after 3 t)
/-- After a point. -/
def bodyPost (t : Fin (cfgA pf h).N) : sProp 𝕄 :=
  iprop((D pf h V c).Φ t.succ ∗ (D pf h V c).owesAt () t.succ
    ∗ owns (c : Thread nD τ) (st0 pf h t) fullShare ((D pf h V c).after 0 t)
    ∗ owns (c : Thread nD τ) (st1 pf h t) fullShare ((D pf h V c).after 1 t)
    ∗ owns (c : Thread nD τ) (st2 pf h t) fullShare ((D pf h V c).after 2 t)
    ∗ post3 pf h V c t)

/-- The output's window is idle just at the points past the used count. -/
theorem idle_coords (t : Fin (cfgA pf h).N) : (cfgA pf h).idle 3 ((cfgA pf h).grid.coords t) = true ↔ (cntW pf).toNat ≤ t.val := by
  have := idle_iff pf h ((cfgA pf h).grid.coords t)
  rwa [show ((cfgA pf h).grid.coords t 0).val = t.val from coords_val t] at this

/-- The result's staging buffer at what the data say it is left at is enough, idle or not. -/
theorem post3_of (t : Fin (cfgA pf h).N) : owns (c : Thread nD τ) (st3 pf h t) fullShare ((D pf h V c).after 3 t) ⊢ post3 pf h V c t := by
  unfold post3
  rcases hi : (cfgA pf h).idle 3 ((cfgA pf h).grid.coords t) with _ | _
  · exact .rfl
  · have hb := before_idle pf h V c t ((idle_coords pf h t).mp hi)
    rcases hf : ((cfgA pf h).win 3).flush t with _ | _
    · simp only
      iintro H
      iexists (fun _ => Classical.arbitrary _)
      rw [hb]
      iexact H
    · exact .rfl

/-- The body at a point, from what the pipeline holds to what it leaves. -/
theorem sound_body (t : Fin (cfgA pf h).N) :
    bodyPre pf h V c t ⊢ wp frame (wpE (defs₀ (F := F)) 𝒱₀ (c : Thread nD τ) none) Set.univ
      (bodyG (grid0.coords t) (st0 pf h t) (hst0 pf h t) (st1 pf h t) (hst1 pf h t) (st2 pf h t) (hst2 pf h t) (st3 pf h t) (hst3 pf h t))
      (fun _ => bodyPost pf h V c t) := by
  have ht64 : t.val < 64 := (N_eq pf h) ▸ t.isLt
  have hco : (grid0.coords t 0).val = t.val := coords_val t
  unfold bodyPre bodyPost
  simp only [before_0, before_1, before_2]
  rw [show (D pf h V c).Φ t.castSucc = iprop(ringAt pf V c t.val ∗ cntP c (TW pf c) ∗ besides pf c) from rfl,
    show (D pf h V c).Φ t.succ = iprop(ringAt pf V c (t.val + 1) ∗ cntP c (TW pf c) ∗ besides pf c) from rfl]
  unfold Dat.owesAt Pipeline.owesWithin
  rw [show (D pf h V c).owed t.castSucc = 0 from rfl, show (D pf h V c).owed t.succ = 0 from rfl]
  by_cases hl : t.val < (cntW pf).toNat
  · iintro ⟨⟨HR, HT, HB⟩, ⟨%W, -, HW⟩, ⟨%d0, H0⟩, ⟨%d1, H1⟩, ⟨%d2, H2⟩, ⟨%d3, H3⟩⟩
    unfold owns
    icases H0 with ⟨%g0, %hg0, H0⟩
    icases H1 with ⟨%g1, %hg1, H1⟩
    icases H2 with ⟨%g2, %hg2, H2⟩
    icases H3 with ⟨%g3, -, H3⟩
    have hr := framed c (R := besides pf c) (point_live pf h V c (grid0.coords t) t.val (st0 pf h t) (hst0 pf h t) (st1 pf h t) (hst1 pf h t)
      (st2 pf h t) (hst2 pf h t) (st3 pf h t) (hst3 pf h t) g0 g1 g2 g3 hco (coords_i0 pf h t) hl) .rfl .rfl
    have hout : moeOut (payload c (XW V c) (Ring.bk 64 t.val)) ((st0 pf h t).view.read (Elt F) g0) ((st1 pf h t).view.read (Elt F) g1) ((st2 pf h t).view.read (Elt F) g2)
        = (D pf h V c).after 3 t := by
      rw [hg0, hg1, hg2, after_3]
      have e : lastOf pf t.val = t.val := by unfold lastOf; omega
      exact (tileOut_congr pf h V c e _ t.isLt).symm
    iapply (wp_wand_r frame (wpE (defs₀ (F := F)) 𝒱₀ (c : Thread nD τ) none) Set.univ)
    isplitl [HR HT HB HW H0 H1 H2 H3]
    · iapply hr
      isplitr [HB]
      · isplitl [HR]; · iexact HR
        isplitl [HT H0 H1 H2]
        · isplitl [HT]; · iexact HT
          isplitl [H0]; · iexact H0
          isplitl [H1]; · iexact H1
          iexact H2
        isplitl [H3]; · iexact H3
        iexists _; iexact HW
      iexact HB
    iintro %a
    iintro ⟨⟨HR, ⟨HT, H0, H1, H2⟩, H3, ⟨%W', HW⟩⟩, HB⟩
    isplitl [HR HT HB]
    · isplitl [HR]; · iexact HR
      isplitl [HT]; · iexact HT
      iexact HB
    isplitl [HW]
    · iexists W'; isplitr; · ipureintro; exact fun _ _ => Or.inl trivial
      iexact HW
    isplitl [H0]
    · iexists g0; isplitr; · ipureintro; exact hg0
      iexact H0
    isplitl [H1]
    · iexists g1; isplitr; · ipureintro; exact hg1
      iexact H1
    isplitl [H2]
    · iexists g2; isplitr; · ipureintro; exact hg2
      iexact H2
    iapply (post3_of pf h V c t)
    unfold owns
    iexists _; isplitr
    swap; · iexact H3
    ipureintro
    rw [wOut, hout]
    exact View.read_writes_full _ _ _ _ []
  · iintro ⟨⟨HR, HT, HB⟩, ⟨%W, -, HW⟩, ⟨%d0, H0⟩, ⟨%d1, H1⟩, ⟨%d2, H2⟩, ⟨%d3, H3⟩⟩
    have hr := point_idle pf h V c (grid0.coords t) t.val (st0 pf h t) (hst0 pf h t) (st1 pf h t) (hst1 pf h t)
      (st2 pf h t) (hst2 pf h t) (st3 pf h t) (hst3 pf h t) hco (by omega)
    iapply (wp_wand_r frame (wpE (defs₀ (F := F)) 𝒱₀ (c : Thread nD τ) none) Set.univ)
    isplitl [HR HT HW]
    · iapply hr
      isplitl [HR]; · iexact HR
      isplitl [HT]; · iexact HT
      iexists _; iexact HW
    iintro %a
    iintro ⟨HR, HT, ⟨%W', HW⟩⟩
    isplitl [HR HT HB]
    · isplitl [HR]; · iexact HR
      isplitl [HT]; · iexact HT
      iexact HB
    isplitl [HW]
    · iexists W'; isplitr; · ipureintro; exact fun _ _ => Or.inl trivial
      iexact HW
    isplitl [H0]; · iexact H0
    isplitl [H1]; · iexact H1
    isplitl [H2]; · iexact H2
    iapply (post3_of pf h V c t)
    rw [before_idle pf h V c t (by omega)]
    iexact H3

/-- The body's obligation at every point. -/
theorem body_obligation : BodyObligation (D pf h V c) (defs₀ (F := F)) 𝒱₀ () Set.univ := fun t => by
  rw [bigSep_W0, bigSep_W0, prog_eq pf h t]
  exact triple_restated (sound_body pf h V c t) rfl .rfl fun _ => .rfl

end Obligation

/-! ## The slots and the tiles -/

section Split
variable (c : Dev nD)

/-- The elements of row tile `b`. -/
abbrev tSet (b : Fin 64) : Finset S131072x512.Idx := (Rect.unit (s := S131072x512) (tileOff b) S2048x512.size (tileOff_inb b)).set
/-- The places of a row tile, as a set of the array's places. -/
theorem tile_set (b : Fin 64) : (tile b).view.set = tSet b := by
  unfold tile
  simp only [Memref.view_reshape, View.set_reshape]; exact View.set_slice_whole _ _
/-- Two row tiles share no place. -/
theorem tiles_disjoint (b b' : Fin 64) (h : b ≠ b') : Disjoint (tSet b) (tSet b') :=
  Ring.lead_disjoint (s := S131072x512) (0 : Fin 2) 2048 tileOff S2048x512.size tileOff_inb (fun _ => rfl) rfl b b' h
/-- The row tiles are the whole array. -/
theorem tiles_cover : Finset.univ.biUnion tSet = Finset.univ :=
  Ring.lead_cover (s := S131072x512) (0 : Fin 2) 2048 tileOff S2048x512.size tileOff_inb (fun _ => rfl)
    (fun j a ha => by fin_cases a <;> first | exact absurd rfl ha | rfl) rfl (fun a ha => by fin_cases a <;> first | exact absurd rfl ha | rfl) rfl

/-- The activations whole are their 64 row tiles home. -/
theorem homes_eq (X : Buf (Elt F) (xM.view.loc (c : Thread nD τ))) :
    (((c : Thread nD τ).loc main_v8) ↦{fullShare} X : sProp 𝕄) = bigSep Finset.univ (homeP c X) := by
  rw [Ring.pointsTo_blocks (ℓ := (c : Thread nD τ).loc main_v8) tSet tiles_disjoint tiles_cover]
  exact bigSep_congr fun b _ => by rw [← tile_set]; rfl

/-- The elements of slot `s`. -/
abbrev sSet (s : Fin 3) : Finset S3x1024x2x512.Idx := (Rect.unit (s := S3x1024x2x512) (slotOff s) S1x1024x2x512.size (slotOff_inb s)).set
/-- The places of a slot, as a set of the buffer's places. -/
theorem slot_set (s : Fin 3) : (rslot s).view.set = sSet s := by
  unfold rslot
  simp only [Memref.view_squeeze, View.set_reshape]; exact View.set_slice_whole _ _
/-- Two slots share no place. -/
theorem slots_disjoint (b b' : Fin 3) (h : b ≠ b') : Disjoint (sSet b) (sSet b') :=
  Ring.lead_disjoint (s := S3x1024x2x512) (0 : Fin 4) 1 slotOff S1x1024x2x512.size slotOff_inb (fun j => by show j.val = 1 * j.val; omega) rfl b b' h
/-- The three slots are the whole buffer. -/
theorem slots_cover : Finset.univ.biUnion sSet = Finset.univ :=
  Ring.lead_cover (s := S3x1024x2x512) (0 : Fin 4) 1 slotOff S1x1024x2x512.size slotOff_inb (fun j => by show j.val = 1 * j.val; omega)
    (fun j a ha => by fin_cases a <;> first | exact absurd rfl ha | rfl) rfl (fun a ha => by fin_cases a <;> first | exact absurd rfl ha | rfl) rfl
/-- Holding a slot is holding its places of the buffer. -/
theorem slotP_eq (s : Fin 3) (f) : slotP (F := F) c s f = (((c : Thread nD τ).loc cc0_scratch0) ↦[sSet s]{fullShare} f : sProp 𝕄) := by
  unfold slotP; rw [slot_set]; rfl
/-- The buffer whole at anything is its three slots at something each, and back. -/
theorem buf_split : iprop(∃ f : Buf (Elt F) ((c : Thread nD τ).loc cc0_scratch0), ((c : Thread nD τ).loc cc0_scratch0) ↦{fullShare} f)
    ⊢ (iprop((∃ f, slotP c 0 f) ∗ (∃ f, slotP c 1 f) ∗ (∃ f, slotP c 2 f)) : sProp 𝕄) :=
  Ring.slots3_split (ℓ := (c : Thread nD τ).loc cc0_scratch0) (q := fullShare) sSet slots_disjoint slots_cover
    (slotP c 0) (slotP c 1) (slotP c 2) (slotP_eq c 0) (slotP_eq c 1) (slotP_eq c 2)
/-- The three slots together are the buffer. -/
theorem buf_join : (iprop((∃ f, slotP c 0 f) ∗ (∃ f, slotP c 1 f) ∗ (∃ f, slotP c 2 f)) : sProp 𝕄)
    ⊢ iprop(∃ f : Buf (Elt F) ((c : Thread nD τ).loc cc0_scratch0), ((c : Thread nD τ).loc cc0_scratch0) ↦{fullShare} f) :=
  Ring.slots3_join (ℓ := (c : Thread nD τ).loc cc0_scratch0) (q := fullShare) sSet slots_disjoint slots_cover
    (slotP c 0) (slotP c 1) (slotP c 2) (slotP_eq c 0) (slotP_eq c 1) (slotP_eq c 2)

/-- The body's own semaphores. -/
abbrev osem (s : Fin 3) : SemLoc sig := .dma (csm s).sem
/-- The kernel's own semaphores are apart from the pipeline's. -/
theorem own_facts : Pipeline.OwnSemFacts spec0 osem := by decide
/-- The kernel's own semaphores at zero are the three cells. -/
theorem ownSems0_eq : (Pipeline.ownSems0 (Ix := Unit) (Name := ℕ) (U := Pipeline.UD sig nD τ) (Lvl := ℕ) (Val := Elt F) (τ := τ) osem c : sProp 𝕄)
    = iprop(cellP c 0 ∗ cellP c 1 ∗ cellP c 2) := by
  unfold Pipeline.ownSems0; rw [Ring.bigSep_fin3]

end Split

/-! ## The launch -/

section Launch
variable (m : (ℓ : Loc nD τ sig) → Buf (Elt F) ℓ) (ρ : Dev nD → PrngReg)

/-- The tables at the launch. -/
abbrev pfM : pre0.Contents (Elt F) := fun k => m (((0 : Dev nD).tc : Thread nD τ).loc (pre0.ref k))
/-- The contents at the region's entry. -/
abbrev V₁ (c : Dev nD) : Valuation τ sig (Elt F) := StableHlo.after [hostOps0].flatten (fun b => m (c, b))
/-- The host operations after the call. -/
abbrev tailOps : List (List (HloOp τ sig (Elt F))) := [hostOps1, hostOps1_1]
/-- The array that the kernel fetches from by hand. -/
abbrev H : Finset (Ref sig .tc) := {main_v8}

/-- The host operations before the call allocate nothing. -/
theorem hostOps0_fresh : (hostOps0 : List (HloOp τ sig (Elt F))).Forall fun op => op.fresh = ∅ := by
  repeat' apply And.intro
  all_goals rfl
/-- The host operations after the call allocate nothing. -/
theorem tail_fresh : ∀ ops ∈ (tailOps : List (List (HloOp τ sig (Elt F)))), ∀ op ∈ ops, op.fresh = ∅ := by
  have h : (tailOps : List (List (HloOp τ sig (Elt F)))).Forall fun ops => ops.Forall fun op => op.fresh = ∅ := by
    repeat' apply And.intro
    all_goals rfl
  exact fun ops ho op hop => List.forall_iff_forall_mem.mp (List.forall_iff_forall_mem.mp h ops ho) op hop

/-- A buffer no line writes, at the region's entry. -/
theorem V₁_arg (c : Dev nD) (b : Ref sig .tc) (hb : b ∈ [main_arg0, main_arg1, main_arg2, main_arg3, main_arg4, main_arg5]) :
    V₁ m c (Proc.devRef .tc b) = m ((c : Thread nD τ).loc b) := by
  refine StableHlo.after_of_forall_not_mem (b := Proc.devRef .tc b) _ _ (List.forall_iff_forall_mem.mp ?_)
  simp only [List.mem_cons, List.mem_nil_iff, or_false] at hb
  rcases hb with rfl | rfl | rfl | rfl | rfl | rfl <;>
  · simp only [hostOps0, List.flatten_cons, List.flatten_nil, List.append_nil, List.cons_append, List.nil_append, List.Forall,
      StableHlo.nullary_writes, StableHlo.unary_writes, StableHlo.binary_writes, StableHlo.ternary_writes, StableHlo.reshape_writes, Finset.mem_singleton]
    repeat' apply And.intro
    all_goals exact StableHlo.devRef_ne_of_ne (by decide)

end Launch

end Cert.Proof.Experts

end
-- ==== Proof.ExpertsRun.lean ====
/-
  The experts call at the idealized program: its run, and the frame.
-/
module

public import proofs.«01_k».proof.Proof.ExpertsFrame

@[expose] public section

set_option maxRecDepth 16384

noncomputable section

namespace Cert.Proof.Experts

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Launch
variable (m : (ℓ : Loc nD τ sig) → Buf (Elt F) ℓ) (ρ : Dev nD → PrngReg)

/-- No line after the region touches a table or the activations the body moves. -/
theorem tail_sub : ∀ ops ∈ (tailOps : List (List (HloOp τ sig (Elt F)))), ∀ op ∈ ops, op.bufs ⊆ Pipeline.tailRefsBut sig pre0 spec0 H := by
  intro ops hops op hop
  simp only [tailOps, List.mem_cons, List.mem_nil_iff, or_false] at hops
  rcases hops with rfl | rfl
  · refine Pipeline.sub_tailRefsBut pre0 spec0 H op ((List.forall_iff_forall_mem.mp hostOps1_sub) op hop) ?_ ?_
    · simp only [hostOps1, List.mem_cons, List.mem_nil_iff, or_false] at hop
      rcases hop with rfl | rfl | rfl | rfl
      all_goals intro j; fin_cases j <;> simp only [StableHlo.nullary_bufs, StableHlo.unary_bufs, StableHlo.ternary_bufs, StableHlo.reshape_bufs, Finset.mem_insert, Finset.mem_singleton, not_or] <;> and_intros <;> exact StableHlo.devRef_ne_of_ne (by decide)
    · simp only [hostOps1, List.mem_cons, List.mem_nil_iff, or_false] at hop
      rcases hop with rfl | rfl | rfl | rfl
      all_goals intro b hb; simp only [H, Finset.mem_singleton] at hb; subst hb; simp only [StableHlo.nullary_bufs, StableHlo.unary_bufs, StableHlo.ternary_bufs, StableHlo.reshape_bufs, Finset.mem_insert, Finset.mem_singleton, not_or] <;> and_intros <;> exact StableHlo.devRef_ne_of_ne (by decide)
  · refine Pipeline.sub_tailRefsBut pre0 spec0 H op ((List.forall_iff_forall_mem.mp hostOps1_1_sub) op hop) ?_ ?_
    · simp only [hostOps1_1, List.mem_cons, List.mem_nil_iff, or_false] at hop
      rcases hop with rfl | rfl | rfl
      all_goals intro j; fin_cases j <;> simp only [StableHlo.TRef.unary, StableHlo.TRef.ternary, StableHlo.unary_bufs, StableHlo.ternary_bufs, Finset.mem_insert, Finset.mem_singleton, not_or] <;> and_intros <;> exact StableHlo.devRef_ne_of_ne (by decide)
    · simp only [hostOps1_1, List.mem_cons, List.mem_nil_iff, or_false] at hop
      rcases hop with rfl | rfl | rfl
      all_goals intro b hb; simp only [H, Finset.mem_singleton] at hb; subst hb; simp only [StableHlo.TRef.unary, StableHlo.TRef.ternary, StableHlo.unary_bufs, StableHlo.ternary_bufs, Finset.mem_insert, Finset.mem_singleton, not_or] <;> and_intros <;> exact StableHlo.devRef_ne_of_ne (by decide)

/-- And none writes an array of the pipeline. -/
theorem tail_keeps : ∀ ops ∈ (tailOps : List (List (HloOp τ sig (Elt F)))), ∀ op ∈ ops, ∀ w, Proc.devRef .tc (Pipeline.arrRef spec0 w) ∉ op.writes := by
  intro ops hops op hop
  simp only [tailOps, List.mem_cons, List.mem_nil_iff, or_false] at hops
  rcases hops with rfl | rfl
  · simp only [hostOps1, List.mem_cons, List.mem_nil_iff, or_false] at hop
    rcases hop with rfl | rfl | rfl | rfl
    all_goals intro w; fin_cases w <;> simp only [StableHlo.nullary_writes, StableHlo.unary_writes, StableHlo.ternary_writes, StableHlo.reshape_writes, Finset.mem_singleton] <;> exact StableHlo.devRef_ne_of_ne (by decide)
  · simp only [hostOps1_1, List.mem_cons, List.mem_nil_iff, or_false] at hop
    rcases hop with rfl | rfl | rfl
    all_goals intro w; fin_cases w <;> simp only [StableHlo.TRef.unary, StableHlo.TRef.ternary, StableHlo.unary_writes, StableHlo.ternary_writes, Finset.mem_singleton] <;> exact StableHlo.devRef_ne_of_ne (by decide)

/-- The array fetched from by hand is one the pipeline leaves alone. -/
theorem H_sub : H ⊆ Pipeline.restRefsP sig pre0 spec0 := by decide

variable (h : TabOK (pfM m))

/-- At the call the tables are the arguments. -/
theorem entry_tables (c : Dev nD) (k : Fin 2) : V₁ m c (Proc.devRef .tc (pre0.ref k)) = pfM m k := by
  obtain rfl : c = 0 := Subsingleton.elim _ _
  match k with
  | ⟨0, _⟩ => exact V₁_arg m 0 main_arg0 (by simp)
  | ⟨1, _⟩ => exact V₁_arg m 0 main_arg1 (by simp)

/-- The two tables' halves, one by one. -/
theorem tables_eq (pf : pre0.Contents (Elt F)) (c : Dev nD) : (Pipeline.ΦT (U := Pipeline.UD sig nD τ) pre0 pf c : sProp 𝕄)
    = iprop((((c : Thread nD τ).loc main_arg0) ↦{fullShare.right} pf 0) ∗ cntP c (TW pf c)) :=
  bigSep_univ_eq_bigSepL [(0 : Fin 2), (1 : Fin 2)] (by decide) (by decide) _

/-- Into the invariant from what the launch hands over. -/
theorem phi_in (pf : pre0.Contents (Elt F)) (h : TabOK pf) (V : Dev nD → Valuation τ sig (Elt F)) (c : Dev nD) :
    iprop(Pipeline.ΦD osem spec0 H (fun c b => V c (Proc.devRef .tc b)) c ∗ Pipeline.ΦT pre0 pf c) ⊢ (D pf h V c).Φ 0 := by
  rw [Pipeline.ΦD_eq, scopedRest0_eq, ownSems0_eq, show (D pf h V c).Φ 0 = iprop(ringAt pf V c 0 ∗ cntP c (TW pf c) ∗ besides pf c) from rfl,
    tables_eq, show (bigSep H fun b => ((c.tc : Thread nD τ).loc b) ↦{fullShare} V c (Proc.devRef .tc b) : sProp 𝕄)
      = (((c : Thread nD τ).loc main_v8) ↦{fullShare} XW V c) from bigSep_singleton, homes_eq, ringAt_zero]
  unfold besides
  iintro ⟨⟨Hb, Hp, ⟨Hc0, Hc1, Hc2⟩, HX⟩, Ht, HT⟩
  ihave Hs := (buf_split c) $$ Hb
  icases Hs with ⟨Hs0, Hs1, Hs2⟩
  isplitl [HX Hc0 Hc1 Hc2 Hs0 Hs1 Hs2]
  · isplitl [HX]; · iexact HX
    isplitl [Hc0 Hs0]
    · isplitl [Hc0]; · iexact Hc0
      iexact Hs0
    isplitl [Hc1 Hs1]
    · isplitl [Hc1]; · iexact Hc1
      iexact Hs1
    isplitl [Hc2]; · iexact Hc2
    iexact Hs2
  isplitl [HT]; · iexact HT
  isplitl [Hp]; · iexact Hp
  iexact Ht

/-- And back. -/
theorem phi_out (pf : pre0.Contents (Elt F)) (h : TabOK pf) (V : Dev nD → Valuation τ sig (Elt F)) (c : Dev nD) :
    (D pf h V c).Φ (Fin.last (cfgA pf h).N) ⊢ Pipeline.ΦD osem spec0 H (fun c b => V c (Proc.devRef .tc b)) c := by
  rw [Pipeline.ΦD_eq, scopedRest0_eq, ownSems0_eq,
    show (D pf h V c).Φ (Fin.last (cfgA pf h).N) = iprop(ringAt pf V c (cfgA pf h).N ∗ cntP c (TW pf c) ∗ besides pf c) from rfl,
    show (bigSep H fun b => ((c.tc : Thread nD τ).loc b) ↦{fullShare} V c (Proc.devRef .tc b) : sProp 𝕄)
      = (((c : Thread nD τ).loc main_v8) ↦{fullShare} XW V c) from bigSep_singleton, homes_eq,
    ringAt_past pf V c _ (by rw [N_eq]; exact h.cnt.2) h.cnt.1]
  unfold besides
  iintro ⟨HR, -, Hp, -⟩
  ihave HR' := (ExpertsInv.held_end (cellP c) (slotP c) (homeP c (XW V c)) (flightP c (XW V c)) h.cnt.2) $$ HR
  unfold ExpertsInv.fresh
  icases HR' with ⟨HX, ⟨Hc0, Hs0⟩, ⟨Hc1, Hs1⟩, ⟨Hc2, Hs2⟩⟩
  isplitl [Hs0 Hs1 Hs2]
  · iapply (buf_join c)
    isplitl [Hs0]; · iexact Hs0
    isplitl [Hs1]; · iexact Hs1
    iexact Hs2
  isplitl [Hp]; · iexact Hp
  isplitl [Hc0 Hc1 Hc2]
  · isplitl [Hc0]; · iexact Hc0
    isplitl [Hc1]; · iexact Hc1
    iexact Hc2
  iexact HX

/-- What a buffer holds at the end. -/
abbrev endAt (c : Dev nD) (b : Ref sig .tc) : Buf (Elt F) ((c : Thread nD τ).loc b) :=
  Pipeline.afterTail pcfgs (adm (pfM m) h) (dats (pfM m) h (V₁ m)) 0 (V₁ m) tailOps c b

set_option backward.isDefEq.respectTransparency.types false in
/-- The run: every array at what the grid leaves, every other buffer at what the later lines leave, every counter zero. -/
theorem run_main : θ_run defs (onTc (τ := τ) (main (F := F))) (s₀ m ρ)
    (fun r => Pipeline.FramePost (Pipeline.pin pcfgs (adm (pfM m) h)) (dats (pfM m) h (V₁ m)) 0 (endAt m h) r ∧ r.2.sem = fun _ => 0) :=
  Pipeline.θ_run_frameP_dma_around pcfgs (adm (pfM m) h) (dats (pfM m) h (V₁ m)) (0 : Fin 1) launch0 osem defs₀ 𝒱₀ own_facts H H_sub m ρ main
    (hbody := fun c => (body_obligation (pfM m) h (V₁ m) c).loose) (hshare := fun c => (D (pfM m) h (V₁ m) c).share_full fun _ => rfl)
    (howed := fun _ _ => rfl) (V₀ := V₁ m) (opss := tailOps) (hsub := tail_sub) (hfresh := tail_fresh) (hkeep := tail_keeps)
    (hmain := Pipeline.hmainP_around pcfgs 0 defs₀ 𝒱₀ m main [hostOps0] tailOps hostOps0_sub hostOps0_fresh main_chain)
    (hA := fun _ _ => rfl) (hpf := entry_tables m) (hin := phi_in (pfM m) h (V₁ m)) (hout := phi_out (pfM m) h (V₁ m))
    (Q' := _) (hQ' := fun _ h => h)

/-- A buffer no line writes and no window's array, at the end. -/
theorem end_arg (c : Dev nD) (b : Ref sig .tc) (hb : b ∈ [main_arg0, main_arg1, main_arg2, main_arg3, main_arg4, main_arg5]) :
    endAt m h c b = m ((c : Thread nD τ).loc b) := by
  rw [← V₁_arg m c b hb]
  unfold endAt Pipeline.afterTail
  rw [StableHlo.after_of_forall_not_mem (b := Proc.devRef .tc b) _ _ (List.forall_iff_forall_mem.mp ?_)]
  · refine Pipeline.withArrays_of_ne spec0 c (V₁ m c) _ b fun w => ?_
    revert w; revert hb; revert b; decide
  · simp only [List.mem_cons, List.mem_nil_iff, or_false] at hb
    rcases hb with rfl | rfl | rfl | rfl | rfl | rfl <;>
    · simp only [tailOps, hostOps1, hostOps1_1, List.flatten_cons, List.flatten_nil, List.append_nil, List.cons_append, List.nil_append, List.Forall,
        StableHlo.TRef.unary, StableHlo.TRef.ternary,
        StableHlo.nullary_writes, StableHlo.unary_writes, StableHlo.binary_writes, StableHlo.ternary_writes, StableHlo.reshape_writes, Finset.mem_singleton]
      repeat' apply And.intro
      all_goals exact StableHlo.devRef_ne_of_ne (by decide)

/-- The arguments are no window's array. -/
theorem arg_rest (b : Ref sig .tc) (hb : b ∈ [main_arg0, main_arg1, main_arg2, main_arg3, main_arg4, main_arg5]) : b ∈ Pipeline.restRefs sig spec0 := by
  simp only [List.mem_cons, List.mem_nil_iff, or_false] at hb
  rcases hb with rfl | rfl | rfl | rfl | rfl | rfl <;> exact Pipeline.mem_restRefs_of _ (by decide) (by decide)

include h in
/-- The frame: the run ends, nothing faults, the arguments end as they began, every counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ hr => ⟨fun c => ⟨
    ((hr.1 c).2 main_arg0 (arg_rest main_arg0 (by simp))).trans (end_arg m h c _ (by simp)),
    ((hr.1 c).2 main_arg1 (arg_rest main_arg1 (by simp))).trans (end_arg m h c _ (by simp)),
    ((hr.1 c).2 main_arg2 (arg_rest main_arg2 (by simp))).trans (end_arg m h c _ (by simp)),
    ((hr.1 c).2 main_arg3 (arg_rest main_arg3 (by simp))).trans (end_arg m h c _ (by simp)),
    ((hr.1 c).2 main_arg4 (arg_rest main_arg4 (by simp))).trans (end_arg m h c _ (by simp)),
    ((hr.1 c).2 main_arg5 (arg_rest main_arg5 (by simp))).trans (end_arg m h c _ (by simp))⟩, hr.2⟩) (run_main m ρ h)

end Launch

end Cert.Proof.Experts

end
-- ==== Proof.ExpertsBitsRing.lean ====
/-
  The experts call at the printed program: the names its body's slices go by (row tile, slot, semaphore), the words it
  computes in closed form, and what it holds of its own between grid points.
-/
module

public import proofs.«01_k».proof.Proof.Gen.Kernel2.Launch
public import Idealize.ShloMosaic.Lib.Pipeline.FrameSuffix
public import Idealize.ShloMosaic.Lib.Pipeline.TableIdle
public import Idealize.ShloMosaic.Lib.Ring
public import Idealize.ShloMosaic.Lib.Affine
public import Idealize.ShloMosaic.Lib.Tactic
public import Idealize.ShloMosaic.Lib.WordCmp

@[expose] public section

set_option maxRecDepth 16384

noncomputable section

namespace Cert.Proof.ExpertsBits

open Cert.Kernel2 Cert.Kernel2.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (Pipeline.UD sig nD τ) ℕ
/-- No call is counted. -/
abbrev 𝒱₀ : Variants := Variants.none

/-- The activations left in HBM, the call's own slots, the count's table. -/
abbrev xM : Memref sig .tc .hbm S131072x512 .bf16 := Memref.whole main_v8
/-- The ring's buffer. -/
abbrev bufM : Memref sig .tc .vmem S3x1024x512 .i32 := Memref.whole cc0_scratch0
/-- The table of the used count. -/
abbrev cntM : Memref sig .tc .smem S1 .i32 := Memref.whole main_arg1

/-- Where row tile `b` starts, where slot `s` starts, where its semaphore is. -/
abbrev tileOff (b : Fin 64) : Fin 2 → Nat := ![2048 * b.val, 0]
/-- A row tile lies in the array. -/
theorem tileOff_inb (b : Fin 64) : ∀ a, tileOff b a + S2048x512.size a ≤ S131072x512.size a := by
  have := b.isLt; intro a; fin_cases a
  · show 2048 * b.val + 2048 ≤ 131072; omega
  · show 0 + 512 ≤ 512; omega
/-- Where slot `s` starts in the buffer. -/
abbrev slotOff (s : Fin 3) : Fin 3 → Nat := ![s.val, 0, 0]
/-- A slot lies in the buffer. -/
theorem slotOff_inb (s : Fin 3) : ∀ a, slotOff s a + S1x1024x512.size a ≤ S3x1024x512.size a := by
  have := s.isLt; intro a; fin_cases a
  · show s.val + 1 ≤ 3; omega
  · show 0 + 1024 ≤ 1024; omega
  · show 0 + 512 ≤ 512; omega
/-- Where slot `s`'s semaphore is. -/
abbrev semOff (s : Fin 3) : Fin 1 → Nat := ![s.val]
/-- A slot's semaphore lies in the array of semaphores. -/
theorem semOff_inb (s : Fin 3) : ∀ a, semOff s a + S1.size a ≤ S3.size a := by
  have := s.isLt; intro a; fin_cases a; show s.val + 1 ≤ 3; omega

/-- A row tile moves whole words. -/
theorem tile_words : ∀ b : Fin 64, (Rect.unit (s := S131072x512) (tileOff b) S2048x512.size (tileOff_inb b)).WholeWords (EltTy.packing .bf16) := by decide +kernel

/-- Row tile `b` of the activations. -/
def tile (b : Fin 64) : Memref sig .tc .hbm S2048x512 .bf16 :=
  xM.slice (Rect.unit (s := S131072x512) (tileOff b) S2048x512.size (tileOff_inb b)) (fun _ => rfl)
/-- Slot `s` of the buffer. -/
def rslot (s : Fin 3) : Memref sig .tc .vmem S1024x512 .i32 :=
  (bufM.slice (Rect.unit (s := S3x1024x512) (slotOff s) S1x1024x512.size (slotOff_inb s)) (fun _ => rfl)).squeeze S1024x512 Facts₀.squeezes_S1x1024x512_S1024x512
/-- Slot `s`'s semaphore. -/
def csm (s : Fin 3) : DmaSems sig S_ := (cc0_scratch1.slice (Rect.unit (s := S3) (semOff s) S1.size (semOff_inb s))).squeeze S_ Facts₀.squeezes_S1_S_

/-- A slot's offset is closed. -/
instance (s : Fin 3) : ClosedOff (slotOff s) := ⟨slotOff s, rfl⟩
/-- A tile's offset is closed. -/
instance (b : Fin 64) : ClosedOff (tileOff b) := ⟨tileOff b, rfl⟩

/-! ## The offsets at a grid point -/

section Chain
variable (i : grid0.Coords)

/-- A grid point's number is below 64. -/
theorem t_lt : (i 0).val < 64 := (i 0).isLt

/-- The semaphore waited for at a point is its slot's. -/
theorem off9_eq : k0_off9 i = semOff (Ring.sl 3 (i 0).val) := k0_off9_eq i
/-- The slot waited for at a point is its own. -/
theorem off10_eq : k0_off10 i = slotOff (Ring.sl 3 (i 0).val) := k0_off10_eq i
/-- The slot read at a point is its own. -/
theorem off12_eq : k0_off12 i = slotOff (Ring.sl 3 (i 0).val) := k0_off12_eq i
/-- The semaphore of the transfer started at a point is that of two ahead. -/
theorem off6_eq : k0_off6 i = semOff (Ring.sl 3 ((i 0).val + 2)) := k0_off6_eq i
/-- The slot of the transfer started at a point is that of two ahead. -/
theorem off7_eq : k0_off7 i = slotOff (Ring.sl 3 ((i 0).val + 2)) := k0_off7_eq i
/-- The transfer started at a point reads from row 2048 times two ahead. -/
theorem off8_closed : ∀ i : grid0.Coords, k0_off8 i = ![2048 * ((i 0).val + 2), 0] := by decide +kernel
/-- The transfer started at a point reads the tile two ahead. -/
theorem off8_eq (h : (i 0).val + 2 < 64) : k0_off8 i = tileOff (Ring.bk 64 ((i 0).val + 2)) := by
  rw [off8_closed]; unfold tileOff; rw [Ring.bk_val h]

/-- A semaphore at a slot's offset is the slot's. -/
theorem csm_congr {off : Fin 1 → Nat} {s : Fin 3} (e : off = semOff s) (hh) :
    (cc0_scratch1.slice (Rect.unit (s := S3) off S1.size hh)).squeeze S_ Facts₀.squeezes_S1_S_ = csm s := by
  subst e; rfl
/-- A slice of the buffer at a slot's offset is the slot. -/
theorem rslot_congr {off : Fin 3 → Nat} {s : Fin 3} (e : off = slotOff s) (hh hs) :
    (bufM.slice (Rect.unit (s := S3x1024x512) off S1x1024x512.size hh) hs).squeeze S1024x512 Facts₀.squeezes_S1x1024x512_S1024x512 = rslot s := by
  subst e; rfl
/-- A slice of the array at a tile's offset is the tile. -/
theorem tile_congr {off : Fin 2 → Nat} {b : Fin 64} (e : off = tileOff b) (hh hs) :
    xM.slice (Rect.unit (s := S131072x512) off S2048x512.size hh) hs = tile b := by
  subst e; rfl

/-- The first transfer's semaphore is slot zero's. -/
@[sl_canon] theorem semL0 (hh) : (cc0_scratch1.slice (Rect.unit (s := S3) k0_off2 S1.size hh)).squeeze S_ Facts₀.squeezes_S1_S_ = csm (Ring.sl 3 0) := csm_congr k0_off2_eq _
/-- The second transfer's semaphore is slot one's. -/
@[sl_canon] theorem semL1 (hh) : (cc0_scratch1.slice (Rect.unit (s := S3) k0_off4 S1.size hh)).squeeze S_ Facts₀.squeezes_S1_S_ = csm (Ring.sl 3 1) := csm_congr k0_off4_eq _
/-- The first transfer goes to slot zero. -/
@[sl_canon] theorem slotL0 (hh hs) : (bufM.slice (Rect.unit (s := S3x1024x512) k0_off3 S1x1024x512.size hh) hs).squeeze S1024x512 Facts₀.squeezes_S1x1024x512_S1024x512 = rslot (Ring.sl 3 0) := rslot_congr k0_off3_eq _ _
/-- The second transfer goes to slot one. -/
@[sl_canon] theorem slotL1 (hh hs) : (bufM.slice (Rect.unit (s := S3x1024x512) k0_off5 S1x1024x512.size hh) hs).squeeze S1024x512 Facts₀.squeezes_S1x1024x512_S1024x512 = rslot (Ring.sl 3 1) := rslot_congr k0_off5_eq _ _
/-- The first transfer reads tile zero. -/
@[sl_canon] theorem tileL0 (hh hs) : xM.slice (Rect.unit (s := S131072x512) ![0, 0] S2048x512.size hh) hs = tile (Ring.bk 64 0) := tile_congr (by decide) _ _
/-- The second transfer reads tile one. -/
@[sl_canon] theorem tileL1 (hh hs) : xM.slice (Rect.unit (s := S131072x512) ![2048, 0] S2048x512.size hh) hs = tile (Ring.bk 64 1) := tile_congr (by decide) _ _
/-- The semaphore of a point's transfer is that of two ahead. -/
@[sl_canon] theorem semI (hh) : (cc0_scratch1.slice (Rect.unit (s := S3) (k0_off6 i) S1.size hh)).squeeze S_ Facts₀.squeezes_S1_S_ = csm (Ring.sl 3 ((i 0).val + 2)) := csm_congr (off6_eq i) _
/-- A point's transfer goes to the slot of two ahead. -/
@[sl_canon] theorem slotI (hh hs) : (bufM.slice (Rect.unit (s := S3x1024x512) (k0_off7 i) S1x1024x512.size hh) hs).squeeze S1024x512 Facts₀.squeezes_S1x1024x512_S1024x512 = rslot (Ring.sl 3 ((i 0).val + 2)) := rslot_congr (off7_eq i) _ _
/-- A point's transfer reads the tile two ahead. -/
@[sl_canon] theorem tileI (h : (i 0).val + 2 < 64) (hh hs) : xM.slice (Rect.unit (s := S131072x512) (k0_off8 i) S2048x512.size hh) hs = tile (Ring.bk 64 ((i 0).val + 2)) := tile_congr (off8_eq i h) _ _
/-- The semaphore a point waits for is its own slot's. -/
@[sl_canon] theorem semW (hh) : (cc0_scratch1.slice (Rect.unit (s := S3) (k0_off9 i) S1.size hh)).squeeze S_ Facts₀.squeezes_S1_S_ = csm (Ring.sl 3 (i 0).val) := csm_congr (off9_eq i) _
/-- The slot a point waits for is its own. -/
@[sl_canon] theorem slotW (hh hs) : (bufM.slice (Rect.unit (s := S3x1024x512) (k0_off10 i) S1x1024x512.size hh) hs).squeeze S1024x512 Facts₀.squeezes_S1x1024x512_S1024x512 = rslot (Ring.sl 3 (i 0).val) := rslot_congr (off10_eq i) _ _
/-- The load's own offsets, of the slot waited for. -/
instance closedLoad (i : grid0.Coords) : ClosedOff (k0_off12 i) := ⟨slotOff (Ring.sl 3 (i 0).val), off12_eq i⟩

end Chain

/-! ## The count's conditions -/

/-- What a count read as a word is: at least one row tile, at most all. -/
def CntOK (u : BitVec 32) : Prop := 1 ≤ u.toNat ∧ u.toNat ≤ 64

section Conds
variable (i : grid0.Coords) (u : BitVec 32) (hu : CntOK u)

/-- The body's two guards, for every point and count: two ahead is used, the point is used. -/
theorem cond_ok : ∀ (i : grid0.Coords) (n : Fin 65),
    (k0_cond4 i (BitVec.ofNat 32 n.val) = 1#1 ↔ (i 0).val + 2 < n.val)
    ∧ (k0_cond5 i (BitVec.ofNat 32 n.val) = 1#1 ↔ (i 0).val < n.val) := by decide +kernel
/-- The guards of the first two transfers, for every count. -/
theorem pro_ok : ∀ (n : Fin 65),
    (Scalar.cmpi .ne (Scalar.extui (Scalar.cmpi .sgt (BitVec.ofNat 32 n.val) 0#32) : BitVec 32) 0#32 = 1#1 ↔ 0 < n.val)
    ∧ (Scalar.cmpi .ne (Scalar.extui (Scalar.cmpi .sgt (BitVec.ofNat 32 n.val) 1#32) : BitVec 32) 0#32 = 1#1 ↔ 1 < n.val) := by decide +kernel
/-- The guard of the filling holds at the first point alone. -/
theorem cond1_iff : ∀ i : grid0.Coords, k0_cond1 i = 1#1 ↔ (i 0).val = 0 := by decide +kernel

include hu in
/-- A count of at most 64 is the word of its number. -/
theorem u_eq : u = BitVec.ofNat 32 (⟨u.toNat, by have := hu.2; omega⟩ : Fin 65).val := by simp
include hu in
/-- A transfer is started when the tile two ahead is used. -/
theorem cond4_iff : k0_cond4 i u = 1#1 ↔ (i 0).val + 2 < u.toNat := by
  have h := (cond_ok i ⟨u.toNat, by have := hu.2; omega⟩).1
  rwa [← u_eq u hu] at h
include hu in
/-- A tile is computed when it is used. -/
theorem cond5_iff : k0_cond5 i u = 1#1 ↔ (i 0).val < u.toNat := by
  have h := (cond_ok i ⟨u.toNat, by have := hu.2; omega⟩).2
  rwa [← u_eq u hu] at h
include hu in
/-- The first transfer is started when a tile is used. -/
theorem pro0_iff : Scalar.cmpi .ne (Scalar.extui (Scalar.cmpi .sgt u 0#32) : BitVec 32) 0#32 = 1#1 ↔ 0 < u.toNat := by
  have h := (pro_ok ⟨u.toNat, by have := hu.2; omega⟩).1
  rwa [← u_eq u hu] at h
include hu in
/-- The second transfer is started when two tiles are used. -/
theorem pro1_iff : Scalar.cmpi .ne (Scalar.extui (Scalar.cmpi .sgt u 1#32) : BitVec 32) 0#32 = 1#1 ↔ 1 < u.toNat := by
  have h := (pro_ok ⟨u.toNat, by have := hu.2; omega⟩).2
  rwa [← u_eq u hu] at h

include hu in
/-- The check the body makes of the count holds. -/
theorem chk : k0_chk1 i u := by
  have hlt : k0_cond4 i u = 1#1 → (i 0).val + 2 < 64 := fun h => by
    have := (cond4_iff i u hu).mp h; have := hu.2; omega
  refine ⟨fun h => ?_, fun h => ?_⟩
  · rw [off8_eq i (hlt h)]; exact tileOff_inb _
  · rw [off8_eq i (hlt h)]; exact fun _ => tile_words _

end Conds

/-! ## The pieces: a tile home, a slot held, a slot's cell, a slot in flight -/

section Pieces
variable (c : Dev nD) (X : Buf (Elt F) (xM.view.loc (c : Thread nD τ)))

/-- Slot `s`'s semaphore, at zero. -/
abbrev cellP (s : Fin 3) : sProp 𝕄 := semVal ((c : Thread nD τ), SemLoc.dma (csm s).sem) 0
/-- Slot `s` of the buffer, held with its contents. -/
abbrev slotP (s : Fin 3) (f : Buf (Elt F) ((rslot s).view.loc (c : Thread nD τ))) : sProp 𝕄 :=
  (rslot s).view.loc (c : Thread nD τ) ↦[(rslot s).view.set]{fullShare} f
/-- Tile `b` HOME: held on its elements at the activations' contents. -/
abbrev homeP (b : Fin 64) : sProp 𝕄 := (tile b).view.loc (c : Thread nD τ) ↦[(tile b).view.set]{fullShare} X
/-- A tile's rows in pairs, a word each, as the transfer reads them. -/
abbrev payload (b : Fin 64) : S1024x512.Idx → Elt F .i32 := (ReadAs.bitcast Facts₀.bitcasts_S2048x512_w16_S1024x512_w32).apply ((tile b).view.read (Elt F) X)
/-- What tile `b`'s transfer leaves in slot `s` over prior contents `f`. -/
abbrev landed (s : Fin 3) (b : Fin 64) (f : Buf (Elt F) ((rslot s).view.loc (c : Thread nD τ))) : Buf (Elt F) ((rslot s).view.loc (c : Thread nD τ)) :=
  (rslot s).view.writes (Elt F) f [⟨Rect.whole S1024x512, payload c X b⟩]
/-- Slot `s` IN FLIGHT with tile `b`, issued over `f`. -/
abbrev flightP (s : Fin 3) (b : Fin 64) (f : Buf (Elt F) ((rslot s).view.loc (c : Thread nD τ))) : sProp 𝕄 :=
  Transfers.Flight countersEmb (c : Thread nD τ) (SemLoc.dma (csm s).sem) () 65536 iprop(slotP c s (landed c X s b f) ∗ homeP c X b)

end Pieces

end Cert.Proof.ExpertsBits

end
-- ==== Proof.ExpertsBitsOut.lean ====
/-
  The experts call at the printed program: what a grid point writes, as a function of the row tile's pairs of rows and of
  the three weight blocks, and that each of the body's runs writes it.
-/
module

public import proofs.«01_k».proof.Proof.ExpertsBitsBody
public import Idealize.ShloMosaic.Lib.VecWindow

@[expose] public section

set_option maxRecDepth 16384

noncomputable section

namespace Cert.Proof.ExpertsBits

open Cert.Kernel2 Cert.Kernel2.Gen
open Idealize.ShloMosaic
open Idealize.ShloMosaic.TcCoe Idealize.ShloMosaic.Tactic

variable {F : FTy → Type} [BitOps F]

/-- The rows a word array carries, a row's first half in the high sixteen bits. -/
def rowsIn (raw : Vec F S1x1024x512 .i32) : FVec F S1024x1024 .bf16 :=
  let v : IVec S1024x512 32 := shapeCast S1024x512 raw Facts₀.shapeCasts_S1x1024x512_S1024x512
  truncf .bf16 (concatenate S1024x1024 1 [⟨S1024x512, (bitcastToFloat .f32 (andi v (broadcast S1024x512 4294901760#32)) : FVec F S1024x512 .f32)⟩,
    ⟨S1024x512, (bitcastToFloat .f32 (shli v (broadcast S1024x512 16#32)) : FVec F S1024x512 .f32)⟩] Facts₀.concatenates_S1024x512_S1024x512_S1024x1024_d1) Facts₀.bitsLt_bf16_f32

/-- The expert's hidden rows. -/
def hidden (x : FVec F S1024x1024 .bf16) (wg wu : Vec F S1x1x1024x256 .bf16) : FVec F S1024x256 .bf16 :=
  let g := matmul dot_S1024x1024_S1024x256_S1024x256_1_0_0_1_n_n none x (shapeCast S1024x256 wg Facts₀.shapeCasts_S1x1x1024x256_S1024x256) (constant S1024x256 .f32 0x00000000#32)
  let u := matmul dot_S1024x1024_S1024x256_S1024x256_1_0_0_1_n_n none x (shapeCast S1024x256 wu Facts₀.shapeCasts_S1x1x1024x256_S1024x256) (constant S1024x256 .f32 0x00000000#32)
  truncf .bf16 (mulf (mulf g (divf (broadcast S1024x256 (Scalar.ofBits .f32 0x3F800000#32))
    (addf (broadcast S1024x256 (Scalar.ofBits .f32 0x3F800000#32)) (exp (subf (broadcast S1024x256 (Scalar.ofBits .f32 0x00000000#32)) g))))) u) Facts₀.bitsLt_bf16_f32

/-- The expert's output rows. -/
def rowsOut (x : FVec F S1024x1024 .bf16) (wg wu : Vec F S1x1x1024x256 .bf16) (wd : Vec F S1x1x256x1024 .bf16) : FVec F S1024x1024 .f32 :=
  extf .f32 (truncf .bf16 (matmul dot_S1024x256_S256x1024_S1024x1024_1_0_0_1_n_n none (hidden x wg wu) (shapeCast S256x1024 wd Facts₀.shapeCasts_S1x1x256x1024_S256x1024) (constant S1024x1024 .f32 0x00000000#32)) Facts₀.bitsLt_bf16_f32) Facts₀.bitsLt_bf16_f32

/-- What the point writes: a word for each pair of halves, first half high. -/
def moeOutR (raw : Vec F S1x1024x512 .i32) (wg wu : Vec F S1x1x1024x256 .bf16) (wd : Vec F S1x1x256x1024 .bf16) : Vec F S2048x512 .bf16 :=
  let o := rowsOut (rowsIn raw) wg wu wd
  let hi : IVec S1024x512 32 := bitcastToInt (extractStridedSlice S1024x512 ![0, 0] o Facts₀.slices_S1024x1024_o0_0_S1024x512)
  let lo : IVec S1024x512 32 := bitcastToInt (extractStridedSlice S1024x512 ![0, 512] o Facts₀.slices_S1024x1024_o0_512_S1024x512)
  bitcastToFloat .bf16 (bitcast S2048x512 16 (ori (andi hi (broadcast S1024x512 4294901760#32)) (shrui lo (broadcast S1024x512 16#32))) Facts₀.bitcasts_S1024x512_w32_S2048x512_w16)

/-- A slot's shape with a leading one is the slot's shape. -/
theorem casts_pairs : S1024x512.ShapeCasts S1x1024x512 := by decide

/-- … of the pairs as the transfer delivers them. -/
def moeOut (p : S1024x512.Idx → Elt F .i32) (wg wu : Vec F S1x1x1024x256 .bf16) (wd : Vec F S1x1x256x1024 .bf16) : Vec F S2048x512 .bf16 :=
  moeOutR (shapeCast S1x1024x512 p casts_pairs) wg wu wd

section
variable (c : Dev nD) (X : Buf (Elt F) (xM.view.loc (c : Thread nD τ)))
  (i : grid0.Coords)
  (a4 : Memref sig .tc .vmem S1x1x1024x256 .bf16) (h4 : a4.IsWhole)
  (a5 : Memref sig .tc .vmem S1x1x1024x256 .bf16) (h5 : a5.IsWhole)
  (a6 : Memref sig .tc .vmem S1x1x256x1024 .bf16) (h6 : a6.IsWhole)
  (a7 : Memref sig .tc .vmem S2048x512 .bf16) (h7 : a7.IsWhole)
variable (T : Buf (Elt F) (cntM.view.loc (c : Thread nD τ)))
  (g4 : Buf (Elt F) (a4.view.loc (c : Thread nD τ))) (g5 : Buf (Elt F) (a5.view.loc (c : Thread nD τ)))
  (g6 : Buf (Elt F) (a6.view.loc (c : Thread nD τ))) (g7 : Buf (Elt F) (a7.view.loc (c : Thread nD τ)))

/-- A load of a landed slot reads the transferred pairs. -/
theorem raw_eq {off : Fin 3 → Nat} (s : Fin 3) (e : off = slotOff s) (hh) (f : (rslot s).view.ty.Contents (Elt F)) (p : S1024x512.Idx → Elt F .i32) :
    View.readAt (Elt F) bufM.view (Rect.unit (s := S3x1024x512) off S1x1024x512.size hh).toLoadRect ((rslot s).view.writes (Elt F) f [⟨Rect.whole S1024x512, p⟩])
      = shapeCast S1x1024x512 p casts_pairs := by
  subst e
  funext k
  have h := congrFun (View.read_writes_whole (Val := Elt F) (rslot s).view f p) (Shape.reshapeEquiv casts_pairs k)
  refine Eq.trans ?_ h
  exact congrArg (fun z => bufM.view.read (Elt F) ((rslot s).view.writes (Elt F) f [⟨Rect.whole S1024x512, p⟩]) ((Rect.unit (s := S3x1024x512) (slotOff s) S1x1024x512.size (slotOff_inb s)).emb z))
    ((Shape.reshapeEquiv_reshapeEquiv _ _ k).trans (Shape.reshapeEquiv_self _ k)).symm

/-- … so does this run. -/
theorem midRun_eq (hu : CntOK (cntOf c T)) (ht : (i 0).val ≠ 0) (hB : (i 0).val + 2 < (cntOf c T).toNat) :
    (midRun c X i a4 h4 a5 h5 a6 h6 a7 h7 T g4 g5 g6 g7 hu ht hB).1
      = moeOut (payload c X (Ring.bk 64 (i 0).val)) (a4.view.read (Elt F) g4) (a5.view.read (Elt F) g5) (a6.view.read (Elt F) g6) := by
  have h := raw_eq (Ring.sl 3 (i 0).val) (off12_eq i) (k0_off12_inb i) ((rslot (Ring.sl 3 (i 0).val)).view.junk) (payload c X (Ring.bk 64 (i 0).val))
  unfold moeOut
  rw [← h, ← View.readAt_full a4.view g4 (off := ![0,0,0,0]) Facts₀.inb_S1x1x1024x256_S1x1x1024x256_0_0_0_0,
    ← View.readAt_full a5.view g5 (off := ![0,0,0,0]) Facts₀.inb_S1x1x1024x256_S1x1x1024x256_0_0_0_0,
    ← View.readAt_full a6.view g6 (off := ![0,0,0,0]) Facts₀.inb_S1x1x256x1024_S1x1x256x1024_0_0_0_0]
  rfl

/-- … so does this run. -/
theorem tailRun_eq (hu : CntOK (cntOf c T)) (ht : (i 0).val ≠ 0) (hB : (cntOf c T).toNat ≤ (i 0).val + 2) (hl : (i 0).val < (cntOf c T).toNat) :
    (tailRun c X i a4 h4 a5 h5 a6 h6 a7 h7 T g4 g5 g6 g7 hu ht hB hl).1
      = moeOut (payload c X (Ring.bk 64 (i 0).val)) (a4.view.read (Elt F) g4) (a5.view.read (Elt F) g5) (a6.view.read (Elt F) g6) := by
  have h := raw_eq (Ring.sl 3 (i 0).val) (off12_eq i) (k0_off12_inb i) ((rslot (Ring.sl 3 (i 0).val)).view.junk) (payload c X (Ring.bk 64 (i 0).val))
  unfold moeOut
  rw [← h, ← View.readAt_full a4.view g4 (off := ![0,0,0,0]) Facts₀.inb_S1x1x1024x256_S1x1x1024x256_0_0_0_0,
    ← View.readAt_full a5.view g5 (off := ![0,0,0,0]) Facts₀.inb_S1x1x1024x256_S1x1x1024x256_0_0_0_0,
    ← View.readAt_full a6.view g6 (off := ![0,0,0,0]) Facts₀.inb_S1x1x256x1024_S1x1x256x1024_0_0_0_0]
  rfl

/-- … so does this run. -/
theorem firstRun_eq (hu : CntOK (cntOf c T)) (hB : 2 < (cntOf c T).toNat) :
    (firstRun c X a4 h4 a5 h5 a6 h6 a7 h7 T g4 g5 g6 g7 hu hB).1
      = moeOut (payload c X (Ring.bk 64 0)) (a4.view.read (Elt F) g4) (a5.view.read (Elt F) g5) (a6.view.read (Elt F) g6) := by
  have h := raw_eq (Ring.sl 3 0) ((off12_eq i0).trans (by rw [i0_val])) (k0_off12_inb i0) ((rslot (Ring.sl 3 0)).view.junk) (payload c X (Ring.bk 64 0))
  unfold moeOut
  rw [← h, ← View.readAt_full a4.view g4 (off := ![0,0,0,0]) Facts₀.inb_S1x1x1024x256_S1x1x1024x256_0_0_0_0,
    ← View.readAt_full a5.view g5 (off := ![0,0,0,0]) Facts₀.inb_S1x1x1024x256_S1x1x1024x256_0_0_0_0,
    ← View.readAt_full a6.view g6 (off := ![0,0,0,0]) Facts₀.inb_S1x1x256x1024_S1x1x256x1024_0_0_0_0]
  rfl

/-- … so does this run. -/
theorem firstRun2_eq (hu : CntOK (cntOf c T)) (hB : (cntOf c T).toNat = 2) :
    (firstRun2 c X a4 h4 a5 h5 a6 h6 a7 h7 T g4 g5 g6 g7 hu hB).1
      = moeOut (payload c X (Ring.bk 64 0)) (a4.view.read (Elt F) g4) (a5.view.read (Elt F) g5) (a6.view.read (Elt F) g6) := by
  have h := raw_eq (Ring.sl 3 0) ((off12_eq i0).trans (by rw [i0_val])) (k0_off12_inb i0) ((rslot (Ring.sl 3 0)).view.junk) (payload c X (Ring.bk 64 0))
  unfold moeOut
  rw [← h, ← View.readAt_full a4.view g4 (off := ![0,0,0,0]) Facts₀.inb_S1x1x1024x256_S1x1x1024x256_0_0_0_0,
    ← View.readAt_full a5.view g5 (off := ![0,0,0,0]) Facts₀.inb_S1x1x1024x256_S1x1x1024x256_0_0_0_0,
    ← View.readAt_full a6.view g6 (off := ![0,0,0,0]) Facts₀.inb_S1x1x256x1024_S1x1x256x1024_0_0_0_0]
  rfl

/-- … so does this run. -/
theorem firstRun1_eq (hu : CntOK (cntOf c T)) (hB : (cntOf c T).toNat = 1) :
    (firstRun1 c X a4 h4 a5 h5 a6 h6 a7 h7 T g4 g5 g6 g7 hu hB).1
      = moeOut (payload c X (Ring.bk 64 0)) (a4.view.read (Elt F) g4) (a5.view.read (Elt F) g5) (a6.view.read (Elt F) g6) := by
  have h := raw_eq (Ring.sl 3 0) ((off12_eq i0).trans (by rw [i0_val])) (k0_off12_inb i0) ((rslot (Ring.sl 3 0)).view.junk) (payload c X (Ring.bk 64 0))
  unfold moeOut
  rw [← h, ← View.readAt_full a4.view g4 (off := ![0,0,0,0]) Facts₀.inb_S1x1x1024x256_S1x1x1024x256_0_0_0_0,
    ← View.readAt_full a5.view g5 (off := ![0,0,0,0]) Facts₀.inb_S1x1x1024x256_S1x1x1024x256_0_0_0_0,
    ← View.readAt_full a6.view g6 (off := ![0,0,0,0]) Facts₀.inb_S1x1x256x1024_S1x1x256x1024_0_0_0_0]
  rfl

end

end Cert.Proof.ExpertsBits

end
-- ==== Proof.ExpertsClaims.lean ====
/-
  The experts call: its frames, at the printed and at the idealized program, and the idealization's own statements.
-/
module

public import proofs.«01_k».proof.Defs
public import proofs.«01_k».proof.Proof.Planned
public import proofs.«01_k».proof.Proof.ExpertsRun
public import proofs.«01_k».proof.Proof.ExpertsBitsRun
public import proofs.«01_k».proof.Proof.Gen.Reference2Ideal
public import proofs.«01_k».proof.Proof.Gen.Reference2Ideal.Run
public import Idealize.ShloMosaic.Lib.Bf16Pair
public import Idealize.ShloMosaic.Lib.Bf16PairInverse
public import Idealize.ShloMosaic.Adequacy
public import Idealize.ShloMosaic.Init

@[expose] public section

noncomputable section

namespace Cert.Proof

open Idealize.ShloMosaic Idealize.SL.Sem Idealize.ShloMosaic.ValueIdx

/-- The precondition's bounds as the printed program's tables read them. -/
theorem tables_bits (m : (ℓ : Loc Cert.Kernel2.nD Cert.Kernel2.τ Cert.Kernel2.sig) → Buf (Elt Bits) ℓ)
    (h : Cert.Pre_Kernel2 (hPre_planned := Cert.Pre_planned.facts) m) : ExpertsBits.TabOK (ExpertsBits.pfM m) :=
  have b := @Cert.Pre_planned.bounds Bits _ Cert.Pre_planned.facts _ _ _ _ _ _ (h 0)
  ⟨fun t => b.1 (ix1 t), b.2 _⟩

/-- The precondition's bounds as the idealized program's tables read them. -/
theorem tables_ideal (m : (ℓ : Loc Cert.Kernel2Ideal.nD Cert.Kernel2Ideal.τ Cert.Kernel2Ideal.sig) → Buf (Elt Ideal) ℓ)
    (h : Cert.Pre_Kernel2Ideal (hPre_planned := Cert.Pre_planned.facts) m) : Experts.TabOK (Experts.pfM m) :=
  have b := @Cert.Pre_planned.bounds Ideal _ Cert.Pre_planned.facts _ _ _ _ _ _ (h 0)
  ⟨fun t => b.1 (ix1 t), b.2 _⟩

/-- The printed experts call runs, leaves its arguments, and leaves every counter at zero. -/
theorem frame_experts : Cert.quiescent_Kernel2 (hKernel2 := Cert.Kernel2.Gen.facts) (hPre_planned := Cert.Pre_planned.facts) :=
  fun m ρ h => ExpertsBits.frame m ρ (tables_bits m h)

/-- So does the idealized one. -/
theorem frame_experts_ideal : Cert.quiescent_Kernel2Ideal (hKernel2Ideal := Cert.Kernel2Ideal.Gen.facts) (hPre_planned := Cert.Pre_planned.facts) :=
  fun m ρ h => Experts.frame m ρ (tables_ideal m h)

/-- The experts' reference leaves its arguments and every counter at zero. -/
theorem frame_experts_ref : Cert.quiescent_Reference2Ideal (hReference2Ideal := Cert.Reference2Ideal.Gen.facts) := fun m ρ _ =>
  (θ_run Cert.Reference2Ideal.defs _ _).mono (fun r h => ⟨fun c => (h c).2,
      Idealize.ShloMosaic.sem_eq_zero_of_no_sems (by decide) r.2⟩)
    (Cert.Reference2Ideal.Value.run (F := Ideal) m ρ)

/-- The rewrites that idealize the experts call are the sanctioned ones: pairs of half-width rows for words. -/
theorem preserves_experts : Cert.preserves_Kernel2_Kernel2Ideal :=
  ⟨IdealRules.bf16_pair.bufferStatement _ _, IdealRules.bf16_pair.statement _ _, IdealRules.bf16_pair.statement _ _, IdealRules.bf16_pack.statement _⟩

end Cert.Proof

end
-- ==== Proof.ExpertsHeld.lean ====
/-
  The experts call at the idealized program: the weights' blocks held at each point, and the result's row tiles at the end.
-/
module

public import proofs.«01_k».proof.Proof.ExpertsRun
public import Idealize.ShloMosaic.Lib.Pipeline.ValueKit

@[expose] public section

set_option maxRecDepth 16384

noncomputable section

namespace Cert.Proof.Experts

open Cert.Kernel2Ideal Cert.Kernel2Ideal.Gen
open Idealize.ShloMosaic hiding ix1 ix2 ix3 ix4
open Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Held

variable (pf : pre0.Contents (Elt F)) (h : TabOK pf) (V : Dev nD → Valuation τ sig (Elt F)) (c : Dev nD)

/-- The expert a point's row tile names. -/
def exW (n : ℕ) : Fin 32 := ⟨(teW pf ⟨n % 64, Nat.mod_lt _ (by decide)⟩).toNat, h.te _⟩

/-- The table's entry at a point is the point's expert. -/
theorem exW_eq (t : Fin (cfgA pf h).N) : (teW pf (grid0.coords t 0)).toNat = (exW pf h t.val).val := by
  have hN : t.val < 64 := (N_eq pf h) ▸ t.isLt
  show _ = (teW pf ⟨t.val % 64, _⟩).toNat
  congr 2
  exact Fin.ext ((coords_val t).trans (Nat.mod_eq_of_lt hN).symm)

/-- Window 0's block at a point is its expert's. -/
theorem index_0 (t : Fin (cfgA pf h).N) : ((cfgA pf h).win 0).index t = ![0, (exW pf h t.val).val, 0, 0] := by
  rw [← exW_eq]; exact ix_1 pf (grid0.coords t)
/-- Window 1's block at a point is its expert's. -/
theorem index_1 (t : Fin (cfgA pf h).N) : ((cfgA pf h).win 1).index t = ![0, (exW pf h t.val).val, 0, 0] := by
  rw [← exW_eq]; exact ix_2 pf (grid0.coords t)
/-- Window 2's block at a point is its expert's. -/
theorem index_2 (t : Fin (cfgA pf h).N) : ((cfgA pf h).win 2).index t = ![0, (exW pf h t.val).val, 0, 0] := by
  rw [← exW_eq]; exact ix_3 pf (grid0.coords t)

/-- Where a weight's block is not fetched, it is the block of the point before. -/
theorem index_of_not_fetch (w : Fin (cfgA pf h).W) (hw : ((cfgA pf h).win w).isOut = false) (n : ℕ) (hn : n + 1 < (cfgA pf h).N)
    (e : ((cfgA pf h).win w).fetch ⟨n + 1, hn⟩ = false) :
    ((cfgA pf h).win w).index ⟨n + 1, hn⟩ = ((cfgA pf h).win w).index ⟨n, Nat.lt_of_succ_lt hn⟩ := by
  unfold Pipeline.Window.fetch at e
  rw [hw] at e
  simpa using e

/-- The weights at the region's entry. -/
abbrev WG : S2x32x1024x256.Idx → Elt F .bf16 := V c (Proc.devRef .tc main_v9)
/-- The up weights at the call. -/
abbrev WU : S2x32x1024x256.Idx → Elt F .bf16 := V c (Proc.devRef .tc main_v10)
/-- The down weights at the call. -/
abbrev WD : S2x32x256x1024.Idx → Elt F .bf16 := V c (Proc.devRef .tc main_v11)

/-- Window 0's block at a point is its expert's weights. -/
theorem held_blk0 (A : Buf (Elt F) (((cfgA pf h).win 0).arr.view.loc (c : Thread nD τ))) (t : Fin (cfgA pf h).N) (a : Fin 1024) (b : Fin 256) :
    (((cfgA pf h).win 0).blk t).view.read (Elt F) A (ix4 (0 : Fin 1) (0 : Fin 1) a b : S1x1x1024x256.Idx)
      = A (ix4 (0 : Fin 2) (exW pf h t.val) a b : S2x32x1024x256.Idx) := by
  show A ((((cfgA pf h).win 0).blk t).view.emb (ix4 (0 : Fin 1) (0 : Fin 1) a b : S1x1x1024x256.Idx)) = _
  have hi := index_0 pf h t
  refine congrArg A (funext fun ax => Fin.ext ?_)
  refine (Pipeline.Window.rect_emb_val ((cfgA pf h).win 0) t (ix4 (0 : Fin 1) (0 : Fin 1) a b : S1x1x1024x256.Idx) ax).trans ?_
  rw [hi]
  match ax with
  | ⟨0, _⟩ => rfl
  | ⟨1, _⟩ => show (exW pf h t.val).val * 1 + 0 = (exW pf h t.val).val; omega
  | ⟨2, _⟩ => show 0 * 1024 + a.val = a.val; omega
  | ⟨3, _⟩ => show 0 * 256 + b.val = b.val; omega

/-- So is what its staging buffer holds there. -/
theorem held_0 : ∀ (n : ℕ) (hn : n < (cfgA pf h).N) (a : Fin 1024) (b : Fin 256),
    (Pipeline.heldIn (c := c) (cfgA pf h) (AW pf h V c) 0 n hn) (ix4 (0 : Fin 1) (0 : Fin 1) a b : S1x1x1024x256.Idx)
      = WG V c (ix4 (0 : Fin 2) (exW pf h n) a b : S2x32x1024x256.Idx)
  | 0, hn, a, b => held_blk0 pf h c (AW pf h V c 0) ⟨0, hn⟩ a b
  | n + 1, hn, a, b => by
    cases hf : ((cfgA pf h).win 0).fetch ⟨n + 1, hn⟩ with
    | true => exact (congrFun (Pipeline.heldIn_of_fetch (cfg := cfgA pf h) (AW pf h V c) 0 ⟨n + 1, hn⟩ hf) _).trans (held_blk0 pf h c (AW pf h V c 0) ⟨n + 1, hn⟩ a b)
    | false =>
      refine (congrFun (Pipeline.heldIn_of_not_fetch (cfg := cfgA pf h) (AW pf h V c) 0 n hn hf) _).trans ((held_0 n (Nat.lt_of_succ_lt hn) a b).trans ?_)
      have e := index_of_not_fetch pf h 0 rfl n hn hf
      rw [index_0, index_0] at e
      exact congrArg (fun z => WG V c (ix4 (0 : Fin 2) z a b : S2x32x1024x256.Idx)) (Fin.ext (congrFun e 1).symm)

/-- Window 1's block at a point is its expert's weights. -/
theorem held_blk1 (A : Buf (Elt F) (((cfgA pf h).win 1).arr.view.loc (c : Thread nD τ))) (t : Fin (cfgA pf h).N) (a : Fin 1024) (b : Fin 256) :
    (((cfgA pf h).win 1).blk t).view.read (Elt F) A (ix4 (0 : Fin 1) (0 : Fin 1) a b : S1x1x1024x256.Idx)
      = A (ix4 (0 : Fin 2) (exW pf h t.val) a b : S2x32x1024x256.Idx) := by
  show A ((((cfgA pf h).win 1).blk t).view.emb (ix4 (0 : Fin 1) (0 : Fin 1) a b : S1x1x1024x256.Idx)) = _
  have hi := index_1 pf h t
  refine congrArg A (funext fun ax => Fin.ext ?_)
  refine (Pipeline.Window.rect_emb_val ((cfgA pf h).win 1) t (ix4 (0 : Fin 1) (0 : Fin 1) a b : S1x1x1024x256.Idx) ax).trans ?_
  rw [hi]
  match ax with
  | ⟨0, _⟩ => rfl
  | ⟨1, _⟩ => show (exW pf h t.val).val * 1 + 0 = (exW pf h t.val).val; omega
  | ⟨2, _⟩ => show 0 * 1024 + a.val = a.val; omega
  | ⟨3, _⟩ => show 0 * 256 + b.val = b.val; omega

/-- So is what its staging buffer holds there. -/
theorem held_1 : ∀ (n : ℕ) (hn : n < (cfgA pf h).N) (a : Fin 1024) (b : Fin 256),
    (Pipeline.heldIn (c := c) (cfgA pf h) (AW pf h V c) 1 n hn) (ix4 (0 : Fin 1) (0 : Fin 1) a b : S1x1x1024x256.Idx)
      = WU V c (ix4 (0 : Fin 2) (exW pf h n) a b : S2x32x1024x256.Idx)
  | 0, hn, a, b => held_blk1 pf h c (AW pf h V c 1) ⟨0, hn⟩ a b
  | n + 1, hn, a, b => by
    cases hf : ((cfgA pf h).win 1).fetch ⟨n + 1, hn⟩ with
    | true => exact (congrFun (Pipeline.heldIn_of_fetch (cfg := cfgA pf h) (AW pf h V c) 1 ⟨n + 1, hn⟩ hf) _).trans (held_blk1 pf h c (AW pf h V c 1) ⟨n + 1, hn⟩ a b)
    | false =>
      refine (congrFun (Pipeline.heldIn_of_not_fetch (cfg := cfgA pf h) (AW pf h V c) 1 n hn hf) _).trans ((held_1 n (Nat.lt_of_succ_lt hn) a b).trans ?_)
      have e := index_of_not_fetch pf h 1 rfl n hn hf
      rw [index_1, index_1] at e
      exact congrArg (fun z => WU V c (ix4 (0 : Fin 2) z a b : S2x32x1024x256.Idx)) (Fin.ext (congrFun e 1).symm)

/-- Window 2's block at a point is its expert's weights. -/
theorem held_blk2 (A : Buf (Elt F) (((cfgA pf h).win 2).arr.view.loc (c : Thread nD τ))) (t : Fin (cfgA pf h).N) (a : Fin 256) (b : Fin 1024) :
    (((cfgA pf h).win 2).blk t).view.read (Elt F) A (ix4 (0 : Fin 1) (0 : Fin 1) a b : S1x1x256x1024.Idx)
      = A (ix4 (0 : Fin 2) (exW pf h t.val) a b : S2x32x256x1024.Idx) := by
  show A ((((cfgA pf h).win 2).blk t).view.emb (ix4 (0 : Fin 1) (0 : Fin 1) a b : S1x1x256x1024.Idx)) = _
  have hi := index_2 pf h t
  refine congrArg A (funext fun ax => Fin.ext ?_)
  refine (Pipeline.Window.rect_emb_val ((cfgA pf h).win 2) t (ix4 (0 : Fin 1) (0 : Fin 1) a b : S1x1x256x1024.Idx) ax).trans ?_
  rw [hi]
  match ax with
  | ⟨0, _⟩ => rfl
  | ⟨1, _⟩ => show (exW pf h t.val).val * 1 + 0 = (exW pf h t.val).val; omega
  | ⟨2, _⟩ => show 0 * 256 + a.val = a.val; omega
  | ⟨3, _⟩ => show 0 * 1024 + b.val = b.val; omega

/-- So is what its staging buffer holds there. -/
theorem held_2 : ∀ (n : ℕ) (hn : n < (cfgA pf h).N) (a : Fin 256) (b : Fin 1024),
    (Pipeline.heldIn (c := c) (cfgA pf h) (AW pf h V c) 2 n hn) (ix4 (0 : Fin 1) (0 : Fin 1) a b : S1x1x256x1024.Idx)
      = WD V c (ix4 (0 : Fin 2) (exW pf h n) a b : S2x32x256x1024.Idx)
  | 0, hn, a, b => held_blk2 pf h c (AW pf h V c 2) ⟨0, hn⟩ a b
  | n + 1, hn, a, b => by
    cases hf : ((cfgA pf h).win 2).fetch ⟨n + 1, hn⟩ with
    | true => exact (congrFun (Pipeline.heldIn_of_fetch (cfg := cfgA pf h) (AW pf h V c) 2 ⟨n + 1, hn⟩ hf) _).trans (held_blk2 pf h c (AW pf h V c 2) ⟨n + 1, hn⟩ a b)
    | false =>
      refine (congrFun (Pipeline.heldIn_of_not_fetch (cfg := cfgA pf h) (AW pf h V c) 2 n hn hf) _).trans ((held_2 n (Nat.lt_of_succ_lt hn) a b).trans ?_)
      have e := index_of_not_fetch pf h 2 rfl n hn hf
      rw [index_2, index_2] at e
      exact congrArg (fun z => WD V c (ix4 (0 : Fin 2) z a b : S2x32x256x1024.Idx)) (Fin.ext (congrFun e 1).symm)

/-- Row tile `k` of the result at the end is what the point with that tile left. -/
theorem arr_tile (k : ℕ) (hk : k < (cntW pf).toNat) (y : S2048x512.Idx) :
    (D pf h V c).arrAt 3 (cfgA pf h).N (ix2 (⟨2048 * k + (y 0).val, by have := h.cnt.2; have : (y 0).val < 2048 := (y 0).isLt; omega⟩ : Fin 131072) (⟨(y 1).val, (y 1).isLt⟩ : Fin 512) : S131072x512.Idx)
      = tileOut pf h V c k (by rw [N_eq]; have := h.cnt.2; omega) y := by
  have hN := N_eq pf h
  have h64 := h.cnt.2
  have hl : ∀ t : Fin (cfgA pf h).N, ((cfgA pf h).win 3).flush t = true → lastOf pf t.val = (if t.val = 63 then (cntW pf).toNat - 1 else t.val) := by
    intro t hf
    have := (flush_iff pf h t).mp hf
    have := t.isLt
    unfold lastOf; split <;> omega
  obtain ⟨t, hf, ht⟩ : ∃ t : Fin (cfgA pf h).N, ((cfgA pf h).win 3).flush t = true ∧ lastOf pf t.val = k := by
    by_cases hk' : k + 1 < (cntW pf).toNat
    · exact ⟨⟨k, by omega⟩, (flush_iff pf h _).mpr (.inl hk'), by show min k _ = k; omega⟩
    · exact ⟨⟨63, by omega⟩, (flush_iff pf h _).mpr (.inr rfl), by show min 63 _ = k; omega⟩
  have hi : ∀ t : Fin (cfgA pf h).N, ((cfgA pf h).win 3).index t = ![lastOf pf t.val, 0] := index_3 pf h
  have hb := (D pf h V c).arrAt_emb_eq_flushed 3 (fun t t' hf hf' hne => ?_) t hf y
  · refine Eq.trans (congrArg ((D pf h V c).arrAt 3 (cfgA pf h).N) ?_) (hb.trans ?_)
    · refine funext fun ax => Fin.ext ?_
      refine Eq.symm ((Pipeline.Window.rect_emb_val ((cfgA pf h).win 3) t y ax).trans ?_)
      rw [hi, ht]
      match ax with
      | ⟨0, _⟩ => show k * 2048 + (y 0).val = 2048 * k + (y 0).val; omega
      | ⟨1, _⟩ => show 0 * 512 + (y 1).val = (y 1).val; omega
    · exact congrFun (tileOut_congr pf h V c ht _ _) y
  · refine Pipeline.Window.disjoint_blk _ fun e => hne (Fin.ext ?_)
    rw [hi, hi] at e
    have e0 : lastOf pf t.val = lastOf pf t'.val := congrFun e 0
    rw [hl t hf, hl t' hf'] at e0
    have := (flush_iff pf h t).mp hf
    have := (flush_iff pf h t').mp hf'
    split at e0 <;> split at e0 <;> omega

end Held

end Cert.Proof.Experts

end
-- ==== Proof.ExpertsEnd.lean ====
/-
  The experts call at the idealized program: what the host lines before and after it hold.
-/
module

public import proofs.«01_k».proof.Proof.ExpertsHeld
public import Idealize.ShloMosaic.Lib.StableHlo.Run

@[expose] public section

set_option maxRecDepth 16384

noncomputable section

namespace Cert.Proof.Experts

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Lines

variable (m : (ℓ : Loc nD τ sig) → Buf (Elt F) ℓ)

/-- Which rows are live. -/
theorem V_v4 (c : Dev nD) : V₁ m c (Proc.devRef .tc main_v4) = cmpi .slt (iotaInDim S65536x1024 32 0)
    (broadcastInDim S65536x1024 ![] Facts₀.bcast_S_S65536x1024 (muli (shapeCast S_ (m ((c : Thread nD τ).loc main_arg1)) Facts₀.shapeCasts_S1_S_) (constantI S_ 32 1024#32))) := by
  unfold_abbrev_sides; after_results; rfl

/-- The rows as the call takes them: each cut in half, the second half first. -/
theorem V_v8 (c : Dev nD) : V₁ m c (Proc.devRef .tc main_v8) = shapeCast S131072x512 (Host.reverse [1] (shapeCast S65536x2x512
    (truncf .bf16 (m ((c : Thread nD τ).loc main_arg2) : FVec F S65536x1024 .f32) Facts₀.bitsLt_bf16_f32 : FVec F S65536x1024 .bf16) Facts₀.shapeCasts_S65536x1024_S65536x2x512))
    Facts₀.shapeCasts_S65536x2x512_S131072x512 := by
  unfold_abbrev_sides; after_results; rfl

/-- The gate weights as the call takes them. -/
theorem V_v9 (c : Dev nD) : V₁ m c (Proc.devRef .tc main_v9) = (truncf .bf16 (m ((c : Thread nD τ).loc main_arg3) : FVec F S2x32x1024x256 .f32) Facts₀.bitsLt_bf16_f32 : FVec F S2x32x1024x256 .bf16) := by
  unfold_abbrev_sides; rfl
/-- The up weights as the call takes them. -/
theorem V_v10 (c : Dev nD) : V₁ m c (Proc.devRef .tc main_v10) = (truncf .bf16 (m ((c : Thread nD τ).loc main_arg4) : FVec F S2x32x1024x256 .f32) Facts₀.bitsLt_bf16_f32 : FVec F S2x32x1024x256 .bf16) := by
  unfold_abbrev_sides; rfl
/-- The down weights as the call takes them. -/
theorem V_v11 (c : Dev nD) : V₁ m c (Proc.devRef .tc main_v11) = (truncf .bf16 (m ((c : Thread nD τ).loc main_arg5) : FVec F S2x32x256x1024 .f32) Facts₀.bitsLt_bf16_f32 : FVec F S2x32x256x1024 .bf16) := by
  unfold_abbrev_sides; rfl

/-- The host lines after the call: live rows from the call's array, halves put back in order, the others zero. -/
theorem after_tail (W : Valuation τ sig (Elt F)) : StableHlo.after tailOps.flatten W (Proc.devRef .tc main_v16) = select (W (Proc.devRef .tc main_v4))
    (shapeCast S65536x1024 (Host.reverse [1] (shapeCast S65536x2x512 (W (Proc.devRef .tc main_v12) : FVec F S131072x512 .bf16) Facts₀.shapeCasts_S131072x512_S65536x2x512))
      Facts₀.shapeCasts_S65536x2x512_S65536x1024)
    (broadcastInDim S65536x1024 ![] Facts₀.bcast_S_S65536x1024 (truncf .bf16 (constant S_ .f32 0x00000000#32 : FVec F S_ .f32) Facts₀.bitsLt_bf16_f32 : FVec F S_ .bf16)) := by
  simp only [tailOps, hostOps1, hostOps1_1, List.flatten_cons, List.flatten_nil, List.append_nil, List.cons_append, List.nil_append]
  after_results
  rfl

/-- The result at the end. -/
theorem end_out (h : TabOK (pfM m)) (c : Dev nD) : endAt m h c main_v16 = select (V₁ m c (Proc.devRef .tc main_v4))
    (shapeCast S65536x1024 (Host.reverse [1] (shapeCast S65536x2x512 ((D (pfM m) h (V₁ m) c).arrAt 3 (cfgA (pfM m) h).N : FVec F S131072x512 .bf16) Facts₀.shapeCasts_S131072x512_S65536x2x512))
      Facts₀.shapeCasts_S65536x2x512_S65536x1024)
    (broadcastInDim S65536x1024 ![] Facts₀.bcast_S_S65536x1024 (truncf .bf16 (constant S_ .f32 0x00000000#32 : FVec F S_ .f32) Facts₀.bitsLt_bf16_f32 : FVec F S_ .bf16)) := by
  have h12 : Pipeline.withArrays spec0 c (V₁ m c)
      (fun w => (D (pfM m) h (V₁ m) c).arrAt w (cfgA (pfM m) h).N) (Proc.devRef .tc main_v12)
      = (D (pfM m) h (V₁ m) c).arrAt 3 (cfgA (pfM m) h).N :=
    Pipeline.withArrays_arr spec0 winFacts0.arr_inj c (V₁ m c) (fun w => (D (pfM m) h (V₁ m) c).arrAt w (cfgA (pfM m) h).N) 3
  have h4 : Pipeline.withArrays spec0 c (V₁ m c)
      (fun w => (D (pfM m) h (V₁ m) c).arrAt w (cfgA (pfM m) h).N) (Proc.devRef .tc main_v4)
      = V₁ m c (Proc.devRef .tc main_v4) :=
    Pipeline.withArrays_of_ne spec0 c _ _ _ (fun w => by revert w; decide)
  refine (after_tail (Pipeline.withArrays spec0 c (V₁ m c) (fun w => (D (pfM m) h (V₁ m) c).arrAt w (cfgA (pfM m) h).N))).trans ?_
  rw [h12, h4]
  rfl

end Lines

end Cert.Proof.Experts

end
-- ==== Proof.ExpertsSpec.lean ====
/-
  One row of the experts' layer as sums of extended reals.
-/
module

public import Idealize.ShloMosaic.PureOps.Ideal.Laws
public import Idealize.ShloMosaic.Lib.ValueLayout
public import Idealize.ShloMosaic.Lib.Affine

@[expose] public section

set_option maxRecDepth 16384

noncomputable section

namespace Cert.Moe

open Idealize.ShloMosaic Idealize.ShloMosaic.ValueIdx
open scoped BigOperators

/-- A row against a matrix's columns. -/
def lin (x : Fin 1024 → EReal) (w : Fin 1024 → Fin 256 → EReal) (f : Fin 256) : EReal := ∑ d : Fin 1024, x d * w d f

/-- The gated hidden row. -/
def rowHid (x : Fin 1024 → EReal) (g u : Fin 1024 → Fin 256 → EReal) (f : Fin 256) : EReal :=
  lin x g f * Ideal.div 1 (1 + Ideal.exp (-lin x g f)) * lin x u f

/-- The output row. -/
def rowOut (x : Fin 1024 → EReal) (g u : Fin 1024 → Fin 256 → EReal) (dn : Fin 256 → Fin 1024 → EReal) (j : Fin 1024) : EReal :=
  ∑ f : Fin 256, rowHid x g u f * dn f j

/-- Whether a row belongs to a tile in use, as the programs compare it. -/
theorem live_iff (n : BitVec 32) (h : n.toNat ≤ 64) (r : Fin 65536) :
    IntOp.cmpi .slt (BitVec.ofNat 32 r.val) (IntOp.muli n 1024#32) = 1#1 ↔ r.val / 1024 < n.toNat := by
  rw [IntOp.cmpi_slt]
  have e1 : (BitVec.ofNat 32 r.val).toInt = r.val := by
    rw [BitVec.toInt_eq_toNat_of_lt] <;> rw [BitVec.toNat_ofNat] <;> omega
  have e2 : (IntOp.muli n 1024#32).toInt = (n.toNat * 1024 : ℕ) := by
    have hm : (n * 1024#32).toNat = n.toNat * 1024 := by
      rw [BitVec.toNat_mul]; show n.toNat * 1024 % _ = _; omega
    show (n * 1024#32).toInt = _
    rw [BitVec.toInt_eq_toNat_of_lt (by rw [hm]; omega), hm]
  rw [e1, e2]
  omega

end Cert.Moe

end
-- ==== Proof.ExpertsVal.lean ====
/-
  The experts call at the idealized program: what a row tile's result holds, read at an index, as sums of extended reals.
-/
module

public import proofs.«01_k».proof.Proof.ExpertsOut
public import proofs.«01_k».proof.Proof.ExpertsSpec
public import Idealize.ShloMosaic.Lib.IdealHost
public import Idealize.ShloMosaic.Lib.MatmulPlain
public import Idealize.ShloMosaic.Lib.ValueLayout
public import Idealize.ShloMosaic.Lib.Pointwise.ShapeOpsCore
public import Idealize.ShloMosaic.Lib.Bf16PairInverse

@[expose] public section

set_option maxRecDepth 16384

noncomputable section

namespace Cert.Proof.Experts

open Cert.Kernel2Ideal Cert.Kernel2Ideal.Gen
open Idealize.ShloMosaic hiding ix1 ix2 ix3 ix4
open Idealize.ShloMosaic.ValueIdx
open Idealize.ShloMosaic.TcCoe
open Cert.Moe
open scoped BigOperators

/-- Narrowing an extended real changes nothing. -/
theorem truncf_at {s : Shape} {φ ψ : FTy} (v : FVec Ideal s φ) (h) (i : s.Idx) : (truncf ψ v h i : EReal) = v i := rfl
/-- Nor does widening it. -/
theorem extf_at {s : Shape} {φ ψ : FTy} (v : FVec Ideal s φ) (h) (i : s.Idx) : (extf ψ v h i : EReal) = v i := rfl

/-- A half of the tile's pairs, read at an index. -/
theorem half_apply (raw : Vec Ideal S1x1024x2x512 .bf16) (q : Fin 2) (p : Fin 1024) (l : Fin 512) :
    shapeCast S1024x512 (shapeCast S1x1024x512 (rowsOfParity q S1x1024x1x512 raw Facts₀.bitcasts_S1x1024x2x512_w16_S1x1024x1x512_w32) Facts₀.shapeCasts_S1x1024x1x512_S1x1024x512) Facts₀.shapeCasts_S1x1024x512_S1024x512 (ix2 p l : S1024x512.Idx)
      = raw (ix4 (0 : Fin 1) p q l : S1x1024x2x512.Idx) := by
  refine (shapeCast_1ab_ab_apply _ _ p l).trans ?_
  refine (shapeCast_apply _ Facts₀.shapeCasts_S1x1024x1x512_S1x1024x512 (ix3 (0 : Fin 1) p l : S1x1024x512.Idx) (ix4 (0 : Fin 1) p (0 : Fin 1) l : S1x1024x1x512.Idx) ?_).trans ?_
  · rw [Shape.rowMajor_val_four, Shape.rowMajor_val_three]
    show ((0 * 1024 + p.val) * 1 + 0) * 512 + l.val = (0 * 1024 + p.val) * 512 + l.val
    omega
  · refine (rowsOfParity_apply q raw _ _).trans (congrArg raw (funext fun a => Fin.ext ?_))
    match a with
    | ⟨0, _⟩ => rfl
    | ⟨1, _⟩ => rfl
    | ⟨2, _⟩ => show 2 * 0 + q.val = q.val; omega
    | ⟨3, _⟩ => rfl

/-- A tile's row, first half: the second of its pair. -/
theorem rowsIn_lo (raw : Vec Ideal S1x1024x2x512 .bf16) (p : Fin 1024) (l : Fin 512) :
    rowsIn (F := Ideal) raw (ix2 p (⟨l.val, by omega⟩ : Fin 1024) : S1024x1024.Idx) = raw (ix4 (0 : Fin 1) p (1 : Fin 2) l : S1x1024x2x512.Idx) := by
  unfold rowsIn
  refine (truncf_at _ Facts₀.bitsLt_bf16_f32 _).trans ?_
  refine Eq.trans (concatenate_pair_apply_left (s₁ := S1024x512) (s₂ := S1024x512) (1 : Fin S1024x1024.rank) _ _ Facts₀.concatenates_S1024x512_S1024x512_S1024x1024_d1 _ rfl (ix2 p l : S1024x512.Idx)
    (fun a => match a with | ⟨0, _⟩ => rfl | ⟨1, _⟩ => rfl)) (half_apply raw 1 p l)

/-- A tile's row, second half: the first of its pair. -/
theorem rowsIn_hi (raw : Vec Ideal S1x1024x2x512 .bf16) (p : Fin 1024) (l : Fin 512) :
    rowsIn (F := Ideal) raw (ix2 p (⟨512 + l.val, by omega⟩ : Fin 1024) : S1024x1024.Idx) = raw (ix4 (0 : Fin 1) p (0 : Fin 2) l : S1x1024x2x512.Idx) := by
  unfold rowsIn
  refine (truncf_at _ Facts₀.bitsLt_bf16_f32 _).trans ?_
  refine Eq.trans (concatenate_pair_apply_right (s₁ := S1024x512) (s₂ := S1024x512) (1 : Fin S1024x1024.rank) _ _ Facts₀.concatenates_S1024x512_S1024x512_S1024x1024_d1 _ rfl rfl (ix2 p l : S1024x512.Idx)
    (fun a ha => match a with | ⟨0, _⟩ => rfl | ⟨1, _⟩ => absurd rfl ha) (Nat.add_comm _ _)) (half_apply raw 0 p l)

/-- A weight block without its two leading axes. -/
theorem weight_apply {a b : ℕ} (w : (⟨4, ![1, 1, a, b]⟩ : Shape).Idx → EReal) (h : (⟨4, ![1, 1, a, b]⟩ : Shape).ShapeCasts ⟨2, ![a, b]⟩) (i : Fin a) (j : Fin b) :
    shapeCast ⟨2, ![a, b]⟩ w h (ix2 i j) = w (ix4 (0 : Fin 1) (0 : Fin 1) i j) :=
  shapeCast_apply w h _ _ (by
    rw [Shape.rowMajor_val_four, Shape.rowMajor_val_two]
    show ((0 * 1 + 0) * a + i.val) * b + j.val = i.val * b + j.val
    simp)

/-- The hidden rows, read at an index. -/
theorem hidden_apply (x : FVec Ideal S1024x1024 .bf16) (wg wu : Vec Ideal S1x1x1024x256 .bf16) (p : Fin 1024) (f : Fin 256) :
    hidden (F := Ideal) x wg wu (ix2 p f : S1024x256.Idx)
      = rowHid (fun d => x (ix2 p d : S1024x1024.Idx)) (fun d f => wg (ix4 (0 : Fin 1) (0 : Fin 1) d f : S1x1x1024x256.Idx))
          (fun d f => wu (ix4 (0 : Fin 1) (0 : Fin 1) d f : S1x1x1024x256.Idx)) f := by
  have hm : ∀ w : Vec Ideal S1x1x1024x256 .bf16,
      (matmul dot_S1024x1024_S1024x256_S1024x256_1_0_0_1_n_n none x (shapeCast S1024x256 w Facts₀.shapeCasts_S1x1x1024x256_S1024x256 : FVec Ideal S1024x256 .bf16) (constant S1024x256 .f32 0x00000000#32) : FVec Ideal S1024x256 .f32) (ix2 p f : S1024x256.Idx)
        = lin (fun d => x (ix2 p d : S1024x1024.Idx)) (fun d f => w (ix4 (0 : Fin 1) (0 : Fin 1) d f : S1x1x1024x256.Idx)) f := by
    intro w
    refine (Ideal.matmul_plain_apply (M := 1024) (K := 1024) (N := 256) _ x _ _ p f).trans ?_
    rw [show (constant S1024x256 .f32 0x00000000#32 : FVec Ideal S1024x256 .f32) (ix2 p f) = 0 from Ideal.ofBits_zero_f32, zero_add]
    exact Finset.sum_congr rfl fun d _ => congrArg (fun z : EReal => x (ix2 p d : S1024x1024.Idx) * z) (weight_apply w _ d f)
  unfold hidden rowHid
  rw [← hm wg, ← hm wu]
  generalize (matmul dot_S1024x1024_S1024x256_S1024x256_1_0_0_1_n_n none x (shapeCast S1024x256 wg Facts₀.shapeCasts_S1x1x1024x256_S1024x256 : FVec Ideal S1024x256 .bf16) (constant S1024x256 .f32 0x00000000#32) : FVec Ideal S1024x256 .f32) = g
  generalize (matmul dot_S1024x1024_S1024x256_S1024x256_1_0_0_1_n_n none x (shapeCast S1024x256 wu Facts₀.shapeCasts_S1x1x1024x256_S1024x256 : FVec Ideal S1024x256 .bf16) (constant S1024x256 .f32 0x00000000#32) : FVec Ideal S1024x256 .f32) = u
  show (g (ix2 p f) * Ideal.div (Ideal.ofBits .f32 0x3F800000#32) (Ideal.ofBits .f32 0x3F800000#32 + Ideal.exp (Ideal.ofBits .f32 0x00000000#32 - g (ix2 p f)))) * u (ix2 p f) = _
  rw [Ideal.ofBits_one_f32, Ideal.ofBits_zero_f32, zero_sub]

/-- The output rows, read at an index. -/
theorem rowsOut_apply (x : FVec Ideal S1024x1024 .bf16) (wg wu : Vec Ideal S1x1x1024x256 .bf16) (wd : Vec Ideal S1x1x256x1024 .bf16) (p j : Fin 1024) :
    rowsOut (F := Ideal) x wg wu wd (ix2 p j : S1024x1024.Idx)
      = rowOut (fun d => x (ix2 p d : S1024x1024.Idx)) (fun d f => wg (ix4 (0 : Fin 1) (0 : Fin 1) d f : S1x1x1024x256.Idx))
          (fun d f => wu (ix4 (0 : Fin 1) (0 : Fin 1) d f : S1x1x1024x256.Idx)) (fun f j => wd (ix4 (0 : Fin 1) (0 : Fin 1) f j : S1x1x256x1024.Idx)) j := by
  unfold rowsOut rowOut
  refine (extf_at _ Facts₀.bitsLt_bf16_f32 _).trans ((truncf_at _ Facts₀.bitsLt_bf16_f32 _).trans ?_)
  refine (Ideal.matmul_plain_apply (M := 1024) (K := 256) (N := 1024) _ (hidden x wg wu) _ _ p j).trans ?_
  rw [show (constant S1024x1024 .f32 0x00000000#32 : FVec Ideal S1024x1024 .f32) (ix2 p j) = 0 from Ideal.ofBits_zero_f32, zero_add]
  exact Finset.sum_congr rfl fun f _ => congrArg₂ (fun a b : EReal => a * b) (hidden_apply x wg wu p f) (weight_apply wd _ f j)

/-- The odd rows of two interleaved blocks. -/
theorem interleave_odd (lo hi : S1024x512.Idx → EReal) (h) (p : Fin 1024) (l : Fin 512) :
    interleaveRows S2048x512 lo hi h (ix2 (⟨2 * p.val + 1, by omega⟩ : Fin 2048) l : S2048x512.Idx) = hi (ix2 p l) := by
  refine Eq.trans ?_ (congrFun (rowsOfParity_one_interleaveRows h lo hi) (ix2 p l))
  refine ((rowsOfParity_apply 1 _ h _).trans (congrArg (interleaveRows S2048x512 lo hi h) (funext fun a => Fin.ext ?_))).symm
  match a with
  | ⟨0, _⟩ => rfl
  | ⟨1, _⟩ => rfl

/-- The even rows of two interleaved blocks. -/
theorem interleave_even (lo hi : S1024x512.Idx → EReal) (h) (p : Fin 1024) (l : Fin 512) :
    interleaveRows S2048x512 lo hi h (ix2 (⟨2 * p.val, by omega⟩ : Fin 2048) l : S2048x512.Idx) = lo (ix2 p l) := by
  refine Eq.trans ?_ (congrFun (rowsOfParity_zero_interleaveRows h lo hi) (ix2 p l))
  refine ((rowsOfParity_apply 0 _ h _).trans (congrArg (interleaveRows S2048x512 lo hi h) (funext fun a => Fin.ext ?_))).symm
  match a with
  | ⟨0, _⟩ => rfl
  | ⟨1, _⟩ => rfl

/-- What a point writes: the odd rows are the output rows' first halves. -/
theorem moeOut_lo (raw : Vec Ideal S1x1024x2x512 .bf16) (wg wu : Vec Ideal S1x1x1024x256 .bf16) (wd : Vec Ideal S1x1x256x1024 .bf16) (p : Fin 1024) (l : Fin 512) :
    moeOutR (F := Ideal) raw wg wu wd (ix2 (⟨2 * p.val + 1, by omega⟩ : Fin 2048) l : S2048x512.Idx)
      = rowsOut (rowsIn raw) wg wu wd (ix2 p (⟨l.val, by omega⟩ : Fin 1024) : S1024x1024.Idx) := by
  unfold moeOutR
  refine (interleave_odd _ _ _ p l).trans ((truncf_at _ Facts₀.bitsLt_bf16_f32 _).trans ?_)
  generalize rowsOut (rowsIn raw) wg wu wd = v
  refine (extractStridedSlice_apply ![0, 0] v Facts₀.slices_S1024x1024_o0_0_S1024x512 (ix2 p l : S1024x512.Idx) (ix2 p (⟨l.val, by omega⟩ : Fin 1024) : S1024x1024.Idx) fun a => ?_)
  match a with
  | ⟨0, _⟩ => show p.val = 0 + p.val; omega
  | ⟨1, _⟩ => show l.val = 0 + l.val; omega

/-- What a point writes: the even rows are the output rows' second halves. -/
theorem moeOut_hi (raw : Vec Ideal S1x1024x2x512 .bf16) (wg wu : Vec Ideal S1x1x1024x256 .bf16) (wd : Vec Ideal S1x1x256x1024 .bf16) (p : Fin 1024) (l : Fin 512) :
    moeOutR (F := Ideal) raw wg wu wd (ix2 (⟨2 * p.val, by omega⟩ : Fin 2048) l : S2048x512.Idx)
      = rowsOut (rowsIn raw) wg wu wd (ix2 p (⟨512 + l.val, by omega⟩ : Fin 1024) : S1024x1024.Idx) := by
  unfold moeOutR
  refine (interleave_even _ _ _ p l).trans ((truncf_at _ Facts₀.bitsLt_bf16_f32 _).trans ?_)
  refine (extractStridedSlice_apply ![0, 512] (rowsOut (rowsIn raw) wg wu wd) Facts₀.slices_S1024x1024_o0_512_S1024x512 _ (ix2 p (⟨512 + l.val, by omega⟩ : Fin 1024) : S1024x1024.Idx) fun a => ?_)
  match a with
  | ⟨0, _⟩ => show p.val = 0 + p.val; omega
  | ⟨1, _⟩ => show 512 + l.val = 512 + l.val; omega

end Cert.Proof.Experts

end
-- ==== Proof.ExpertsResult.lean ====
/-
  The experts call at the idealized program: its result, read at an index.
-/
module

public import proofs.«01_k».proof.Proof.ExpertsEnd
public import proofs.«01_k».proof.Proof.ExpertsVal

@[expose] public section

set_option maxRecDepth 16384

noncomputable section

namespace Cert.Proof.Experts

open Cert.Kernel2Ideal Cert.Kernel2Ideal.Gen
open Idealize.ShloMosaic hiding ix1 ix2 ix3 ix4
open Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

open Cert.Moe
open scoped BigOperators

section Rows

variable (m : (ℓ : Loc nD τ sig) → Buf (Elt Ideal) ℓ) (c : Dev nD)

/-- The rows, as the program is given them. -/
abbrev xA : S65536x1024.Idx → EReal := m ((c : Thread nD τ).loc main_arg2)

/-- A pair's half of the rows as the call takes them. -/
theorem v8_apply (r : Fin 65536) (q q' : Fin 2) (hq : q'.val = 1 - q.val) (l : Fin 512) :
    (V₁ m c (Proc.devRef .tc main_v8) : S131072x512.Idx → EReal) (ix2 (⟨2 * r.val + q'.val, by omega⟩ : Fin 131072) l)
      = xA m c (ix2 r (⟨q.val * 512 + l.val, by omega⟩ : Fin 1024)) := by
  rw [V_v8]
  refine (shapeCast_apply _ Facts₀.shapeCasts_S65536x2x512_S131072x512 _ (ix3 r q' l : S65536x2x512.Idx) ?_).trans ?_
  · rw [Shape.rowMajor_val_three, Shape.rowMajor_val_two]
    show (r.val * 2 + q'.val) * 512 + l.val = (2 * r.val + q'.val) * 512 + l.val
    omega
  refine (Host.reverse_apply _ _ _).trans ?_
  refine Eq.trans (congrArg _ (a₂ := (ix3 r q l : S65536x2x512.Idx)) (funext fun a => Fin.ext ?_)) ?_
  · match a with
    | ⟨0, _⟩ => rfl
    | ⟨1, _⟩ => show 2 - (q'.val + 1) = q.val; omega
    | ⟨2, _⟩ => rfl
  refine (shapeCast_apply _ Facts₀.shapeCasts_S65536x1024_S65536x2x512 _ (ix2 r (⟨q.val * 512 + l.val, by omega⟩ : Fin 1024) : S65536x1024.Idx) ?_).trans ?_
  · rw [Shape.rowMajor_val_three, Shape.rowMajor_val_two]
    show r.val * 1024 + (q.val * 512 + l.val) = (r.val * 2 + q.val) * 512 + l.val
    omega
  rfl

/-- A transfer's pair of rows. -/
theorem payload_apply (X : Buf (Elt Ideal) (xM.view.loc (c : Thread nD τ))) (b : Fin 64) (p : Fin 1024) (q : Fin 2) (l : Fin 512) :
    (payload c X b (ix3 p q l : S1024x2x512.Idx) : EReal)
      = (X : S131072x512.Idx → EReal) (ix2 (⟨2048 * b.val + (2 * p.val + q.val), by omega⟩ : Fin 131072) l) := by
  show (X : S131072x512.Idx → EReal) ((tile b).view.emb (ix3 p q l : S1024x2x512.Idx)) = _
  have e : Shape.reshapeEquiv Facts₀.reshapes_S2048x512_S1024x2x512.1 (ix3 p q l : S1024x2x512.Idx) = (ix2 (⟨2 * p.val + q.val, by omega⟩ : Fin 2048) l : S2048x512.Idx) := by
    apply Shape.reshapeEquiv_eq_of_rowMajor
    rw [Shape.rowMajor_val_three, Shape.rowMajor_val_two]
    show (2 * p.val + q.val) * 512 + l.val = (p.val * 2 + q.val) * 512 + l.val
    omega
  refine congrArg (X : S131072x512.Idx → EReal) (Eq.trans (congrArg (fun z => (Rect.unit (s := S131072x512) (tileOff b) S2048x512.size (tileOff_inb b)).emb z) e) ?_)
  refine funext fun a => Fin.ext ?_
  match a with
  | ⟨0, _⟩ => show 2048 * b.val + 1 * (2 * p.val + q.val) = 2048 * b.val + (2 * p.val + q.val); omega
  | ⟨1, _⟩ => show 0 + 1 * l.val = l.val; omega

/-- A tile's rows are the program's. -/
theorem tile_row (k : ℕ) (hk : k < 64) (p d : Fin 1024) :
    rowsIn (F := Ideal) (shapeCast S1x1024x2x512 (payload c (XW (V₁ m) c) (Ring.bk 64 k)) casts_pairs) (ix2 p d : S1024x1024.Idx)
      = xA m c (ix2 (⟨1024 * k + p.val, by omega⟩ : Fin 65536) d) := by
  have hb : (Ring.bk 64 k).val = k := Ring.bk_val hk
  have key : ∀ (q q' : Fin 2) (hq : q'.val = 1 - q.val) (l : Fin 512),
      (shapeCast S1x1024x2x512 (payload c (XW (V₁ m) c) (Ring.bk 64 k)) casts_pairs : Vec Ideal S1x1024x2x512 .bf16) (ix4 (0 : Fin 1) p q' l : S1x1024x2x512.Idx)
        = xA m c (ix2 (⟨1024 * k + p.val, by omega⟩ : Fin 65536) (⟨q.val * 512 + l.val, by omega⟩ : Fin 1024)) := by
    intro q q' hq l
    refine (shapeCast_abc_1abc_apply _ casts_pairs (0 : Fin 1) p q' l).trans ((payload_apply c _ _ p q' l).trans ?_)
    refine Eq.trans (congrArg (V₁ m c (Proc.devRef .tc main_v8) : S131072x512.Idx → EReal) ?_) (v8_apply m c (⟨1024 * k + p.val, by omega⟩ : Fin 65536) q q' hq l)
    refine funext fun a => Fin.ext ?_
    match a with
    | ⟨0, _⟩ => show 2048 * (Ring.bk 64 k).val + (2 * p.val + q'.val) = 2 * (1024 * k + p.val) + q'.val; rw [hb]; omega
    | ⟨1, _⟩ => rfl
  by_cases hd : d.val < 512
  · have e : d = (⟨(⟨d.val, hd⟩ : Fin 512).val, by omega⟩ : Fin 1024) := rfl
    rw [e]
    refine (rowsIn_lo _ p ⟨d.val, hd⟩).trans ((key 0 1 rfl ⟨d.val, hd⟩).trans (congrArg (fun z => xA m c (ix2 _ z)) (Fin.ext ?_)))
    show 0 * 512 + d.val = d.val; omega
  · have e : d = (⟨512 + (⟨d.val - 512, by omega⟩ : Fin 512).val, by show 512 + (d.val - 512) < 1024; omega⟩ : Fin 1024) := Fin.ext (by show d.val = 512 + (d.val - 512); omega)
    rw [e]
    refine (rowsIn_hi _ p ⟨d.val - 512, by omega⟩).trans ((key 1 0 rfl ⟨d.val - 512, by omega⟩).trans (congrArg (fun z => xA m c (ix2 _ z)) (Fin.ext ?_)))
    show 1 * 512 + (d.val - 512) = 512 + (d.val - 512); omega

/-- The gate, up and down weights, as the program is given them. -/
abbrev gA : S2x32x1024x256.Idx → EReal := m ((c : Thread nD τ).loc main_arg3)
/-- The up weights as given. -/
abbrev uA : S2x32x1024x256.Idx → EReal := m ((c : Thread nD τ).loc main_arg4)
/-- The down weights as given. -/
abbrev dA : S2x32x256x1024.Idx → EReal := m ((c : Thread nD τ).loc main_arg5)

variable (h : TabOK (pfM m))

/-- One row of the layer: the row's expert is the one its tile's word names. -/
def wanted (r : Fin 65536) (j : Fin 1024) : EReal :=
  rowOut (fun d => xA m c (ix2 r d)) (fun d f => gA m c (ix4 (0 : Fin 2) (exW (pfM m) h (r.val / 1024)) d f))
    (fun d f => uA m c (ix4 (0 : Fin 2) (exW (pfM m) h (r.val / 1024)) d f)) (fun f j => dA m c (ix4 (0 : Fin 2) (exW (pfM m) h (r.val / 1024)) f j)) j

/-- A tile's output rows are the layer's. -/
theorem tile_out (k : ℕ) (hk : k < 64) (hn : k < (cfgA (pfM m) h).N) (p j : Fin 1024) :
    rowsOut (F := Ideal) (rowsIn (shapeCast S1x1024x2x512 (payload c (XW (V₁ m) c) (Ring.bk 64 k)) casts_pairs))
        (Pipeline.heldIn (c := c) (cfgA (pfM m) h) (AW (pfM m) h (V₁ m) c) 0 k hn) (Pipeline.heldIn (c := c) (cfgA (pfM m) h) (AW (pfM m) h (V₁ m) c) 1 k hn)
        (Pipeline.heldIn (c := c) (cfgA (pfM m) h) (AW (pfM m) h (V₁ m) c) 2 k hn) (ix2 p j : S1024x1024.Idx)
      = wanted m c h (⟨1024 * k + p.val, by omega⟩ : Fin 65536) j := by
  refine (rowsOut_apply _ _ _ _ p j).trans ?_
  have hr : (1024 * k + p.val) / 1024 = k := by omega
  unfold wanted
  rw [show (fun d => rowsIn (F := Ideal) (shapeCast S1x1024x2x512 (payload c (XW (V₁ m) c) (Ring.bk 64 k)) casts_pairs) (ix2 p d : S1024x1024.Idx))
    = fun d => xA m c (ix2 (⟨1024 * k + p.val, by omega⟩ : Fin 65536) d) from funext fun d => tile_row m c k hk p d]
  show rowOut _ _ _ _ j = rowOut _ (fun d f => gA m c (ix4 (0 : Fin 2) (exW (pfM m) h ((1024 * k + p.val) / 1024)) d f))
    (fun d f => uA m c (ix4 (0 : Fin 2) (exW (pfM m) h ((1024 * k + p.val) / 1024)) d f)) (fun f j => dA m c (ix4 (0 : Fin 2) (exW (pfM m) h ((1024 * k + p.val) / 1024)) f j)) j
  rw [hr]
  have e9 : WG (V₁ m) c = gA m c := V_v9 m c
  have e10 : WU (V₁ m) c = uA m c := V_v10 m c
  have e11 : WD (V₁ m) c = dA m c := V_v11 m c
  refine congr (congr (congrArg₂ (rowOut _) ?_ ?_) ?_) rfl
  · exact funext fun d => funext fun f => (held_0 (pfM m) h (V₁ m) c k hn d f).trans (congrFun e9 _)
  · exact funext fun d => funext fun f => (held_1 (pfM m) h (V₁ m) c k hn d f).trans (congrFun e10 _)
  · exact funext fun f => funext fun j => (held_2 (pfM m) h (V₁ m) c k hn f j).trans (congrFun e11 _)

/-- The call's array at a row in use: the halves of the layer's row, second half first. -/
theorem arr_row (r : Fin 65536) (hr : r.val / 1024 < (cntW (pfM m)).toNat) (q q' : Fin 2) (hq : q'.val = 1 - q.val) (l : Fin 512) :
    ((D (pfM m) h (V₁ m) c).arrAt 3 (cfgA (pfM m) h).N : S131072x512.Idx → EReal) (ix2 (⟨2 * r.val + q'.val, by omega⟩ : Fin 131072) l)
      = wanted m c h r (⟨q.val * 512 + l.val, by omega⟩ : Fin 1024) := by
  have hk : r.val / 1024 < 64 := by omega
  have hn : r.val / 1024 < (cfgA (pfM m) h).N := by rw [N_eq]; exact hk
  have er : r = (⟨1024 * (r.val / 1024) + (⟨r.val % 1024, Nat.mod_lt _ (by decide)⟩ : Fin 1024).val, by show 1024 * (r.val / 1024) + r.val % 1024 < 65536; omega⟩ : Fin 65536) :=
    Fin.ext (by show r.val = 1024 * (r.val / 1024) + r.val % 1024; omega)
  have ht := tile_out m c h (r.val / 1024) hk hn ⟨r.val % 1024, Nat.mod_lt _ (by decide)⟩
  rw [← er] at ht
  have ha := arr_tile (pfM m) h (V₁ m) c (r.val / 1024) hr (ix2 (⟨2 * (r.val % 1024) + q'.val, by omega⟩ : Fin 2048) l : S2048x512.Idx)
  refine Eq.trans (congrArg ((D (pfM m) h (V₁ m) c).arrAt 3 (cfgA (pfM m) h).N : S131072x512.Idx → EReal) ?_) (ha.trans ?_)
  · refine funext fun a => Fin.ext ?_
    match a with
    | ⟨0, _⟩ => show 2 * r.val + q'.val = 2048 * (r.val / 1024) + (2 * (r.val % 1024) + q'.val); omega
    | ⟨1, _⟩ => rfl
  · match q, q', hq with
    | ⟨0, _⟩, ⟨1, _⟩, _ =>
      refine (moeOut_lo _ _ _ _ ⟨r.val % 1024, Nat.mod_lt _ (by decide)⟩ l).trans ((ht _).trans (congrArg (wanted m c h r) (Fin.ext ?_)))
      show l.val = 0 * 512 + l.val; omega
    | ⟨1, _⟩, ⟨0, _⟩, _ =>
      refine (moeOut_hi _ _ _ _ ⟨r.val % 1024, Nat.mod_lt _ (by decide)⟩ l).trans ((ht _).trans (congrArg (wanted m c h r) (Fin.ext ?_)))
      show 512 + l.val = 1 * 512 + l.val; omega

/-- The result at an index: the layer's row where the row is in use, zero elsewhere. -/
theorem end_apply (r : Fin 65536) (q : Fin 2) (l : Fin 512) :
    (endAt m h c main_v16 : S65536x1024.Idx → EReal) (ix2 r (⟨q.val * 512 + l.val, by omega⟩ : Fin 1024))
      = if r.val / 1024 < (cntW (pfM m)).toNat then wanted m c h r (⟨q.val * 512 + l.val, by omega⟩ : Fin 1024) else 0 := by
  have h64 := h.cnt.2
  rw [end_out, V_v4]
  have hw : ∀ y : S_.Idx, (shapeCast S_ (m ((c : Thread nD τ).loc main_arg1)) Facts₀.shapeCasts_S1_S_ y : BitVec 32) = cntW (pfM m) := by
    intro y
    obtain rfl : c = 0 := Subsingleton.elim _ _
    show m ((0 : Dev nD), Proc.devRef .tc main_arg1) _ = m ((0 : Dev nD), Proc.devRef .tc main_arg1) _
    refine congrArg (m ((0 : Dev nD), Proc.devRef .tc main_arg1)) (funext fun a => Fin.ext ?_)
    match a with
    | ⟨0, h0⟩ =>
      have : ∀ k : S1.Idx, (k ⟨0, h0⟩).val = 0 := fun k => by have hk : (k ⟨0, h0⟩).val < 1 := (k ⟨0, h0⟩).isLt; omega
      exact (this _).trans (this _).symm
  have hc : (cmpi .slt (iotaInDim S65536x1024 32 0) (broadcastInDim S65536x1024 ![] Facts₀.bcast_S_S65536x1024
      (muli (shapeCast S_ (m ((c : Thread nD τ).loc main_arg1)) Facts₀.shapeCasts_S1_S_) (constantI S_ 32 1024#32))) : IVec S65536x1024 1) (ix2 r (⟨q.val * 512 + l.val, by omega⟩ : Fin 1024))
      = IntOp.cmpi .slt (BitVec.ofNat 32 r.val) (IntOp.muli (cntW (pfM m)) 1024#32) := by
    show IntOp.cmpi .slt (BitVec.ofNat 32 r.val) (IntOp.muli (shapeCast S_ (m ((c : Thread nD τ).loc main_arg1)) Facts₀.shapeCasts_S1_S_ _) 1024#32) = _
    rw [hw]
  show (if _ = 1#1 then _ else _) = _
  rw [hc]
  have hlive := live_iff (cntW (pfM m)) h64 r
  by_cases hl : r.val / 1024 < (cntW (pfM m)).toNat
  · refine (if_pos (hlive.mpr hl)).trans (Eq.trans ?_ (if_pos hl).symm)
    obtain ⟨q', hq⟩ : ∃ q' : Fin 2, q'.val = 1 - q.val := ⟨⟨1 - q.val, by omega⟩, rfl⟩
    have ha := arr_row m c h r hl q q' hq l
    refine (shapeCast_apply _ Facts₀.shapeCasts_S65536x2x512_S65536x1024 _ (ix3 r q l : S65536x2x512.Idx) ?_).trans ?_
    · rw [Shape.rowMajor_val_three, Shape.rowMajor_val_two]
      show (r.val * 2 + q.val) * 512 + l.val = r.val * 1024 + (q.val * 512 + l.val)
      omega
    refine (Host.reverse_apply _ _ _).trans ?_
    refine Eq.trans (congrArg _ (a₂ := (ix3 r q' l : S65536x2x512.Idx)) (funext fun a => Fin.ext ?_)) ?_
    · match a with
      | ⟨0, _⟩ => rfl
      | ⟨1, _⟩ => show 2 - (q.val + 1) = q'.val; omega
      | ⟨2, _⟩ => rfl
    refine (shapeCast_apply _ Facts₀.shapeCasts_S131072x512_S65536x2x512 _ (ix2 (⟨2 * r.val + q'.val, by omega⟩ : Fin 131072) l : S131072x512.Idx) ?_).trans ha
    rw [Shape.rowMajor_val_three, Shape.rowMajor_val_two]
    show (2 * r.val + q'.val) * 512 + l.val = (r.val * 2 + q'.val) * 512 + l.val
    omega
  · refine (if_neg (fun e => hl (hlive.mp e))).trans (Eq.trans ?_ (if_neg hl).symm)
    exact Ideal.ofBits_zero_f32

end Rows

end Cert.Proof.Experts

end
-- ==== Proof.ExpertsRef.lean ====
/-
  The experts' reference, read at an index.
-/
module

public import proofs.«01_k».proof.Proof.ExpertsSpec
public import proofs.«01_k».proof.Proof.Gen.Reference2Ideal.Read
public import Idealize.ShloMosaic.Lib.IdealHost
public import Idealize.ShloMosaic.Lib.TwoAxisContraction

@[expose] public section

set_option maxRecDepth 16384

noncomputable section

namespace Cert.Reference2Ideal.Read

open Cert.Reference2Ideal Cert.Reference2Ideal.Gen
open Idealize.ShloMosaic Idealize.ShloMosaic.TcCoe Idealize.ShloMosaic.ValueIdx
open Cert.Moe
open scoped BigOperators

variable (x0 : (⟨S64, .i32⟩ : BufTy).Contents (Elt Ideal)) (x1 : (⟨S1, .i32⟩ : BufTy).Contents (Elt Ideal)) (x2 : (⟨S65536x1024, .f32⟩ : BufTy).Contents (Elt Ideal))
  (x3 x4 : (⟨S2x32x1024x256, .f32⟩ : BufTy).Contents (Elt Ideal)) (x5 : (⟨S2x32x256x1024, .f32⟩ : BufTy).Contents (Elt Ideal))

/-- A gate or up weight of the first layer. -/
theorem weights13 (e : Fin 32) (d : Fin 1024) (f : Fin 256) :
    val_main_v13 (F := Ideal) x3 (ix3 e d f : S32x1024x256.Idx) = x3 (ix4 (0 : Fin 2) e d f : S2x32x1024x256.Idx) := by
  rw [val_main_v13_apply, val_main_v12_apply]
  refine congrArg x3 (funext fun a => Fin.ext ?_)
  match a with
  | ⟨0, _⟩ => rfl
  | ⟨1, _⟩ => show ((e.val * 1024 + d.val) * 256 + f.val) / 262144 % 32 = e.val; omega
  | ⟨2, _⟩ => show ((e.val * 1024 + d.val) * 256 + f.val) / 256 % 1024 = d.val; omega
  | ⟨3, _⟩ => show ((e.val * 1024 + d.val) * 256 + f.val) % 256 = f.val; omega

/-- A down weight of the first layer. -/
theorem weights24 (e : Fin 32) (f : Fin 256) (j : Fin 1024) :
    val_main_v24 (F := Ideal) x5 (ix3 e f j : S32x256x1024.Idx) = x5 (ix4 (0 : Fin 2) e f j : S2x32x256x1024.Idx) := by
  rw [val_main_v24_apply, val_main_v23_apply]
  refine congrArg x5 (funext fun a => Fin.ext ?_)
  match a with
  | ⟨0, _⟩ => rfl
  | ⟨1, _⟩ => show ((e.val * 256 + f.val) * 1024 + j.val) / 262144 % 32 = e.val; omega
  | ⟨2, _⟩ => show ((e.val * 256 + f.val) * 1024 + j.val) / 1024 % 256 = f.val; omega
  | ⟨3, _⟩ => show ((e.val * 256 + f.val) * 1024 + j.val) % 1024 = j.val; omega

/-- A row against an expert's gate weights. -/
theorem gate14 (r : Fin 65536) (e : Fin 32) (f : Fin 256) :
    val_main_v14 (F := Ideal) x2 x3 (ix3 r e f : S65536x32x256.Idx)
      = lin (fun d => x2 (ix2 r d : S65536x1024.Idx)) (fun d f => x3 (ix4 (0 : Fin 2) e d f : S2x32x1024x256.Idx)) f := by
  rw [val_main_v14_apply]
  refine Finset.sum_congr rfl fun d _ => congrArg₂ (fun a b : EReal => a * b) (congrArg x2 ?_) ((congrArg _ ?_).trans (weights13 x3 e d f))
  · funext a
    match a with | ⟨0, _⟩ => rfl | ⟨1, _⟩ => rfl
  · funext a
    match a with | ⟨0, _⟩ => rfl | ⟨1, _⟩ => rfl | ⟨2, _⟩ => rfl

/-- A row against an expert's up weights. -/
theorem up17 (r : Fin 65536) (e : Fin 32) (f : Fin 256) :
    val_main_v17 (F := Ideal) x2 x4 (ix3 r e f : S65536x32x256.Idx)
      = lin (fun d => x2 (ix2 r d : S65536x1024.Idx)) (fun d f => x4 (ix4 (0 : Fin 2) e d f : S2x32x1024x256.Idx)) f :=
  gate14 x2 x4 r e f

/-- The gated hidden values of every expert. -/
theorem hid19 (r : Fin 65536) (e : Fin 32) (f : Fin 256) :
    val_main_v19 (F := Ideal) x2 x3 x4 (ix3 r e f : S65536x32x256.Idx)
      = rowHid (fun d => x2 (ix2 r d : S65536x1024.Idx)) (fun d f => x3 (ix4 (0 : Fin 2) e d f : S2x32x1024x256.Idx))
          (fun d f => x4 (ix4 (0 : Fin 2) e d f : S2x32x1024x256.Idx)) f := by
  rw [val_main_v19_apply, up17, val_main_v18_apply, gate14, val_main_call1_v5_apply, val_main_call1_v4_apply, val_main_call1_v3_apply, val_main_call1_v2_apply]
  unfold rowHid
  have h1 : (val_main_call1_cst (F := Ideal) (idx_main_call1_v2 (ix3 r e f : S65536x32x256.Idx)) : EReal) = 1 := Ideal.ofBits_one_f32
  have h2 : (val_main_call1_cst_0 (F := Ideal) (idx_main_call1_v4 (ix3 r e f : S65536x32x256.Idx)) : EReal) = 1 := Ideal.ofBits_one_f32
  have h3 : val_main_call1_v1 (F := Ideal) x2 x3 (ix3 r e f : S65536x32x256.Idx) = Ideal.exp (-(val_main_v14 (F := Ideal) x2 x3 (ix3 r e f : S65536x32x256.Idx))) := rfl
  rw [h1, h2, h3, gate14]
  rfl

/-- The word naming a row's expert. -/
theorem word1 (r : Fin 65536) : val_main_v1 (F := Ideal) x0 (ix1 r : S65536.Idx) = x0 (ix1 (⟨r.val / 1024, by omega⟩ : Fin 64) : S64.Idx) := by
  rw [val_main_v1_apply, val_main_v0_apply]
  refine congrArg x0 (funext fun a => ?_)
  match a with | ⟨0, _⟩ => rfl

/-- A one-bit word as a number. -/
theorem bit_value (b : BitVec 1) : (FloatOps.uitofp .f32 b : Ideal .f32) = (if b = 1#1 then (1 : EReal) else 0) := by
  have h : b = 0#1 ∨ b = 1#1 := by revert b; decide
  rcases h with rfl | rfl
  · rw [if_neg (by decide)]
    show (((0#1 : BitVec 1).toNat : ℝ) : EReal) = 0
    simp
  · rw [if_pos rfl]
    show (((1#1 : BitVec 1).toNat : ℝ) : EReal) = 1
    simp

/-- A row's weight at an expert: one where the expert is the row's own and the row is in use, else zero. -/
theorem combine11 (hx0 : ∀ t : S64.Idx, (x0 t).toNat < 32) (hx1 : ∀ j : S1.Idx, (x1 j).toNat ≤ 64) (r : Fin 65536) (e : Fin 32) :
    val_main_v11 (F := Ideal) x0 x1 (ix2 r e : S65536x32.Idx)
      = (if (x0 (ix1 (⟨r.val / 1024, by omega⟩ : Fin 64) : S64.Idx)).toNat = e.val then (1 : EReal) else 0)
        * (if r.val / 1024 < (x1 (ix1 (0 : Fin 1) : S1.Idx)).toNat then (1 : EReal) else 0) := by
  rw [val_main_v11_apply, val_main_v7_apply, val_main_v10_apply, val_main_v9_apply, bit_value, bit_value]
  refine congrArg₂ (fun a b : EReal => a * b) (if_congr ?_ rfl rfl) (if_congr ?_ rfl rfl)
  · rw [val_main_call0_v4_apply, val_main_call0_v2_apply, val_main_call0_v0_apply, val_main_call0_v3_apply, val_main_call0_v1_apply]
    have h1 : val_main_v1 (F := Ideal) x0 (idx_main_call0_v0 (idx_main_call0_v2 (ix2 r e : S65536x32.Idx))) = x0 (ix1 (⟨r.val / 1024, by omega⟩ : Fin 64) : S64.Idx) := by
      refine Eq.trans (congrArg _ (funext fun a => ?_)) (word1 x0 r)
      match a with | ⟨0, _⟩ => rfl
    rw [h1, IntOp.cmpi_eq]
    have hw := hx0 (ix1 (⟨r.val / 1024, by omega⟩ : Fin 64) : S64.Idx)
    generalize x0 (ix1 (⟨r.val / 1024, by omega⟩ : Fin 64) : S64.Idx) = w at hw ⊢
    show w = BitVec.ofNat 32 e.val ↔ _
    constructor
    · intro h; rw [h, BitVec.toNat_ofNat]; omega
    · intro h; apply BitVec.eq_of_toNat_eq; rw [BitVec.toNat_ofNat, h]; omega
  · rw [val_main_v8_apply, val_main_v6_apply, val_main_v2_apply, val_main_v5_apply, val_main_v4_apply]
    have h3 : val_main_v3 (F := Ideal) x1 (idx_main_v5 (idx_main_v8 (idx_main_v10 (ix2 r e : S65536x32.Idx)))) = x1 (ix1 (0 : Fin 1) : S1.Idx) := by
      unfold val_main_v3
      refine congrArg x1 (funext fun a => Fin.ext ?_)
      match a with
      | ⟨0, h⟩ =>
        have : ∀ k : S1.Idx, (k ⟨0, h⟩).val = 0 := fun k => by have hk : (k ⟨0, h⟩).val < 1 := (k ⟨0, h⟩).isLt; omega
        rw [this, this]
    rw [h3]
    exact live_iff _ (hx1 _) r

/-- The hidden values, those of other experts and of rows not in use zeroed. -/
theorem hid22 (r : Fin 65536) (e : Fin 32) (f : Fin 256) :
    val_main_v22 (F := Ideal) x0 x1 x2 x3 x4 (ix3 r e f : S65536x32x256.Idx)
      = rowHid (fun d => x2 (ix2 r d : S65536x1024.Idx)) (fun d f => x3 (ix4 (0 : Fin 2) e d f : S2x32x1024x256.Idx))
          (fun d f => x4 (ix4 (0 : Fin 2) e d f : S2x32x1024x256.Idx)) f * val_main_v11 (F := Ideal) x0 x1 (ix2 r e : S65536x32.Idx) := by
  rw [val_main_v22_apply, hid19, val_main_v21_apply, val_main_v20_apply]
  refine congrArg (fun z : EReal => _ * z) (congrArg (val_main_v11 (F := Ideal) x0 x1) (funext fun a => ?_))
  match a with | ⟨0, _⟩ => rfl | ⟨1, _⟩ => rfl

/-- The result as a sum over the experts and their hidden values. -/
theorem sum25 (r : Fin 65536) (j : Fin 1024) :
    val_main_v25 (F := Ideal) x0 x1 x2 x3 x4 x5 (ix2 r j : S65536x1024.Idx)
      = ∑ e : Fin 32, ∑ f : Fin 256, val_main_v22 (F := Ideal) x0 x1 x2 x3 x4 (ix3 r e f : S65536x32x256.Idx) * x5 (ix4 (0 : Fin 2) e f j : S2x32x256x1024.Idx) := by
  unfold val_main_v25
  generalize val_main_v22 (F := Ideal) x0 x1 x2 x3 x4 = y
  simp only [Host.dotGeneral]
  rw [Ideal.dotGeneral_apply, sum_contr2 dot_S65536x32x256_S32x256x1024_S65536x1024_12_01_0_2_n_n 32 256 rfl rfl rfl]
  refine Finset.sum_congr rfl fun e _ => Finset.sum_congr rfl fun f _ => ?_
  have k0 := contrEquiv2_symm_val0 dot_S65536x32x256_S32x256x1024_S65536x1024_12_01_0_2_n_n 32 256 rfl rfl rfl (e, f)
  have k1 := contrEquiv2_symm_val1 dot_S65536x32x256_S32x256x1024_S65536x1024_12_01_0_2_n_n 32 256 rfl rfl rfl (e, f)
  refine congrArg₂ (fun a b : EReal => a * b) (congrArg y ?_) ((congrArg (val_main_v24 (F := Ideal) x5) ?_).trans (weights24 x5 e f j))
  · funext a
    apply Fin.ext
    match a with
    | ⟨0, _⟩ => rfl
    | ⟨1, _⟩ => exact k0
    | ⟨2, _⟩ => exact k1
  · funext a
    apply Fin.ext
    match a with
    | ⟨0, _⟩ => exact k0
    | ⟨1, _⟩ => exact k1
    | ⟨2, _⟩ => rfl

/-- The result at a row in use is its own expert's output row; the other rows are zero. -/
theorem result26 (hx0 : ∀ t : S64.Idx, (x0 t).toNat < 32) (hx1 : ∀ j : S1.Idx, (x1 j).toNat ≤ 64) (r : Fin 65536) (j : Fin 1024) (e : Fin 32)
    (he : (x0 (ix1 (⟨r.val / 1024, by omega⟩ : Fin 64) : S64.Idx)).toNat = e.val) :
    val_main_v26 (F := Ideal) x0 x1 x2 x3 x4 x5 (ix2 r j : S65536x1024.Idx)
      = if r.val / 1024 < (x1 (ix1 (0 : Fin 1) : S1.Idx)).toNat then
          rowOut (fun d => x2 (ix2 r d : S65536x1024.Idx)) (fun d f => x3 (ix4 (0 : Fin 2) e d f : S2x32x1024x256.Idx))
            (fun d f => x4 (ix4 (0 : Fin 2) e d f : S2x32x1024x256.Idx)) (fun f j => x5 (ix4 (0 : Fin 2) e f j : S2x32x256x1024.Idx)) j
        else 0 := by
  rw [val_main_v26_apply]
  show val_main_v25 (F := Ideal) x0 x1 x2 x3 x4 x5 (ix2 r j : S65536x1024.Idx) = _
  rw [sum25]
  simp only [hid22, combine11 x0 x1 hx0 hx1, he]
  by_cases hl : r.val / 1024 < (x1 (ix1 (0 : Fin 1) : S1.Idx)).toNat
  · simp only [if_pos hl]
    rw [Finset.sum_eq_single e]
    · refine Finset.sum_congr rfl fun f _ => ?_
      rw [if_pos rfl, mul_one, mul_one]
    · intro e' _ hne
      refine Finset.sum_eq_zero fun f _ => ?_
      rw [if_neg (fun h => hne (Fin.ext h.symm)), zero_mul, mul_zero, zero_mul]
    · intro h; exact absurd (Finset.mem_univ _) h
  · simp only [if_neg hl]
    refine Finset.sum_eq_zero fun e' _ => Finset.sum_eq_zero fun f _ => ?_
    rw [mul_zero, mul_zero, zero_mul]

end Cert.Reference2Ideal.Read

end
-- ==== Proof.ExpertsAlgebraic.lean ====
/-
  The idealized experts call and its reference leave the same array.
-/
module

public import proofs.«01_k».proof.Proof.ExpertsClaims
public import proofs.«01_k».proof.Proof.ExpertsResult
public import proofs.«01_k».proof.Proof.ExpertsRef

@[expose] public section

set_option maxRecDepth 16384

noncomputable section

namespace Cert.Proof

open Idealize.ShloMosaic hiding ix1 ix2 ix3 ix4
open Idealize.ShloMosaic.ValueIdx
open Idealize.ShloMosaic.TcCoe Idealize.SL.Sem

/-- The result's buffer is no window's array. -/
theorem out_rest : Cert.Kernel2Ideal.main_v16 ∈ Pipeline.restRefs Cert.Kernel2Ideal.sig Cert.Kernel2Ideal.spec0 := Pipeline.mem_restRefs_of _ (by decide) (by decide)

/-- The call's result is the reference's, element by element. -/
theorem experts_value (m : (ℓ : Loc Cert.Kernel2Ideal.nD Cert.Kernel2Ideal.τ Cert.Kernel2Ideal.sig) → Buf (Elt Ideal) ℓ)
    (h : Experts.TabOK (Experts.pfM m)) (hx1 : (m ((0 : Dev Cert.Kernel2Ideal.nD).tc.loc Cert.Kernel2Ideal.main_arg1) : Cert.Kernel2Ideal.S1.Idx → BitVec 32) = fun _ => Experts.cntW (Experts.pfM m)) :
    Cert.Reference2Ideal.Read.val_main_v26 (F := Ideal) (m ((0 : Dev Cert.Kernel2Ideal.nD).tc.loc Cert.Kernel2Ideal.main_arg0)) (m ((0 : Dev Cert.Kernel2Ideal.nD).tc.loc Cert.Kernel2Ideal.main_arg1))
        (m ((0 : Dev Cert.Kernel2Ideal.nD).tc.loc Cert.Kernel2Ideal.main_arg2)) (m ((0 : Dev Cert.Kernel2Ideal.nD).tc.loc Cert.Kernel2Ideal.main_arg3))
        (m ((0 : Dev Cert.Kernel2Ideal.nD).tc.loc Cert.Kernel2Ideal.main_arg4)) (m ((0 : Dev Cert.Kernel2Ideal.nD).tc.loc Cert.Kernel2Ideal.main_arg5))
      = Experts.endAt m h 0 Cert.Kernel2Ideal.main_v16 := by
  funext i
  obtain ⟨r, q, l, rfl⟩ : ∃ (r : Fin 65536) (q : Fin 2) (l : Fin 512), i = (ix2 r (⟨q.val * 512 + l.val, by omega⟩ : Fin 1024) : Cert.Kernel2Ideal.S65536x1024.Idx) := by
    have h1 : (i 1).val < 1024 := (i 1).isLt
    refine ⟨i 0, ⟨(i 1).val / 512, by omega⟩, ⟨(i 1).val % 512, by omega⟩, funext fun a => Fin.ext ?_⟩
    match a with
    | ⟨0, _⟩ => rfl
    | ⟨1, _⟩ => show (i 1).val = (i 1).val / 512 * 512 + (i 1).val % 512; omega
  refine Eq.trans ?_ (Experts.end_apply m 0 h r q l).symm
  have h64 : (Experts.cntW (Experts.pfM m)).toNat ≤ 64 := h.cnt.2
  have hr : r.val / 1024 % 64 = r.val / 1024 := by omega
  refine (Cert.Reference2Ideal.Read.result26 _ _ _ _ _ _ (fun t => ?_) (fun j => ?_) r _ (Experts.exW (Experts.pfM m) h (r.val / 1024)) ?_).trans ?_
  · have e : t = ix1 (t 0) := funext fun a => match a with | ⟨0, _⟩ => rfl
    rw [e]; exact h.te (t 0)
  · rw [hx1]; exact h64
  · show _ = (Experts.teW (Experts.pfM m) ⟨r.val / 1024 % 64, _⟩).toNat
    refine congrArg (fun z : Fin 64 => (Experts.teW (Experts.pfM m) z).toNat) (Fin.ext hr.symm)
  · rw [hx1]
    rfl

/-- The idealized experts call and its reference leave the same array. -/
theorem algebraic_experts : Cert.algebraic_Kernel2Ideal_Reference2Ideal (hKernel2Ideal := Cert.Kernel2Ideal.Gen.facts)
    (hReference2Ideal := Cert.Reference2Ideal.Gen.facts) (hPre_planned := Cert.Pre_planned.facts) := by
  intro m ρ m' ρ' hpre hagree
  have h := tables_ideal m hpre
  refine ⟨fun c => Experts.endAt m h c Cert.Kernel2Ideal.main_v16, ?_, ?_⟩
  · refine (θ_run Cert.Kernel2Ideal.defs _ _).mono (fun _ hr c => ?_) (Experts.run_main m ρ h)
    have harg := fun b hb => ((hr.1 c).2 b (Experts.arg_rest b hb)).trans (Experts.end_arg m h c b hb)
    exact ⟨(hr.1 c).2 Cert.Kernel2Ideal.main_v16 out_rest,
      harg _ (by simp), harg _ (by simp), harg _ (by simp), harg _ (by simp), harg _ (by simp), harg _ (by simp)⟩
  · refine (θ_run Cert.Reference2Ideal.defs _ _).mono (fun _ hr c => ?_) (Cert.Reference2Ideal.Value.run (F := Ideal) m' ρ')
    obtain ⟨h26, hargs⟩ := hr c
    obtain ⟨a0, a1, a2, a3, a4, a5⟩ := hagree c
    refine ⟨h26.trans ?_, hargs⟩
    obtain rfl : c = (0 : Dev Cert.Kernel2Ideal.nD) := Subsingleton.elim _ _
    rw [Cert.Reference2Ideal.Read.val_main_v26_eq, a0, a1, a2, a3, a4, a5]
    refine experts_value m h (funext fun j => congrArg (m ((0 : Dev Cert.Kernel2Ideal.nD).tc.loc Cert.Kernel2Ideal.main_arg1)) (funext fun a => Fin.ext ?_))
    match a with
    | ⟨0, h0⟩ =>
      have : ∀ k : Cert.Kernel2Ideal.S1.Idx, (k ⟨0, h0⟩).val = 0 := fun k => by have hk : (k ⟨0, h0⟩).val < 1 := (k ⟨0, h0⟩).isLt; omega
      exact (this _).trans (this _).symm

end Cert.Proof

end
-- ==== Proof.CombineBlock.lean ====
/-
  The call that puts the experts' rows together, at the idealized program: what its body leaves of one tile, element by element.
-/
module

public import proofs.«01_k».proof.Proof.Gen.Kernel3Ideal.Frame
public import Idealize.ShloMosaic.Lib.IdealHost
public import Idealize.ShloMosaic.Lib.ValueLayout
public import Idealize.ShloMosaic.Lib.Pipeline.ValueKit
public import Idealize.ShloMosaic.Lib.Pointwise.ShapeOpsCore
public import Idealize.ShloMosaic.Lib.Bf16PairInverse

@[expose] public section

set_option maxRecDepth 16384

noncomputable section

namespace Cert.Kernel3Ideal.Gen

open Idealize.ShloMosaic hiding ix1 ix2 ix3 ix4
open Idealize.ShloMosaic.TcCoe Idealize.ShloMosaic.Tactic Idealize.ShloMosaic.ValueIdx
open Idealize.ShloMosaic.Pipeline (Dat Cfg Window cellOf)
open scoped BigOperators

/-- One element of the residual stream after the experts: the gate times the two experts' rows, each at its weight. -/
def mixed (x g w0 w1 y0 y1 : EReal) : EReal := x + g * (w0 * y0 + w1 * y1)

/-- A row of weights, as the body lays it out over the table's rows. -/
def spread (v : Vec Ideal S1x1024 .f32) : Vec Ideal S128x1024 .f32 :=
  broadcastTo S128x1024 (shapeCast S1x1024 (shapeCast S1x1024 v shapeCasts_S1x1024_S1x1024) shapeCasts_S1x1024_S1x1024) broadcasts_S1x1024_S128x1024

/-- Every row of that layout is the row of weights. -/
theorem spread_apply (v : Vec Ideal S1x1024 .f32) (k : Fin 128) (p : Fin 1024) : spread v (ix2 k p : S128x1024.Idx) = v (ix2 (0 : Fin 1) p : S1x1024.Idx) := by
  unfold spread
  refine (broadcastTo_1b_ab_apply _ _ k p).trans ?_
  rw [shapeCast_self, shapeCast_self]

/-- The table of weights at a row: the first weights at row zero, the second at row one. -/
theorem table_apply (v3 v7 : Vec Ideal S1x1024 .f32) (p : Fin 1024) (k : Fin 128) :
    k0_pay2 (F := Ideal) v3 v7 (ix2 p k : S1024x128.Idx)
      = if IntOp.cmpi .eq (iota Kind.tc S128x1024 32 [0] iota_S128x1024_d0_w32 (ix2 k p : S128x1024.Idx)) 0#32 = 1#1 then spread v3 (ix2 k p : S128x1024.Idx)
        else if IntOp.cmpi .eq (iota Kind.tc S128x1024 32 [0] iota_S128x1024_d0_w32 (ix2 k p : S128x1024.Idx)) 1#32 = 1#1 then spread v7 (ix2 k p : S128x1024.Idx)
        else (FloatOps.ofBits .f32 0#32 : Ideal .f32) := by
  unfold k0_pay2
  exact (transpose_ix2_apply _ _ p k).trans rfl

/-- The table of weights, turned: its first column is the first row of weights. -/
theorem weights_zero (v3 v7 : Vec Ideal S1x1024 .f32) (p : Fin 1024) :
    k0_pay2 (F := Ideal) v3 v7 (ix2 p (0 : Fin 128) : S1024x128.Idx) = v3 (ix2 (0 : Fin 1) p : S1x1024.Idx) := by
  have e : iota Kind.tc S128x1024 32 [0] iota_S128x1024_d0_w32 (ix2 (0 : Fin 128) p : S128x1024.Idx) = 0#32 := rfl
  rw [table_apply, e, if_pos (by decide)]
  exact spread_apply v3 0 p

/-- Its second column is the second row. -/
theorem weights_one (v3 v7 : Vec Ideal S1x1024 .f32) (p : Fin 1024) :
    k0_pay2 (F := Ideal) v3 v7 (ix2 p (1 : Fin 128) : S1024x128.Idx) = v7 (ix2 (0 : Fin 1) p : S1x1024.Idx) := by
  have e : iota Kind.tc S128x1024 32 [0] iota_S128x1024_d0_w32 (ix2 (1 : Fin 128) p : S128x1024.Idx) = 1#32 := rfl
  rw [table_apply, e, if_neg (by decide), if_pos (by decide)]
  exact spread_apply v7 1 p

/-- The first column alone, spread over the lanes. -/
theorem first_weight (v3 v7 : Vec Ideal S1x1024 .f32) (p : Fin 1024) (l : Fin 512) :
    broadcastTo S1024x512 (k0_pay3 (F := Ideal) v3 v7) broadcasts_S1024x1_S1024x512 (ix2 p l : S1024x512.Idx) = v3 (ix2 (0 : Fin 1) p : S1x1024.Idx) := by
  refine (broadcastTo_apply _ _ _ (ix2 p (0 : Fin 1) : S1024x1.Idx) (fun a => ?_)).trans ?_
  · match a with
    | ⟨0, _⟩ => rfl
    | ⟨1, _⟩ => rfl
  unfold k0_pay3
  refine (extractStridedSlice_apply ![0, 0] _ slices_S1024x128_o0_0_S1024x1 _ (ix2 p (0 : Fin 128) : S1024x128.Idx) fun a => ?_).trans (weights_zero v3 v7 p)
  match a with
  | ⟨0, _⟩ => show p.val = 0 + p.val; omega
  | ⟨1, _⟩ => rfl

/-- The second column alone, spread over the lanes. -/
theorem second_weight (v3 v7 : Vec Ideal S1x1024 .f32) (p : Fin 1024) (l : Fin 512) :
    broadcastTo S1024x512 (k0_pay4 (F := Ideal) v3 v7) broadcasts_S1024x1_S1024x512 (ix2 p l : S1024x512.Idx) = v7 (ix2 (0 : Fin 1) p : S1x1024.Idx) := by
  refine (broadcastTo_apply _ _ _ (ix2 p (0 : Fin 1) : S1024x1.Idx) (fun a => ?_)).trans ?_
  · match a with
    | ⟨0, _⟩ => rfl
    | ⟨1, _⟩ => rfl
  unfold k0_pay4
  refine (extractStridedSlice_apply ![0, 1] _ slices_S1024x128_o0_1_S1024x1 _ (ix2 p (1 : Fin 128) : S1024x128.Idx) fun a => ?_).trans (weights_one v3 v7 p)
  match a with
  | ⟨0, _⟩ => show p.val = 0 + p.val; omega
  | ⟨1, _⟩ => rfl

/-- The rows of one parity among the pairs, widened. -/
theorem parity_apply (q : Fin 2) (raw : Vec Ideal S2048x512 .bf16) (p : Fin 1024) (l : Fin 512) :
    (extf .f32 (rowsOfParity q S1024x512 raw bitcasts_S2048x512_w16_S1024x512_w32 : FVec Ideal S1024x512 .bf16) bitsLt_bf16_f32 : FVec Ideal S1024x512 .f32) (ix2 p l : S1024x512.Idx)
      = raw (ix2 (⟨2 * p.val + q.val, by omega⟩ : Fin 2048) l : S2048x512.Idx) := by
  refine (rowsOfParity_apply q raw bitcasts_S2048x512_w16_S1024x512_w32 (ix2 p l : S1024x512.Idx)).trans (congrArg raw (funext fun a => Fin.ext ?_))
  match a with
  | ⟨0, _⟩ => rfl
  | ⟨1, _⟩ => rfl

/-- What the body leaves of one tile, element by element: a half of a row is one parity of the experts' pairs. -/
theorem out_apply (x0 x1 : Vec Ideal S2048x512 .bf16) (x2 : Vec Ideal S1024x1024 .f32) (x3 : Vec Ideal S2x1024 .f32) (x4 : Vec Ideal S1x6x1024 .f32)
    (p : Fin 1024) (q q' : Fin 2) (hq : q'.val = 1 - q.val) (l : Fin 512) :
    out0_5 (F := Ideal) x0 x1 x2 x3 x4 (ix2 p (⟨q.val * 512 + l.val, by omega⟩ : Fin 1024) : S1024x1024.Idx)
      = mixed (x2 (ix2 p (⟨q.val * 512 + l.val, by omega⟩ : Fin 1024) : S1024x1024.Idx)) (x4 (ix3 (0 : Fin 1) (5 : Fin 6) (⟨q.val * 512 + l.val, by omega⟩ : Fin 1024) : S1x6x1024.Idx))
          (x3 (ix2 (0 : Fin 2) p : S2x1024.Idx)) (x3 (ix2 (1 : Fin 2) p : S2x1024.Idx))
          (x0 (ix2 (⟨2 * p.val + q'.val, by omega⟩ : Fin 2048) l : S2048x512.Idx)) (x1 (ix2 (⟨2 * p.val + q'.val, by omega⟩ : Fin 2048) l : S2048x512.Idx)) := by
  unfold out0_5
  rw [View.canon_unit_zero (S := S1024x1024) (by decide)]
  rw [show View.ld x2 r0_3 = x2 from View.ld_unit_zero (S := S1024x1024) (by decide) _ _]
  rw [show View.ld x0 r0_2 = x0 from View.ld_unit_zero (S := S2048x512) (by decide) _ _]
  rw [show View.ld x1 r0_2 = x1 from View.ld_unit_zero (S := S2048x512) (by decide) _ _]
  have hw0 : (View.ld x3 r0_0 : Vec Ideal S1x1024 .f32) (ix2 (0 : Fin 1) p : S1x1024.Idx) = x3 (ix2 (0 : Fin 2) p : S2x1024.Idx) :=
    View.ld_unit_apply_of _ _ _ _ _ _ fun a => match a with
      | ⟨0, _⟩ => rfl
      | ⟨1, _⟩ => by show p.val = 0 + p.val; omega
  have hw1 : (View.ld x3 r0_1 : Vec Ideal S1x1024 .f32) (ix2 (0 : Fin 1) p : S1x1024.Idx) = x3 (ix2 (1 : Fin 2) p : S2x1024.Idx) :=
    View.ld_unit_apply_of _ _ _ _ _ _ fun a => match a with
      | ⟨0, _⟩ => rfl
      | ⟨1, _⟩ => by show p.val = 0 + p.val; omega
  have hg : ∀ j : Fin 1024, (View.ld x4 r0_4 : Vec Ideal S1x1x1024 .f32) (ix3 (0 : Fin 1) (0 : Fin 1) j : S1x1x1024.Idx) = x4 (ix3 (0 : Fin 1) (5 : Fin 6) j : S1x6x1024.Idx) :=
    fun j => View.ld_unit_apply_of _ _ _ _ _ _ fun a => match a with
      | ⟨0, _⟩ => rfl
      | ⟨1, _⟩ => rfl
      | ⟨2, _⟩ => by show j.val = 0 + j.val; omega
  generalize (View.ld x3 r0_0 : Vec Ideal S1x1024 .f32) = w0 at hw0 ⊢
  generalize (View.ld x3 r0_1 : Vec Ideal S1x1024 .f32) = w1 at hw1 ⊢
  generalize (View.ld x4 r0_4 : Vec Ideal S1x1x1024 .f32) = g at hg ⊢
  rw [← hw0, ← hw1, ← hg]
  unfold k0_pay1 mixed
  refine congrArg₂ (fun a b : EReal => _ + a * b) ?_ ?_
  · refine (broadcastTo_1b_ab_apply _ _ p _).trans (shapeCast_apply _ shapeCasts_S1x1x1024_S1x1024 _ _ ?_)
    rw [Shape.rowMajor_val_three, Shape.rowMajor_val_two]
    rfl
  match q, q', hq with
  | ⟨0, _⟩, ⟨1, _⟩, _ =>
    refine (concatenate_pair_apply_left (s₁ := S1024x512) (s₂ := S1024x512) (1 : Fin S1024x1024.rank) _ _ concatenates_S1024x512_S1024x512_S1024x1024_d1 _ rfl (ix2 p l : S1024x512.Idx)
      (fun a => match a with | ⟨0, _⟩ => rfl | ⟨1, _⟩ => by show l.val = 0 * 512 + l.val; omega)).trans ?_
    unfold k0_pay6
    refine congrArg₂ (fun a b : EReal => a + b) (congrArg₂ (fun a b : EReal => a * b) ?_ ?_) (congrArg₂ (fun a b : EReal => a * b) ?_ ?_)
    · exact first_weight w0 w1 p l
    · exact parity_apply 1 x0 p l
    · exact second_weight w0 w1 p l
    · exact parity_apply 1 x1 p l
  | ⟨1, _⟩, ⟨0, _⟩, _ =>
    refine (concatenate_pair_apply_right (s₁ := S1024x512) (s₂ := S1024x512) (1 : Fin S1024x1024.rank) _ _ concatenates_S1024x512_S1024x512_S1024x1024_d1 _ rfl rfl (ix2 p l : S1024x512.Idx)
      (fun a ha => match a with | ⟨0, _⟩ => rfl | ⟨1, _⟩ => absurd rfl ha) (by show l.val + 512 = 1 * 512 + l.val; omega)).trans ?_
    unfold k0_pay5 k0_pay7
    refine congrArg₂ (fun a b : EReal => a + b) (congrArg₂ (fun a b : EReal => a * b) ?_ ?_) (congrArg₂ (fun a b : EReal => a * b) ?_ ?_)
    · exact first_weight w0 w1 p l
    · exact parity_apply 0 x0 p l
    · exact second_weight w0 w1 p l
    · exact parity_apply 0 x1 p l

/-- The two calls have one body. -/
theorem out_same : @out1_5 Ideal _ = @out0_5 Ideal _ := rfl

end Cert.Kernel3Ideal.Gen

end
-- ==== Proof.CombineArrays.lean ====
/-
  The call that puts the experts' rows together, at the idealized program: what its arrays hold at each region, and what each window reads.
-/
module

public import proofs.«01_k».proof.Proof.CombineBlock

@[expose] public section

set_option maxRecDepth 16384

noncomputable section

namespace Cert.Kernel3Ideal.Gen

open Idealize.ShloMosaic hiding ix1 ix2 ix3 ix4
open Idealize.ShloMosaic.TcCoe Idealize.ShloMosaic.Tactic Idealize.ShloMosaic.ValueIdx
open Idealize.ShloMosaic.Pipeline (Dat Cfg Window cellOf)

variable (m : (ℓ : Loc nD τ sig) → Buf (Elt Ideal) ℓ) (ρ : Dev nD → PrngReg) (c : Dev nD)

/-- The experts' rows as the call takes them: each row's second half before its first. -/
def halves (y : Vec Ideal S2x8192x1024 .f32) : Vec Ideal S32768x512 .bf16 :=
  shapeCast S32768x512 (Host.reverse [1] (shapeCast S16384x2x512 (truncf .bf16 y bitsLt_bf16_f32 : FVec Ideal S2x8192x1024 .bf16) shapeCasts_S2x8192x1024_S16384x2x512))
    shapeCasts_S16384x2x512_S32768x512

/-- A half row among them. -/
theorem halves_apply (y : Vec Ideal S2x8192x1024 .f32) (k : Fin 2) (s : Fin 8192) (q q' : Fin 2) (hq : q'.val = 1 - q.val) (l : Fin 512) :
    halves y (ix2 (⟨2 * (8192 * k.val + s.val) + q'.val, by omega⟩ : Fin 32768) l : S32768x512.Idx)
      = y (ix3 k s (⟨q.val * 512 + l.val, by omega⟩ : Fin 1024) : S2x8192x1024.Idx) := by
  unfold halves
  refine (shapeCast_apply _ shapeCasts_S16384x2x512_S32768x512 _ (ix3 (⟨8192 * k.val + s.val, by omega⟩ : Fin 16384) q' l : S16384x2x512.Idx) ?_).trans ?_
  · rw [Shape.rowMajor_val_three, Shape.rowMajor_val_two]
    show ((8192 * k.val + s.val) * 2 + q'.val) * 512 + l.val = (2 * (8192 * k.val + s.val) + q'.val) * 512 + l.val
    omega
  refine (Host.reverse_apply _ _ _).trans ?_
  refine Eq.trans (congrArg _ (a₂ := (ix3 (⟨8192 * k.val + s.val, by omega⟩ : Fin 16384) q l : S16384x2x512.Idx)) (funext fun a => Fin.ext ?_)) ?_
  · match a with
    | ⟨0, _⟩ => rfl
    | ⟨1, _⟩ => show 2 - (q'.val + 1) = q.val; omega
    | ⟨2, _⟩ => rfl
  refine (shapeCast_apply _ shapeCasts_S2x8192x1024_S16384x2x512 _ (ix3 k s (⟨q.val * 512 + l.val, by omega⟩ : Fin 1024) : S2x8192x1024.Idx) ?_).trans ?_
  · rw [Shape.rowMajor_val_three, Shape.rowMajor_val_three]
    show (k.val * 8192 + s.val) * 1024 + (q.val * 512 + l.val) = ((8192 * k.val + s.val) * 2 + q.val) * 512 + l.val
    omega
  rfl

/-- The modulation rows as the call takes them: the prompt's, then the samples', then rows of zeros. -/
def modRows (x4 : Vec Ideal S1x6144 .f32) (x5 : Vec Ideal S8x6144 .f32) : Vec Ideal S16x6x1024 .f32 :=
  shapeCast S16x6x1024 (concatenate S16x6144 0 [⟨S1x6144, x4⟩, ⟨S8x6144, x5⟩, ⟨S7x6144, broadcastInDim S7x6144 ![] bcast_S_S7x6144 (constant (F := Ideal) S_ .f32 0x00000000#32)⟩]
    concatenates_S1x6144_S8x6144_S7x6144_S16x6144_d0 : Vec Ideal S16x6144 .f32) shapeCasts_S16x6144_S16x6x1024

/-- The prompt's second gate. -/
theorem modRows_first (x4 : Vec Ideal S1x6144 .f32) (x5 : Vec Ideal S8x6144 .f32) (j : Fin 1024) :
    modRows x4 x5 (ix3 (0 : Fin 16) (5 : Fin 6) j : S16x6x1024.Idx) = x4 (ix2 (0 : Fin 1) (⟨5120 + j.val, by omega⟩ : Fin 6144) : S1x6144.Idx) := by
  unfold modRows
  refine (shapeCast_apply _ shapeCasts_S16x6144_S16x6x1024 _ (ix2 (0 : Fin 16) (⟨5120 + j.val, by omega⟩ : Fin 6144) : S16x6144.Idx) ?_).trans ?_
  · rw [Shape.rowMajor_val_three, Shape.rowMajor_val_two]
    show 0 * 6144 + (5120 + j.val) = (0 * 6 + 5) * 1024 + j.val
    omega
  refine concatenate_apply_piece (0 : Fin S16x6144.rank) _ _ _ 0 (by show 0 < 3; decide) S1x6144 x4 rfl rfl 0 rfl _ (fun b hb => ?_) rfl
  match b with
  | ⟨0, _⟩ => exact absurd rfl hb
  | ⟨1, _⟩ => rfl

/-- A sample's second gate. -/
theorem modRows_later (x4 : Vec Ideal S1x6144 .f32) (x5 : Vec Ideal S8x6144 .f32) (b : Fin 8) (j : Fin 1024) :
    modRows x4 x5 (ix3 (⟨1 + b.val, by omega⟩ : Fin 16) (5 : Fin 6) j : S16x6x1024.Idx) = x5 (ix2 b (⟨5120 + j.val, by omega⟩ : Fin 6144) : S8x6144.Idx) := by
  unfold modRows
  refine (shapeCast_apply _ shapeCasts_S16x6144_S16x6x1024 _ (ix2 (⟨1 + b.val, by omega⟩ : Fin 16) (⟨5120 + j.val, by omega⟩ : Fin 6144) : S16x6144.Idx) ?_).trans ?_
  · rw [Shape.rowMajor_val_three, Shape.rowMajor_val_two]
    show (1 + b.val) * 6144 + (5120 + j.val) = ((1 + b.val) * 6 + 5) * 1024 + j.val
    omega
  refine concatenate_apply_piece (0 : Fin S16x6144.rank) _ _ _ 1 (by show 1 < 3; decide) S8x6144 x5 rfl rfl 1 rfl _ (fun a ha => ?_) rfl
  match a with
  | ⟨0, _⟩ => exact absurd rfl ha
  | ⟨1, _⟩ => rfl

/-! ## What the arrays hold -/

/-- The prompt's experts' rows. -/
theorem V1_v7 : V1 m ρ c main_v7 = halves (m ((c : Thread nD τ).loc main_arg0)) := by
  unfold_abbrev_sides; after_results; rfl

/-- The modulation rows. -/
theorem V1_v2 : V1 m ρ c main_v2 = modRows (m ((c : Thread nD τ).loc main_arg4)) (m ((c : Thread nD τ).loc main_arg5)) := by
  unfold_abbrev_sides; after_results; rfl

/-- The weights, turned. -/
theorem V1_v3 : V1 m ρ c main_v3 = transpose S2x16384 [1, 0] (m ((c : Thread nD τ).loc main_arg3)) transposes_S16384x2_S2x16384_1_0 := by
  unfold_abbrev_sides; after_results

/-- The residual rows. -/
theorem V1_arg2 : V1 m ρ c main_arg2 = m ((c : Thread nD τ).loc main_arg2) := W1_args m ρ c main_arg2 (by decide)

/-- The samples' experts' rows. -/
theorem V3_v12 : V3 m ρ c main_v12 = halves (m ((c : Thread nD τ).loc main_arg1)) := by
  have h : V3 m ρ c main_v12 = halves (W2 m ρ c (Proc.devRef .tc main_arg1)) := by
    unfold_abbrev_sides; after_results; rfl
  rw [h, W2_args m ρ c main_arg1 (by decide)]

/-- The modulation rows, still. -/
theorem V3_v2 : V3 m ρ c main_v2 = modRows (m ((c : Thread nD τ).loc main_arg4)) (m ((c : Thread nD τ).loc main_arg5)) :=
  (W3_of m ρ c main_v2 (by decide)).trans ((W2_of m ρ c main_v2 (by decide)).trans (V1_v2 m ρ c))

/-- The weights, still. -/
theorem V3_v3 : V3 m ρ c main_v3 = transpose S2x16384 [1, 0] (m ((c : Thread nD τ).loc main_arg3)) transposes_S16384x2_S2x16384_1_0 :=
  (W3_of m ρ c main_v3 (by decide)).trans ((W2_of m ρ c main_v3 (by decide)).trans (V1_v3 m ρ c))

/-- The residual rows, still. -/
theorem V3_arg2 : V3 m ρ c main_arg2 = m ((c : Thread nD τ).loc main_arg2) := W3_args m ρ c main_arg2 (by decide)

/-! ## Where the windows look -/

/-- The windows of the prompt's points. -/
theorem index0 : ∀ t : Fin cfg0.N, win0_0.index t = ![t.val, 0] ∧ win0_1.index t = ![8 + t.val, 0] ∧ win0_2.index t = ![t.val, 0]
    ∧ win0_3.index t = ![0, t.val] ∧ win0_4.index t = ![0, 0, 0] ∧ win0_5.index t = ![t.val, 0] :=
  (by decide +kernel : ∀ t : Fin grid0.N, win0_0.index t = ![t.val, 0] ∧ win0_1.index t = ![8 + t.val, 0] ∧ win0_2.index t = ![t.val, 0]
    ∧ win0_3.index t = ![0, t.val] ∧ win0_4.index t = ![0, 0, 0] ∧ win0_5.index t = ![t.val, 0])

/-- The windows of the samples' points. -/
theorem index1 : ∀ t : Fin cfg1.N, win1_0.index t = ![t.val, 0] ∧ win1_1.index t = ![8 + t.val, 0] ∧ win1_2.index t = ![8 + t.val, 0]
    ∧ win1_3.index t = ![0, 8 + t.val] ∧ win1_4.index t = ![1 + t.val, 0, 0] ∧ win1_5.index t = ![t.val, 0] :=
  (by decide +kernel : ∀ t : Fin grid1.N, win1_0.index t = ![t.val, 0] ∧ win1_1.index t = ![8 + t.val, 0] ∧ win1_2.index t = ![8 + t.val, 0]
    ∧ win1_3.index t = ![0, 8 + t.val] ∧ win1_4.index t = ![1 + t.val, 0, 0] ∧ win1_5.index t = ![t.val, 0])

end Cert.Kernel3Ideal.Gen

end
-- ==== Proof.CombineResult.lean ====
/-
  The call that puts the experts' rows together, at the idealized program: its two results, element by element.
-/
module

public import proofs.«01_k».proof.Proof.CombineArrays

@[expose] public section

set_option maxRecDepth 16384

noncomputable section

namespace Cert.Kernel3Ideal.Gen

open Idealize.ShloMosaic hiding ix1 ix2 ix3 ix4
open Idealize.ShloMosaic.TcCoe Idealize.ShloMosaic.Tactic Idealize.ShloMosaic.ValueIdx
open Idealize.ShloMosaic.Pipeline (Dat Cfg Window cellOf)

variable (m : (ℓ : Loc nD τ sig) → Buf (Elt Ideal) ℓ) (ρ : Dev nD → PrngReg) (c : Dev nD)

/-- One batch's rows after the experts: the residual row plus its gate times the two experts' rows at their weights. -/
def combined (b : Fin 2) (x : Vec Ideal S16384x1024 .f32) (g : Fin 8 → Fin 1024 → EReal) (w : Vec Ideal S16384x2 .f32) (y : Vec Ideal S2x8192x1024 .f32)
    (t : Fin 8) (p d : Fin 1024) : EReal :=
  mixed (x (ix2 (⟨8192 * b.val + (1024 * t.val + p.val), by omega⟩ : Fin 16384) d : S16384x1024.Idx)) (g t d)
    (w (ix2 (⟨8192 * b.val + (1024 * t.val + p.val), by omega⟩ : Fin 16384) (0 : Fin 2) : S16384x2.Idx))
    (w (ix2 (⟨8192 * b.val + (1024 * t.val + p.val), by omega⟩ : Fin 16384) (1 : Fin 2) : S16384x2.Idx))
    (y (ix3 (0 : Fin 2) (⟨1024 * t.val + p.val, by omega⟩ : Fin 8192) d : S2x8192x1024.Idx))
    (y (ix3 (1 : Fin 2) (⟨1024 * t.val + p.val, by omega⟩ : Fin 8192) d : S2x8192x1024.Idx))

/-! ## The prompt's blocks -/

section
variable (t : Fin cfg0.N)

/-- The first experts' half rows of a block. -/
theorem blk0_0 (p : Fin 1024) (q q' : Fin 2) (hq : q'.val = 1 - q.val) (l : Fin 512) :
    iblk0 (V1 m ρ) c 0 t (ix2 (⟨2 * p.val + q'.val, by omega⟩ : Fin 2048) l : S2048x512.Idx)
      = m ((c : Thread nD τ).loc main_arg0) (ix3 (0 : Fin 2) (⟨1024 * t.val + p.val, by have : t.val < 8 := t.isLt; omega⟩ : Fin 8192) (⟨q.val * 512 + l.val, by omega⟩ : Fin 1024) : S2x8192x1024.Idx) := by
  have ht : t.val < 8 := t.isLt
  obtain ⟨e0, e1, e2, e3, e4, e5⟩ := index0 t
  refine Eq.trans ?_ (halves_apply (m ((c : Thread nD τ).loc main_arg0)) 0 (⟨1024 * t.val + p.val, by omega⟩ : Fin 8192) q q' hq l)
  rw [← V1_v7 m ρ c]
  show V1 m ρ c main_v7 (((cfg0.win 0).blk t).view.emb _) = _
  blk_ext [iblk0, e0]

/-- The second experts' half rows of a block. -/
theorem blk0_1 (p : Fin 1024) (q q' : Fin 2) (hq : q'.val = 1 - q.val) (l : Fin 512) :
    iblk0 (V1 m ρ) c 1 t (ix2 (⟨2 * p.val + q'.val, by omega⟩ : Fin 2048) l : S2048x512.Idx)
      = m ((c : Thread nD τ).loc main_arg0) (ix3 (1 : Fin 2) (⟨1024 * t.val + p.val, by have : t.val < 8 := t.isLt; omega⟩ : Fin 8192) (⟨q.val * 512 + l.val, by omega⟩ : Fin 1024) : S2x8192x1024.Idx) := by
  have ht : t.val < 8 := t.isLt
  obtain ⟨e0, e1, e2, e3, e4, e5⟩ := index0 t
  refine Eq.trans ?_ (halves_apply (m ((c : Thread nD τ).loc main_arg0)) 1 (⟨1024 * t.val + p.val, by omega⟩ : Fin 8192) q q' hq l)
  rw [← V1_v7 m ρ c]
  show V1 m ρ c main_v7 (((cfg0.win 1).blk t).view.emb _) = _
  blk_ext [iblk0, e1]

/-- The residual rows of a block. -/
theorem blk0_2 (p d : Fin 1024) : iblk0 (V1 m ρ) c 2 t (ix2 p d : S1024x1024.Idx)
    = m ((c : Thread nD τ).loc main_arg2) (ix2 (⟨8192 * 0 + (1024 * t.val + p.val), by have : t.val < 8 := t.isLt; omega⟩ : Fin 16384) d : S16384x1024.Idx) := by
  have ht : t.val < 8 := t.isLt
  obtain ⟨e0, e1, e2, e3, e4, e5⟩ := index0 t
  rw [← V1_arg2 m ρ c]
  show V1 m ρ c main_arg2 (((cfg0.win 2).blk t).view.emb _) = _
  blk_ext [iblk0, e2]
  show t.val * 1024 + p.val = 8192 * 0 + (1024 * t.val + p.val)
  omega

/-- The weights of a block. -/
theorem blk0_3 (k : Fin 2) (p : Fin 1024) : iblk0 (V1 m ρ) c 3 t (ix2 k p : S2x1024.Idx)
    = m ((c : Thread nD τ).loc main_arg3) (ix2 (⟨8192 * 0 + (1024 * t.val + p.val), by have : t.val < 8 := t.isLt; omega⟩ : Fin 16384) k : S16384x2.Idx) := by
  have ht : t.val < 8 := t.isLt
  obtain ⟨e0, e1, e2, e3, e4, e5⟩ := index0 t
  refine Eq.trans ?_ (transpose_ix2_apply (m ((c : Thread nD τ).loc main_arg3)) transposes_S16384x2_S2x16384_1_0 k (⟨8192 * 0 + (1024 * t.val + p.val), by omega⟩ : Fin 16384))
  refine Eq.trans ?_ (congrFun (V1_v3 m ρ c) _)
  show V1 m ρ c main_v3 (((cfg0.win 3).blk t).view.emb _) = _
  blk_ext [iblk0, e3]
  show t.val * 1024 + p.val = 8192 * 0 + (1024 * t.val + p.val)
  omega

/-- The gate of a block. -/
theorem blk0_4 (d : Fin 1024) : iblk0 (V1 m ρ) c 4 t (ix3 (0 : Fin 1) (5 : Fin 6) d : S1x6x1024.Idx)
    = m ((c : Thread nD τ).loc main_arg4) (ix2 (0 : Fin 1) (⟨5120 + d.val, by omega⟩ : Fin 6144) : S1x6144.Idx) := by
  obtain ⟨e0, e1, e2, e3, e4, e5⟩ := index0 t
  refine Eq.trans ?_ (modRows_first (m ((c : Thread nD τ).loc main_arg4)) (m ((c : Thread nD τ).loc main_arg5)) d)
  rw [← V1_v2 m ρ c]
  show V1 m ρ c main_v2 (((cfg0.win 4).blk t).view.emb _) = _
  blk_ext [iblk0, e4]

/-- What a point of the prompt's grid leaves. -/
theorem point0 (p d : Fin 1024) : (dat0 (V1 m ρ) c).after 5 t (ix2 p d : S1024x1024.Idx)
    = combined 0 (m ((c : Thread nD τ).loc main_arg2)) (fun _ j => m ((c : Thread nD τ).loc main_arg4) (ix2 (0 : Fin 1) (⟨5120 + j.val, by omega⟩ : Fin 6144) : S1x6144.Idx))
        (m ((c : Thread nD τ).loc main_arg3)) (m ((c : Thread nD τ).loc main_arg0)) ⟨t.val, t.isLt⟩ p d := by
  obtain ⟨q, l, rfl⟩ : ∃ (q : Fin 2) (l : Fin 512), d = ⟨q.val * 512 + l.val, by omega⟩ :=
    ⟨⟨d.val / 512, by omega⟩, ⟨d.val % 512, by omega⟩, Fin.ext (by show d.val = d.val / 512 * 512 + d.val % 512; omega)⟩
  obtain ⟨q', hq⟩ : ∃ q' : Fin 2, q'.val = 1 - q.val := ⟨⟨1 - q.val, by omega⟩, rfl⟩
  rw [after0_5]
  refine (out_apply _ _ _ _ _ p q q' hq l).trans ?_
  rw [blk0_0 m ρ c t p q q' hq l, blk0_1 m ρ c t p q q' hq l, blk0_2, blk0_3, blk0_3, blk0_4]
  rfl
end

/-! ## The samples' blocks -/

section
variable (t : Fin cfg1.N)

/-- The first experts' half rows of a block. -/
theorem blk1_0 (p : Fin 1024) (q q' : Fin 2) (hq : q'.val = 1 - q.val) (l : Fin 512) :
    iblk1 (V3 m ρ) c 0 t (ix2 (⟨2 * p.val + q'.val, by omega⟩ : Fin 2048) l : S2048x512.Idx)
      = m ((c : Thread nD τ).loc main_arg1) (ix3 (0 : Fin 2) (⟨1024 * t.val + p.val, by have : t.val < 8 := t.isLt; omega⟩ : Fin 8192) (⟨q.val * 512 + l.val, by omega⟩ : Fin 1024) : S2x8192x1024.Idx) := by
  have ht : t.val < 8 := t.isLt
  obtain ⟨e0, e1, e2, e3, e4, e5⟩ := index1 t
  refine Eq.trans ?_ (halves_apply (m ((c : Thread nD τ).loc main_arg1)) 0 (⟨1024 * t.val + p.val, by omega⟩ : Fin 8192) q q' hq l)
  rw [← V3_v12 m ρ c]
  show V3 m ρ c main_v12 (((cfg1.win 0).blk t).view.emb _) = _
  blk_ext [iblk1, e0]

/-- The second experts' half rows of a block. -/
theorem blk1_1 (p : Fin 1024) (q q' : Fin 2) (hq : q'.val = 1 - q.val) (l : Fin 512) :
    iblk1 (V3 m ρ) c 1 t (ix2 (⟨2 * p.val + q'.val, by omega⟩ : Fin 2048) l : S2048x512.Idx)
      = m ((c : Thread nD τ).loc main_arg1) (ix3 (1 : Fin 2) (⟨1024 * t.val + p.val, by have : t.val < 8 := t.isLt; omega⟩ : Fin 8192) (⟨q.val * 512 + l.val, by omega⟩ : Fin 1024) : S2x8192x1024.Idx) := by
  have ht : t.val < 8 := t.isLt
  obtain ⟨e0, e1, e2, e3, e4, e5⟩ := index1 t
  refine Eq.trans ?_ (halves_apply (m ((c : Thread nD τ).loc main_arg1)) 1 (⟨1024 * t.val + p.val, by omega⟩ : Fin 8192) q q' hq l)
  rw [← V3_v12 m ρ c]
  show V3 m ρ c main_v12 (((cfg1.win 1).blk t).view.emb _) = _
  blk_ext [iblk1, e1]

/-- The residual rows of a block. -/
theorem blk1_2 (p d : Fin 1024) : iblk1 (V3 m ρ) c 2 t (ix2 p d : S1024x1024.Idx)
    = m ((c : Thread nD τ).loc main_arg2) (ix2 (⟨8192 * 1 + (1024 * t.val + p.val), by have : t.val < 8 := t.isLt; omega⟩ : Fin 16384) d : S16384x1024.Idx) := by
  have ht : t.val < 8 := t.isLt
  obtain ⟨e0, e1, e2, e3, e4, e5⟩ := index1 t
  rw [← V3_arg2 m ρ c]
  show V3 m ρ c main_arg2 (((cfg1.win 2).blk t).view.emb _) = _
  blk_ext [iblk1, e2]
  show (8 + t.val) * 1024 + p.val = 8192 * 1 + (1024 * t.val + p.val)
  omega

/-- The weights of a block. -/
theorem blk1_3 (k : Fin 2) (p : Fin 1024) : iblk1 (V3 m ρ) c 3 t (ix2 k p : S2x1024.Idx)
    = m ((c : Thread nD τ).loc main_arg3) (ix2 (⟨8192 * 1 + (1024 * t.val + p.val), by have : t.val < 8 := t.isLt; omega⟩ : Fin 16384) k : S16384x2.Idx) := by
  have ht : t.val < 8 := t.isLt
  obtain ⟨e0, e1, e2, e3, e4, e5⟩ := index1 t
  refine Eq.trans ?_ (transpose_ix2_apply (m ((c : Thread nD τ).loc main_arg3)) transposes_S16384x2_S2x16384_1_0 k (⟨8192 * 1 + (1024 * t.val + p.val), by omega⟩ : Fin 16384))
  refine Eq.trans ?_ (congrFun (V3_v3 m ρ c) _)
  show V3 m ρ c main_v3 (((cfg1.win 3).blk t).view.emb _) = _
  blk_ext [iblk1, e3]
  show (8 + t.val) * 1024 + p.val = 8192 * 1 + (1024 * t.val + p.val)
  omega

/-- The gate of a block. -/
theorem blk1_4 (d : Fin 1024) : iblk1 (V3 m ρ) c 4 t (ix3 (0 : Fin 1) (5 : Fin 6) d : S1x6x1024.Idx)
    = m ((c : Thread nD τ).loc main_arg5) (ix2 (⟨t.val, t.isLt⟩ : Fin 8) (⟨5120 + d.val, by omega⟩ : Fin 6144) : S8x6144.Idx) := by
  have ht : t.val < 8 := t.isLt
  obtain ⟨e0, e1, e2, e3, e4, e5⟩ := index1 t
  refine Eq.trans ?_ (modRows_later (m ((c : Thread nD τ).loc main_arg4)) (m ((c : Thread nD τ).loc main_arg5)) ⟨t.val, t.isLt⟩ d)
  rw [← V3_v2 m ρ c]
  show V3 m ρ c main_v2 (((cfg1.win 4).blk t).view.emb _) = _
  blk_ext [iblk1, e4]

/-- What a point of the samples' grid leaves. -/
theorem point1 (p d : Fin 1024) : (dat1 (V3 m ρ) c).after 5 t (ix2 p d : S1024x1024.Idx)
    = combined 1 (m ((c : Thread nD τ).loc main_arg2)) (fun b j => m ((c : Thread nD τ).loc main_arg5) (ix2 b (⟨5120 + j.val, by omega⟩ : Fin 6144) : S8x6144.Idx))
        (m ((c : Thread nD τ).loc main_arg3)) (m ((c : Thread nD τ).loc main_arg1)) ⟨t.val, t.isLt⟩ p d := by
  obtain ⟨q, l, rfl⟩ : ∃ (q : Fin 2) (l : Fin 512), d = ⟨q.val * 512 + l.val, by omega⟩ :=
    ⟨⟨d.val / 512, by omega⟩, ⟨d.val % 512, by omega⟩, Fin.ext (by show d.val = d.val / 512 * 512 + d.val % 512; omega)⟩
  obtain ⟨q', hq⟩ : ∃ q' : Fin 2, q'.val = 1 - q.val := ⟨⟨1 - q.val, by omega⟩, rfl⟩
  rw [after1_5, out_same]
  refine (out_apply _ _ _ _ _ p q q' hq l).trans ?_
  rw [blk1_0 m ρ c t p q q' hq l, blk1_1 m ρ c t p q q' hq l, blk1_2, blk1_3, blk1_3, blk1_4]
  rfl
end

/-! ## The arrays the two calls leave -/

/-- Rows in blocks of a thousand and twenty-four. -/
def rowsOf (f : Fin 8 → Fin 1024 → Fin 1024 → EReal) : Vec Ideal S8192x1024 .f32 := fun i =>
  f ⟨(i 0).val / 1024, by have h : (i 0).val < 8192 := (i 0).isLt; omega⟩ ⟨(i 0).val % 1024, by omega⟩ (i 1)

/-- A row of a block. -/
theorem rowsOf_apply (f : Fin 8 → Fin 1024 → Fin 1024 → EReal) (t : Fin 8) (p d : Fin 1024) :
    rowsOf f (ix2 (⟨1024 * t.val + p.val, by omega⟩ : Fin 8192) d : S8192x1024.Idx) = f t p d := by
  have e1 : (⟨(1024 * t.val + p.val) / 1024, by omega⟩ : Fin 8) = t := Fin.ext (by show (1024 * t.val + p.val) / 1024 = t.val; omega)
  have e2 : (⟨(1024 * t.val + p.val) % 1024, by omega⟩ : Fin 1024) = p := Fin.ext (by show (1024 * t.val + p.val) % 1024 = p.val; omega)
  exact congrArg₂ (fun a b => f a b d) e1 e2

/-- The prompt's result. -/
theorem prompt_rows :
    W4 m ρ c (Proc.devRef .tc main_v8)
      = rowsOf (combined 0 (m ((c : Thread nD τ).loc main_arg2)) (fun _ j => m ((c : Thread nD τ).loc main_arg4) (ix2 (0 : Fin 1) (⟨5120 + j.val, by omega⟩ : Fin 6144) : S1x6144.Idx))
          (m ((c : Thread nD τ).loc main_arg3)) (m ((c : Thread nD τ).loc main_arg0))) := by
  have h : W4 m ρ c (Proc.devRef .tc main_v8) = (dat0 (V1 m ρ) c).arrAt 5 cfg0.N :=
    (W4_of_ne m ρ c main_v8 (by decide)).trans ((W3_of m ρ c main_v8 (by decide)).trans (W2_arr m ρ c 5))
  refine h.trans ((dat0 (V1 m ρ) c).arrAt_eq_of_covers 5 _ (by decide +kernel) fun t hf y => ?_)
  have ht : t.val < 8 := t.isLt
  obtain ⟨p, d, rfl⟩ : ∃ (p d : Fin 1024), y = (ix2 p d : S1024x1024.Idx) := ⟨y 0, y 1, funext fun x => match x with | ⟨0, _⟩ => rfl | ⟨1, _⟩ => rfl⟩
  obtain ⟨e0, e1, e2, e3, e4, e5⟩ := index0 t
  refine (point0 m ρ c t p d).trans ?_
  refine (rowsOf_apply _ (⟨t.val, ht⟩ : Fin 8) p d).symm.trans ?_
  show rowsOf _ _ = rowsOf _ (((cfg0.win 5).blk t).view.emb _)
  refine congrArg _ ?_
  blk_ext [e5]
  show 1024 * t.val + p.val = t.val * 1024 + p.val
  omega

/-- The samples' result. -/
theorem sample_rows :
    W4 m ρ c (Proc.devRef .tc main_v13)
      = rowsOf (combined 1 (m ((c : Thread nD τ).loc main_arg2)) (fun b j => m ((c : Thread nD τ).loc main_arg5) (ix2 b (⟨5120 + j.val, by omega⟩ : Fin 6144) : S8x6144.Idx))
          (m ((c : Thread nD τ).loc main_arg3)) (m ((c : Thread nD τ).loc main_arg1))) := by
  have h : W4 m ρ c (Proc.devRef .tc main_v13) = (dat1 (V3 m ρ) c).arrAt 5 cfg1.N := W4_arr m ρ c 5
  refine h.trans ((dat1 (V3 m ρ) c).arrAt_eq_of_covers 5 _ (by decide +kernel) fun t hf y => ?_)
  have ht : t.val < 8 := t.isLt
  obtain ⟨p, d, rfl⟩ : ∃ (p d : Fin 1024), y = (ix2 p d : S1024x1024.Idx) := ⟨y 0, y 1, funext fun x => match x with | ⟨0, _⟩ => rfl | ⟨1, _⟩ => rfl⟩
  obtain ⟨e0, e1, e2, e3, e4, e5⟩ := index1 t
  refine (point1 m ρ c t p d).trans ?_
  refine (rowsOf_apply _ (⟨t.val, ht⟩ : Fin 8) p d).symm.trans ?_
  show rowsOf _ _ = rowsOf _ (((cfg1.win 5).blk t).view.emb _)
  refine congrArg _ ?_
  blk_ext [e5]
  show 1024 * t.val + p.val = t.val * 1024 + p.val
  omega

end Cert.Kernel3Ideal.Gen

end
-- ==== Proof.CombineRun.lean ====
/-
  The call that puts the experts' rows together, at the idealized program: its launch, the two results and the arguments at the end.
-/
module

public import proofs.«01_k».proof.Proof.CombineResult

@[expose] public section

set_option maxRecDepth 16384

noncomputable section

namespace Cert.Kernel3Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (cellOf)

variable (m : (ℓ : Loc nD τ sig) → Buf (Elt Ideal) ℓ) (ρ : Dev nD → PrngReg)

set_option backward.isDefEq.respectTransparency.types false in
/-- Every weakly fair run ends, with each unscoped buffer at what the last segment leaves there. -/
theorem run_last : θ_run defs (onTc (τ := τ) (main (F := Ideal))) ⟨m, fun _ => 0, ρ⟩ (fun r => ∀ c : Dev nD,
      ∀ b ∈ Pipeline.ucRefs τ sig, r.2.mem (((c : Thread nD τ)).1, b) = W4 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun _ h _ => h)

/-- The run's results and arguments, by name. -/
theorem run_results : θ_run defs (onTc (τ := τ) (main (F := Ideal))) ⟨m, fun _ => 0, ρ⟩ (fun r => ∀ c : Dev nD,
      r.2.mem ((c.tc : Thread nD τ).loc main_v8) = W4 m ρ c (Proc.devRef .tc main_v8)
      ∧ r.2.mem ((c.tc : Thread nD τ).loc main_v13) = W4 m ρ c (Proc.devRef .tc main_v13)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨h c _ (mem_uc main_v8 (by decide)), h c _ (mem_uc main_v13 (by decide)),
      (h c _ (mem_uc main_arg0 (by decide))).trans (W4_main_arg0 m ρ c), (h c _ (mem_uc main_arg1 (by decide))).trans (W4_main_arg1 m ρ c),
      (h c _ (mem_uc main_arg2 (by decide))).trans (W4_main_arg2 m ρ c), (h c _ (mem_uc main_arg3 (by decide))).trans (W4_main_arg3 m ρ c),
      (h c _ (mem_uc main_arg4 (by decide))).trans (W4_main_arg4 m ρ c), (h c _ (mem_uc main_arg5 (by decide))).trans (W4_main_arg5 m ρ c)⟩)
    (run_last m ρ)

end Cert.Kernel3Ideal.Gen

end
-- ==== Proof.CombineRef.lean ====
/-
  The reference of the call that puts the experts' rows together, read at an index.
-/
module

public import proofs.«01_k».proof.Proof.CombineResult
public import proofs.«01_k».proof.Proof.Gen.Reference3Ideal.Read
public import Idealize.ShloMosaic.Lib.IdealHost

@[expose] public section

set_option maxRecDepth 16384

noncomputable section

namespace Cert.Reference3Ideal.Read

open Cert.Reference3Ideal Cert.Reference3Ideal.Gen
open Idealize.ShloMosaic hiding ix1 ix2 ix3 ix4
open Idealize.ShloMosaic.TcCoe Idealize.ShloMosaic.ValueIdx
open Cert.Kernel3Ideal.Gen (mixed combined rowsOf rowsOf_apply)
open scoped BigOperators

variable (x0 x1 : (⟨S2x8192x1024, .f32⟩ : BufTy).Contents (Elt Ideal)) (x2 : (⟨S16384x1024, .f32⟩ : BufTy).Contents (Elt Ideal))
  (x3 : (⟨S16384x2, .f32⟩ : BufTy).Contents (Elt Ideal)) (x4 : (⟨S1x6144, .f32⟩ : BufTy).Contents (Elt Ideal)) (x5 : (⟨S8x6144, .f32⟩ : BufTy).Contents (Elt Ideal))

/-- A token's weight, as the prompt's experts' rows meet it. -/
theorem weight6 (k : Fin 2) (r : Fin 8192) (d : Fin 1024) :
    val_main_v6 (F := Ideal) x3 (ix3 k r d : S2x8192x1024.Idx) = x3 (ix2 (⟨8192 * 0 + r.val, by omega⟩ : Fin 16384) k : S16384x2.Idx) := by
  rw [val_main_v6_apply, val_main_v5_apply, val_main_v4_apply, val_main_v3_apply]
  refine congrArg x3 (funext fun a => Fin.ext ?_)
  match a with
  | ⟨0, _⟩ => show r.val = 8192 * 0 + r.val; omega
  | ⟨1, _⟩ => rfl

/-- A token's weight, as the samples' experts' rows meet it. -/
theorem weight21 (k : Fin 2) (r : Fin 8192) (d : Fin 1024) :
    val_main_v21 (F := Ideal) x3 (ix3 k r d : S2x8192x1024.Idx) = x3 (ix2 (⟨8192 * 1 + r.val, by omega⟩ : Fin 16384) k : S16384x2.Idx) := by
  rw [val_main_v21_apply, val_main_v20_apply, val_main_v19_apply, val_main_v18_apply]
  refine congrArg x3 (funext fun a => Fin.ext ?_)
  match a with
  | ⟨0, _⟩ => show 8192 + r.val = 8192 * 1 + r.val; omega
  | ⟨1, _⟩ => rfl

/-- The prompt's experts' rows together. -/
theorem sum8 (r : Fin 8192) (d : Fin 1024) : val_main_v8 (F := Ideal) x0 x3 (ix2 r d : S8192x1024.Idx)
    = x3 (ix2 (⟨8192 * 0 + r.val, by omega⟩ : Fin 16384) (0 : Fin 2) : S16384x2.Idx) * x0 (ix3 (0 : Fin 2) r d : S2x8192x1024.Idx)
      + x3 (ix2 (⟨8192 * 0 + r.val, by omega⟩ : Fin 16384) (1 : Fin 2) : S16384x2.Idx) * x0 (ix3 (1 : Fin 2) r d : S2x8192x1024.Idx) := by
  have e : ∀ k : Fin 2, idx_main_v8 (ix2 r d : S8192x1024.Idx) k = (ix3 k r d : S2x8192x1024.Idx) := fun k =>
    funext fun a => match a with | ⟨0, _⟩ => rfl | ⟨1, _⟩ => rfl | ⟨2, _⟩ => rfl
  rw [val_main_v8_apply, val_main_cst_apply, Fin.sum_univ_two, e, e, val_main_v7_apply, val_main_v7_apply, weight6, weight6]
  rw [show (FloatOps.ofBits FTy.f32 0x00000000#32 : Ideal .f32) = (0 : EReal) from Ideal.ofBits_zero_f32, zero_add]
  exact congrArg₂ (fun a b : EReal => a + b) (mul_comm _ _) (mul_comm _ _)

/-- The samples' experts' rows together. -/
theorem sum23 (r : Fin 8192) (d : Fin 1024) : val_main_v23 (F := Ideal) x1 x3 (ix2 r d : S8192x1024.Idx)
    = x3 (ix2 (⟨8192 * 1 + r.val, by omega⟩ : Fin 16384) (0 : Fin 2) : S16384x2.Idx) * x1 (ix3 (0 : Fin 2) r d : S2x8192x1024.Idx)
      + x3 (ix2 (⟨8192 * 1 + r.val, by omega⟩ : Fin 16384) (1 : Fin 2) : S16384x2.Idx) * x1 (ix3 (1 : Fin 2) r d : S2x8192x1024.Idx) := by
  have e : ∀ k : Fin 2, idx_main_v23 (ix2 r d : S8192x1024.Idx) k = (ix3 k r d : S2x8192x1024.Idx) := fun k =>
    funext fun a => match a with | ⟨0, _⟩ => rfl | ⟨1, _⟩ => rfl | ⟨2, _⟩ => rfl
  rw [val_main_v23_apply, val_main_cst_0_apply, Fin.sum_univ_two, e, e, val_main_v22_apply, val_main_v22_apply, weight21, weight21]
  rw [show (FloatOps.ofBits FTy.f32 0x00000000#32 : Ideal .f32) = (0 : EReal) from Ideal.ofBits_zero_f32, zero_add]
  exact congrArg₂ (fun a b : EReal => a + b) (mul_comm _ _) (mul_comm _ _)

/-- The prompt's rows in their sequences and back. -/
theorem back30 (r : Fin 8192) (d : Fin 1024) : idx_main_v9 (idx_main_v30 (ix2 r d : S8192x1024.Idx)) = (ix2 r d : S8192x1024.Idx) := by
  funext a
  apply Fin.ext
  match a with
  | ⟨0, _⟩ =>
    show (((r.val * 1024 + d.val) / 262144 * 256 + (r.val * 1024 + d.val) / 1024 % 256) * 1024 + (r.val * 1024 + d.val) % 1024) / 1024 = r.val
    omega
  | ⟨1, _⟩ =>
    show (((r.val * 1024 + d.val) / 262144 * 256 + (r.val * 1024 + d.val) / 1024 % 256) * 1024 + (r.val * 1024 + d.val) % 1024) % 1024 = d.val
    omega

/-- The samples' rows in their sequences and back. -/
theorem back31 (r : Fin 8192) (d : Fin 1024) : idx_main_v24 (idx_main_v31 (ix2 r d : S8192x1024.Idx)) = (ix2 r d : S8192x1024.Idx) := by
  funext a
  apply Fin.ext
  match a with
  | ⟨0, _⟩ =>
    show (((r.val * 1024 + d.val) / 1048576 * 1024 + (r.val * 1024 + d.val) / 1024 % 1024) * 1024 + (r.val * 1024 + d.val) % 1024) / 1024 = r.val
    omega
  | ⟨1, _⟩ =>
    show (((r.val * 1024 + d.val) / 1048576 * 1024 + (r.val * 1024 + d.val) / 1024 % 1024) * 1024 + (r.val * 1024 + d.val) % 1024) % 1024 = d.val
    omega

/-- The prompt's gate. -/
theorem gate12 (r : Fin 8192) (d : Fin 1024) : val_main_v12 (F := Ideal) x4 (idx_main_v30 (ix2 r d : S8192x1024.Idx))
    = x4 (ix2 (0 : Fin 1) (⟨5120 + d.val, by omega⟩ : Fin 6144) : S1x6144.Idx) := by
  rw [val_main_v12_apply, val_main_v2_apply, val_main_v1_apply, val_main_v0_apply]
  refine congrArg x4 (funext fun a => Fin.ext ?_)
  match a with
  | ⟨0, _⟩ => rfl
  | ⟨1, _⟩ =>
    show (((0 * 1 + 0) * 6 + (5 + 0)) * 1024 + ((0 * 1 + 0) * 1024 + (r.val * 1024 + d.val) % 1024) % 1024) % 6144 = 5120 + d.val
    omega

/-- A sample's gate. -/
theorem gate27 (t : Fin 8) (p d : Fin 1024) : val_main_v27 (F := Ideal) x5 (idx_main_v31 (ix2 (⟨1024 * t.val + p.val, by omega⟩ : Fin 8192) d : S8192x1024.Idx))
    = x5 (ix2 t (⟨5120 + d.val, by omega⟩ : Fin 6144) : S8x6144.Idx) := by
  rw [val_main_v27_apply, val_main_v17_apply, val_main_v16_apply, val_main_v15_apply]
  refine congrArg x5 (funext fun a => Fin.ext ?_)
  have hb : ((1024 * t.val + p.val) * 1024 + d.val) / 1048576 = t.val := by omega
  have hd : ((1024 * t.val + p.val) * 1024 + d.val) % 1024 = d.val := by omega
  match a with
  | ⟨0, _⟩ =>
    show (((((((1024 * t.val + p.val) * 1024 + d.val) / 1048576 * 1 + 0) * 1024 + ((1024 * t.val + p.val) * 1024 + d.val) % 1024) / 1024 * 1 + 0) * 6 + (5 + 0)) * 1024
      + ((((1024 * t.val + p.val) * 1024 + d.val) / 1048576 * 1 + 0) * 1024 + ((1024 * t.val + p.val) * 1024 + d.val) % 1024) % 1024) / 6144 = t.val
    rw [hb, hd]; omega
  | ⟨1, _⟩ =>
    show (((((((1024 * t.val + p.val) * 1024 + d.val) / 1048576 * 1 + 0) * 1024 + ((1024 * t.val + p.val) * 1024 + d.val) % 1024) / 1024 * 1 + 0) * 6 + (5 + 0)) * 1024
      + ((((1024 * t.val + p.val) * 1024 + d.val) / 1048576 * 1 + 0) * 1024 + ((1024 * t.val + p.val) * 1024 + d.val) % 1024) % 1024) % 6144 = 5120 + d.val
    rw [hb, hd]; omega

/-- Every row is in a block. -/
theorem row_block (i : S8192x1024.Idx) : ∃ (t : Fin 8) (p d : Fin 1024), i = (ix2 (⟨1024 * t.val + p.val, by omega⟩ : Fin 8192) d : S8192x1024.Idx) := by
  have h0 : (i 0).val < 8192 := (i 0).isLt
  refine ⟨⟨(i 0).val / 1024, by omega⟩, ⟨(i 0).val % 1024, by omega⟩, i 1, funext fun a => Fin.ext ?_⟩
  match a with
  | ⟨0, _⟩ => show (i 0).val = 1024 * ((i 0).val / 1024) + (i 0).val % 1024; omega
  | ⟨1, _⟩ => rfl

/-- The reference's first result. -/
theorem result30 : val_main_v30 (F := Ideal) x0 x2 x3 x4
    = rowsOf (combined 0 x2 (fun _ j => x4 (ix2 (0 : Fin 1) (⟨5120 + j.val, by omega⟩ : Fin 6144) : S1x6144.Idx)) x3 x0) := by
  funext i
  obtain ⟨t, p, d, rfl⟩ := row_block i
  refine Eq.trans ?_ (rowsOf_apply _ t p d).symm
  rw [val_main_v30_apply, val_main_v14_apply, val_main_v13_apply, val_main_v11_apply, val_main_v9_apply, gate12, back30, sum8,
    show idx_main_v11 (idx_main_v30 (ix2 (⟨1024 * t.val + p.val, by omega⟩ : Fin 8192) d : S8192x1024.Idx)) = _ from back30 _ d, val_main_v10_apply]
  refine congrArg (fun a : EReal => a + _) (congrArg x2 (funext fun a => Fin.ext ?_))
  match a with
  | ⟨0, _⟩ => show 1024 * t.val + p.val = 8192 * 0 + (1024 * t.val + p.val); omega
  | ⟨1, _⟩ => rfl

/-- The reference's second result. -/
theorem result31 : val_main_v31 (F := Ideal) x1 x2 x3 x5
    = rowsOf (combined 1 x2 (fun b j => x5 (ix2 b (⟨5120 + j.val, by omega⟩ : Fin 6144) : S8x6144.Idx)) x3 x1) := by
  funext i
  obtain ⟨t, p, d, rfl⟩ := row_block i
  refine Eq.trans ?_ (rowsOf_apply _ t p d).symm
  rw [val_main_v31_apply, val_main_v29_apply, val_main_v28_apply, val_main_v26_apply, val_main_v24_apply, gate27, back31, sum23,
    show idx_main_v26 (idx_main_v31 (ix2 (⟨1024 * t.val + p.val, by omega⟩ : Fin 8192) d : S8192x1024.Idx)) = _ from back31 _ d, val_main_v25_apply]
  refine congrArg (fun a : EReal => a + _) (congrArg x2 (funext fun a => Fin.ext ?_))
  match a with
  | ⟨0, _⟩ => show 8192 + (1024 * t.val + p.val) = 8192 * 1 + (1024 * t.val + p.val); omega
  | ⟨1, _⟩ => rfl

end Cert.Reference3Ideal.Read

end
-- ==== Proof.CombineClaims.lean ====
/-
  The call that puts the experts' rows together: its frames, the idealization's own statement, and its value.
-/
module

public import proofs.«01_k».proof.Defs
public import proofs.«01_k».proof.Proof.CombineRun
public import proofs.«01_k».proof.Proof.CombineRef
public import proofs.«01_k».proof.Proof.Gen.Kernel3.Frame
public import proofs.«01_k».proof.Proof.Gen.Reference3Ideal.Run
public import Idealize.ShloMosaic.Lib.Bf16Pair
public import Idealize.ShloMosaic.Adequacy
public import Idealize.ShloMosaic.Init

@[expose] public section

noncomputable section

namespace Cert.Proof

open Idealize.ShloMosaic Idealize.SL.Sem Idealize.ShloMosaic.TcCoe

/-- The reference of the combining call runs, leaves its arguments, and leaves every counter at zero. -/
theorem frame_combine_ref : Cert.quiescent_Reference3Ideal (hReference3Ideal := Cert.Reference3Ideal.Gen.facts) := fun m ρ _ =>
  (θ_run Cert.Reference3Ideal.defs _ _).mono (fun r h => ⟨fun c => (h c).2.2,
      Idealize.ShloMosaic.sem_eq_zero_of_no_sems (by decide) r.2⟩)
    (Cert.Reference3Ideal.Value.run (F := Ideal) m ρ)

/-- The rewrites that idealize the combining call are the sanctioned one: pairs of half-width rows for words. -/
theorem preserves_combine : Cert.preserves_Kernel3_Kernel3Ideal := IdealRules.bf16_pair.statement _ _

/-- The idealized combining call and its reference leave the same two arrays. -/
theorem algebraic_combine : Cert.algebraic_Kernel3Ideal_Reference3Ideal (hKernel3Ideal := Cert.Kernel3Ideal.Gen.facts)
    (hReference3Ideal := Cert.Reference3Ideal.Gen.facts) := by
  intro m ρ m' ρ' _ hagree
  refine ⟨_, _, Cert.Kernel3Ideal.Gen.run_results m ρ, ?_⟩
  refine (θ_run Cert.Reference3Ideal.defs _ _).mono (fun _ h c => ?_) (Cert.Reference3Ideal.Value.run (F := Ideal) m' ρ')
  obtain ⟨h30, h31, hargs⟩ := h c
  obtain ⟨a0, a1, a2, a3, a4, a5⟩ := hagree c
  refine ⟨h30.trans ?_, h31.trans ?_, hargs⟩
  · rw [Cert.Reference3Ideal.Read.val_main_v30_eq, a0, a2, a3, a4]
    exact (Cert.Reference3Ideal.Read.result30 _ _ _ _).trans (Cert.Kernel3Ideal.Gen.prompt_rows m ρ c).symm
  · rw [Cert.Reference3Ideal.Read.val_main_v31_eq, a1, a2, a3, a5]
    exact (Cert.Reference3Ideal.Read.result31 _ _ _ _).trans (Cert.Kernel3Ideal.Gen.sample_rows m ρ c).symm

end Cert.Proof

end
-- ==== Proof.AdaBlock.lean ====
/-
  The call that makes the modulation vectors, at the idealized program: what its body leaves of one block, element by element.
-/
module

public import proofs.«01_k».proof.Proof.Gen.Kernel4Ideal.Frame
public import Idealize.ShloMosaic.Lib.IdealHost
public import Idealize.ShloMosaic.Lib.MatmulPlain
public import Idealize.ShloMosaic.Lib.ValueLayout
public import Idealize.ShloMosaic.Lib.Pipeline.ValueKit
public import Idealize.ShloMosaic.Lib.Pointwise.ShapeOpsCore

@[expose] public section

set_option maxRecDepth 16384

noncomputable section

namespace Cert.Kernel4Ideal.Gen

open Idealize.ShloMosaic hiding ix1 ix2 ix3 ix4
open Idealize.ShloMosaic.TcCoe Idealize.ShloMosaic.Tactic Idealize.ShloMosaic.ValueIdx
open Idealize.ShloMosaic.Pipeline (Dat Cfg Window cellOf)
open scoped BigOperators

/-- A condition's element before the product: itself times its logistic value. -/
def gated (x : EReal) : EReal := x * Ideal.div 1 (1 + Ideal.exp (-x))

/-- One element of the modulation vectors: the gated condition against a column of weights, and the bias. -/
def modulated (x : Fin 1024 → EReal) (w : Fin 1024 → EReal) (b : EReal) : EReal := (∑ k : Fin 1024, gated (x k) * w k) + b

/-- The body's product of the gated conditions with a block of weights. -/
theorem product_apply (x : FVec Ideal S16x1024 .bf16) (w : Vec Ideal S1x1024x1536 .f32) (p : Fin 16) (j : Fin 1536) :
    (matmul dot_S16x1024_S1024x1536_S16x1536_1_0_0_1_n_n none x (truncf .bf16 (shapeCast S1024x1536 w shapeCasts_S1x1024x1536_S1024x1536 : FVec Ideal S1024x1536 .f32) bitsLt_bf16_f32 : FVec Ideal S1024x1536 .bf16)
      (constant S16x1536 .f32 0x00000000#32) : FVec Ideal S16x1536 .f32) (ix2 p j : S16x1536.Idx)
      = ∑ k : Fin 1024, x (ix2 p k : S16x1024.Idx) * w (ix3 (0 : Fin 1) k j : S1x1024x1536.Idx) := by
  refine (Ideal.matmul_plain_apply (M := 16) (K := 1024) (N := 1536) _ x _ _ p j).trans ?_
  rw [show (constant S16x1536 .f32 0x00000000#32 : FVec Ideal S16x1536 .f32) (ix2 p j) = 0 from Ideal.ofBits_zero_f32, zero_add]
  exact Finset.sum_congr rfl fun k _ => congrArg (fun z : EReal => x (ix2 p k : S16x1024.Idx) * z) (shapeCast_1ab_ab_apply _ _ k j)

/-- What the body leaves of one block, element by element. -/
theorem out_apply (x0 : Vec Ideal S16x1024 .f32) (x1 : Vec Ideal S1x1024x1536 .f32) (x2 : Vec Ideal S1x1x1536 .f32) (p : Fin 16) (j : Fin 1536) :
    out0_3 (F := Ideal) x0 x1 x2 (ix3 (0 : Fin 1) p j : S1x16x1536.Idx)
      = modulated (fun k => x0 (ix2 p k : S16x1024.Idx)) (fun k => x1 (ix3 (0 : Fin 1) k j : S1x1024x1536.Idx)) (x2 (ix3 (0 : Fin 1) (0 : Fin 1) j : S1x1x1536.Idx)) := by
  unfold out0_3
  rw [View.canon_unit_zero (S := S1x16x1536) (by decide)]
  rw [show View.ld x0 r0_0 = x0 from View.ld_unit_zero (S := S16x1024) (by decide) _ _]
  rw [show View.ld x1 r0_1 = x1 from View.ld_unit_zero (S := S1x1024x1536) (by decide) _ _]
  rw [show View.ld x2 r0_2 = x2 from View.ld_unit_zero (S := S1x1x1536) (by decide) _ _]
  unfold k0_pay1 modulated
  rw [shapeCast_self]
  refine (shapeCast_apply _ shapeCasts_S16x1536_S1x16x1536 _ (ix2 p j : S16x1536.Idx) ?_).trans ?_
  · rw [Shape.rowMajor_val_three, Shape.rowMajor_val_two]
    show p.val * 1536 + j.val = (0 * 16 + p.val) * 1536 + j.val
    omega
  refine congrArg₂ (fun a b : EReal => a + b) ((product_apply _ x1 p j).trans (Finset.sum_congr rfl fun k _ => congrArg (fun z : EReal => z * _) ?_)) ?_
  · show x0 (ix2 p k) * Ideal.div (Ideal.ofBits .f32 0x3F800000#32) (Ideal.ofBits .f32 0x3F800000#32 + Ideal.exp (Ideal.ofBits .f32 0x00000000#32 - x0 (ix2 p k))) = gated _
    rw [Ideal.ofBits_one_f32, Ideal.ofBits_zero_f32, zero_sub]
    rfl
  · refine (broadcastTo_1b_ab_apply _ _ p j).trans (shapeCast_apply _ shapeCasts_S1x1x1536_S1x1536 _ _ ?_)
    rw [Shape.rowMajor_val_three, Shape.rowMajor_val_two]
    rfl

end Cert.Kernel4Ideal.Gen

end
-- ==== Proof.AdaResult.lean ====
/-
  The call that makes the modulation vectors, at the idealized program: its two results, element by element, and its run.
-/
module

public import proofs.«01_k».proof.Proof.AdaBlock

@[expose] public section

set_option maxRecDepth 16384

noncomputable section

namespace Cert.Kernel4Ideal.Gen

open Idealize.ShloMosaic hiding ix1 ix2 ix3 ix4
open Idealize.SL.Sem
open Idealize.ShloMosaic.TcCoe Idealize.ShloMosaic.Tactic Idealize.ShloMosaic.ValueIdx
open Idealize.ShloMosaic.Pipeline (Dat Cfg Window cellOf)

/-! ## The conditions' rows -/

/-- The conditions as the call takes them: the prompt's, the samples', and rows of zeros. -/
def conditions (x0 : Vec Ideal S1024 .f32) (x1 : Vec Ideal S8x1024 .f32) : Vec Ideal S16x1024 .f32 :=
  concatenate S16x1024 0 [⟨S1x1024, broadcastInDim S1x1024 ![1] bcast_S1024_S1x1024_1 x0⟩, ⟨S8x1024, x1⟩,
    ⟨S7x1024, broadcastInDim S7x1024 ![] bcast_S_S7x1024 (constant (F := Ideal) S_ .f32 0x00000000#32)⟩] concatenates_S1x1024_S8x1024_S7x1024_S16x1024_d0

/-- The prompt's condition is the first row. -/
theorem conditions_first (x0 : Vec Ideal S1024 .f32) (x1 : Vec Ideal S8x1024 .f32) (k : Fin 1024) :
    conditions x0 x1 (ix2 (0 : Fin 16) k : S16x1024.Idx) = x0 (ix1 k : S1024.Idx) := by
  unfold conditions
  refine (concatenate_apply_piece (0 : Fin S16x1024.rank) _ _ _ 0 (by show 0 < 3; decide) S1x1024 (broadcastInDim S1x1024 ![1] bcast_S1024_S1x1024_1 x0) rfl rfl 0 rfl
    (ix2 (0 : Fin 1) k : S1x1024.Idx) (fun b hb => ?_) rfl).trans ?_
  · match b with
    | ⟨0, _⟩ => exact absurd rfl hb
    | ⟨1, _⟩ => rfl
  · refine congrArg x0 (funext fun a => ?_)
    match a with
    | ⟨0, _⟩ => rfl

/-- A sample's condition is a later row. -/
theorem conditions_later (x0 : Vec Ideal S1024 .f32) (x1 : Vec Ideal S8x1024 .f32) (b : Fin 8) (k : Fin 1024) :
    conditions x0 x1 (ix2 (⟨1 + b.val, by omega⟩ : Fin 16) k : S16x1024.Idx) = x1 (ix2 b k : S8x1024.Idx) := by
  unfold conditions
  refine concatenate_apply_piece (0 : Fin S16x1024.rank) _ _ _ 1 (by show 1 < 3; decide) S8x1024 x1 rfl rfl 1 rfl _ (fun a ha => ?_) rfl
  match a with
  | ⟨0, _⟩ => exact absurd rfl ha
  | ⟨1, _⟩ => rfl

/-- The rows the call leaves, of any conditions, weights and biases. -/
def modArray (x : Vec Ideal S16x1024 .f32) (w : Vec Ideal S2x1024x6144 .f32) (b : Vec Ideal S2x6144 .f32) : Vec Ideal S1x16x6144 .f32 := fun y =>
  modulated (fun k => x (ix2 (y 1 : Fin 16) k : S16x1024.Idx)) (fun k => w (ix3 (0 : Fin 2) k (y 2 : Fin 6144) : S2x1024x6144.Idx)) (b (ix2 (0 : Fin 2) (y 2 : Fin 6144) : S2x6144.Idx))

/-- The first layer's bias in the row the call takes. -/
theorem biasRow_apply (b : Vec Ideal S2x6144 .f32) (j : Fin 6144) :
    shapeCast S2x1x6144 b shapeCasts_S2x6144_S2x1x6144 (ix3 (0 : Fin 2) (0 : Fin 1) j : S2x1x6144.Idx) = b (ix2 (0 : Fin 2) j : S2x6144.Idx) := by
  refine shapeCast_apply _ shapeCasts_S2x6144_S2x1x6144 _ _ ?_
  rw [Shape.rowMajor_val_three, Shape.rowMajor_val_two]
  show 0 * 6144 + j.val = (0 * 1 + 0) * 6144 + j.val
  omega

/-- The first row cut out of the call's array. -/
theorem cut_first (A : Vec Ideal S1x16x6144 .f32) (j : Fin 6144) :
    shapeCast S1x6144 (extractStridedSlice S1x1x6144 ![0, 0, 0] A slices_S1x16x6144_S1x1x6144_0_0_0) shapeCasts_S1x1x6144_S1x6144 (ix2 (0 : Fin 1) j : S1x6144.Idx)
      = A (ix3 (0 : Fin 1) (0 : Fin 16) j : S1x16x6144.Idx) := by
  refine (shapeCast_1ab_ab_apply _ _ (0 : Fin 1) j).trans (congrArg A (funext fun a => Fin.ext ?_))
  match a with
  | ⟨0, _⟩ => rfl
  | ⟨1, _⟩ => rfl
  | ⟨2, _⟩ => show 0 + j.val = j.val; omega

/-- A later row cut out of the call's array. -/
theorem cut_later (A : Vec Ideal S1x16x6144 .f32) (b : Fin 8) (j : Fin 6144) :
    shapeCast S8x6144 (extractStridedSlice S1x8x6144 ![0, 1, 0] A slices_S1x16x6144_S1x8x6144_0_1_0) shapeCasts_S1x8x6144_S8x6144 (ix2 b j : S8x6144.Idx)
      = A (ix3 (0 : Fin 1) (⟨1 + b.val, by omega⟩ : Fin 16) j : S1x16x6144.Idx) := by
  refine (shapeCast_1ab_ab_apply _ _ b j).trans (congrArg A (funext fun a => Fin.ext ?_))
  match a with
  | ⟨0, _⟩ => rfl
  | ⟨1, _⟩ => rfl
  | ⟨2, _⟩ => show 0 + j.val = j.val; omega

/-! ## What the arrays hold -/

variable (m : (ℓ : Loc nD τ sig) → Buf (Elt Ideal) ℓ) (ρ : Dev nD → PrngReg) (c : Dev nD)

/-- The conditions' rows. -/
theorem V_v2 : V m c main_v2 = conditions (m ((c : Thread nD τ).loc main_arg0)) (m ((c : Thread nD τ).loc main_arg1)) := by
  show StableHlo.after [hostOps0 (F := Ideal)].flatten (fun b => m (c, b)) (Proc.devRef .tc main_v2) = _
  simp only [hostOps0, List.flatten_cons, List.flatten_nil, List.append_nil]
  after_results
  rfl

/-- The biases' rows. -/
theorem V_v3 : V m c main_v3 = shapeCast S2x1x6144 (m ((c : Thread nD τ).loc main_arg3)) shapeCasts_S2x6144_S2x1x6144 := by
  show StableHlo.after [hostOps0 (F := Ideal)].flatten (fun b => m (c, b)) (Proc.devRef .tc main_v3) = _
  simp only [hostOps0, List.flatten_cons, List.flatten_nil, List.append_nil]
  after_results
  rfl

/-- The windows of the points. -/
theorem index_at : ∀ t : Fin cfg0.N, win0_0.index t = ![0, 0] ∧ win0_1.index t = ![0, 0, t.val] ∧ win0_2.index t = ![0, 0, t.val] ∧ win0_3.index t = ![0, 0, t.val] :=
  (by decide +kernel : ∀ t : Fin grid0.N, win0_0.index t = ![0, 0] ∧ win0_1.index t = ![0, 0, t.val] ∧ win0_2.index t = ![0, 0, t.val] ∧ win0_3.index t = ![0, 0, t.val])

section
variable (t : Fin cfg0.N)

/-- The conditions of a block. -/
theorem blk_0 (p : Fin 16) (k : Fin 1024) : iblk m c 0 t (ix2 p k : S16x1024.Idx)
    = conditions (m ((c : Thread nD τ).loc main_arg0)) (m ((c : Thread nD τ).loc main_arg1)) (ix2 p k : S16x1024.Idx) := by
  obtain ⟨e0, e1, e2, e3⟩ := index_at t
  rw [← V_v2 m c]
  show V m c main_v2 (((cfg0.win 0).blk t).view.emb _) = _
  blk_ext [iblk, e0]

/-- The weights of a block. -/
theorem blk_1 (k : Fin 1024) (j : Fin 1536) : iblk m c 1 t (ix3 (0 : Fin 1) k j : S1x1024x1536.Idx)
    = m ((c : Thread nD τ).loc main_arg2) (ix3 (0 : Fin 2) k (⟨t.val * 1536 + j.val, by have : t.val < 4 := t.isLt; omega⟩ : Fin 6144) : S2x1024x6144.Idx) := by
  have ht : t.val < 4 := t.isLt
  obtain ⟨e0, e1, e2, e3⟩ := index_at t
  rw [← V_main_arg2 m c]
  show V m c main_arg2 (((cfg0.win 1).blk t).view.emb _) = _
  blk_ext [iblk, e1]

/-- The biases of a block. -/
theorem blk_2 (j : Fin 1536) : iblk m c 2 t (ix3 (0 : Fin 1) (0 : Fin 1) j : S1x1x1536.Idx)
    = m ((c : Thread nD τ).loc main_arg3) (ix2 (0 : Fin 2) (⟨t.val * 1536 + j.val, by have : t.val < 4 := t.isLt; omega⟩ : Fin 6144) : S2x6144.Idx) := by
  have ht : t.val < 4 := t.isLt
  obtain ⟨e0, e1, e2, e3⟩ := index_at t
  refine Eq.trans ?_ (biasRow_apply (m ((c : Thread nD τ).loc main_arg3)) (⟨t.val * 1536 + j.val, by omega⟩ : Fin 6144))
  rw [← V_v3 m c]
  show V m c main_v3 (((cfg0.win 2).blk t).view.emb _) = _
  blk_ext [iblk, e2]

/-- What a point leaves. -/
theorem point (p : Fin 16) (j : Fin 1536) : (dats m 0 c).after 3 t (ix3 (0 : Fin 1) p j : S1x16x1536.Idx)
    = modArray (conditions (m ((c : Thread nD τ).loc main_arg0)) (m ((c : Thread nD τ).loc main_arg1))) (m ((c : Thread nD τ).loc main_arg2)) (m ((c : Thread nD τ).loc main_arg3))
        (ix3 (0 : Fin 1) p (⟨t.val * 1536 + j.val, by have : t.val < 4 := t.isLt; omega⟩ : Fin 6144) : S1x16x6144.Idx) := by
  rw [after0_3]
  refine (out_apply _ _ _ p j).trans ?_
  simp only [blk_0, blk_1, blk_2]
  rfl
end

/-- The array the call leaves. -/
theorem array_end : (dats m 0 c).arrAt 3 cfg0.N
    = modArray (conditions (m ((c : Thread nD τ).loc main_arg0)) (m ((c : Thread nD τ).loc main_arg1))) (m ((c : Thread nD τ).loc main_arg2)) (m ((c : Thread nD τ).loc main_arg3)) := by
  refine (dats m 0 c).arrAt_eq_of_covers 3 _ (by decide +kernel) fun t hf y => ?_
  have ht : t.val < 4 := t.isLt
  obtain ⟨p, j, rfl⟩ : ∃ (p : Fin 16) (j : Fin 1536), y = (ix3 (0 : Fin 1) p j : S1x16x1536.Idx) :=
    ⟨y 1, y 2, funext fun x => match x with | ⟨0, _⟩ => Fin.ext (by have := (y 0).isLt; change (y 0).val < 1 at this; show (y 0).val = 0; omega) | ⟨1, _⟩ => rfl | ⟨2, _⟩ => rfl⟩
  obtain ⟨e0, e1, e2, e3⟩ := index_at t
  refine (point m c t p j).trans ?_
  show modArray _ _ _ _ = modArray _ _ _ (((cfg0.win 3).blk t).view.emb _)
  refine congrArg _ ?_
  blk_ext [e3]

/-! ## The results -/

/-- The host lines after the call leave the prompt's row. -/
theorem tail_first (W : Valuation τ sig (Elt Ideal)) : StableHlo.after [hostOps1 (F := Ideal)].flatten W (Proc.devRef .tc main_v6)
    = shapeCast S1x6144 (extractStridedSlice S1x1x6144 ![0, 0, 0] (W (Proc.devRef .tc main_v4) : FVec Ideal S1x16x6144 .f32) slices_S1x16x6144_S1x1x6144_0_0_0) shapeCasts_S1x1x6144_S1x6144 := by
  simp only [hostOps1, List.flatten_cons, List.flatten_nil, List.append_nil]
  after_results
  rfl

/-- The host lines after the call leave the samples' rows. -/
theorem tail_later (W : Valuation τ sig (Elt Ideal)) : StableHlo.after [hostOps1 (F := Ideal)].flatten W (Proc.devRef .tc main_v8)
    = shapeCast S8x6144 (extractStridedSlice S1x8x6144 ![0, 1, 0] (W (Proc.devRef .tc main_v4) : FVec Ideal S1x16x6144 .f32) slices_S1x16x6144_S1x8x6144_0_1_0) shapeCasts_S1x8x6144_S8x6144 := by
  simp only [hostOps1, List.flatten_cons, List.flatten_nil, List.append_nil]
  after_results
  rfl

/-- The array the host lines after the call read. -/
theorem array_read : Pipeline.withArrays spec0 c (V0 m c) (fun w => (dats m 0 c).arrAt w cfg0.N) (Proc.devRef .tc main_v4)
    = modArray (conditions (m ((c : Thread nD τ).loc main_arg0)) (m ((c : Thread nD τ).loc main_arg1))) (m ((c : Thread nD τ).loc main_arg2)) (m ((c : Thread nD τ).loc main_arg3)) :=
  (Pipeline.withArrays_arr spec0 winFacts0.arr_inj c (V0 m c) (fun w => (dats m 0 c).arrAt w cfg0.N) 3).trans (array_end m c)

/-- The prompt's modulation vector. -/
def promptMod (x0 : Vec Ideal S1024 .f32) (w : Vec Ideal S2x1024x6144 .f32) (b : Vec Ideal S2x6144 .f32) : Vec Ideal S1x6144 .f32 := fun y =>
  modulated (fun k => x0 (ix1 k : S1024.Idx)) (fun k => w (ix3 (0 : Fin 2) k (y 1 : Fin 6144) : S2x1024x6144.Idx)) (b (ix2 (0 : Fin 2) (y 1 : Fin 6144) : S2x6144.Idx))

/-- The samples' modulation vectors. -/
def sampleMod (x1 : Vec Ideal S8x1024 .f32) (w : Vec Ideal S2x1024x6144 .f32) (b : Vec Ideal S2x6144 .f32) : Vec Ideal S8x6144 .f32 := fun y =>
  modulated (fun k => x1 (ix2 (y 0 : Fin 8) k : S8x1024.Idx)) (fun k => w (ix3 (0 : Fin 2) k (y 1 : Fin 6144) : S2x1024x6144.Idx)) (b (ix2 (0 : Fin 2) (y 1 : Fin 6144) : S2x6144.Idx))

/-- The prompt's result. -/
theorem end_first : Pipeline.afterTail₀ cfgs (dats m) 0 (V0 m) [hostOps1] c main_v6
    = promptMod (m ((c : Thread nD τ).loc main_arg0)) (m ((c : Thread nD τ).loc main_arg2)) (m ((c : Thread nD τ).loc main_arg3)) := by
  refine (tail_first _).trans ?_
  refine (congrArg (fun A : FVec Ideal S1x16x6144 .f32 => shapeCast S1x6144 (extractStridedSlice S1x1x6144 ![0, 0, 0] A slices_S1x16x6144_S1x1x6144_0_0_0) shapeCasts_S1x1x6144_S1x6144) (array_read m c)).trans ?_
  funext y
  obtain ⟨j, rfl⟩ : ∃ j : Fin 6144, y = (ix2 (0 : Fin 1) j : S1x6144.Idx) :=
    ⟨y 1, funext fun x => match x with | ⟨0, _⟩ => Fin.ext (by have := (y 0).isLt; change (y 0).val < 1 at this; show (y 0).val = 0; omega) | ⟨1, _⟩ => rfl⟩
  refine (cut_first _ j).trans ?_
  exact congrArg (fun f => modulated f _ _) (funext fun k => conditions_first _ _ k)

/-- The samples' result. -/
theorem end_later : Pipeline.afterTail₀ cfgs (dats m) 0 (V0 m) [hostOps1] c main_v8
    = sampleMod (m ((c : Thread nD τ).loc main_arg1)) (m ((c : Thread nD τ).loc main_arg2)) (m ((c : Thread nD τ).loc main_arg3)) := by
  refine (tail_later _).trans ?_
  refine (congrArg (fun A : FVec Ideal S1x16x6144 .f32 => shapeCast S8x6144 (extractStridedSlice S1x8x6144 ![0, 1, 0] A slices_S1x16x6144_S1x8x6144_0_1_0) shapeCasts_S1x8x6144_S8x6144) (array_read m c)).trans ?_
  funext y
  obtain ⟨b, j, rfl⟩ : ∃ (b : Fin 8) (j : Fin 6144), y = (ix2 b j : S8x6144.Idx) := ⟨y 0, y 1, funext fun x => match x with | ⟨0, _⟩ => rfl | ⟨1, _⟩ => rfl⟩
  refine (cut_later _ b j).trans ?_
  exact congrArg (fun f => modulated f _ _) (funext fun k => conditions_later _ _ b k)

/-- The run leaves the two results and the arguments. -/
theorem run_results : θ_run defs (onTc (τ := τ) (main (F := Ideal))) ⟨m, fun _ => 0, ρ⟩ (fun r => ∀ c : Dev nD,
      r.2.mem ((c.tc : Thread nD τ).loc main_v6) = promptMod (m ((c : Thread nD τ).loc main_arg0)) (m ((c : Thread nD τ).loc main_arg2)) (m ((c : Thread nD τ).loc main_arg3))
      ∧ r.2.mem ((c.tc : Thread nD τ).loc main_v8) = sampleMod (m ((c : Thread nD τ).loc main_arg1)) (m ((c : Thread nD τ).loc main_arg2)) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h.2 c).2 main_v6 (Pipeline.mem_restRefs_of main_v6 (by decide) (by decide))).trans (end_first m c),
    ((h.2 c).2 main_v8 (Pipeline.mem_restRefs_of main_v8 (by decide) (by decide))).trans (end_later m c), h.1 c⟩)
    (θ_run_and (unchanged m ρ) (run_main m ρ))

end Cert.Kernel4Ideal.Gen

end
-- ==== Proof.AdaClaims.lean ====
/-
  The call that makes the modulation vectors: its reference's value, its frames, the idealization's own statement, and its value.
-/
module

public import proofs.«01_k».proof.Defs
public import proofs.«01_k».proof.Proof.AdaResult
public import proofs.«01_k».proof.Proof.Gen.Kernel4.Frame
public import proofs.«01_k».proof.Proof.Gen.Reference4Ideal.Run
public import proofs.«01_k».proof.Proof.Gen.Reference4Ideal.Read
public import Idealize.ShloMosaic.Lib.IdealHost
public import Idealize.ShloMosaic.Adequacy
public import Idealize.ShloMosaic.Init

@[expose] public section

set_option maxRecDepth 16384

noncomputable section

namespace Cert.Reference4Ideal.Read

open Cert.Reference4Ideal Cert.Reference4Ideal.Gen
open Idealize.ShloMosaic hiding ix1 ix2 ix3 ix4
open Idealize.ShloMosaic.TcCoe Idealize.ShloMosaic.ValueIdx
open Cert.Kernel4Ideal.Gen (gated modulated promptMod sampleMod)
open scoped BigOperators

variable (x0 : (⟨S1024, .f32⟩ : BufTy).Contents (Elt Ideal)) (x1 : (⟨S8x1024, .f32⟩ : BufTy).Contents (Elt Ideal))
  (x2 : (⟨S2x1024x6144, .f32⟩ : BufTy).Contents (Elt Ideal)) (x3 : (⟨S2x6144, .f32⟩ : BufTy).Contents (Elt Ideal))

/-- The prompt's condition, gated. -/
theorem gate1 (k : Fin 1024) : val_main_v1 (F := Ideal) x0 (ix2 (0 : Fin 1) k : S1x1024.Idx) = gated (x0 (ix1 k : S1024.Idx)) := by
  have e : val_main_v0 (F := Ideal) x0 (ix2 (0 : Fin 1) k : S1x1024.Idx) = x0 (ix1 k : S1024.Idx) :=
    (val_main_v0_apply x0 _).trans (congrArg x0 (funext fun a => match a with | ⟨0, _⟩ => rfl))
  rw [val_main_v1_apply, val_main_call0_v5_apply, val_main_call0_v4_apply, val_main_call0_v3_apply, val_main_call0_v2_apply, val_main_call0_v1_apply, val_main_call0_v0_apply, e]
  show x0 _ * Ideal.div (Ideal.ofBits .f32 0x3F800000#32) (Ideal.ofBits .f32 0x3F800000#32 + Ideal.exp (-x0 _)) = gated _
  rw [Ideal.ofBits_one_f32]
  rfl

/-- A sample's condition, gated. -/
theorem gate9 (b : Fin 8) (k : Fin 1024) : val_main_v9 (F := Ideal) x1 (ix2 b k : S8x1024.Idx) = gated (x1 (ix2 b k : S8x1024.Idx)) := by
  rw [val_main_v9_apply, val_main_call1_v5_apply, val_main_call1_v4_apply, val_main_call1_v3_apply, val_main_call1_v2_apply, val_main_call1_v1_apply, val_main_call1_v0_apply]
  show x1 _ * Ideal.div (Ideal.ofBits .f32 0x3F800000#32) (Ideal.ofBits .f32 0x3F800000#32 + Ideal.exp (-x1 _)) = gated _
  rw [Ideal.ofBits_one_f32]
  rfl

/-- The first layer's weights, as the prompt's row meets them. -/
theorem weight3 (k : Fin 1024) (j : Fin 6144) : val_main_v3 (F := Ideal) x2 (ix2 k j : S1024x6144.Idx) = x2 (ix3 (0 : Fin 2) k j : S2x1024x6144.Idx) := by
  rw [val_main_v3_apply, val_main_v2_apply]
  refine congrArg x2 (funext fun a => Fin.ext ?_)
  match a with
  | ⟨0, _⟩ => first | rfl | (show (k.val * 6144 + j.val) / 6291456 = 0; omega)
  | ⟨1, _⟩ => show (k.val * 6144 + j.val) / 6144 % 1024 = k.val; omega
  | ⟨2, _⟩ => show (k.val * 6144 + j.val) % 6144 = j.val; omega

/-- The first layer's weights, as the samples' rows meet them. -/
theorem weight11 (k : Fin 1024) (j : Fin 6144) : val_main_v11 (F := Ideal) x2 (ix2 k j : S1024x6144.Idx) = x2 (ix3 (0 : Fin 2) k j : S2x1024x6144.Idx) := by
  rw [val_main_v11_apply, val_main_v10_apply]
  refine congrArg x2 (funext fun a => Fin.ext ?_)
  match a with
  | ⟨0, _⟩ => first | rfl | (show (k.val * 6144 + j.val) / 6291456 = 0; omega)
  | ⟨1, _⟩ => show (k.val * 6144 + j.val) / 6144 % 1024 = k.val; omega
  | ⟨2, _⟩ => show (k.val * 6144 + j.val) % 6144 = j.val; omega

/-- The first layer's bias, as the prompt's row meets it. -/
theorem bias7 (j : Fin 6144) : val_main_v7 (F := Ideal) x3 (ix2 (0 : Fin 1) j : S1x6144.Idx) = x3 (ix2 (0 : Fin 2) j : S2x6144.Idx) := by
  rw [val_main_v7_apply, val_main_v6_apply, val_main_v5_apply]
  refine congrArg x3 (funext fun a => Fin.ext ?_)
  match a with
  | ⟨0, _⟩ => first | rfl | (show j.val / 6144 = 0; omega)
  | ⟨1, _⟩ => first | rfl | (show j.val % 6144 = j.val; omega)

/-- The first layer's bias, as the samples' rows meet it. -/
theorem bias16 (b : Fin 8) (j : Fin 6144) : val_main_v16 (F := Ideal) x3 (ix2 b j : S8x6144.Idx) = x3 (ix2 (0 : Fin 2) j : S2x6144.Idx) := by
  rw [val_main_v16_apply, val_main_v15_apply, val_main_v14_apply, val_main_v13_apply]
  refine congrArg x3 (funext fun a => Fin.ext ?_)
  match a with
  | ⟨0, _⟩ => first | rfl | (show j.val / 6144 = 0; omega)
  | ⟨1, _⟩ => first | rfl | (show j.val % 6144 = j.val; omega)

/-- The reference's prompt row. -/
theorem result8 : val_main_v8 (F := Ideal) x0 x2 x3 = promptMod x0 x2 x3 := by
  funext y
  obtain ⟨j, rfl⟩ : ∃ j : Fin 6144, y = (ix2 (0 : Fin 1) j : S1x6144.Idx) :=
    ⟨y 1, funext fun x => match x with | ⟨0, _⟩ => Fin.ext (by have := (y 0).isLt; change (y 0).val < 1 at this; show (y 0).val = 0; omega) | ⟨1, _⟩ => rfl⟩
  rw [val_main_v8_apply, val_main_v4_apply, bias7]
  refine congrArg (fun z : EReal => z + _) (Finset.sum_congr rfl fun k _ => ?_)
  have el : lidx_main_v4 (ix2 (0 : Fin 1) j : S1x6144.Idx) k = (ix2 (0 : Fin 1) k : S1x1024.Idx) := funext fun a => match a with | ⟨0, _⟩ => rfl | ⟨1, _⟩ => rfl
  have er : ridx_main_v4 (ix2 (0 : Fin 1) j : S1x6144.Idx) k = (ix2 k j : S1024x6144.Idx) := funext fun a => match a with | ⟨0, _⟩ => rfl | ⟨1, _⟩ => rfl
  rw [el, er, gate1, weight3]

/-- The reference's samples' rows. -/
theorem result17 : val_main_v17 (F := Ideal) x1 x2 x3 = sampleMod x1 x2 x3 := by
  funext y
  obtain ⟨b, j, rfl⟩ : ∃ (b : Fin 8) (j : Fin 6144), y = (ix2 b j : S8x6144.Idx) := ⟨y 0, y 1, funext fun x => match x with | ⟨0, _⟩ => rfl | ⟨1, _⟩ => rfl⟩
  rw [val_main_v17_apply, val_main_v12_apply, bias16]
  refine congrArg (fun z : EReal => z + _) (Finset.sum_congr rfl fun k _ => ?_)
  have el : lidx_main_v12 (ix2 b j : S8x6144.Idx) k = (ix2 b k : S8x1024.Idx) := funext fun a => match a with | ⟨0, _⟩ => rfl | ⟨1, _⟩ => rfl
  have er : ridx_main_v12 (ix2 b j : S8x6144.Idx) k = (ix2 k j : S1024x6144.Idx) := funext fun a => match a with | ⟨0, _⟩ => rfl | ⟨1, _⟩ => rfl
  rw [el, er, gate9, weight11]

end Cert.Reference4Ideal.Read

namespace Cert.Proof

open Idealize.ShloMosaic Idealize.SL.Sem Idealize.ShloMosaic.TcCoe

/-- The reference of the modulation call runs, leaves its arguments, and leaves every counter at zero. -/
theorem frame_ada_ref : Cert.quiescent_Reference4Ideal (hReference4Ideal := Cert.Reference4Ideal.Gen.facts) := fun m ρ _ =>
  (θ_run Cert.Reference4Ideal.defs _ _).mono (fun r h => ⟨fun c => (h c).2.2,
      Idealize.ShloMosaic.sem_eq_zero_of_no_sems (by decide) r.2⟩)
    (Cert.Reference4Ideal.Value.run (F := Ideal) m ρ)

/-- The idealized modulation call is the printed one: nothing is rewritten. -/
theorem preserves_ada : Cert.preserves_Kernel4_Kernel4Ideal := trivial

/-- The idealized modulation call and its reference leave the same two arrays. -/
theorem algebraic_ada : Cert.algebraic_Kernel4Ideal_Reference4Ideal (hKernel4Ideal := Cert.Kernel4Ideal.Gen.facts)
    (hReference4Ideal := Cert.Reference4Ideal.Gen.facts) := by
  intro m ρ m' ρ' _ hagree
  refine ⟨_, _, Cert.Kernel4Ideal.Gen.run_results m ρ, ?_⟩
  refine (θ_run Cert.Reference4Ideal.defs _ _).mono (fun _ h c => ?_) (Cert.Reference4Ideal.Value.run (F := Ideal) m' ρ')
  obtain ⟨h8, h17, hargs⟩ := h c
  obtain ⟨a0, a1, a2, a3⟩ := hagree c
  refine ⟨h8.trans ?_, h17.trans ?_, hargs⟩
  · rw [Cert.Reference4Ideal.Read.val_main_v8_eq, a0, a2, a3]
    exact Cert.Reference4Ideal.Read.result8 _ _ _
  · rw [Cert.Reference4Ideal.Read.val_main_v17_eq, a1, a2, a3]
    exact Cert.Reference4Ideal.Read.result17 _ _ _

end Cert.Proof

end
-- ==== Proof.Block.lean ====
module

public import proofs.«01_k».proof.Proof.Gen.KernelIdeal.Value

@[expose] public section

set_option maxRecDepth 16384

noncomputable section

namespace Cert.KernelIdeal.Gen

open Idealize.ShloMosaic Idealize.ShloMosaic.TcCoe Idealize.ShloMosaic.Tactic
open Idealize.ShloMosaic.Pipeline (Dat Cfg Window cellOf)

variable {F : FTy → Type} [FloatOps F] [Named F]
variable (m : (ℓ : Loc nD τ sig) → Buf (Elt F) ℓ)

/-! ## One block of the attention, as a function of the blocks it reads -/

/-- Two heads' transposed queries side by side: each head's own half of the rows kept, the other half zero. -/
def headPair (v : FVec F S128x256 .bf16) : FVec F S128x512 .bf16 :=
  concatenate S128x512 1
    [⟨S128x256, select (cmpi .slt (iota .tc S128x256 32 [0] iota_S128x256_d0_w32) (broadcast S128x256 64#32)) v
        (broadcast S128x256 (Scalar.ofBits .bf16 0x0000#16))⟩,
     ⟨S128x256, select (cmpi .sge (iota .tc S128x256 32 [0] iota_S128x256_d0_w32) (broadcast S128x256 64#32)) v
        (broadcast S128x256 (Scalar.ofBits .bf16 0x0000#16))⟩]
    concatenates_S128x256_S128x256_S128x512_d1

/-- The scores of one part of the keys. -/
def score (k : FVec F S256x128 .bf16) (q : FVec F S128x512 .bf16) : FVec F S256x512 .f32 :=
  matmul dot_S256x128_S128x512_S256x512_1_0_0_1_n_n none k q (constant S256x512 .f32 0x00000000#32)

/-- A part's largest score, query by query. -/
def partMax (s : FVec F S256x512 .f32) : FVec F S1x512 .f32 :=
  shapeCast S1x512 (multiReduction .maximumf [0] S512 s 0xFF800000#32 reduces_S256x512_S512 (.inl rfl) rfl) shapeCasts_S512_S1x512

/-- A part's weights before their division, against the row of maxima. -/
def weights (s : FVec F S256x512 .f32) (mx : FVec F S1x512 .f32) : FVec F S256x512 .f32 :=
  exp2 (subf s (broadcastTo S256x512 mx broadcasts_S1x512_S256x512))

/-- A part's sum of weights, query by query. -/
def partSum (e : FVec F S256x512 .f32) : FVec F S1x512 .f32 :=
  shapeCast S1x512 (multiReduction .add [0] S512 e 0x00000000#32 reduces_S256x512_S512 (.inl rfl) rfl) shapeCasts_S512_S1x512

/-- A part's weighted values. -/
def partVal (v : FVec F S64x256 .bf16) (e : FVec F S256x512 .f32) : FVec F S64x512 .f32 :=
  matmul dot_S64x256_S256x512_S64x512_1_0_0_1_n_n none v (truncf .bf16 e bitsLt_bf16_f32) (constant S64x512 .f32 0x00000000#32)

/-- The largest score over the six parts, query by query. -/
def unitMax (s0 s1 s2 s3 s4 s5 : FVec F S256x512 .f32) : FVec F S1x512 .f32 :=
  maximumf (maximumf (maximumf (maximumf (maximumf (partMax s0) (partMax s1)) (partMax s2)) (partMax s3)) (partMax s4)) (partMax s5)

/-- The sum of the weights over the six parts, query by query. -/
def unitSum (e0 e1 e2 e3 e4 e5 : FVec F S256x512 .f32) : FVec F S1x512 .f32 :=
  addf (addf (addf (addf (addf (partSum e0) (partSum e1)) (partSum e2)) (partSum e3)) (partSum e4)) (partSum e5)

/-- The weighted values summed over the six parts. -/
def unitAcc (e0 e1 e2 e3 e4 e5 : FVec F S256x512 .f32) (v0 v1 v2 v3 v4 v5 : FVec F S64x256 .bf16) : FVec F S64x512 .f32 :=
  addf (addf (addf (addf (addf (partVal v0 e0) (partVal v1 e1)) (partVal v2 e2)) (partVal v3 e3)) (partVal v4 e4)) (partVal v5 e5)

/-- The sums of the weighted values times one over the sum of the weights. -/
def unitDiv (acc : FVec F S64x512 .f32) (l : FVec F S1x512 .f32) : FVec F S64x512 .f32 :=
  mulf acc (broadcastTo S64x512 (divf (broadcast S1x512 (Scalar.ofBits .f32 0x3F800000#32)) l) broadcasts_S1x512_S64x512)

/-- One pair of heads over the six parts, against a row of maxima. -/
def unitAt (mx : FVec F S1x512 .f32) (s0 s1 s2 s3 s4 s5 : FVec F S256x512 .f32) (v0 v1 v2 v3 v4 v5 : FVec F S64x256 .bf16) :
    FVec F S64x512 .f32 :=
  unitDiv (unitAcc (weights s0 mx) (weights s1 mx) (weights s2 mx) (weights s3 mx) (weights s4 mx) (weights s5 mx) v0 v1 v2 v3 v4 v5)
    (unitSum (weights s0 mx) (weights s1 mx) (weights s2 mx) (weights s3 mx) (weights s4 mx) (weights s5 mx))

/-- One pair of heads over the six parts of its keys and values. -/
def unitOut (s0 s1 s2 s3 s4 s5 : FVec F S256x512 .f32) (v0 v1 v2 v3 v4 v5 : FVec F S64x256 .bf16) : FVec F S64x512 .f32 :=
  unitAt (unitMax s0 s1 s2 s3 s4 s5) s0 s1 s2 s3 s4 s5 v0 v1 v2 v3 v4 v5

/-- The 128 rows of a pair of heads lie in the block of queries. -/
theorem slices_pair (u : Fin 8) : S1024x256.Slices ![128 * u.val, 0] S128x256 := by revert u; decide
/-- The 256 columns of one of two heads lie in a unit's result. -/
theorem slices_head (h : Fin 16) : S64x512.Slices ![0, 256 * (h.val % 2)] S64x256 := by revert h; decide
/-- A part of 256 cached keys of a head lies in the block. -/
theorem inb_kc (g : Fin 4) (p : Fin 2) : ∀ a, (![0, 256 * p.val, 128 * g.val] : Fin 3 → ℕ) a + S1x256x128.size a ≤ S1x512x512.size a := by
  revert g p; decide
/-- A part of 256 new keys of a head lies in the block. -/
theorem inb_kn (g p : Fin 4) : ∀ a, (![256 * p.val, 128 * g.val] : Fin 2 → ℕ) a + S256x128.size a ≤ S1024x512.size a := by
  revert g p; decide
/-- A part of 256 cached values of a head lies in the block. -/
theorem inb_vc (g : Fin 4) (p : Fin 2) : ∀ a, (![0, 64 * g.val, 256 * p.val] : Fin 3 → ℕ) a + S1x64x256.size a ≤ S1x256x512.size a := by
  revert g p; decide
/-- A part of 256 new values of a head lies in the block. -/
theorem inb_vn (g p : Fin 4) : ∀ a, (![64 * g.val, 256 * p.val] : Fin 2 → ℕ) a + S64x256.size a ≤ S256x1024.size a := by
  revert g p; decide

section
variable (q : FVec F S1024x256 .bf16)
  (kc : ∀ off : Fin 3 → ℕ, (∀ a, off a + S1x256x128.size a ≤ S1x512x512.size a) → Vec F S1x256x128 .bf16)
  (kn : ∀ off : Fin 2 → ℕ, (∀ a, off a + S256x128.size a ≤ S1024x512.size a) → Vec F S256x128 .bf16)
  (vc : ∀ off : Fin 3 → ℕ, (∀ a, off a + S1x64x256.size a ≤ S1x256x512.size a) → Vec F S1x64x256 .bf16)
  (vn : ∀ off : Fin 2 → ℕ, (∀ a, off a + S64x256.size a ≤ S256x1024.size a) → Vec F S64x256 .bf16)

/-- The queries of the pair `u`. -/
def pairQ (u : Fin 8) : FVec F S128x512 .bf16 :=
  headPair (extractStridedSlice S128x256 ![128 * u.val, 0] q (slices_pair u))

/-- The scores of the pair `u` (of group `g`) against a part of the cached keys. -/
def scoreC (g : Fin 4) (u : Fin 8) (p : Fin 2) : FVec F S256x512 .f32 :=
  score (shapeCast S256x128 (kc ![0, 256 * p.val, 128 * g.val] (inb_kc g p)) shapeCasts_S1x256x128_S256x128) (pairQ q u)

/-- The scores of the pair `u` (of group `g`) against a part of the new keys. -/
def scoreN (g : Fin 4) (u : Fin 8) (p : Fin 4) : FVec F S256x512 .f32 :=
  score (shapeCast S256x128 (kn ![256 * p.val, 128 * g.val] (inb_kn g p)) shapeCasts_S256x128_S256x128) (pairQ q u)

/-- A part of a group's cached values. -/
def valC (g : Fin 4) (p : Fin 2) : FVec F S64x256 .bf16 :=
  shapeCast S64x256 (vc ![0, 64 * g.val, 256 * p.val] (inb_vc g p)) shapeCasts_S1x64x256_S64x256

/-- A part of a group's new values. -/
def valN (g : Fin 4) (p : Fin 4) : FVec F S64x256 .bf16 :=
  shapeCast S64x256 (vn ![64 * g.val, 256 * p.val] (inb_vn g p)) shapeCasts_S64x256_S64x256

/-- What the pair `u` of heads, of group `g`, leaves. -/
def pairOut (g : Fin 4) (u : Fin 8) : FVec F S64x512 .f32 :=
  unitOut (scoreC q kc g u 0) (scoreC q kc g u 1) (scoreN q kn g u 0) (scoreN q kn g u 1) (scoreN q kn g u 2) (scoreN q kn g u 3)
    (valC vc g 0) (valC vc g 1) (valN vn g 0) (valN vn g 1) (valN vn g 2) (valN vn g 3)

/-- What the head `h` leaves: its half of its pair. -/
def headOut (h : Fin 16) : FVec F S64x256 .f32 :=
  extractStridedSlice S64x256 ![0, 256 * (h.val % 2)] (pairOut q kc kn vc vn ⟨h.val / 4, by omega⟩ ⟨h.val / 2, by omega⟩) (slices_head h)

/-- The sixteen heads' 64 rows, one below the other, are 1024 rows. -/
theorem concatenates_heads (f : Fin 16 → FVec F S64x256 .f32) :
    Shape.Concatenates ((List.ofFn fun h : Fin 16 => (⟨S64x256, f h⟩ : (s : Shape) × (s.Idx → F .f32))).map (·.1)) S1024x256 0 := by
  rw [List.map_ofFn]; show Shape.Concatenates (List.ofFn fun _ : Fin 16 => S64x256) S1024x256 0; decide

/-- The block: the sixteen heads stacked, then transposed. -/
def blockOut : FVec F S256x1024 .bf16 :=
  truncf .bf16 (transpose S256x1024 [1, 0] (concatenate S1024x256 0
    (List.ofFn fun h : Fin 16 => (⟨S64x256, headOut q kc kn vc vn h⟩ : (s : Shape) × (s.Idx → F .f32))) (concatenates_heads _))
    transposes_S1024x256_p1_0_S256x1024) bitsLt_bf16_f32

end

/-- The body's run writes, as its one piece of the first result, the block of what it reads. -/
theorem run_piece8 (c : Dev nD) (t : Fin cfg0.N) :
    (outsAt0 m c t).1 = blockOut (k0_pay5 (iblk m c 0 t))
      (fun off h => View.ld (iblk m c 1 t) (Rect.unit (s := S1x512x512) off S1x256x128.size h))
      (fun off h => View.ld (iblk m c 3 t) (Rect.unit (s := S1024x512) off S256x128.size h))
      (fun off h => View.ld (iblk m c 2 t) (Rect.unit (s := S1x256x512) off S1x64x256.size h))
      (fun off h => View.ld (iblk m c 4 t) (Rect.unit (s := S256x1024) off S64x256.size h)) := by
  have e1 : (fun off h => View.ld (iblk m c 1 t) (Rect.unit (s := S1x512x512) off S1x256x128.size h))
      = fun off h => View.readAt (Elt F) (ms0_1 t).view (Rect.unit (s := S1x512x512) off S1x256x128.size h).toLoadRect ((hs0_1 t).unread (iblk m c 1 t)) := by
    funext off h; rw [View.readAt_eq_ld, (hs0_1 t).read_unread]; rfl
  have e2 : (fun off h => View.ld (iblk m c 2 t) (Rect.unit (s := S1x256x512) off S1x64x256.size h))
      = fun off h => View.readAt (Elt F) (ms0_2 t).view (Rect.unit (s := S1x256x512) off S1x64x256.size h).toLoadRect ((hs0_2 t).unread (iblk m c 2 t)) := by
    funext off h; rw [View.readAt_eq_ld, (hs0_2 t).read_unread]; rfl
  have e3 : (fun off h => View.ld (iblk m c 3 t) (Rect.unit (s := S1024x512) off S256x128.size h))
      = fun off h => View.readAt (Elt F) (ms0_3 t).view (Rect.unit (s := S1024x512) off S256x128.size h).toLoadRect ((hs0_3 t).unread (iblk m c 3 t)) := by
    funext off h; rw [View.readAt_eq_ld, (hs0_3 t).read_unread]; rfl
  have e4 : (fun off h => View.ld (iblk m c 4 t) (Rect.unit (s := S256x1024) off S64x256.size h))
      = fun off h => View.readAt (Elt F) (ms0_4 t).view (Rect.unit (s := S256x1024) off S64x256.size h).toLoadRect ((hs0_4 t).unread (iblk m c 4 t)) := by
    funext off h; rw [View.readAt_eq_ld, (hs0_4 t).read_unread]; rfl
  have e0 : iblk m c 0 t = View.readAt (Elt F) (ms0_0 t).view (Rect.unit (s := S1x1024x256) ![0, 0, 0] S1x1024x256.size
      inb_S1x1024x256_S1x1024x256_0_0_0).toLoadRect ((hs0_0 t).unread (iblk m c 0 t)) := by
    rw [View.readAt_eq_ld, (hs0_0 t).read_unread]; exact (View.ld_unit_zero (S := S1x1024x256) (by decide) _ _).symm
  refine Eq.trans ?_ (congr (congr (congr (congr (congrArg (fun x => blockOut (k0_pay5 x)) e0.symm) e1.symm) e3.symm) e2.symm) e4.symm)
  unfold outsAt0 out0_A_8
  dsimp only
  rw [View.read_writes_eq_canon _ _ _ (fun y => cover0_A_8 c _ _ _ _ _ _ _ _ _ _ _ _ _ _ _ _ _ _ _ _ _ _ _ _ _ _ _ _ _ _ _ _ _ y)]
  unfold kernelRun0_A
  dsimp only
  rw [View.canon_unit_zero (S := S256x1024) (by decide)]
  sl_kernel_rfl

end Cert.KernelIdeal.Gen
-- ==== Proof.Softmax.lean ====
module

public import Idealize.ShloMosaic.Lib.IdealHost
public import Mathlib.Analysis.SpecialFunctions.Pow.Real
public import Mathlib.Analysis.SpecialFunctions.Log.Basic

@[expose] public section

noncomputable section

namespace Cert.Attn

open Idealize.ShloMosaic
open scoped BigOperators

/-- The factor on the queries: an eighth of the base-two logarithm of e. -/
def qScale : ℝ := (1 / 8) * (Real.log 2)⁻¹

/-- The named constant is positive. -/
theorem qScale_pos : 0 < qScale := by
  unfold qScale
  have : 0 < Real.log 2 := Real.log_pos (by norm_num)
  positivity

/-- Two to the power of a scaled difference is e to the power of an eighth of the difference. -/
theorem exp2_scaled (a b : ℝ) :
    Ideal.exp2 ((a * qScale : ℝ) - (b * qScale : ℝ) : EReal) = ((Real.exp (a / 8 - b / 8) : ℝ) : EReal) := by
  rw [← EReal.coe_sub]
  show ((Real.rpow 2 (a * qScale - b * qScale) : ℝ) : EReal) = _
  congr 1
  show (2 : ℝ) ^ (a * qScale - b * qScale) = _
  rw [Real.rpow_def_of_pos (by norm_num : (0 : ℝ) < 2)]
  congr 1
  have h : Real.log 2 ≠ 0 := (Real.log_pos (by norm_num)).ne'
  unfold qScale
  field_simp

/-- e to the power of a difference of reals. -/
theorem exp_diff (a b : ℝ) : Ideal.exp ((a : EReal) - (b : EReal)) = ((Real.exp (a - b) : ℝ) : EReal) := by
  rw [← EReal.coe_sub]; rfl

/-- A finite sum of reals, seen among the extended reals. -/
theorem coe_sum {ι : Type} (s : Finset ι) (f : ι → ℝ) : ((∑ i ∈ s, f i : ℝ) : EReal) = ∑ i ∈ s, (f i : EReal) := by
  induction s using Finset.cons_induction with
  | empty => simp
  | cons a s ha ih => rw [Finset.sum_cons, Finset.sum_cons, EReal.coe_add, ih]

/-- A real factor that is not negative moves out of a sum of extended reals. -/
theorem sum_mul_coe {ι : Type} (s : Finset ι) (f : ι → EReal) (r : ℝ) (hr : 0 ≤ r) :
    ∑ i ∈ s, f i * (r : EReal) = (∑ i ∈ s, f i) * (r : EReal) := by
  induction s using Finset.cons_induction with
  | empty => simp
  | cons a s ha ih =>
    rw [Finset.sum_cons, Finset.sum_cons, ih,
      EReal.right_distrib_of_nonneg_of_ne_top (EReal.coe_nonneg.2 hr) (EReal.coe_ne_top r)]

/-- Division by a real that is not zero is multiplication by its inverse. -/
theorem div_real (x : EReal) (r : ℝ) (hr : r ≠ 0) : Ideal.div x (r : EReal) = x * ((r⁻¹ : ℝ) : EReal) := by
  unfold Ideal.div
  rw [if_neg (by exact_mod_cast hr), EReal.coe_inv]

/-- The value of softmax attention of one query with real scores: with the largest score taken out as a real `M`, the
kernel's order (powers of two of the scaled scores, the products with the values summed, one reciprocal at the end)
gives what the reference's order gives (powers of e, each weight divided, then the products summed). -/
theorem attend_eq {ι : Type} [Fintype ι] [Nonempty ι] (x : ι → ℝ) (v : ι → EReal) (M : ℝ) (m' m : EReal)
    (hm' : m' = ((M * qScale : ℝ) : EReal)) (hm : m = ((M / 8 : ℝ) : EReal)) :
    (∑ i, v i * Ideal.exp2 (((x i * qScale : ℝ) : EReal) - m'))
        * Ideal.div 1 (∑ i, Ideal.exp2 (((x i * qScale : ℝ) : EReal) - m'))
      = ∑ i, v i * Ideal.div (Ideal.exp (((x i / 8 : ℝ) : EReal) - m)) (∑ i, Ideal.exp (((x i / 8 : ℝ) : EReal) - m)) := by
  subst hm' hm
  simp only [exp2_scaled, exp_diff, ← coe_sum]
  have hL : 0 < ∑ i, Real.exp (x i / 8 - M / 8) :=
    Finset.sum_pos (fun i _ => Real.exp_pos _) Finset.univ_nonempty
  simp only [div_real _ _ hL.ne', one_mul, ← mul_assoc]
  rw [sum_mul_coe _ _ _ (inv_nonneg.2 hL.le)]

/-- The supremum of finitely many real scores is one of them. -/
theorem sup_coe_attained {ι : Type} [Fintype ι] [Nonempty ι] (x : ι → ℝ) :
    ∃ i₀, ∀ i, x i ≤ x i₀ := Finite.exists_max x

/-- A value that bounds all of a family of extended reals and is one of them is the fold of `max` over it. -/
theorem fold_max_eq {ι : Type} [Fintype ι] (f : ι → EReal) (b : EReal) (hb : b = ⊥) (i₀ : ι) (h : ∀ i, f i ≤ f i₀) :
    (Finset.univ : Finset ι).fold max b f = f i₀ := by
  subst hb
  apply le_antisymm
  · rw [Finset.fold_max_le]; exact ⟨bot_le, fun i _ => h i⟩
  · rw [Finset.le_fold_max]; exact Or.inr ⟨i₀, Finset.mem_univ _, le_rfl⟩

end Cert.Attn
-- ==== Proof.Attend.lean ====
module

public import proofs.«01_k».proof.Proof.Block
public import proofs.«01_k».proof.Proof.Softmax
public import Idealize.ShloMosaic.Lib.MatmulPlain
public import Idealize.ShloMosaic.Lib.ValueLayout
public import Idealize.ShloMosaic.PureOps.Ideal.Laws

@[expose] public section

set_option maxRecDepth 16384

noncomputable section

namespace Cert.KernelIdeal.Gen

open Idealize.ShloMosaic Idealize.ShloMosaic.TcCoe Idealize.ShloMosaic.Tactic Idealize.ShloMosaic.ValueIdx
open Cert.Attn
open scoped BigOperators

/-- The bits of minus infinity. -/
theorem ofBits_neg_inf : Ideal.ofBits .f32 0xFF800000#32 = (⊥ : EReal) := by
  simp [Ideal.ofBits, Ideal.ieee]

/-- The mask of the even heads keeps the first 64 of the 128 rows. -/
theorem mask_lt : ∀ r : Fin 128, IntOp.cmpi .slt (BitVec.ofNat 32 (0 * 128 + r.val)) 64#32 = 1#1 ↔ r.val / 64 = 0 := by decide
/-- The mask of the odd heads keeps the last 64 of the 128 rows. -/
theorem mask_ge : ∀ r : Fin 128, IntOp.cmpi .sge (BitVec.ofNat 32 (0 * 128 + r.val)) 64#32 = 1#1 ↔ r.val / 64 = 1 := by decide

/-- Two heads side by side, read at an index: the queries on the diagonal blocks, zero elsewhere. -/
theorem headPair_apply (v : FVec Ideal S128x256 .bf16) (r : Fin 128) (b : Fin 2) (j : Fin 256) :
    headPair v (ix2 r ⟨b.val * 256 + j.val, by omega⟩) = if r.val / 64 = b.val then v (ix2 r j) else 0 := by
  unfold headPair
  have hz : (Scalar.ofBits .bf16 0x0000#16 : Ideal .bf16) = 0 := Ideal.ofBits_zero_bf16
  match b with
  | ⟨0, _⟩ =>
    refine (concatenate_pair_apply_left (s₁ := S128x256) (s₂ := S128x256) (1 : Fin S128x512.rank) _ _ _ _ rfl (ix2 r j : S128x256.Idx) (fun a => by
      match a with
      | ⟨0, _⟩ => rfl
      | ⟨1, _⟩ => exact (Nat.zero_add j.val).symm.trans (congrArg (· + j.val) (Nat.zero_mul 256).symm))).trans ?_
    show (if IntOp.cmpi .slt (BitVec.ofNat 32 (0 * 128 + r.val)) 64#32 = 1#1 then v (ix2 r j) else (Scalar.ofBits .bf16 0x0000#16 : Ideal .bf16)) = _
    rw [hz]
    exact if_congr (mask_lt r) rfl rfl
  | ⟨1, _⟩ =>
    refine (concatenate_pair_apply_right (s₁ := S128x256) (s₂ := S128x256) (1 : Fin S128x512.rank) _ _ _ _ rfl rfl (ix2 r j : S128x256.Idx) (fun a ha => by
      match a with
      | ⟨0, _⟩ => rfl
      | ⟨1, _⟩ => exact absurd rfl ha) (by exact (Nat.add_comm j.val 256).trans (congrArg (· + j.val) (Nat.one_mul 256).symm))).trans ?_
    show (if IntOp.cmpi .sge (BitVec.ofNat 32 (0 * 128 + r.val)) 64#32 = 1#1 then v (ix2 r j) else (Scalar.ofBits .bf16 0x0000#16 : Ideal .bf16)) = _
    rw [hz]
    exact if_congr (mask_ge r) rfl rfl

/-- The scores, read at an index. -/
theorem score_apply (k : FVec Ideal S256x128 .bf16) (q : FVec Ideal S128x512 .bf16) (s : Fin 256) (c : Fin 512) :
    score k q (ix2 s c) = ∑ r : Fin 128, k (ix2 s r) * q (ix2 r c) := by
  unfold score
  refine (Ideal.matmul_plain_apply (M := 256) (K := 128) (N := 512) _ k q _ s c).trans ?_
  rw [show (constant S256x512 .f32 0x00000000#32 : FVec Ideal S256x512 .f32) (ix2 s c) = 0 from Ideal.ofBits_zero_f32, zero_add]

/-- A part's weighted values, read at an index. -/
theorem partVal_apply (v : FVec Ideal S64x256 .bf16) (e : FVec Ideal S256x512 .f32) (d : Fin 64) (c : Fin 512) :
    partVal v e (ix2 d c) = ∑ r : Fin 256, v (ix2 d r) * e (ix2 r c) := by
  unfold partVal
  refine (Ideal.matmul_plain_apply (M := 64) (K := 256) (N := 512) _ v _ _ d c).trans ?_
  rw [show (constant S64x512 .f32 0x00000000#32 : FVec Ideal S64x512 .f32) (ix2 d c) = 0 from Ideal.ofBits_zero_f32, zero_add]
  rfl

/-- Reducing over the first axis: a column's entries are its 256 rows. -/
theorem lift_rows (c : Fin 512) (k : Fin 256) : (reduces_S256x512_S512).lift (ix1 c) k = (ix2 k c : S256x512.Idx) := by
  funext a; apply Fin.ext
  match a with
  | ⟨0, _⟩ => rfl
  | ⟨1, _⟩ => rfl

/-- A part's largest score, read at an index. -/
theorem partMax_apply (s : FVec Ideal S256x512 .f32) (c : Fin 512) :
    partMax s (ix2 (0 : Fin 1) c) = (Finset.univ : Finset (Fin 256)).fold max (⊥ : EReal) (fun r => s (ix2 r c)) := by
  unfold partMax
  refine (shapeCast_a_1a_apply _ _ _ c).trans ?_
  refine (Ideal.multiReduction_maximumf_single _ _ _ _ _ _).trans ?_
  rw [show (FloatOps.ofBits .f32 0xFF800000#32 : Ideal .f32) = (⊥ : EReal) from ofBits_neg_inf]
  exact congrArg (fun f => (Finset.univ : Finset (Fin 256)).fold max (⊥ : EReal) f) (funext fun r => congrArg s (lift_rows c r))

/-- A part's sum of weights, read at an index. -/
theorem partSum_apply (e : FVec Ideal S256x512 .f32) (c : Fin 512) :
    partSum e (ix2 (0 : Fin 1) c) = ∑ r : Fin 256, e (ix2 r c) := by
  unfold partSum
  refine (shapeCast_a_1a_apply _ _ _ c).trans ?_
  refine (Ideal.multiReduction_add_single _ _ _ _ _ _).trans ?_
  exact Finset.sum_congr rfl fun r _ => congrArg e (lift_rows c r)

/-- A part's weights, read at an index. -/
theorem weights_apply (s : FVec Ideal S256x512 .f32) (mx : FVec Ideal S1x512 .f32) (r : Fin 256) (c : Fin 512) :
    weights s mx (ix2 r c) = Ideal.exp2 (s (ix2 r c) - mx (ix2 (0 : Fin 1) c)) := by
  unfold weights
  show Ideal.exp2 (s (ix2 r c) - broadcastTo S256x512 mx _ (ix2 r c)) = _
  rw [broadcastTo_1b_ab_apply]

/-- One pair of heads at an index, in the order of the reference, when its scores are real. -/
theorem unitOut_apply (s : Fin 6 → FVec Ideal S256x512 .f32) (v : Fin 6 → FVec Ideal S64x256 .bf16) (d : Fin 64) (c : Fin 512)
    (x : Fin 6 × Fin 256 → ℝ) (hx : ∀ i, s i.1 (ix2 i.2 c) = ((x i * qScale : ℝ) : EReal)) (M : EReal) (i₀ : Fin 6 × Fin 256)
    (hi₀ : ∀ i, x i ≤ x i₀) (hM : M = ((x i₀ / 8 : ℝ) : EReal)) :
    unitOut (s 0) (s 1) (s 2) (s 3) (s 4) (s 5) (v 0) (v 1) (v 2) (v 3) (v 4) (v 5) (ix2 d c)
      = ∑ i : Fin 6 × Fin 256, v i.1 (ix2 d i.2)
          * Ideal.div (Ideal.exp (((x i / 8 : ℝ) : EReal) - M)) (∑ i, Ideal.exp (((x i / 8 : ℝ) : EReal) - M)) := by
  have hmx : ∀ p : Fin 6, partMax (s p) (ix2 (0 : Fin 1) c) = (Finset.univ : Finset (Fin 256)).fold max (⊥ : EReal) (fun r => ((x (p, r) * qScale : ℝ) : EReal)) := by
    intro p; rw [partMax_apply]; exact congrArg (fun f => (Finset.univ : Finset (Fin 256)).fold max (⊥ : EReal) f) (funext fun r => hx (p, r))
  have hle : ∀ p : Fin 6, partMax (s p) (ix2 (0 : Fin 1) c) ≤ ((x i₀ * qScale : ℝ) : EReal) := by
    intro p; rw [hmx, Finset.fold_max_le]
    exact ⟨bot_le, fun r _ => EReal.coe_le_coe_iff.2 (mul_le_mul_of_nonneg_right (hi₀ _) qScale_pos.le)⟩
  have hge : ((x i₀ * qScale : ℝ) : EReal) ≤ partMax (s i₀.1) (ix2 (0 : Fin 1) c) := by
    rw [hmx, Finset.le_fold_max]; exact Or.inr ⟨i₀.2, Finset.mem_univ _, le_rfl⟩
  have hall : ∀ p : Fin 6, partMax (s p) (ix2 (0 : Fin 1) c) ≤ unitMax (s 0) (s 1) (s 2) (s 3) (s 4) (s 5) (ix2 (0 : Fin 1) c) := by
    intro p
    show _ ≤ max (max (max (max (max (partMax (s 0) (ix2 (0 : Fin 1) c)) (partMax (s 1) (ix2 (0 : Fin 1) c))) (partMax (s 2) (ix2 (0 : Fin 1) c)))
      (partMax (s 3) (ix2 (0 : Fin 1) c))) (partMax (s 4) (ix2 (0 : Fin 1) c))) (partMax (s 5) (ix2 (0 : Fin 1) c))
    match p with
    | 0 => simp
    | 1 => simp
    | 2 => simp
    | 3 => simp
    | 4 => simp
    | 5 => simp
  have hm : unitMax (s 0) (s 1) (s 2) (s 3) (s 4) (s 5) (ix2 (0 : Fin 1) c) = ((x i₀ * qScale : ℝ) : EReal) := by
    apply le_antisymm
    · exact max_le (max_le (max_le (max_le (max_le (hle 0) (hle 1)) (hle 2)) (hle 3)) (hle 4)) (hle 5)
    · exact hge.trans (hall _)
  unfold unitOut
  generalize unitMax (s 0) (s 1) (s 2) (s 3) (s 4) (s 5) = mx at hm
  have hw : ∀ (p : Fin 6) (r : Fin 256), weights (s p) mx (ix2 r c) = Ideal.exp2 (((x (p, r) * qScale : ℝ) : EReal) - mx (ix2 (0 : Fin 1) c)) := by
    intro p r; rw [weights_apply, hx (p, r)]
  rw [← attend_eq x (fun i => v i.1 (ix2 d i.2)) (x i₀) _ M hm hM]
  rw [Fintype.sum_prod_type, Fintype.sum_prod_type, Fin.sum_univ_six, Fin.sum_univ_six]
  simp only [← hw]
  simp only [← partVal_apply, ← partSum_apply]
  unfold unitAt unitDiv
  refine (congrArg (fun z => unitAcc _ _ _ _ _ _ _ _ _ _ _ _ (ix2 d c) * z) (broadcastTo_1b_ab_apply _ _ d c)).trans ?_
  show _ * Ideal.div (Ideal.ofBits .f32 0x3F800000#32) _ = _
  rw [Ideal.ofBits_one_f32]
  rfl

end Cert.KernelIdeal.Gen
-- ==== Proof.Spec.lean ====
module

public import proofs.«01_k».proof.Proof.Softmax

@[expose] public section

noncomputable section

namespace Cert.Attn

open Idealize.ShloMosaic
open scoped BigOperators

/-- One query's score against each key: the product of the two, an eighth of it. -/
def scoreAt {n : ℕ} (K : Fin n → Fin 64 → EReal) (Q : Fin 64 → EReal) (s : Fin n) : EReal :=
  (∑ d, K s d * Q d) * ((1 / 8 : ℝ) : EReal)

/-- The largest score. -/
def topScore {n : ℕ} (K : Fin n → Fin 64 → EReal) (Q : Fin 64 → EReal) : EReal :=
  (Finset.univ : Finset (Fin n)).fold max (⊥ : EReal) (scoreAt K Q)

/-- Attention of one query, in the order of the reference: the weights divided, then multiplied by the values. -/
def attnAt {n : ℕ} (K : Fin n → Fin 64 → EReal) (v : Fin n → EReal) (Q : Fin 64 → EReal) : EReal :=
  ∑ s, v s * Ideal.div (Ideal.exp (scoreAt K Q s - topScore K Q)) (∑ s, Ideal.exp (scoreAt K Q s - topScore K Q))

/-- With real keys and a real query the score is an eighth of a real product. -/
theorem scoreAt_real {n : ℕ} (K : Fin n → Fin 64 → ℝ) (Q : Fin 64 → ℝ) (s : Fin n) :
    scoreAt (fun s d => (K s d : EReal)) (fun d => (Q d : EReal)) s = (((∑ d, K s d * Q d) / 8 : ℝ) : EReal) := by
  unfold scoreAt
  simp only [← EReal.coe_mul, ← coe_sum]
  congr 1; ring

/-- Attention of one query from its real products with the keys, listed in any order. -/
theorem attnAt_real {n : ℕ} {ι : Type} [Fintype ι] [Nonempty ι] (e : ι ≃ Fin n) (K : Fin n → Fin 64 → ℝ) (v : Fin n → EReal)
    (Q : Fin 64 → ℝ) (i₀ : ι) (hi₀ : ∀ i, (∑ d, K (e i) d * Q d) ≤ ∑ d, K (e i₀) d * Q d) :
    (∑ i, v (e i) * Ideal.div (Ideal.exp ((((∑ d, K (e i) d * Q d) / 8 : ℝ) : EReal) - (((∑ d, K (e i₀) d * Q d) / 8 : ℝ) : EReal)))
        (∑ i, Ideal.exp ((((∑ d, K (e i) d * Q d) / 8 : ℝ) : EReal) - (((∑ d, K (e i₀) d * Q d) / 8 : ℝ) : EReal))))
      = attnAt (fun s d => (K s d : EReal)) v (fun d => (Q d : EReal)) := by
  have hM : topScore (fun s d => (K s d : EReal)) (fun d => (Q d : EReal)) = (((∑ d, K (e i₀) d * Q d) / 8 : ℝ) : EReal) := by
    unfold topScore
    rw [fold_max_eq _ _ rfl (e i₀) (fun s => by
      rw [scoreAt_real, scoreAt_real, EReal.coe_le_coe_iff]
      have := hi₀ (e.symm s)
      rw [e.apply_symm_apply] at this
      linarith), scoreAt_real]
  unfold attnAt
  simp only [hM, scoreAt_real]
  rw [Equiv.sum_comp e (fun s => Ideal.exp ((((∑ d, K s d * Q d) / 8 : ℝ) : EReal) - (((∑ d, K (e i₀) d * Q d) / 8 : ℝ) : EReal)))]
  exact Equiv.sum_comp e (fun s => v s * Ideal.div (Ideal.exp ((((∑ d, K s d * Q d) / 8 : ℝ) : EReal) - (((∑ d, K (e i₀) d * Q d) / 8 : ℝ) : EReal)))
        (∑ s, Ideal.exp ((((∑ d, K s d * Q d) / 8 : ℝ) : EReal) - (((∑ d, K (e i₀) d * Q d) / 8 : ℝ) : EReal))))

/-- A product over two halves of 64 rows, one half of the second factor zero, is the product over the other half. -/
theorem half_sum (k q : Fin 128 → EReal) (K Q : Fin 64 → ℝ) (b : Fin 2)
    (hk : ∀ (e : Fin 2) (d : Fin 64), k ⟨e.val * 64 + d.val, by omega⟩ = (K d : EReal))
    (hq : ∀ d : Fin 64, q ⟨b.val * 64 + d.val, by omega⟩ = ((Q d * qScale : ℝ) : EReal)) :
    (∑ l : Fin 128, k l * (if l.val / 64 = b.val then q l else 0)) = (((∑ d, K d * Q d) * qScale : ℝ) : EReal) := by
  rw [← Equiv.sum_comp (finProdFinEquiv : Fin 2 × Fin 64 ≃ Fin (2 * 64)) (fun l : Fin 128 => k l * (if l.val / 64 = b.val then q l else 0)),
    Fintype.sum_prod_type]
  have hv : ∀ (e : Fin 2) (d : Fin 64), (finProdFinEquiv (e, d) : Fin (2 * 64)) = (⟨e.val * 64 + d.val, by omega⟩ : Fin 128) := by
    intro e d; apply Fin.ext; show d.val + 64 * e.val = e.val * 64 + d.val; omega
  rw [Finset.sum_eq_single b]
  · rw [Finset.sum_mul, coe_sum]
    refine Finset.sum_congr rfl fun d _ => ?_
    rw [hv, hk, if_pos (by show (b.val * 64 + d.val) / 64 = b.val; omega), hq, ← EReal.coe_mul, mul_assoc]
  · intro e _ he
    refine Finset.sum_eq_zero fun d _ => ?_
    rw [hv, if_neg (by
      show ¬ (e.val * 64 + d.val) / 64 = b.val
      have : e.val ≠ b.val := fun h => he (Fin.ext h)
      omega), mul_zero]
  · intro h; exact absurd (Finset.mem_univ b) h

end Cert.Attn
-- ==== Proof.CtxBlock.lean ====
/-
  The call that attends over the prompt's own rows: one block of it as a function of the blocks it reads, and an entry of that
  block at the idealized program.
-/
module

public import proofs.«01_k».proof.Proof.Attend
public import proofs.«01_k».proof.Proof.Spec
public import proofs.«01_k».proof.Proof.Gen.Kernel5Ideal.Frame

@[expose] public section

set_option maxRecDepth 16384

noncomputable section

namespace Cert.Kernel5Ideal.Gen

open Idealize.ShloMosaic Idealize.ShloMosaic.TcCoe Idealize.ShloMosaic.Tactic Idealize.ShloMosaic.ValueIdx
open Cert.Attn
open scoped BigOperators

section block
variable {F : FTy → Type} [FloatOps F] [Named F]

/-- The rows of one of two heads. -/
def headRows (e : Fin 2) : IVec S128x256 1 :=
  match e with
  | 0 => cmpi .slt (iota .tc S128x256 32 [0] iota_S128x256_d0_w32) (broadcast S128x256 64#32)
  | 1 => cmpi .sge (iota .tc S128x256 32 [0] iota_S128x256_d0_w32) (broadcast S128x256 64#32)

/-- One of two heads' transposed queries: its own half of the rows kept, the other half zero. -/
def headHalf (e : Fin 2) (v : FVec F S128x256 .bf16) : FVec F S128x256 .bf16 :=
  select (headRows e) v (broadcast S128x256 (Scalar.ofBits .bf16 0x0000#16))

/-- The 128 rows of the pair that holds head `b` of group `g` lie in the block of queries. -/
theorem slices_group (g b : Fin 4) : S1024x256.Slices ![256 * g.val + 128 * (b.val / 2), 0] S128x256 := by revert g b; decide
/-- The 256 columns of one of four heads lie in a group's result. -/
theorem slices_quarter (b : Fin 4) : S64x1024.Slices ![0, 256 * b.val] S64x256 := by revert b; decide
/-- A group's keys lie in the block. -/
theorem inb_keys (g : Fin 4) : ∀ a, (![0, 128 * g.val] : Fin 2 → ℕ) a + S256x128.size a ≤ S256x512.size a := by revert g; decide
/-- A group's values lie in the block. -/
theorem inb_values (g : Fin 4) : ∀ a, (![64 * g.val, 0] : Fin 2 → ℕ) a + S64x256.size a ≤ S256x256.size a := by revert g; decide

/-- Four arrays of 256 columns, side by side, are 1024 columns. -/
theorem concatenates_four (f : Fin 4 → FVec F S128x256 .bf16) :
    Shape.Concatenates ((List.ofFn fun b : Fin 4 => (⟨S128x256, f b⟩ : (s : Shape) × (s.Idx → F .bf16))).map (·.1)) S128x1024 1 := by
  rw [List.map_ofFn]; show Shape.Concatenates (List.ofFn fun _ : Fin 4 => S128x256) S128x1024 1; decide

/-- Sixteen arrays of 64 rows, one below the other, are 1024 rows. -/
theorem concatenates_sixteen (f : Fin 16 → FVec F S64x256 .f32) :
    Shape.Concatenates ((List.ofFn fun h : Fin 16 => (⟨S64x256, f h⟩ : (s : Shape) × (s.Idx → F .f32))).map (·.1)) S1024x256 0 := by
  rw [List.map_ofFn]; show Shape.Concatenates (List.ofFn fun _ : Fin 16 => S64x256) S1024x256 0; decide

/-- The queries of a group's four heads, side by side. -/
def groupQ (q : FVec F S1024x256 .bf16) (g : Fin 4) : FVec F S128x1024 .bf16 :=
  concatenate S128x1024 1 (List.ofFn fun b : Fin 4 => (⟨S128x256, headHalf ⟨b.val % 2, Nat.mod_lt _ (by decide)⟩
    (extractStridedSlice S128x256 ![256 * g.val + 128 * (b.val / 2), 0] q (slices_group g b))⟩ : (s : Shape) × (s.Idx → F .bf16))) (concatenates_four _)

/-- A group's scores: its keys against its heads' queries. -/
def groupScore (k : FVec F S256x128 .bf16) (q : FVec F S128x1024 .bf16) : FVec F S256x1024 .f32 :=
  matmul dot_S256x128_S128x1024_S256x1024_1_0_0_1_n_n none k q (constant S256x1024 .f32 0x00000000#32)

/-- The largest score, query by query. -/
def rowMax (s : FVec F S256x1024 .f32) : FVec F S1x1024 .f32 :=
  shapeCast S1x1024 (multiReduction .maximumf [0] S1024 s 0xFF800000#32 reduces_S256x1024_S1024 (.inl rfl) rfl) shapeCasts_S1024_S1x1024

/-- The weights before their division, against a row of maxima. -/
def rowWeights (s : FVec F S256x1024 .f32) (mx : FVec F S1x1024 .f32) : FVec F S256x1024 .f32 :=
  exp2 (subf s (broadcastTo S256x1024 mx broadcasts_S1x1024_S256x1024))

/-- The sum of the weights, query by query. -/
def rowSum (e : FVec F S256x1024 .f32) : FVec F S1x1024 .f32 :=
  shapeCast S1x1024 (multiReduction .add [0] S1024 e 0x00000000#32 reduces_S256x1024_S1024 (.inl rfl) rfl) shapeCasts_S1024_S1x1024

/-- The weighted values. -/
def rowVal (v : FVec F S64x256 .bf16) (e : FVec F S256x1024 .f32) : FVec F S64x1024 .f32 :=
  matmul dot_S64x256_S256x1024_S64x1024_1_0_0_1_n_n none v (truncf .bf16 e bitsLt_bf16_f32) (constant S64x1024 .f32 0x00000000#32)

/-- The weighted values times one over the sum of the weights. -/
def weighed (v : FVec F S64x256 .bf16) (e : FVec F S256x1024 .f32) : FVec F S64x1024 .f32 :=
  mulf (rowVal v e) (broadcastTo S64x1024 (divf (broadcast S1x1024 (Scalar.ofBits .f32 0x3F800000#32)) (rowSum e)) broadcasts_S1x1024_S64x1024)

/-- A group's attention from its scores and values. -/
def groupAttn (s : FVec F S256x1024 .f32) (v : FVec F S64x256 .bf16) : FVec F S64x1024 .f32 := weighed v (rowWeights s (rowMax s))

section
variable (q : FVec F S1024x256 .bf16)
  (k : ∀ off : Fin 2 → ℕ, (∀ a, off a + S256x128.size a ≤ S256x512.size a) → Vec F S256x128 .bf16)
  (v : ∀ off : Fin 2 → ℕ, (∀ a, off a + S64x256.size a ≤ S256x256.size a) → Vec F S64x256 .bf16)

/-- What a group of four heads leaves. -/
def groupOut (g : Fin 4) : FVec F S64x1024 .f32 :=
  groupAttn (groupScore (shapeCast S256x128 (k ![0, 128 * g.val] (inb_keys g)) shapeCasts_S256x128_S256x128) (groupQ q g))
    (shapeCast S64x256 (v ![64 * g.val, 0] (inb_values g)) shapeCasts_S64x256_S64x256)

/-- What a head leaves: its quarter of its group. -/
def quarterOut (h : Fin 16) : FVec F S64x256 .f32 :=
  extractStridedSlice S64x256 ![0, 256 * (h.val % 4)] (groupOut q k v ⟨h.val / 4, by omega⟩) (slices_quarter ⟨h.val % 4, by omega⟩)

/-- The block: the sixteen heads stacked, then transposed. -/
def ctxBlock : FVec F S256x1024 .bf16 :=
  truncf .bf16 (transpose S256x1024 [1, 0] (concatenate S1024x256 0
    (List.ofFn fun h : Fin 16 => (⟨S64x256, quarterOut q k v h⟩ : (s : Shape) × (s.Idx → F .f32))) (concatenates_sixteen _))
    transposes_S1024x256_p1_0_S256x1024) bitsLt_bf16_f32
end

/-- The body leaves the block of what it reads. -/
theorem out_eq (x0 : Vec F S1x1024x256 .f32) (x1 : Vec F S256x512 .bf16) (x2 : Vec F S256x256 .bf16) :
    out0_3 x0 x1 x2 = ctxBlock (k0_pay1 x0) (fun off h => View.ld x1 (Rect.unit (s := S256x512) off S256x128.size h))
      (fun off h => View.ld x2 (Rect.unit (s := S256x256) off S64x256.size h)) := by
  unfold out0_3 k0_pay25
  rw [View.canon_unit_zero (S := S256x1024) (by decide), show View.ld x0 r0_0 = x0 from View.ld_unit_zero (S := S1x1024x256) (by decide) _ _]
  sl_kernel_rfl

end block

/-! ## An entry of the block -/

/-- A head's masked queries, read at an index. -/
theorem headHalf_apply (e : Fin 2) (v : FVec Ideal S128x256 .bf16) (r : Fin 128) (j : Fin 256) :
    headHalf e v (ix2 r j) = if r.val / 64 = e.val then v (ix2 r j) else 0 := by
  have hz : (Scalar.ofBits .bf16 0x0000#16 : Ideal .bf16) = 0 := Ideal.ofBits_zero_bf16
  match e with
  | ⟨0, _⟩ =>
    show (if IntOp.cmpi .slt (BitVec.ofNat 32 (0 * 128 + r.val)) 64#32 = 1#1 then v (ix2 r j) else (Scalar.ofBits .bf16 0x0000#16 : Ideal .bf16)) = _
    rw [hz]
    exact if_congr (Cert.KernelIdeal.Gen.mask_lt r) rfl rfl
  | ⟨1, _⟩ =>
    show (if IntOp.cmpi .sge (BitVec.ofNat 32 (0 * 128 + r.val)) 64#32 = 1#1 then v (ix2 r j) else (Scalar.ofBits .bf16 0x0000#16 : Ideal .bf16)) = _
    rw [hz]
    exact if_congr (Cert.KernelIdeal.Gen.mask_ge r) rfl rfl

/-- A group's queries, read at an index. -/
theorem groupQ_apply (q : FVec Ideal S1024x256 .bf16) (g b : Fin 4) (r : Fin 128) (j : Fin 256) :
    groupQ q g (ix2 r (⟨b.val * 256 + j.val, by omega⟩ : Fin 1024) : S128x1024.Idx)
      = if r.val / 64 = b.val % 2 then q (ix2 (⟨256 * g.val + 128 * (b.val / 2) + r.val, by omega⟩ : Fin 1024) j) else 0 := by
  unfold groupQ
  refine (concatenate_ofFn_apply (s₁ := S128x256) (t := S128x1024) 1 _ _ rfl 256 rfl _ b
    (by show (b.val * 256 + j.val) / 256 = b.val; omega) (ix2 r j : S128x256.Idx)
    (by show j.val = (b.val * 256 + j.val) % 256; omega) (fun c hc => by
      match c with
      | ⟨0, _⟩ => rfl
      | ⟨1, _⟩ => exact absurd rfl hc)).trans ?_
  rw [headHalf_apply]
  congr 1
  exact slice2_axis0_apply (256 * g.val + 128 * (b.val / 2)) q _ r j ⟨256 * g.val + 128 * (b.val / 2) + r.val, by omega⟩ rfl

/-- The scores, read at an index. -/
theorem groupScore_apply (k : FVec Ideal S256x128 .bf16) (q : FVec Ideal S128x1024 .bf16) (s : Fin 256) (c : Fin 1024) :
    groupScore k q (ix2 s c) = ∑ r : Fin 128, k (ix2 s r) * q (ix2 r c) := by
  unfold groupScore
  refine (Ideal.matmul_plain_apply (M := 256) (K := 128) (N := 1024) _ k q _ s c).trans ?_
  rw [show (constant S256x1024 .f32 0x00000000#32 : FVec Ideal S256x1024 .f32) (ix2 s c) = 0 from Ideal.ofBits_zero_f32, zero_add]

/-- The weighted values, read at an index. -/
theorem rowVal_apply (v : FVec Ideal S64x256 .bf16) (e : FVec Ideal S256x1024 .f32) (d : Fin 64) (c : Fin 1024) :
    rowVal v e (ix2 d c) = ∑ r : Fin 256, v (ix2 d r) * e (ix2 r c) := by
  unfold rowVal
  refine (Ideal.matmul_plain_apply (M := 64) (K := 256) (N := 1024) _ v _ _ d c).trans ?_
  rw [show (constant S64x1024 .f32 0x00000000#32 : FVec Ideal S64x1024 .f32) (ix2 d c) = 0 from Ideal.ofBits_zero_f32, zero_add]
  rfl

/-- Reducing over the first axis: a column's entries are its 256 rows. -/
theorem lift_column (c : Fin 1024) (k : Fin 256) : (reduces_S256x1024_S1024).lift (ix1 c) k = (ix2 k c : S256x1024.Idx) := by
  funext a; apply Fin.ext
  match a with
  | ⟨0, _⟩ => rfl
  | ⟨1, _⟩ => rfl

/-- The largest score, read at an index. -/
theorem rowMax_apply (s : FVec Ideal S256x1024 .f32) (c : Fin 1024) :
    rowMax s (ix2 (0 : Fin 1) c) = (Finset.univ : Finset (Fin 256)).fold max (⊥ : EReal) (fun r => s (ix2 r c)) := by
  unfold rowMax
  refine (shapeCast_a_1a_apply _ _ _ c).trans ?_
  refine (Ideal.multiReduction_maximumf_single _ _ _ _ _ _).trans ?_
  rw [show (FloatOps.ofBits .f32 0xFF800000#32 : Ideal .f32) = (⊥ : EReal) from Cert.KernelIdeal.Gen.ofBits_neg_inf]
  exact congrArg (fun f => (Finset.univ : Finset (Fin 256)).fold max (⊥ : EReal) f) (funext fun r => congrArg s (lift_column c r))

/-- The sum of the weights, read at an index. -/
theorem rowSum_apply (e : FVec Ideal S256x1024 .f32) (c : Fin 1024) :
    rowSum e (ix2 (0 : Fin 1) c) = ∑ r : Fin 256, e (ix2 r c) := by
  unfold rowSum
  refine (shapeCast_a_1a_apply _ _ _ c).trans ?_
  refine (Ideal.multiReduction_add_single _ _ _ _ _ _).trans ?_
  exact Finset.sum_congr rfl fun r _ => congrArg e (lift_column c r)

/-- The weights, read at an index. -/
theorem rowWeights_apply (s : FVec Ideal S256x1024 .f32) (mx : FVec Ideal S1x1024 .f32) (r : Fin 256) (c : Fin 1024) :
    rowWeights s mx (ix2 r c) = Ideal.exp2 (s (ix2 r c) - mx (ix2 (0 : Fin 1) c)) := by
  unfold rowWeights
  show Ideal.exp2 (s (ix2 r c) - broadcastTo S256x1024 mx _ (ix2 r c)) = _
  rw [broadcastTo_1b_ab_apply]

/-- The division, read at an index. -/
theorem weighed_apply (v : FVec Ideal S64x256 .bf16) (e : FVec Ideal S256x1024 .f32) (d : Fin 64) (c : Fin 1024) :
    weighed v e (ix2 d c) = (∑ r : Fin 256, v (ix2 d r) * e (ix2 r c)) * Ideal.div 1 (∑ r : Fin 256, e (ix2 r c)) := by
  unfold weighed
  refine (congrArg (fun z => rowVal v e (ix2 d c) * z) (broadcastTo_1b_ab_apply _ _ d c)).trans ?_
  show _ * Ideal.div (Ideal.ofBits .f32 0x3F800000#32) _ = _
  rw [Ideal.ofBits_one_f32, rowVal_apply, rowSum_apply]

/-- A group's attention at an index, in the order of the reference, when its scores are real. -/
theorem groupAttn_apply (s : FVec Ideal S256x1024 .f32) (v : FVec Ideal S64x256 .bf16) (d : Fin 64) (c : Fin 1024)
    (x : Fin 256 → ℝ) (hx : ∀ r, s (ix2 r c) = ((x r * qScale : ℝ) : EReal)) (i₀ : Fin 256) (hi₀ : ∀ i, x i ≤ x i₀) :
    groupAttn s v (ix2 d c) = ∑ i : Fin 256, v (ix2 d i)
      * Ideal.div (Ideal.exp (((x i / 8 : ℝ) : EReal) - ((x i₀ / 8 : ℝ) : EReal))) (∑ i, Ideal.exp (((x i / 8 : ℝ) : EReal) - ((x i₀ / 8 : ℝ) : EReal))) := by
  have hm : rowMax s (ix2 (0 : Fin 1) c) = ((x i₀ * qScale : ℝ) : EReal) := by
    rw [rowMax_apply, fold_max_eq _ _ rfl i₀ (fun r => by
      rw [hx, hx]
      exact EReal.coe_le_coe_iff.2 (mul_le_mul_of_nonneg_right (hi₀ r) qScale_pos.le)), hx]
  unfold groupAttn
  rw [weighed_apply]
  simp only [rowWeights_apply, hx]
  exact attend_eq x (fun i => v (ix2 d i)) (x i₀) _ _ hm rfl

section
variable (q : FVec Ideal S1024x256 .bf16)
  (k : ∀ off : Fin 2 → ℕ, (∀ a, off a + S256x128.size a ≤ S256x512.size a) → Vec Ideal S256x128 .bf16)
  (v : ∀ off : Fin 2 → ℕ, (∀ a, off a + S64x256.size a ≤ S256x256.size a) → Vec Ideal S64x256 .bf16)

/-- The block's entry for one query, one head and one dimension: that query's attention over the keys of the head's group. -/
theorem ctxBlock_apply (g b : Fin 4) (h : Fin 16) (hg : h.val / 4 = g.val) (hb : h.val % 4 = b.val)
    (j : Fin 256) (d : Fin 64) (Q : Fin 64 → ℝ) (K : Fin 256 → Fin 64 → ℝ) (w : Fin 256 → EReal)
    (hq : ∀ d : Fin 64, q (ix2 (⟨h.val * 64 + d.val, by omega⟩ : Fin 1024) j) = ((Q d * qScale : ℝ) : EReal))
    (hk : ∀ (r : Fin 256) (e : Fin 2) (d : Fin 64), k ![0, 128 * g.val] (inb_keys g) (ix2 r (⟨e.val * 64 + d.val, by omega⟩ : Fin 128)) = (K r d : EReal))
    (hv : ∀ r : Fin 256, v ![64 * g.val, 0] (inb_values g) (ix2 d r) = w r) :
    ctxBlock q k v (ix2 j (⟨h.val * 64 + d.val, by omega⟩ : Fin 1024))
      = attnAt (fun s d => (K s d : EReal)) w (fun d => (Q d : EReal)) := by
  have hq' : ∀ d : Fin 64, q (ix2 (⟨256 * g.val + 128 * (b.val / 2) + (b.val % 2 * 64 + d.val), by omega⟩ : Fin 1024) j) = ((Q d * qScale : ℝ) : EReal) := by
    intro d
    rw [← hq d]
    congr 2
    apply Fin.ext
    show 256 * g.val + 128 * (b.val / 2) + (b.val % 2 * 64 + d.val) = h.val * 64 + d.val
    omega
  unfold ctxBlock
  refine (show truncf .bf16 (transpose S256x1024 [1, 0] (concatenate S1024x256 0 _ (concatenates_sixteen (quarterOut q k v)))
    transposes_S1024x256_p1_0_S256x1024) bitsLt_bf16_f32 (ix2 j (⟨h.val * 64 + d.val, by omega⟩ : Fin 1024))
    = transpose S256x1024 [1, 0] (concatenate S1024x256 0 _ (concatenates_sixteen (quarterOut q k v)))
    transposes_S1024x256_p1_0_S256x1024 (ix2 j (⟨h.val * 64 + d.val, by omega⟩ : Fin 1024)) from rfl).trans ?_
  refine (transpose_ix2_apply (a := 1024) (b := 256) _ _ j (⟨h.val * 64 + d.val, by omega⟩ : Fin 1024)).trans ?_
  refine (concatenate_ofFn_apply (s₁ := S64x256) (t := S1024x256) 0 _ _ rfl 64 rfl _ h
    (by show (h.val * 64 + d.val) / 64 = h.val; omega) (ix2 d j : S64x256.Idx)
    (by show d.val = (h.val * 64 + d.val) % 64; omega) (fun c hc => by
      match c with
      | ⟨0, _⟩ => exact absurd rfl hc
      | ⟨1, _⟩ => rfl)).trans ?_
  unfold quarterOut
  refine (slice2_axis1_apply (256 * (h.val % 4)) _ _ d j ⟨b.val * 256 + j.val, by omega⟩ (by
    show b.val * 256 + j.val = 256 * (h.val % 4) + j.val; omega)).trans ?_
  rw [show (⟨h.val / 4, by omega⟩ : Fin 4) = g from Fin.ext hg]
  unfold groupOut
  rw [shapeCast_self, shapeCast_self]
  obtain ⟨i₀, hi₀⟩ := sup_coe_attained fun r : Fin 256 => ∑ d, K r d * Q d
  refine (groupAttn_apply _ _ d _ (fun r => ∑ d, K r d * Q d) (fun r => ?_) i₀ hi₀).trans ?_
  · rw [groupScore_apply]
    simp only [groupQ_apply]
    exact half_sum (fun l => k ![0, 128 * g.val] (inb_keys g) (ix2 r l)) (fun l => q (ix2 (⟨256 * g.val + 128 * (b.val / 2) + l.val, by omega⟩ : Fin 1024) j))
      (K r) Q ⟨b.val % 2, Nat.mod_lt _ (by decide)⟩ (hk r) hq'
  · simp only [hv]
    exact attnAt_real (Equiv.refl (Fin 256)) K w Q i₀ hi₀
end

/-- The scaled queries a block reads, at an index. -/
theorem scaled_apply (x : Vec Ideal S1x1024x256 .f32) (a : Fin 1024) (j : Fin 256) :
    k0_pay1 x (ix2 a j) = x (ix3 (0 : Fin 1) a j) * ((qScale : ℝ) : EReal) := by
  unfold k0_pay1
  show shapeCast S1024x256 x shapeCasts_S1x1024x256_S1024x256 (ix2 a j) * (Named.named (F := Ideal) (φ := .f32) κ "q_scale" 0x3E38AA3B#32 : EReal) = _
  rw [shapeCast_1ab_ab_apply, IdealRules.named_const.ideal_named_scalar _ _ _ _ rfl]
  rfl

end Cert.Kernel5Ideal.Gen

end
-- ==== Proof.RefValue.lean ====
module

public import proofs.«01_k».proof.Proof.Spec
public import proofs.«01_k».proof.Proof.Gen.ReferenceIdeal.Read
public import Idealize.ShloMosaic.Lib.ValueLayout
public import Idealize.ShloMosaic.PureOps.Ideal.Laws

@[expose] public section

set_option maxRecDepth 16384

noncomputable section

namespace Cert.Attn

open Idealize.ShloMosaic Idealize.ShloMosaic.ValueIdx
open scoped BigOperators

/-- The keys (or values) one head group of one batch attends to: the cached ones, then the new ones. -/
def rowAt (cache : (⟨4, ![8, 512, 4, 64]⟩ : Shape).Idx → EReal) (new : (⟨2, ![16384, 256]⟩ : Shape).Idx → EReal) (b : Fin 8) (g : Fin 4)
    (s : Fin 1536) (d : Fin 64) : EReal :=
  if h : s.val < 512 then cache (ix4 b ⟨s.val, h⟩ g d)
  else new (ix2 ⟨8192 + b.val * 1024 + (s.val - 512), by omega⟩ ⟨g.val * 64 + d.val, by omega⟩)

/-- The query of one row and one head. -/
def queryAt (q : (⟨2, ![16384, 1024]⟩ : Shape).Idx → EReal) (r : Fin 16384) (h : Fin 16) (d : Fin 64) : EReal :=
  q (ix2 r ⟨h.val * 64 + d.val, by omega⟩)

end Cert.Attn

namespace Cert.ReferenceIdeal.Read

open Cert.ReferenceIdeal Cert.ReferenceIdeal.Gen
open Idealize.ShloMosaic Idealize.ShloMosaic.TcCoe Idealize.ShloMosaic.ValueIdx
open Cert.Attn
open scoped BigOperators

variable (x0 : (⟨S16384x1024, .f32⟩ : BufTy).Contents (Elt Ideal)) (x1 x2 : (⟨S16384x256, .f32⟩ : BufTy).Contents (Elt Ideal))
  (x3 x4 : (⟨S8x512x4x64, .f32⟩ : BufTy).Contents (Elt Ideal)) (x8 : (⟨S16384x1024, .bf16⟩ : BufTy).Contents (Elt Ideal))

/-- The reshaped queries. -/
theorem queries (b : Fin 8) (t : Fin 1024) (g r : Fin 4) (d : Fin 64) :
    val_main_v1 (F := Ideal) x0 (ix5 b t g r d : S8x1024x4x4x64.Idx)
      = queryAt x0 ⟨8192 + b.val * 1024 + t.val, by omega⟩ ⟨g.val * 4 + r.val, by omega⟩ d := by
  rw [val_main_v1_apply, val_main_v0_apply]
  refine congrArg x0 (funext fun a => Fin.ext ?_)
  match a with
  | ⟨0, _⟩ =>
    show 8192 + ((((b.val * 1024 + t.val) * 4 + g.val) * 4 + r.val) * 64 + d.val) / 1024 = 8192 + b.val * 1024 + t.val
    omega
  | ⟨1, _⟩ =>
    show ((((b.val * 1024 + t.val) * 4 + g.val) * 4 + r.val) * 64 + d.val) % 1024 = (g.val * 4 + r.val) * 64 + d.val
    omega

/-- The new keys, by batch. -/
theorem new_keys (b : Fin 8) (s : Fin 1024) (g : Fin 4) (d : Fin 64) :
    val_main_v3 (F := Ideal) x1 (ix4 b s g d : S8x1024x4x64.Idx)
      = x1 (ix2 (⟨8192 + b.val * 1024 + s.val, by omega⟩ : Fin 16384) (⟨g.val * 64 + d.val, by omega⟩ : Fin 256) : S16384x256.Idx) := by
  rw [val_main_v3_apply, val_main_v2_apply]
  refine congrArg x1 (funext fun a => Fin.ext ?_)
  match a with
  | ⟨0, _⟩ =>
    show 8192 + (((b.val * 1024 + s.val) * 4 + g.val) * 64 + d.val) / 256 = 8192 + b.val * 1024 + s.val
    omega
  | ⟨1, _⟩ =>
    show (((b.val * 1024 + s.val) * 4 + g.val) * 64 + d.val) % 256 = g.val * 64 + d.val
    omega

/-- The keys of a batch: the cached ones, then the new ones. -/
theorem keys (b : Fin 8) (s : Fin 1536) (g : Fin 4) (d : Fin 64) :
    val_main_v4 (F := Ideal) x1 x3 (ix4 b s g d : S8x1536x4x64.Idx) = rowAt x3 x1 b g s d := by
  unfold val_main_v4 rowAt
  by_cases h : s.val < 512
  · rw [dif_pos h]
    exact concatenate_pair_apply_left (s₁ := S8x512x4x64) (s₂ := S8x1024x4x64) (1 : Fin S8x1536x4x64.rank) _ _ _ _ rfl
      (ix4 b ⟨s.val, h⟩ g d : S8x512x4x64.Idx) (fun a => match a with | ⟨0, _⟩ => rfl | ⟨1, _⟩ => rfl | ⟨2, _⟩ => rfl | ⟨3, _⟩ => rfl)
  · rw [dif_neg h]
    refine (concatenate_pair_apply_right (s₁ := S8x512x4x64) (s₂ := S8x1024x4x64) (1 : Fin S8x1536x4x64.rank) _ _ _ _ rfl rfl
      (ix4 b (⟨s.val - 512, by omega⟩ : Fin 1024) g d : S8x1024x4x64.Idx)
      (fun a => match a with | ⟨0, _⟩ => fun _ => rfl | ⟨1, _⟩ => fun hc => absurd rfl hc | ⟨2, _⟩ => fun _ => rfl | ⟨3, _⟩ => fun _ => rfl)
      (by show s.val - 512 + 512 = s.val; omega)).trans ?_
    exact new_keys x1 b ⟨s.val - 512, by omega⟩ g d

/-- The values of a batch: the same arrangement. -/
theorem values (b : Fin 8) (s : Fin 1536) (g : Fin 4) (d : Fin 64) :
    val_main_v7 (F := Ideal) x2 x4 (ix4 b s g d : S8x1536x4x64.Idx) = rowAt x4 x2 b g s d :=
  keys x2 x4 b s g d

/-- The scaled scores. -/
theorem scores (b : Fin 8) (g r : Fin 4) (t : Fin 1024) (s : Fin 1536) :
    val_main_v11 (F := Ideal) x0 x1 x3 (ix5 b g r t s : S8x4x4x1024x1536.Idx)
      = scoreAt (rowAt x3 x1 b g) (queryAt x0 ⟨8192 + b.val * 1024 + t.val, by omega⟩ ⟨g.val * 4 + r.val, by omega⟩) s := by
  rw [val_main_v11_apply, val_main_v9_apply, val_main_v10_apply, val_main_v8_apply]
  unfold scoreAt
  have h8 : (val_main_cst (F := Ideal) (idx_main_v10 (ix5 b g r t s : S8x4x4x1024x1536.Idx)) : EReal) = ((1 / 8 : ℝ) : EReal) := by
    show Ideal.ofBits .f32 0x3E000000#32 = _
    simp [Ideal.ofBits, Ideal.ieee, -EReal.coe_mul]; norm_num
  refine (congrArg₂ (fun a b : EReal => a * b) (Finset.sum_congr rfl fun d _ => ?_) h8 : _)
  refine congrArg₂ (fun a b : EReal => a * b) ((congrArg _ ?_).trans (keys x1 x3 b s g d)) ((congrArg _ ?_).trans (queries x0 b t g r d))
  · funext a
    match a with | ⟨0, _⟩ => rfl | ⟨1, _⟩ => rfl | ⟨2, _⟩ => rfl | ⟨3, _⟩ => rfl
  · funext a
    match a with | ⟨0, _⟩ => rfl | ⟨1, _⟩ => rfl | ⟨2, _⟩ => rfl | ⟨3, _⟩ => rfl | ⟨4, _⟩ => rfl

/-- The largest score. -/
theorem top (b : Fin 8) (g r : Fin 4) (t : Fin 1024) :
    val_main_v12 (F := Ideal) x0 x1 x3 (ix4 b g r t : S8x4x4x1024.Idx)
      = topScore (rowAt x3 x1 b g) (queryAt x0 ⟨8192 + b.val * 1024 + t.val, by omega⟩ ⟨g.val * 4 + r.val, by omega⟩) := by
  unfold val_main_v12
  rw [Host.reduce_eq_fold]
  have hs : (Finset.univ.filter fun i : S8x4x4x1024x1536.Idx => reducesTo_S8x4x4x1024x1536_S8x4x4x1024_d4.drop i = (ix4 b g r t : S8x4x4x1024.Idx))
      = (Finset.univ : Finset (Fin 1536)).map ⟨fun s => (ix5 b g r t s : S8x4x4x1024x1536.Idx), fun s s' h => congrFun h 4⟩ := by
    ext i
    rw [Finset.mem_filter, Finset.mem_map]
    constructor
    · rintro ⟨-, h⟩
      refine ⟨i 4, Finset.mem_univ _, ?_⟩
      funext a
      apply Fin.ext
      match a with
      | ⟨0, _⟩ => exact ((congrArg Fin.val (congrFun h 0)).symm.trans (Shape.ReducesTo.drop_apply_val_of_eq reducesTo_S8x4x4x1024x1536_S8x4x4x1024_d4 i 0 0))
      | ⟨1, _⟩ => exact ((congrArg Fin.val (congrFun h 1)).symm.trans (Shape.ReducesTo.drop_apply_val_of_eq reducesTo_S8x4x4x1024x1536_S8x4x4x1024_d4 i 1 1))
      | ⟨2, _⟩ => exact ((congrArg Fin.val (congrFun h 2)).symm.trans (Shape.ReducesTo.drop_apply_val_of_eq reducesTo_S8x4x4x1024x1536_S8x4x4x1024_d4 i 2 2))
      | ⟨3, _⟩ => exact ((congrArg Fin.val (congrFun h 3)).symm.trans (Shape.ReducesTo.drop_apply_val_of_eq reducesTo_S8x4x4x1024x1536_S8x4x4x1024_d4 i 3 3))
      | ⟨4, _⟩ => rfl
    · rintro ⟨s, -, rfl⟩
      refine ⟨Finset.mem_univ _, ?_⟩
      funext a
      apply Fin.ext
      match a with
      | ⟨0, _⟩ => exact Shape.ReducesTo.drop_apply_val_of_eq reducesTo_S8x4x4x1024x1536_S8x4x4x1024_d4 _ 0 0
      | ⟨1, _⟩ => exact Shape.ReducesTo.drop_apply_val_of_eq reducesTo_S8x4x4x1024x1536_S8x4x4x1024_d4 _ 1 1
      | ⟨2, _⟩ => exact Shape.ReducesTo.drop_apply_val_of_eq reducesTo_S8x4x4x1024x1536_S8x4x4x1024_d4 _ 2 2
      | ⟨3, _⟩ => exact Shape.ReducesTo.drop_apply_val_of_eq reducesTo_S8x4x4x1024x1536_S8x4x4x1024_d4 _ 3 3
  rw [hs, Finset.fold_map]
  have hb : (val_main_cst_0 (F := Ideal) (Shape.Idx.first h_S_) : EReal) = ⊥ := by
    show Ideal.ofBits .f32 0xFF800000#32 = _
    simp [Ideal.ofBits, Ideal.ieee]
  unfold topScore
  show (Finset.univ : Finset (Fin 1536)).fold max (val_main_cst_0 (F := Ideal) (Shape.Idx.first h_S_) : EReal)
    (fun s => val_main_v11 (F := Ideal) x0 x1 x3 (ix5 b g r t s : S8x4x4x1024x1536.Idx)) = _
  rw [hb]
  exact congrArg (fun f => (Finset.univ : Finset (Fin 1536)).fold max (⊥ : EReal) f) (funext fun s => scores x0 x1 x3 b g r t s)

/-- The exponential of a score, against the largest. -/
theorem exps (b : Fin 8) (g r : Fin 4) (t : Fin 1024) (s : Fin 1536) :
    val_main_v18 (F := Ideal) x0 x1 x3 (ix5 b g r t s : S8x4x4x1024x1536.Idx)
      = Ideal.exp (scoreAt (rowAt x3 x1 b g) (queryAt x0 ⟨8192 + b.val * 1024 + t.val, by omega⟩ ⟨g.val * 4 + r.val, by omega⟩) s
          - topScore (rowAt x3 x1 b g) (queryAt x0 ⟨8192 + b.val * 1024 + t.val, by omega⟩ ⟨g.val * 4 + r.val, by omega⟩)) := by
  rw [val_main_v18_apply, val_main_v17_apply, val_main_v16_apply, val_main_v15_apply, val_main_v14_apply, val_main_v13_apply, scores]
  have hi : idx_main_v15 (idx_main_v16 (ix5 b g r t s : S8x4x4x1024x1536.Idx)) = (ix4 b g r t : S8x4x4x1024.Idx) := by
    funext a
    match a with | ⟨0, _⟩ => rfl | ⟨1, _⟩ => rfl | ⟨2, _⟩ => rfl | ⟨3, _⟩ => rfl
  rw [hi, top]
  have hb : ∀ i, (val_main_cst_1 (F := Ideal) i : EReal) = ⊥ := by
    intro i
    show Ideal.ofBits .f32 0xFF800000#32 = _
    simp [Ideal.ofBits, Ideal.ieee]
  show Ideal.exp (_ - max (val_main_cst_1 (F := Ideal) _ : EReal) _) = _
  rw [hb, max_eq_right bot_le]

/-- The reference's attention, at an entry. -/
theorem attended (b : Fin 8) (g r : Fin 4) (t : Fin 1024) (d : Fin 64) :
    val_main_v23 (F := Ideal) x0 x1 x2 x3 x4 (ix5 b g d r t : S8x4x64x4x1024.Idx)
      = attnAt (rowAt x3 x1 b g) (fun s => rowAt x4 x2 b g s d)
          (queryAt x0 ⟨8192 + b.val * 1024 + t.val, by omega⟩ ⟨g.val * 4 + r.val, by omega⟩) := by
  rw [val_main_v23_apply]
  unfold attnAt
  refine Finset.sum_congr rfl fun s _ => ?_
  have hl : lidx_main_v23 (ix5 b g d r t : S8x4x64x4x1024.Idx) s = (ix4 b s g d : S8x1536x4x64.Idx) := by
    funext a
    match a with | ⟨0, _⟩ => rfl | ⟨1, _⟩ => rfl | ⟨2, _⟩ => rfl | ⟨3, _⟩ => rfl
  have hr : ridx_main_v23 (ix5 b g d r t : S8x4x64x4x1024.Idx) s = (ix5 b g r t s : S8x4x4x1024x1536.Idx) := by
    funext a
    match a with | ⟨0, _⟩ => rfl | ⟨1, _⟩ => rfl | ⟨2, _⟩ => rfl | ⟨3, _⟩ => rfl | ⟨4, _⟩ => rfl
  rw [hl, hr, values, val_main_v22_apply, val_main_v21_apply, val_main_v20_apply, val_main_v19_apply, exps]
  have hz : (val_main_cst_2 (F := Ideal) (Shape.Idx.first h_S_) : EReal) = 0 := Ideal.ofBits_zero_f32
  rw [hz, zero_add]
  have hi : ∀ k : Fin 1536, idx_main_v19 (idx_main_v20 (idx_main_v21 (ix5 b g r t s : S8x4x4x1024x1536.Idx))) k = (ix5 b g r t k : S8x4x4x1024x1536.Idx) := by
    intro k
    funext a
    match a with | ⟨0, _⟩ => rfl | ⟨1, _⟩ => rfl | ⟨2, _⟩ => rfl | ⟨3, _⟩ => rfl | ⟨4, _⟩ => rfl
  simp only [hi, exps]
  rfl

/-- The rows the attention leaves alone. -/
theorem result_kept (r : Fin 16384) (j : Fin 1024) (hr : r.val < 8192) :
    val_main_v28 (F := Ideal) x0 x1 x2 x3 x4 x8 (ix2 r j : S16384x1024.Idx) = x8 (ix2 r j : S16384x1024.Idx) := by
  unfold val_main_v28
  refine (concatenate_pair_apply_left (s₁ := S8192x1024) (s₂ := S8192x1024) (0 : Fin S16384x1024.rank) _ _ _ _ rfl
    (ix2 ⟨r.val, hr⟩ j : S8192x1024.Idx) (fun a => match a with | ⟨0, _⟩ => rfl | ⟨1, _⟩ => rfl)).trans ?_
  rw [val_main_v27_apply]
  refine congrArg x8 (funext fun a => ?_)
  match a with | ⟨0, _⟩ => rfl | ⟨1, _⟩ => rfl

/-- The rows the attention computes. -/
theorem result_attended (b : Fin 8) (t : Fin 1024) (h : Fin 16) (d : Fin 64) :
    val_main_v28 (F := Ideal) x0 x1 x2 x3 x4 x8 (ix2 (⟨8192 + b.val * 1024 + t.val, by omega⟩ : Fin 16384) (⟨h.val * 64 + d.val, by omega⟩ : Fin 1024) : S16384x1024.Idx)
      = attnAt (rowAt x3 x1 b ⟨h.val / 4, by omega⟩) (fun s => rowAt x4 x2 b ⟨h.val / 4, by omega⟩ s d) (queryAt x0 ⟨8192 + b.val * 1024 + t.val, by omega⟩ h) := by
  unfold val_main_v28
  refine (concatenate_pair_apply_right (s₁ := S8192x1024) (s₂ := S8192x1024) (0 : Fin S16384x1024.rank) _ _ _ _ rfl rfl
    (ix2 (⟨b.val * 1024 + t.val, by omega⟩ : Fin 8192) (⟨h.val * 64 + d.val, by omega⟩ : Fin 1024) : S8192x1024.Idx)
    (fun a => match a with | ⟨0, _⟩ => fun hc => absurd rfl hc | ⟨1, _⟩ => fun _ => rfl)
    (by show b.val * 1024 + t.val + 8192 = 8192 + b.val * 1024 + t.val; omega)).trans ?_
  rw [val_main_v26_apply]
  refine (show _ = val_main_v25 (F := Ideal) x0 x1 x2 x3 x4 _ from rfl).trans ?_
  rw [val_main_v25_apply, val_main_v24_apply]
  have hh : (⟨(⟨h.val / 4, by omega⟩ : Fin 4).val * 4 + (⟨h.val % 4, by omega⟩ : Fin 4).val, by show h.val / 4 * 4 + h.val % 4 < 16; omega⟩ : Fin 16) = h :=
    Fin.ext (by show h.val / 4 * 4 + h.val % 4 = h.val; omega)
  have := attended x0 x1 x2 x3 x4 b ⟨h.val / 4, by omega⟩ ⟨h.val % 4, by omega⟩ t d
  rw [hh] at this
  refine (congrArg _ (funext fun a => Fin.ext ?_)).trans this
  match a with
  | ⟨0, _⟩ => show ((b.val * 1024 + t.val) * 1024 + (h.val * 64 + d.val)) / 1048576 = b.val; omega
  | ⟨1, _⟩ => show ((b.val * 1024 + t.val) * 1024 + (h.val * 64 + d.val)) / 256 % 4 = h.val / 4; omega
  | ⟨2, _⟩ => show ((b.val * 1024 + t.val) * 1024 + (h.val * 64 + d.val)) % 64 = d.val; omega
  | ⟨3, _⟩ => show ((b.val * 1024 + t.val) * 1024 + (h.val * 64 + d.val)) / 64 % 4 = h.val % 4; omega
  | ⟨4, _⟩ => show ((b.val * 1024 + t.val) * 1024 + (h.val * 64 + d.val)) / 1024 % 1024 = t.val; omega

end Cert.ReferenceIdeal.Read
-- ==== Proof.CtxRef.lean ====
/-
  The reference of the call that attends over the prompt's own rows, read at an entry.
-/
module

public import proofs.«01_k».proof.Proof.RefValue
public import proofs.«01_k».proof.Proof.Gen.Reference5Ideal.Read

@[expose] public section

set_option maxRecDepth 16384

noncomputable section

namespace Cert.Attn

open Idealize.ShloMosaic Idealize.ShloMosaic.ValueIdx

/-- A key (or value) of one block of the prompt's rows, at one head group. -/
def ownRow (x : (⟨2, ![16384, 256]⟩ : Shape).Idx → EReal) (b : Fin 32) (g : Fin 4) (s : Fin 256) (d : Fin 64) : EReal :=
  x (ix2 ⟨b.val * 256 + s.val, by omega⟩ ⟨g.val * 64 + d.val, by omega⟩)

end Cert.Attn

namespace Cert.Reference5Ideal.Read

open Cert.Reference5Ideal Cert.Reference5Ideal.Gen
open Idealize.ShloMosaic Idealize.ShloMosaic.TcCoe Idealize.ShloMosaic.ValueIdx
open Cert.Attn
open scoped BigOperators

variable (x0 : (⟨S16384x1024, .f32⟩ : BufTy).Contents (Elt Ideal)) (x1 x2 : (⟨S16384x256, .f32⟩ : BufTy).Contents (Elt Ideal))

/-- The query of row `t` of block `b`, head `r` of group `g`. -/
abbrev blockQuery (b : Fin 32) (t : Fin 256) (g r : Fin 4) : Fin 64 → EReal :=
  queryAt x0 ⟨b.val * 256 + t.val, by omega⟩ ⟨g.val * 4 + r.val, by omega⟩

/-- The reshaped queries. -/
theorem queries (b : Fin 32) (t : Fin 256) (g r : Fin 4) (d : Fin 64) :
    val_main_v1 (F := Ideal) x0 (ix5 b t g r d : S32x256x4x4x64.Idx) = blockQuery x0 b t g r d := by
  rw [val_main_v1_apply, val_main_v0_apply]
  refine congrArg x0 (funext fun a => Fin.ext ?_)
  match a with
  | ⟨0, _⟩ =>
    show ((((b.val * 256 + t.val) * 4 + g.val) * 4 + r.val) * 64 + d.val) / 1024 = b.val * 256 + t.val
    omega
  | ⟨1, _⟩ =>
    show ((((b.val * 256 + t.val) * 4 + g.val) * 4 + r.val) * 64 + d.val) % 1024 = (g.val * 4 + r.val) * 64 + d.val
    omega

/-- The keys, by block. -/
theorem keys (b : Fin 32) (s : Fin 256) (g : Fin 4) (d : Fin 64) :
    val_main_v3 (F := Ideal) x1 (ix4 b s g d : S32x256x4x64.Idx) = ownRow x1 b g s d := by
  rw [val_main_v3_apply, val_main_v2_apply]
  refine congrArg x1 (funext fun a => Fin.ext ?_)
  match a with
  | ⟨0, _⟩ =>
    show (((b.val * 256 + s.val) * 4 + g.val) * 64 + d.val) / 256 = b.val * 256 + s.val
    omega
  | ⟨1, _⟩ =>
    show (((b.val * 256 + s.val) * 4 + g.val) * 64 + d.val) % 256 = g.val * 64 + d.val
    omega

/-- The values, by block: the same arrangement. -/
theorem values (b : Fin 32) (s : Fin 256) (g : Fin 4) (d : Fin 64) :
    val_main_v5 (F := Ideal) x2 (ix4 b s g d : S32x256x4x64.Idx) = ownRow x2 b g s d := keys x2 b s g d

/-- The scaled scores. -/
theorem scores (b : Fin 32) (g r : Fin 4) (t s : Fin 256) :
    val_main_v9 (F := Ideal) x0 x1 (ix5 b g r t s : S32x4x4x256x256.Idx) = scoreAt (ownRow x1 b g) (blockQuery x0 b t g r) s := by
  rw [val_main_v9_apply, val_main_v7_apply, val_main_v8_apply, val_main_v6_apply]
  unfold scoreAt
  have h8 : (val_main_cst (F := Ideal) (idx_main_v8 (ix5 b g r t s : S32x4x4x256x256.Idx)) : EReal) = ((1 / 8 : ℝ) : EReal) := by
    show Ideal.ofBits .f32 0x3E000000#32 = _
    simp [Ideal.ofBits, Ideal.ieee, -EReal.coe_mul]; norm_num
  refine (congrArg₂ (fun a b : EReal => a * b) (Finset.sum_congr rfl fun d _ => ?_) h8 : _)
  refine congrArg₂ (fun a b : EReal => a * b) ((congrArg _ ?_).trans (keys x1 b s g d)) ((congrArg _ ?_).trans (queries x0 b t g r d))
  · funext a
    match a with | ⟨0, _⟩ => rfl | ⟨1, _⟩ => rfl | ⟨2, _⟩ => rfl | ⟨3, _⟩ => rfl
  · funext a
    match a with | ⟨0, _⟩ => rfl | ⟨1, _⟩ => rfl | ⟨2, _⟩ => rfl | ⟨3, _⟩ => rfl | ⟨4, _⟩ => rfl

/-- The largest score. -/
theorem top (b : Fin 32) (g r : Fin 4) (t : Fin 256) :
    val_main_v10 (F := Ideal) x0 x1 (ix4 b g r t : S32x4x4x256.Idx) = topScore (ownRow x1 b g) (blockQuery x0 b t g r) := by
  unfold val_main_v10
  rw [Host.reduce_eq_fold]
  have hs : (Finset.univ.filter fun i : S32x4x4x256x256.Idx => reducesTo_S32x4x4x256x256_S32x4x4x256_d4.drop i = (ix4 b g r t : S32x4x4x256.Idx))
      = (Finset.univ : Finset (Fin 256)).map ⟨fun s => (ix5 b g r t s : S32x4x4x256x256.Idx), fun s s' h => congrFun h 4⟩ := by
    ext i
    rw [Finset.mem_filter, Finset.mem_map]
    constructor
    · rintro ⟨-, h⟩
      refine ⟨i 4, Finset.mem_univ _, ?_⟩
      funext a
      apply Fin.ext
      match a with
      | ⟨0, _⟩ => exact ((congrArg Fin.val (congrFun h 0)).symm.trans (Shape.ReducesTo.drop_apply_val_of_eq reducesTo_S32x4x4x256x256_S32x4x4x256_d4 i 0 0))
      | ⟨1, _⟩ => exact ((congrArg Fin.val (congrFun h 1)).symm.trans (Shape.ReducesTo.drop_apply_val_of_eq reducesTo_S32x4x4x256x256_S32x4x4x256_d4 i 1 1))
      | ⟨2, _⟩ => exact ((congrArg Fin.val (congrFun h 2)).symm.trans (Shape.ReducesTo.drop_apply_val_of_eq reducesTo_S32x4x4x256x256_S32x4x4x256_d4 i 2 2))
      | ⟨3, _⟩ => exact ((congrArg Fin.val (congrFun h 3)).symm.trans (Shape.ReducesTo.drop_apply_val_of_eq reducesTo_S32x4x4x256x256_S32x4x4x256_d4 i 3 3))
      | ⟨4, _⟩ => rfl
    · rintro ⟨s, -, rfl⟩
      refine ⟨Finset.mem_univ _, ?_⟩
      funext a
      apply Fin.ext
      match a with
      | ⟨0, _⟩ => exact Shape.ReducesTo.drop_apply_val_of_eq reducesTo_S32x4x4x256x256_S32x4x4x256_d4 _ 0 0
      | ⟨1, _⟩ => exact Shape.ReducesTo.drop_apply_val_of_eq reducesTo_S32x4x4x256x256_S32x4x4x256_d4 _ 1 1
      | ⟨2, _⟩ => exact Shape.ReducesTo.drop_apply_val_of_eq reducesTo_S32x4x4x256x256_S32x4x4x256_d4 _ 2 2
      | ⟨3, _⟩ => exact Shape.ReducesTo.drop_apply_val_of_eq reducesTo_S32x4x4x256x256_S32x4x4x256_d4 _ 3 3
  rw [hs, Finset.fold_map]
  have hb : (val_main_cst_0 (F := Ideal) (Shape.Idx.first h_S_) : EReal) = ⊥ := by
    show Ideal.ofBits .f32 0xFF800000#32 = _
    simp [Ideal.ofBits, Ideal.ieee]
  unfold topScore
  show (Finset.univ : Finset (Fin 256)).fold max (val_main_cst_0 (F := Ideal) (Shape.Idx.first h_S_) : EReal)
    (fun s => val_main_v9 (F := Ideal) x0 x1 (ix5 b g r t s : S32x4x4x256x256.Idx)) = _
  rw [hb]
  exact congrArg (fun f => (Finset.univ : Finset (Fin 256)).fold max (⊥ : EReal) f) (funext fun s => scores x0 x1 b g r t s)

/-- The exponential of a score, against the largest. -/
theorem exps (b : Fin 32) (g r : Fin 4) (t s : Fin 256) :
    val_main_v16 (F := Ideal) x0 x1 (ix5 b g r t s : S32x4x4x256x256.Idx)
      = Ideal.exp (scoreAt (ownRow x1 b g) (blockQuery x0 b t g r) s - topScore (ownRow x1 b g) (blockQuery x0 b t g r)) := by
  rw [val_main_v16_apply, val_main_v15_apply, val_main_v14_apply, val_main_v13_apply, val_main_v12_apply, val_main_v11_apply, scores]
  have hi : idx_main_v13 (idx_main_v14 (ix5 b g r t s : S32x4x4x256x256.Idx)) = (ix4 b g r t : S32x4x4x256.Idx) := by
    funext a
    match a with | ⟨0, _⟩ => rfl | ⟨1, _⟩ => rfl | ⟨2, _⟩ => rfl | ⟨3, _⟩ => rfl
  rw [hi, top]
  have hb : ∀ i, (val_main_cst_1 (F := Ideal) i : EReal) = ⊥ := by
    intro i
    show Ideal.ofBits .f32 0xFF800000#32 = _
    simp [Ideal.ofBits, Ideal.ieee]
  show Ideal.exp (_ - max (val_main_cst_1 (F := Ideal) _ : EReal) _) = _
  rw [hb, max_eq_right bot_le]

/-- The reference's attention, at an entry. -/
theorem attended (b : Fin 32) (g r : Fin 4) (t : Fin 256) (d : Fin 64) :
    val_main_v21 (F := Ideal) x0 x1 x2 (ix5 b g d r t : S32x4x64x4x256.Idx)
      = attnAt (ownRow x1 b g) (fun s => ownRow x2 b g s d) (blockQuery x0 b t g r) := by
  rw [val_main_v21_apply]
  unfold attnAt
  refine Finset.sum_congr rfl fun s _ => ?_
  have hl : lidx_main_v21 (ix5 b g d r t : S32x4x64x4x256.Idx) s = (ix4 b s g d : S32x256x4x64.Idx) := by
    funext a
    match a with | ⟨0, _⟩ => rfl | ⟨1, _⟩ => rfl | ⟨2, _⟩ => rfl | ⟨3, _⟩ => rfl
  have hr : ridx_main_v21 (ix5 b g d r t : S32x4x64x4x256.Idx) s = (ix5 b g r t s : S32x4x4x256x256.Idx) := by
    funext a
    match a with | ⟨0, _⟩ => rfl | ⟨1, _⟩ => rfl | ⟨2, _⟩ => rfl | ⟨3, _⟩ => rfl | ⟨4, _⟩ => rfl
  rw [hl, hr, values, val_main_v20_apply, val_main_v19_apply, val_main_v18_apply, val_main_v17_apply, exps]
  have hz : (val_main_cst_2 (F := Ideal) (Shape.Idx.first h_S_) : EReal) = 0 := Ideal.ofBits_zero_f32
  rw [hz, zero_add]
  have hi : ∀ k : Fin 256, idx_main_v17 (idx_main_v18 (idx_main_v19 (ix5 b g r t s : S32x4x4x256x256.Idx))) k = (ix5 b g r t k : S32x4x4x256x256.Idx) := by
    intro k
    funext a
    match a with | ⟨0, _⟩ => rfl | ⟨1, _⟩ => rfl | ⟨2, _⟩ => rfl | ⟨3, _⟩ => rfl | ⟨4, _⟩ => rfl
  simp only [hi, exps]
  rfl

/-- The reference's result, at an entry. -/
theorem result_at (b : Fin 32) (t : Fin 256) (h : Fin 16) (d : Fin 64) :
    val_main_v24 (F := Ideal) x0 x1 x2 (ix2 (⟨b.val * 256 + t.val, by omega⟩ : Fin 8192) (⟨h.val * 64 + d.val, by omega⟩ : Fin 1024) : S8192x1024.Idx)
      = attnAt (ownRow x1 b ⟨h.val / 4, by omega⟩) (fun s => ownRow x2 b ⟨h.val / 4, by omega⟩ s d) (queryAt x0 ⟨b.val * 256 + t.val, by omega⟩ h) := by
  rw [val_main_v24_apply]
  refine (show _ = val_main_v23 (F := Ideal) x0 x1 x2 _ from rfl).trans ?_
  rw [val_main_v23_apply, val_main_v22_apply]
  have hh : (⟨(⟨h.val / 4, by omega⟩ : Fin 4).val * 4 + (⟨h.val % 4, by omega⟩ : Fin 4).val, by show h.val / 4 * 4 + h.val % 4 < 16; omega⟩ : Fin 16) = h :=
    Fin.ext (by show h.val / 4 * 4 + h.val % 4 = h.val; omega)
  have := attended x0 x1 x2 b ⟨h.val / 4, by omega⟩ ⟨h.val % 4, by omega⟩ t d
  unfold blockQuery at this
  rw [hh] at this
  refine (congrArg _ (funext fun a => Fin.ext ?_)).trans this
  match a with
  | ⟨0, _⟩ => show ((b.val * 256 + t.val) * 1024 + (h.val * 64 + d.val)) / 262144 = b.val; omega
  | ⟨1, _⟩ => show ((b.val * 256 + t.val) * 1024 + (h.val * 64 + d.val)) / 256 % 4 = h.val / 4; omega
  | ⟨2, _⟩ => show ((b.val * 256 + t.val) * 1024 + (h.val * 64 + d.val)) % 64 = d.val; omega
  | ⟨3, _⟩ => show ((b.val * 256 + t.val) * 1024 + (h.val * 64 + d.val)) / 64 % 4 = h.val % 4; omega
  | ⟨4, _⟩ => show ((b.val * 256 + t.val) * 1024 + (h.val * 64 + d.val)) / 1024 % 256 = t.val; omega

end Cert.Reference5Ideal.Read

end
-- ==== Proof.CtxResult.lean ====
/-
  The call that attends over the prompt's own rows, at the idealized program: its result, entry by entry, and its run.
-/
module

public import proofs.«01_k».proof.Proof.CtxBlock
public import proofs.«01_k».proof.Proof.CtxRef
public import Idealize.ShloMosaic.Lib.StableHlo.Run
public import Idealize.ShloMosaic.Lib.Pipeline.ValueKit
public import Idealize.ShloMosaic.Lib.Pipeline.Value

@[expose] public section

set_option maxRecDepth 16384

noncomputable section

namespace Cert.Kernel5Ideal.Gen

open Idealize.ShloMosaic hiding ix1 ix2 ix3 ix4
open Idealize.SL.Sem
open Idealize.ShloMosaic.TcCoe Idealize.ShloMosaic.Tactic Idealize.ShloMosaic.ValueIdx
open Idealize.ShloMosaic.Pipeline (Dat Cfg Window cellOf)
open Cert.Attn

/-! ## The arrays the call takes -/

/-- The queries as the call takes them: cut in blocks of rows, each transposed. -/
def queriesT (x : Vec Ideal S16384x1024 .f32) : Vec Ideal S64x1024x256 .f32 :=
  transpose S64x1024x256 [0, 2, 1] (shapeCast S64x256x1024 x shapeCasts_S16384x1024_S64x256x1024) transposes_S64x256x1024_S64x1024x256_0_2_1

/-- The keys as the call takes them: each head twice. -/
def keysTwice (x : Vec Ideal S16384x256 .f32) : Vec Ideal S16384x512 .bf16 :=
  (truncf .bf16 (shapeCast S16384x512
    (concatenate S16384x4x128 2 [⟨S16384x4x64, shapeCast S16384x4x64 x shapeCasts_S16384x256_S16384x4x64⟩,
      ⟨S16384x4x64, shapeCast S16384x4x64 x shapeCasts_S16384x256_S16384x4x64⟩]
      concatenates_S16384x4x64_S16384x4x64_S16384x4x128_d2) shapeCasts_S16384x4x128_S16384x512 : FVec Ideal S16384x512 .f32) bitsLt_bf16_f32 : FVec Ideal S16384x512 .bf16)

/-- The values as the call takes them: transposed. -/
def valuesT (x : Vec Ideal S16384x256 .f32) : Vec Ideal S256x16384 .bf16 :=
  (truncf .bf16 (transpose S256x16384 [1, 0] x transposes_S16384x256_S256x16384_1_0 : FVec Ideal S256x16384 .f32) bitsLt_bf16_f32 : FVec Ideal S256x16384 .bf16)

/-- Narrowing the doubled keys changes nothing over the extended reals. -/
theorem narrowed (x : FVec Ideal S16384x512 .f32) : (truncf .bf16 x bitsLt_bf16_f32 : FVec Ideal S16384x512 .bf16) = x := rfl

/-- The transposed queries, read at an index. -/
theorem queriesT_apply (x : Vec Ideal S16384x1024 .f32) (n : Fin 64) (a : Fin 1024) (j : Fin 256) :
    queriesT x (ix3 n a j : S64x1024x256.Idx) = x (ix2 (⟨n.val * 256 + j.val, by omega⟩ : Fin 16384) a : S16384x1024.Idx) := by
  unfold queriesT
  refine (transpose_ix3_021_apply _ _ n a j).trans (shapeCast_apply (s := S16384x1024) (t := S64x256x1024) _ _ _ _ ?_)
  rw [Shape.rowMajor_val_three, Shape.rowMajor_val_two]
  rfl

/-- The doubled keys, read at an index: both copies of a head's 64 features are that head of the argument. -/
theorem keysTwice_apply (x : Vec Ideal S16384x256 .f32) (r : Fin 16384) (g : Fin 4) (e : Fin 2) (d : Fin 64) :
    keysTwice x (ix2 r (⟨g.val * 128 + e.val * 64 + d.val, by omega⟩ : Fin 512) : S16384x512.Idx)
      = x (ix2 r (⟨g.val * 64 + d.val, by omega⟩ : Fin 256) : S16384x256.Idx) := by
  unfold keysTwice
  refine (congrFun (narrowed _) _).trans ?_
  refine (shapeCast_apply _ shapeCasts_S16384x4x128_S16384x512 _ (ix3 r g (⟨e.val * 64 + d.val, by omega⟩ : Fin 128) : S16384x4x128.Idx) ?_).trans ?_
  · rw [Shape.rowMajor_val_three, Shape.rowMajor_val_two]
    show (r.val * 4 + g.val) * 128 + (e.val * 64 + d.val) = r.val * 512 + (g.val * 128 + e.val * 64 + d.val)
    omega
  have hs : (shapeCast S16384x4x64 x shapeCasts_S16384x256_S16384x4x64) (ix3 r g d : S16384x4x64.Idx)
      = x (ix2 r (⟨g.val * 64 + d.val, by omega⟩ : Fin 256) : S16384x256.Idx) := by
    refine shapeCast_apply (s := S16384x256) (t := S16384x4x64) _ _ _ _ ?_
    rw [Shape.rowMajor_val_three, Shape.rowMajor_val_two]
    show r.val * 256 + (g.val * 64 + d.val) = (r.val * 4 + g.val) * 64 + d.val
    omega
  rw [← hs]
  match e with
  | ⟨0, _⟩ =>
    exact concatenate_pair_apply_left (s₁ := S16384x4x64) (s₂ := S16384x4x64) (2 : Fin S16384x4x128.rank) _ _ _ _ rfl (ix3 r g d : S16384x4x64.Idx) (fun a => by
      match a with
      | ⟨0, _⟩ => rfl
      | ⟨1, _⟩ => rfl
      | ⟨2, _⟩ => show d.val = 0 * 64 + d.val; omega)
  | ⟨1, _⟩ =>
    exact concatenate_pair_apply_right (s₁ := S16384x4x64) (s₂ := S16384x4x64) (2 : Fin S16384x4x128.rank) _ _ _ _ rfl rfl (ix3 r g d : S16384x4x64.Idx) (fun a ha => by
      match a with
      | ⟨0, _⟩ => rfl
      | ⟨1, _⟩ => rfl
      | ⟨2, _⟩ => exact absurd rfl ha) (by show d.val + 64 = 1 * 64 + d.val; omega)

/-- The transposed values, read at an index. -/
theorem valuesT_apply (x : Vec Ideal S16384x256 .f32) (a : Fin 256) (r : Fin 16384) :
    valuesT x (ix2 a r : S256x16384.Idx) = x (ix2 r a : S16384x256.Idx) := transpose_ix2_apply x transposes_S16384x256_S256x16384_1_0 a r

/-- The rows cut out of the call's array. -/
theorem cut_rows (A : Vec Ideal S16384x1024 .bf16) (r : Fin 8192) (a : Fin 1024) :
    extractStridedSlice S8192x1024 ![0, 0] A slices_S16384x1024_S8192x1024_0_0 (ix2 r a : S8192x1024.Idx)
      = A (ix2 (⟨r.val, by omega⟩ : Fin 16384) a : S16384x1024.Idx) :=
  extractStridedSlice_apply _ _ _ _ _ (fun ax => by
    match ax with
    | ⟨0, _⟩ => exact (Nat.zero_add _).symm
    | ⟨1, _⟩ => exact (Nat.zero_add _).symm)

variable (m : (ℓ : Loc nD τ sig) → Buf (Elt Ideal) ℓ) (ρ : Dev nD → PrngReg) (c : Dev nD)

/-- The queries the call is given. -/
theorem V_v1 : V m c main_v1 = queriesT (m ((c : Thread nD τ).loc main_arg0)) := by
  show StableHlo.after [hostOps0 (F := Ideal)].flatten (fun b => m (c, b)) (Proc.devRef .tc main_v1) = _
  simp only [hostOps0, List.flatten_cons, List.flatten_nil, List.append_nil]
  after_results
  rfl

/-- The keys the call is given. -/
theorem V_v5 : V m c main_v5 = keysTwice (m ((c : Thread nD τ).loc main_arg1)) := by
  show StableHlo.after [hostOps0 (F := Ideal)].flatten (fun b => m (c, b)) (Proc.devRef .tc main_v5) = _
  simp only [hostOps0, List.flatten_cons, List.flatten_nil, List.append_nil]
  after_results
  rfl

/-- The values the call is given. -/
theorem V_v7 : V m c main_v7 = valuesT (m ((c : Thread nD τ).loc main_arg2)) := by
  show StableHlo.after [hostOps0 (F := Ideal)].flatten (fun b => m (c, b)) (Proc.devRef .tc main_v7) = _
  simp only [hostOps0, List.flatten_cons, List.flatten_nil, List.append_nil]
  after_results
  rfl

/-! ## The blocks -/

/-- The windows of the points. -/
theorem index_at : ∀ t : Fin cfg0.N, win0_0.index t = ![t.val, 0, 0] ∧ win0_1.index t = ![t.val, 0] ∧ win0_2.index t = ![0, t.val] ∧ win0_3.index t = ![t.val, 0] :=
  (by decide +kernel : ∀ t : Fin grid0.N, win0_0.index t = ![t.val, 0, 0] ∧ win0_1.index t = ![t.val, 0] ∧ win0_2.index t = ![0, t.val] ∧ win0_3.index t = ![t.val, 0])

section
variable (t : Fin cfg0.N)

/-- The queries of a block. -/
theorem blk_0 (a : Fin 1024) (j : Fin 256) : iblk m c 0 t (ix3 (0 : Fin 1) a j : S1x1024x256.Idx)
    = m ((c : Thread nD τ).loc main_arg0) (ix2 (⟨t.val * 256 + j.val, by have : t.val < 32 := t.isLt; omega⟩ : Fin 16384) a : S16384x1024.Idx) := by
  have ht : t.val < 32 := t.isLt
  obtain ⟨e0, e1, e2, e3⟩ := index_at t
  refine Eq.trans ?_ (queriesT_apply (m ((c : Thread nD τ).loc main_arg0)) ⟨t.val, by omega⟩ a j)
  rw [← V_v1 m c]
  show V m c main_v1 (((cfg0.win 0).blk t).view.emb _) = _
  blk_ext [iblk, e0]

/-- The keys of a block. -/
theorem blk_1 (s : Fin 256) (g : Fin 4) (e : Fin 2) (d : Fin 64) : iblk m c 1 t (ix2 s (⟨g.val * 128 + e.val * 64 + d.val, by omega⟩ : Fin 512) : S256x512.Idx)
    = m ((c : Thread nD τ).loc main_arg1) (ix2 (⟨t.val * 256 + s.val, by have : t.val < 32 := t.isLt; omega⟩ : Fin 16384) (⟨g.val * 64 + d.val, by omega⟩ : Fin 256) : S16384x256.Idx) := by
  have ht : t.val < 32 := t.isLt
  obtain ⟨e0, e1, e2, e3⟩ := index_at t
  refine Eq.trans ?_ (keysTwice_apply (m ((c : Thread nD τ).loc main_arg1)) ⟨t.val * 256 + s.val, by omega⟩ g e d)
  rw [← V_v5 m c]
  show V m c main_v5 (((cfg0.win 1).blk t).view.emb _) = _
  blk_ext [iblk, e1]

/-- The values of a block. -/
theorem blk_2 (a s : Fin 256) : iblk m c 2 t (ix2 a s : S256x256.Idx)
    = m ((c : Thread nD τ).loc main_arg2) (ix2 (⟨t.val * 256 + s.val, by have : t.val < 32 := t.isLt; omega⟩ : Fin 16384) a : S16384x256.Idx) := by
  have ht : t.val < 32 := t.isLt
  obtain ⟨e0, e1, e2, e3⟩ := index_at t
  refine Eq.trans ?_ (valuesT_apply (m ((c : Thread nD τ).loc main_arg2)) a ⟨t.val * 256 + s.val, by omega⟩)
  rw [← V_v7 m c]
  show V m c main_v7 (((cfg0.win 2).blk t).view.emb _) = _
  blk_ext [iblk, e2]

/-- What a point leaves at one query, one head and one dimension: that query's attention, its arguments real. -/
theorem point (j : Fin 256) (h : Fin 16) (d : Fin 64) (b : Fin 32) (hb : t.val = b.val) (g : Fin 4) (hg : h.val / 4 = g.val)
    (Q : Fin 64 → ℝ) (hQ : ∀ d, queryAt (m ((c : Thread nD τ).loc main_arg0)) ⟨b.val * 256 + j.val, by omega⟩ h d = (Q d : EReal))
    (K : Fin 256 → Fin 64 → ℝ) (hK : ∀ s d, ownRow (m ((c : Thread nD τ).loc main_arg1)) b g s d = (K s d : EReal)) :
    (dats m 0 c).after 3 t (ix2 j (⟨h.val * 64 + d.val, by omega⟩ : Fin 1024) : S256x1024.Idx)
      = attnAt (fun s d => (K s d : EReal)) (fun s => ownRow (m ((c : Thread nD τ).loc main_arg2)) b g s d) (fun d => (Q d : EReal)) := by
  rw [after0_3, out_eq]
  refine ctxBlock_apply _ _ _ g ⟨h.val % 4, by omega⟩ h hg rfl j d Q K _ ?_ ?_ ?_
  · intro d
    rw [scaled_apply, blk_0, EReal.coe_mul, ← hQ]
    unfold queryAt
    congr 3
    apply Fin.ext
    show t.val * 256 + j.val = b.val * 256 + j.val
    rw [hb]
  · intro s e d
    refine (View.ld_unit_apply_of _ _ _ _ _ (ix2 s (⟨g.val * 128 + e.val * 64 + d.val, by omega⟩ : Fin 512) : S256x512.Idx) (fun a => ?_)).trans ?_
    · match a with
      | ⟨0, _⟩ => exact (Nat.zero_add _).symm
      | ⟨1, _⟩ => show g.val * 128 + e.val * 64 + d.val = 128 * g.val + (e.val * 64 + d.val); omega
    · rw [blk_1, ← hK]
      unfold ownRow
      congr 2
      apply Fin.ext
      show t.val * 256 + s.val = b.val * 256 + s.val
      rw [hb]
  · intro s
    refine (View.ld_unit_apply_of _ _ _ _ _ (ix2 (⟨g.val * 64 + d.val, by omega⟩ : Fin 256) s : S256x256.Idx) (fun a => ?_)).trans ?_
    · match a with
      | ⟨0, _⟩ => show g.val * 64 + d.val = 64 * g.val + d.val; omega
      | ⟨1, _⟩ => exact (Nat.zero_add _).symm
    · rw [blk_2]
      unfold ownRow
      congr 2
      apply Fin.ext
      show t.val * 256 + s.val = b.val * 256 + s.val
      rw [hb]

/-- Row `256 t + j` of the array the call leaves is row `j` of what point `t` leaves. -/
theorem array_row (j : Fin 256) (a : Fin 1024) :
    (dats m 0 c).arrAt 3 cfg0.N (ix2 (⟨t.val * 256 + j.val, by have : t.val < 32 := t.isLt; omega⟩ : Fin 16384) a : S16384x1024.Idx)
      = (dats m 0 c).after 3 t (ix2 j a : S256x1024.Idx) := by
  have ht : t.val < 32 := t.isLt
  have hf : (cfg0.win 3).flush t = true := (by decide +kernel : ∀ t : Fin grid0.N, win0_3.flush t = true) t
  have hd : ∀ t t' : Fin cfg0.N, (cfg0.win 3).flush t = true → (cfg0.win 3).flush t' = true → t ≠ t' →
      Disjoint ((cfg0.win 3).blk t).view.set ((cfg0.win 3).blk t').view.set :=
    fun t t' _ _ hne => (cfg0.win 3).disjoint_blk fun h =>
      hne ((by decide +kernel : ∀ t t' : Fin grid0.N, win0_3.index t = win0_3.index t' → t = t') t t' h)
  have hb := congrFun ((dats m 0 c).read_blk_arrAt_eq_flushed 3 hd cfg0.N t t.isLt hf) (ix2 j a : S256x1024.Idx)
  refine Eq.trans (congrArg ((dats m 0 c).arrAt 3 cfg0.N) ?_) hb
  obtain ⟨e0, e1, e2, e3⟩ := index_at t
  symm
  show ((cfg0.win 3).blk t).view.emb (ix2 j a : S256x1024.Idx) = _
  blk_ext [e3]
end

/-! ## The result -/

/-- The host line after the call leaves the first 8192 rows. -/
theorem tail_rows (W : Valuation τ sig (Elt Ideal)) : StableHlo.after [hostOps1 (F := Ideal)].flatten W (Proc.devRef .tc main_v9)
    = extractStridedSlice S8192x1024 ![0, 0] (W (Proc.devRef .tc main_v8) : FVec Ideal S16384x1024 .bf16) slices_S16384x1024_S8192x1024_0_0 := by
  simp only [hostOps1, List.flatten_cons, List.flatten_nil, List.append_nil]
  after_results
  try rfl

/-- The call's result is the reference's, where the prompt's queries and keys are real. -/
theorem end_result
    (hq : ∀ (r : Fin 16384) (j : Fin 1024), r.val < 8192 → ∃ x : ℝ, m ((c : Thread nD τ).loc main_arg0) (ix2 r j : S16384x1024.Idx) = (x : EReal))
    (hk : ∀ (r : Fin 16384) (j : Fin 256), r.val < 8192 → ∃ x : ℝ, m ((c : Thread nD τ).loc main_arg1) (ix2 r j : S16384x256.Idx) = (x : EReal)) :
    Pipeline.afterTail₀ cfgs (dats m) 0 (V0 m) [hostOps1] c main_v9
      = Cert.Reference5Ideal.Read.val_main_v24 (F := Ideal) (m ((c : Thread nD τ).loc main_arg0)) (m ((c : Thread nD τ).loc main_arg1)) (m ((c : Thread nD τ).loc main_arg2)) := by
  refine (tail_rows _).trans ?_
  refine (congrArg (fun A : FVec Ideal S16384x1024 .bf16 => extractStridedSlice S8192x1024 ![0, 0] A slices_S16384x1024_S8192x1024_0_0)
    (Pipeline.withArrays_arr spec0 winFacts0.arr_inj c (V0 m c) (fun w => (dats m 0 c).arrAt w cfg0.N) 3)).trans ?_
  funext y
  obtain ⟨b, j, hj⟩ : ∃ (b : Fin 32) (j : Fin 256), y 0 = (⟨b.val * 256 + j.val, by omega⟩ : Fin 8192) :=
    ⟨⟨(y 0).val / 256, by have h := (y 0).isLt; change (y 0).val < 8192 at h; omega⟩, ⟨(y 0).val % 256, by omega⟩, Fin.ext (by show (y 0).val = (y 0).val / 256 * 256 + (y 0).val % 256; omega)⟩
  obtain ⟨h, d, hd⟩ : ∃ (h : Fin 16) (d : Fin 64), y 1 = (⟨h.val * 64 + d.val, by omega⟩ : Fin 1024) :=
    ⟨⟨(y 1).val / 64, by have h := (y 1).isLt; change (y 1).val < 1024 at h; omega⟩, ⟨(y 1).val % 64, by omega⟩, Fin.ext (by show (y 1).val = (y 1).val / 64 * 64 + (y 1).val % 64; omega)⟩
  obtain rfl : y = (ix2 (⟨b.val * 256 + j.val, by omega⟩ : Fin 8192) (⟨h.val * 64 + d.val, by omega⟩ : Fin 1024) : S8192x1024.Idx) :=
    funext fun x => match x with | ⟨0, _⟩ => hj | ⟨1, _⟩ => hd
  have hQ : ∀ d, ∃ x : ℝ, queryAt (m ((c : Thread nD τ).loc main_arg0)) ⟨b.val * 256 + j.val, by omega⟩ h d = (x : EReal) :=
    fun d => hq _ _ (by show b.val * 256 + j.val < 8192; omega)
  choose Q hQ using hQ
  have hK : ∀ s d, ∃ x : ℝ, ownRow (m ((c : Thread nD τ).loc main_arg1)) b ⟨h.val / 4, by omega⟩ s d = (x : EReal) :=
    fun s d => hk _ _ (by show b.val * 256 + s.val < 8192; omega)
  choose K hK using hK
  have hx := point m c (⟨b.val, b.isLt⟩ : Fin cfg0.N) j h d b rfl ⟨h.val / 4, by omega⟩ rfl Q hQ K hK
  have eK : (fun s d => (K s d : EReal)) = ownRow (m ((c : Thread nD τ).loc main_arg1)) b ⟨h.val / 4, by omega⟩ :=
    funext fun s => funext fun d => (hK s d).symm
  have eQ : (fun d => (Q d : EReal)) = queryAt (m ((c : Thread nD τ).loc main_arg0)) ⟨b.val * 256 + j.val, by omega⟩ h := funext fun d => (hQ d).symm
  rw [eK, eQ] at hx
  exact (cut_rows _ _ _).trans ((array_row m c (⟨b.val, b.isLt⟩ : Fin cfg0.N) j _).trans
    (hx.trans (Cert.Reference5Ideal.Read.result_at _ _ _ b j h d).symm))

/-- The run leaves what the host line leaves of the call's array, and the arguments. -/
theorem run_result : θ_run defs (onTc (τ := τ) (main (F := Ideal))) ⟨m, fun _ => 0, ρ⟩ (fun r => ∀ c : Dev nD,
      r.2.mem ((c.tc : Thread nD τ).loc main_v9) = Pipeline.afterTail₀ cfgs (dats m) 0 (V0 m) [hostOps1] c main_v9
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h.2 c).2 main_v9 (Pipeline.mem_restRefs_of main_v9 (by decide) (by decide)), h.1 c⟩)
    (θ_run_and (unchanged m ρ) (run_main m ρ))

end Cert.Kernel5Ideal.Gen

end
-- ==== Proof.Precond.lean ====
module

public import proofs.«01_k».proof.Pre_finite_scores
public import Idealize.ShloMosaic.Lib.ReduceAll
public import Idealize.ShloMosaic.Lib.Affine
public import Idealize.ShloMosaic.Lib.ValueLayout
public import Idealize.ShloMosaic.PureOps.Ideal.Laws

@[expose] public section

set_option maxRecDepth 16384

noncomputable section

namespace Cert.Pre_finite_scores

open Idealize.ShloMosaic Idealize.ShloMosaic.ValueIdx

/-- The shape relations the precondition's operations take. -/
theorem facts : Facts where
  slices_S16384x1024_S8192x1024_8192_0 := by decide
  bcast_S_S8192x1024 := by decide
  reducesTo_S8192x1024_S_d0_1 := by decide
  h_S_ := by decide
  slices_S16384x256_S8192x256_8192_0 := by decide
  bcast_S_S8192x256 := by decide
  reducesTo_S8192x256_S_d0_1 := by decide
  bcast_S_S8x512x4x64 := by decide
  reducesTo_S8x512x4x64_S_d0_1_2_3 := by decide

/-- A magnitude below plus infinity is that of a real. -/
theorem real_of_bounded (x : EReal) (h : Ideal.cmp .olt (max x (-x)) (Ideal.ofBits .f32 0x7F800000#32) = 1#1) : ∃ r : ℝ, x = (r : EReal) := by
  have ht : Ideal.ofBits .f32 0x7F800000#32 = (⊤ : EReal) := by simp [Ideal.ofBits, Ideal.ieee]
  rw [ht] at h
  induction x using EReal.rec with
  | bot => simp [Ideal.cmp] at h
  | top => simp [Ideal.cmp] at h
  | coe r => exact ⟨r, rfl⟩

/-- A scalar's shape has one index. -/
instance : Subsingleton S_.Idx := ⟨fun _ _ => funext fun a => a.elim0⟩

/-- The precondition gives a real for each attended query, each new key and each cached key. -/
theorem reals [Facts] (a0 : FVec Ideal S16384x1024 .f32) (a1 a2 : FVec Ideal S16384x256 .f32) (a3 a4 : FVec Ideal S8x512x4x64 .f32)
    (a5 a6 : FVec Ideal S2x32x1024x256 .f32) (a7 : FVec Ideal S2x32x256x1024 .f32) (a8 : FVec Ideal S16384x1024 .bf16)
    (h : fn a0 a1 a2 a3 a4 a5 a6 a7 a8 = fun _ => 1#1) :
    (∀ (r : Fin 16384) (j : Fin 1024), 8192 ≤ r.val → ∃ x : ℝ, a0 (ix2 r j) = (x : EReal))
      ∧ (∀ (r : Fin 16384) (j : Fin 256), 8192 ≤ r.val → ∃ x : ℝ, a1 (ix2 r j) = (x : EReal))
      ∧ ∀ i : S8x512x4x64.Idx, ∃ x : ℝ, a3 i = (x : EReal) := by
  have h0 := congrFun h (Shape.Idx.first Facts.h_S_)
  unfold fn at h0
  dsimp only at h0
  obtain ⟨h1, hc⟩ := IntOp.andi_eq_one.1 h0
  obtain ⟨hq, hk⟩ := IntOp.andi_eq_one.1 h1
  refine ⟨fun r j hr => ?_, fun r j hr => ?_, fun i => ?_⟩
  · have := Host.reduce_andi_all _ _ _ _ _ hq (ix2 (⟨r.val - 8192, by omega⟩ : Fin 8192) j : S8192x1024.Idx)
    refine real_of_bounded _ (Eq.trans ?_ this)
    refine congrArg (fun x => Ideal.cmp .olt (max x (-x)) (Ideal.ofBits .f32 0x7F800000#32)) ?_
    exact (extractStridedSlice_apply _ _ _ _ _ (fun ax => by
      match ax with
      | ⟨0, _⟩ => show r.val = 8192 + (r.val - 8192); omega
      | ⟨1, _⟩ => exact (Nat.zero_add _).symm)).symm
  · have := Host.reduce_andi_all _ _ _ _ _ hk (ix2 (⟨r.val - 8192, by omega⟩ : Fin 8192) j : S8192x256.Idx)
    refine real_of_bounded _ (Eq.trans ?_ this)
    refine congrArg (fun x => Ideal.cmp .olt (max x (-x)) (Ideal.ofBits .f32 0x7F800000#32)) ?_
    exact (extractStridedSlice_apply _ _ _ _ _ (fun ax => by
      match ax with
      | ⟨0, _⟩ => show r.val = 8192 + (r.val - 8192); omega
      | ⟨1, _⟩ => exact (Nat.zero_add _).symm)).symm
  · exact real_of_bounded _ (Host.reduce_andi_all _ _ _ _ _ hc i)

end Cert.Pre_finite_scores
-- ==== Proof.CtxClaims.lean ====
/-
  The call that attends over the prompt's own rows: its precondition, its frames, the idealization's own statement, and its value.
-/
module

public import proofs.«01_k».proof.Defs
public import proofs.«01_k».proof.Proof.CtxResult
public import proofs.«01_k».proof.Proof.Precond
public import proofs.«01_k».proof.Proof.Gen.Kernel5.Frame
public import proofs.«01_k».proof.Proof.Gen.Reference5Ideal.Run
public import Idealize.ShloMosaic.Adequacy
public import Idealize.ShloMosaic.Init

@[expose] public section

set_option maxRecDepth 16384

noncomputable section

namespace Cert.Pre_finite_ctx

open Idealize.ShloMosaic hiding ix1 ix2 ix3 ix4
open Idealize.ShloMosaic.ValueIdx

/-- The shape relations the precondition's operations take. -/
theorem facts : Facts where
  slices_S16384x1024_S8192x1024_0_0 := by decide
  bcast_S_S8192x1024 := by decide
  reducesTo_S8192x1024_S_d0_1 := by decide
  h_S_ := by decide
  slices_S16384x256_S8192x256_0_0 := by decide
  bcast_S_S8192x256 := by decide
  reducesTo_S8192x256_S_d0_1 := by decide

/-- The precondition gives a real for each of the prompt's queries and keys. -/
theorem reals [Facts] (a0 : FVec Ideal S16384x1024 .f32) (a1 a2 : FVec Ideal S16384x256 .f32) (h : fn a0 a1 a2 = fun _ => 1#1) :
    (∀ (r : Fin 16384) (j : Fin 1024), r.val < 8192 → ∃ x : ℝ, a0 (ix2 r j) = (x : EReal))
      ∧ ∀ (r : Fin 16384) (j : Fin 256), r.val < 8192 → ∃ x : ℝ, a1 (ix2 r j) = (x : EReal) := by
  have h0 := congrFun h (Shape.Idx.first Facts.h_S_)
  unfold fn at h0
  dsimp only at h0
  obtain ⟨hq, hk⟩ := IntOp.andi_eq_one.1 h0
  haveI : Subsingleton S_.Idx := ⟨fun _ _ => funext fun a => a.elim0⟩
  refine ⟨fun r j hr => ?_, fun r j hr => ?_⟩
  · have := Host.reduce_andi_all _ _ _ _ _ hq (ix2 (⟨r.val, hr⟩ : Fin 8192) j : S8192x1024.Idx)
    refine Cert.Pre_finite_scores.real_of_bounded _ (Eq.trans ?_ this)
    refine congrArg (fun x => Ideal.cmp .olt (max x (-x)) (Ideal.ofBits .f32 0x7F800000#32)) ?_
    exact (extractStridedSlice_apply _ _ _ _ _ (fun ax => by
      match ax with
      | ⟨0, _⟩ => exact (Nat.zero_add _).symm
      | ⟨1, _⟩ => exact (Nat.zero_add _).symm)).symm
  · have := Host.reduce_andi_all _ _ _ _ _ hk (ix2 (⟨r.val, hr⟩ : Fin 8192) j : S8192x256.Idx)
    refine Cert.Pre_finite_scores.real_of_bounded _ (Eq.trans ?_ this)
    refine congrArg (fun x => Ideal.cmp .olt (max x (-x)) (Ideal.ofBits .f32 0x7F800000#32)) ?_
    exact (extractStridedSlice_apply _ _ _ _ _ (fun ax => by
      match ax with
      | ⟨0, _⟩ => exact (Nat.zero_add _).symm
      | ⟨1, _⟩ => exact (Nat.zero_add _).symm)).symm

end Cert.Pre_finite_ctx

namespace Cert.Proof

open Idealize.ShloMosaic Idealize.SL.Sem Idealize.ShloMosaic.TcCoe

/-- The reference of the prompt's attention runs, leaves its arguments, and leaves every counter at zero. -/
theorem frame_ctx_ref : Cert.quiescent_Reference5Ideal (hReference5Ideal := Cert.Reference5Ideal.Gen.facts) := fun m ρ _ =>
  (θ_run Cert.Reference5Ideal.defs _ _).mono (fun r h => ⟨fun c => (h c).2,
      Idealize.ShloMosaic.sem_eq_zero_of_no_sems (by decide) r.2⟩)
    (Cert.Reference5Ideal.Value.run (F := Ideal) m ρ)

/-- The idealized attention call is the printed one with the scale by its name. -/
theorem preserves_ctx : Cert.preserves_Kernel5_Kernel5Ideal :=
  IdealRules.named_const.statement Cert.Kernel5Ideal.κ "q_scale" .f32 0x3E38AA3B#32 (((1 / 8) * (Real.log 2)⁻¹ : ℝ) : EReal) rfl

/-- The idealized attention call and its reference leave the same array, the prompt's queries and keys real. -/
theorem algebraic_ctx : Cert.algebraic_Kernel5Ideal_Reference5Ideal_pre_finite_ctx (hKernel5Ideal := Cert.Kernel5Ideal.Gen.facts)
    (hReference5Ideal := Cert.Reference5Ideal.Gen.facts) (hPre_finite_ctx := Cert.Pre_finite_ctx.facts) := by
  intro m ρ m' ρ' hpre hagree
  refine ⟨_, Cert.Kernel5Ideal.Gen.run_result m ρ, ?_⟩
  refine (θ_run Cert.Reference5Ideal.defs _ _).mono (fun _ h c => ?_) (Cert.Reference5Ideal.Value.run (F := Ideal) m' ρ')
  obtain ⟨h24, hargs⟩ := h c
  obtain ⟨a0, a1, a2⟩ := hagree c
  obtain ⟨hq, hk⟩ := @Cert.Pre_finite_ctx.reals Cert.Pre_finite_ctx.facts _ _ _ (hpre c)
  refine ⟨h24.trans ?_, hargs⟩
  rw [Cert.Reference5Ideal.Read.val_main_v24_eq, a0, a1, a2]
  exact (Cert.Kernel5Ideal.Gen.end_result m c hq hk).symm

end Cert.Proof

end
-- ==== Proof.Arrays.lean ====
module

public import proofs.«01_k».proof.Proof.Attend
public import Idealize.ShloMosaic.Lib.StableHlo.Run

@[expose] public section

set_option maxRecDepth 16384

noncomputable section

namespace Cert.KernelIdeal.Gen

open Idealize.ShloMosaic Idealize.ShloMosaic.TcCoe Idealize.ShloMosaic.Tactic Idealize.ShloMosaic.ValueIdx
open scoped BigOperators

section host
variable {F : FTy → Type} [FloatOps F] [Named F]
variable (m : (ℓ : Loc nD τ sig) → Buf (Elt F) ℓ)

/-- The queries as the call takes them: cut in blocks of rows, each transposed. -/
theorem V_v1 (c : Dev nD) : V m c main_v1 = transpose S64x1024x256 [0, 2, 1]
    (shapeCast S64x256x1024 (m ((c : Thread nD τ).loc main_arg0)) shapeCasts_S16384x1024_S64x256x1024)
    transposes_S64x256x1024_S64x1024x256_0_2_1 := by
  unfold_abbrev_sides; after_results; rfl

/-- The new keys as the call takes them: each head twice. -/
theorem V_v5 (c : Dev nD) : V m c main_v5 = (truncf .bf16 (shapeCast S16384x512
    (concatenate S16384x4x128 2 [⟨S16384x4x64, shapeCast S16384x4x64 (m ((c : Thread nD τ).loc main_arg1)) shapeCasts_S16384x256_S16384x4x64⟩,
      ⟨S16384x4x64, shapeCast S16384x4x64 (m ((c : Thread nD τ).loc main_arg1)) shapeCasts_S16384x256_S16384x4x64⟩]
      concatenates_S16384x4x64_S16384x4x64_S16384x4x128_d2) shapeCasts_S16384x4x128_S16384x512 : FVec F S16384x512 .f32) bitsLt_bf16_f32 : FVec F S16384x512 .bf16) := by
  unfold_abbrev_sides; after_results; rfl

/-- The new values as the call takes them: transposed. -/
theorem V_v7 (c : Dev nD) : V m c main_v7 = (truncf .bf16 (transpose S256x16384 [1, 0] (m ((c : Thread nD τ).loc main_arg2))
    transposes_S16384x256_S256x16384_1_0 : FVec F S256x16384 .f32) bitsLt_bf16_f32 : FVec F S256x16384 .bf16) := by
  unfold_abbrev_sides; after_results

/-- The cached keys as the call takes them: each head twice. -/
theorem V_v10 (c : Dev nD) : V m c main_v10 = (truncf .bf16 (shapeCast S8x512x512
    (concatenate S8x512x4x128 3 [⟨S8x512x4x64, m ((c : Thread nD τ).loc main_arg3)⟩, ⟨S8x512x4x64, m ((c : Thread nD τ).loc main_arg3)⟩]
      concatenates_S8x512x4x64_S8x512x4x64_S8x512x4x128_d3) shapeCasts_S8x512x4x128_S8x512x512 : FVec F S8x512x512 .f32) bitsLt_bf16_f32 : FVec F S8x512x512 .bf16) := by
  unfold_abbrev_sides; after_results; rfl

/-- The cached values as the call takes them: transposed. -/
theorem V_v13 (c : Dev nD) : V m c main_v13 = (truncf .bf16 (transpose S8x256x512 [0, 2, 1]
    (shapeCast S8x512x256 (m ((c : Thread nD τ).loc main_arg4)) shapeCasts_S8x512x4x64_S8x512x256)
    transposes_S8x512x256_S8x256x512_0_2_1 : FVec F S8x256x512 .f32) bitsLt_bf16_f32 : FVec F S8x256x512 .bf16) := by
  unfold_abbrev_sides; after_results; rfl

/-- The result's array before the call: the rows handed in. -/
theorem V_v14 (c : Dev nD) : V m c main_v14_0 = m ((c : Thread nD τ).loc main_arg8) := by
  unfold_abbrev_sides; after_results; rfl

end host

section ideal
variable (m : (ℓ : Loc nD τ sig) → Buf (Elt Ideal) ℓ) (c : Dev nD)

/-- A rounding to bf16 keeps an ideal value. -/
theorem truncf_ideal {s : Shape} (x : FVec Ideal s .f32) (h : FTy.bits .bf16 < FTy.bits .f32) (i : s.Idx) :
    (truncf .bf16 x h : FVec Ideal s .bf16) i = (x i : EReal) := rfl

/-- The queries as the call gets them: block of 256, feature and query, from row and column of the argument. -/
theorem V_v1_apply (n : Fin 64) (a : Fin 1024) (j : Fin 256) :
    V m c main_v1 (ix3 n a j : S64x1024x256.Idx) = m ((c : Thread nD τ).loc main_arg0) (ix2 (⟨n.val * 256 + j.val, by omega⟩ : Fin 16384) a : S16384x1024.Idx) := by
  rw [V_v1]
  refine (transpose_ix3_021_apply _ _ n a j).trans (shapeCast_apply (s := S16384x1024) (t := S64x256x1024) _ _ _ _ ?_)
  rw [Shape.rowMajor_val_three, Shape.rowMajor_val_two]
  rfl

/-- The doubled new keys: both copies of a head's 64 features are that head of the argument. -/
theorem V_v5_apply (r : Fin 16384) (g : Fin 4) (e : Fin 2) (d : Fin 64) :
    V m c main_v5 (ix2 r (⟨g.val * 128 + e.val * 64 + d.val, by omega⟩ : Fin 512) : S16384x512.Idx)
      = m ((c : Thread nD τ).loc main_arg1) (ix2 r (⟨g.val * 64 + d.val, by omega⟩ : Fin 256) : S16384x256.Idx) := by
  rw [V_v5]
  refine (truncf_ideal _ _ _).trans ?_
  refine (shapeCast_apply _ _ _ (ix3 r g (⟨e.val * 64 + d.val, by omega⟩ : Fin 128) : S16384x4x128.Idx) ?_).trans ?_
  · rw [Shape.rowMajor_val_three, Shape.rowMajor_val_two]
    show (r.val * 4 + g.val) * 128 + (e.val * 64 + d.val) = r.val * 512 + (g.val * 128 + e.val * 64 + d.val)
    omega
  have hs : (shapeCast S16384x4x64 (m ((c : Thread nD τ).loc main_arg1)) shapeCasts_S16384x256_S16384x4x64) (ix3 r g d : S16384x4x64.Idx)
      = m ((c : Thread nD τ).loc main_arg1) (ix2 r (⟨g.val * 64 + d.val, by omega⟩ : Fin 256) : S16384x256.Idx) := by
    refine shapeCast_apply (s := S16384x256) (t := S16384x4x64) _ _ _ _ ?_
    rw [Shape.rowMajor_val_three, Shape.rowMajor_val_two]
    show r.val * 256 + (g.val * 64 + d.val) = (r.val * 4 + g.val) * 64 + d.val
    omega
  rw [← hs]
  match e with
  | ⟨0, _⟩ =>
    exact concatenate_pair_apply_left (s₁ := S16384x4x64) (s₂ := S16384x4x64) (2 : Fin S16384x4x128.rank) _ _ _ _ rfl (ix3 r g d : S16384x4x64.Idx) (fun a => by
      match a with
      | ⟨0, _⟩ => rfl
      | ⟨1, _⟩ => rfl
      | ⟨2, _⟩ => show d.val = 0 * 64 + d.val; omega)
  | ⟨1, _⟩ =>
    exact concatenate_pair_apply_right (s₁ := S16384x4x64) (s₂ := S16384x4x64) (2 : Fin S16384x4x128.rank) _ _ _ _ rfl rfl (ix3 r g d : S16384x4x64.Idx) (fun a ha => by
      match a with
      | ⟨0, _⟩ => rfl
      | ⟨1, _⟩ => rfl
      | ⟨2, _⟩ => exact absurd rfl ha) (by show d.val + 64 = 1 * 64 + d.val; omega)

/-- The doubled cached keys: both copies of a head's 64 features are that head of the cache. -/
theorem V_v10_apply (b : Fin 8) (s : Fin 512) (g : Fin 4) (e : Fin 2) (d : Fin 64) :
    V m c main_v10 (ix3 b s (⟨g.val * 128 + e.val * 64 + d.val, by omega⟩ : Fin 512) : S8x512x512.Idx)
      = m ((c : Thread nD τ).loc main_arg3) (ix4 b s g d : S8x512x4x64.Idx) := by
  rw [V_v10]
  refine (truncf_ideal _ _ _).trans ?_
  refine (shapeCast_apply _ _ _ (ix4 b s g (⟨e.val * 64 + d.val, by omega⟩ : Fin 128) : S8x512x4x128.Idx) ?_).trans ?_
  · rw [Shape.rowMajor_val_four, Shape.rowMajor_val_three]
    show ((b.val * 512 + s.val) * 4 + g.val) * 128 + (e.val * 64 + d.val) = (b.val * 512 + s.val) * 512 + (g.val * 128 + e.val * 64 + d.val)
    omega
  match e with
  | ⟨0, _⟩ =>
    exact concatenate_pair_apply_left (s₁ := S8x512x4x64) (s₂ := S8x512x4x64) (3 : Fin S8x512x4x128.rank) _ _ _ _ rfl (ix4 b s g d : S8x512x4x64.Idx) (fun a => by
      match a with
      | ⟨0, _⟩ => rfl
      | ⟨1, _⟩ => rfl
      | ⟨2, _⟩ => rfl
      | ⟨3, _⟩ => show d.val = 0 * 64 + d.val; omega)
  | ⟨1, _⟩ =>
    exact concatenate_pair_apply_right (s₁ := S8x512x4x64) (s₂ := S8x512x4x64) (3 : Fin S8x512x4x128.rank) _ _ _ _ rfl rfl (ix4 b s g d : S8x512x4x64.Idx) (fun a ha => by
      match a with
      | ⟨0, _⟩ => rfl
      | ⟨1, _⟩ => rfl
      | ⟨2, _⟩ => rfl
      | ⟨3, _⟩ => exact absurd rfl ha) (by show d.val + 64 = 1 * 64 + d.val; omega)

/-- The new values as the call gets them: the argument with rows and columns exchanged. -/
theorem V_v7_apply (a : Fin 256) (r : Fin 16384) :
    V m c main_v7 (ix2 a r : S256x16384.Idx) = m ((c : Thread nD τ).loc main_arg2) (ix2 r a : S16384x256.Idx) := by
  rw [V_v7]
  exact transpose_ix2_apply _ _ a r

/-- The cached values as the call gets them: feature of a head first, then the position. -/
theorem V_v13_apply (b : Fin 8) (g : Fin 4) (d : Fin 64) (s : Fin 512) :
    V m c main_v13 (ix3 b (⟨g.val * 64 + d.val, by omega⟩ : Fin 256) s : S8x256x512.Idx)
      = m ((c : Thread nD τ).loc main_arg4) (ix4 b s g d : S8x512x4x64.Idx) := by
  rw [V_v13]
  refine (transpose_ix3_021_apply _ _ b (⟨g.val * 64 + d.val, by omega⟩ : Fin 256) s).trans (shapeCast_apply (s := S8x512x4x64) (t := S8x512x256) _ _ _ _ ?_)
  rw [Shape.rowMajor_val_four, Shape.rowMajor_val_three]
  show ((b.val * 512 + s.val) * 4 + g.val) * 64 + d.val = (b.val * 512 + s.val) * 256 + (g.val * 64 + d.val)
  omega

end ideal

end Cert.KernelIdeal.Gen
-- ==== Proof.BlockRead.lean ====
module

public import proofs.«01_k».proof.Proof.Arrays
public import Idealize.ShloMosaic.Lib.Pipeline.ValueKit

@[expose] public section

set_option maxRecDepth 16384

noncomputable section

namespace Cert.KernelIdeal.Gen

open Idealize.ShloMosaic hiding ix1 ix2 ix3 ix4
open Idealize.ShloMosaic.TcCoe Idealize.ShloMosaic.Tactic Idealize.ShloMosaic.ValueIdx
open Idealize.ShloMosaic.Pipeline (Dat Cfg Window cellOf)
open scoped BigOperators

/-- Where each window's block lies at each point. -/
theorem index0 : ∀ t : Fin cfg0.N, win0_0.index t = ![32 + t.val, 0, 0] ∧ win0_1.index t = ![t.val / 4, 0, 0]
    ∧ win0_2.index t = ![t.val / 4, 0, 0] ∧ win0_3.index t = ![8 + t.val / 4, 0] ∧ win0_4.index t = ![0, 8 + t.val / 4]
    ∧ win0_8.index t = ![32 + t.val, 0] :=
  (by decide +kernel : ∀ t : Fin grid0.N, win0_0.index t = ![32 + t.val, 0, 0] ∧ win0_1.index t = ![t.val / 4, 0, 0]
    ∧ win0_2.index t = ![t.val / 4, 0, 0] ∧ win0_3.index t = ![8 + t.val / 4, 0] ∧ win0_4.index t = ![0, 8 + t.val / 4]
    ∧ win0_8.index t = ![32 + t.val, 0])

/-- The weight windows' block at a grid step, as layer and expert. -/
theorem index0_w : ∀ t : Fin cfg0.N, win0_5.index t = ![t.val / 16, t.val % 16, 0, 0] ∧ win0_6.index t = ![t.val / 16, t.val % 16, 0, 0]
    ∧ win0_7.index t = ![t.val / 16, t.val % 16, 0, 0] ∧ win0_9.index t = ![t.val / 16, t.val % 16, 0, 0]
    ∧ win0_10.index t = ![t.val / 16, t.val % 16, 0, 0] ∧ win0_11.index t = ![t.val / 16, t.val % 16, 0, 0] :=
  (by decide +kernel : ∀ t : Fin grid0.N, win0_5.index t = ![t.val / 16, t.val % 16, 0, 0] ∧ win0_6.index t = ![t.val / 16, t.val % 16, 0, 0]
    ∧ win0_7.index t = ![t.val / 16, t.val % 16, 0, 0] ∧ win0_9.index t = ![t.val / 16, t.val % 16, 0, 0]
    ∧ win0_10.index t = ![t.val / 16, t.val % 16, 0, 0] ∧ win0_11.index t = ![t.val / 16, t.val % 16, 0, 0])

section
variable (m : (ℓ : Loc nD τ sig) → Buf (Elt Ideal) ℓ) (c : Dev nD) (t : Fin cfg0.N)

/-- The block of queries at a grid step, read from the prepared queries. -/
theorem iblk0_apply (a : Fin 1024) (j : Fin 256) : iblk m c 0 t (ix3 (0 : Fin 1) a j : S1x1024x256.Idx)
    = V m c main_v1 (ix3 (⟨32 + t.val, by have : t.val < 32 := t.isLt; omega⟩ : Fin 64) a j : S64x1024x256.Idx) := by
  have ht : t.val < 32 := t.isLt
  obtain ⟨e0, e1, e2, e3, e4, e8⟩ := index0 t
  show V m c main_v1 (((cfg0.win 0).blk t).view.emb _) = _
  blk_ext [iblk, e0]
/-- The block of cached keys at a grid step: the sample's. -/
theorem iblk1_apply (s l : Fin 512) : iblk m c 1 t (ix3 (0 : Fin 1) s l : S1x512x512.Idx)
    = V m c main_v10 (ix3 (⟨t.val / 4, by have : t.val < 32 := t.isLt; omega⟩ : Fin 8) s l : S8x512x512.Idx) := by
  have ht : t.val < 32 := t.isLt
  obtain ⟨e0, e1, e2, e3, e4, e8⟩ := index0 t
  show V m c main_v10 (((cfg0.win 1).blk t).view.emb _) = _
  blk_ext [iblk, e1]
/-- The block of cached values at a grid step: the sample's. -/
theorem iblk2_apply (a : Fin 256) (s : Fin 512) : iblk m c 2 t (ix3 (0 : Fin 1) a s : S1x256x512.Idx)
    = V m c main_v13 (ix3 (⟨t.val / 4, by have : t.val < 32 := t.isLt; omega⟩ : Fin 8) a s : S8x256x512.Idx) := by
  have ht : t.val < 32 := t.isLt
  obtain ⟨e0, e1, e2, e3, e4, e8⟩ := index0 t
  show V m c main_v13 (((cfg0.win 2).blk t).view.emb _) = _
  blk_ext [iblk, e2]
/-- The block of new keys at a grid step: the sample's 1024 rows. -/
theorem iblk3_apply (s : Fin 1024) (l : Fin 512) : iblk m c 3 t (ix2 s l : S1024x512.Idx)
    = V m c main_v5 (ix2 (⟨8192 + t.val / 4 * 1024 + s.val, by have : t.val < 32 := t.isLt; omega⟩ : Fin 16384) l : S16384x512.Idx) := by
  have ht : t.val < 32 := t.isLt
  obtain ⟨e0, e1, e2, e3, e4, e8⟩ := index0 t
  show V m c main_v5 (((cfg0.win 3).blk t).view.emb _) = _
  blk_ext [iblk, e3]
  show (8 + t.val / 4) * 1024 + s.val = 8192 + t.val / 4 * 1024 + s.val
  omega
/-- The block of new values at a grid step: the sample's 1024 columns. -/
theorem iblk4_apply (a : Fin 256) (s : Fin 1024) : iblk m c 4 t (ix2 a s : S256x1024.Idx)
    = V m c main_v7 (ix2 a (⟨8192 + t.val / 4 * 1024 + s.val, by have : t.val < 32 := t.isLt; omega⟩ : Fin 16384) : S256x16384.Idx) := by
  have ht : t.val < 32 := t.isLt
  obtain ⟨e0, e1, e2, e3, e4, e8⟩ := index0 t
  show V m c main_v7 (((cfg0.win 4).blk t).view.emb _) = _
  blk_ext [iblk, e4]
  show (8 + t.val / 4) * 1024 + s.val = 8192 + t.val / 4 * 1024 + s.val
  omega
end

end Cert.KernelIdeal.Gen
-- ==== Proof.Entry.lean ====
module

public import proofs.«01_k».proof.Proof.Attend
public import proofs.«01_k».proof.Proof.Spec

@[expose] public section

set_option maxRecDepth 16384

noncomputable section

namespace Cert.KernelIdeal.Gen

open Idealize.ShloMosaic Idealize.ShloMosaic.TcCoe Idealize.ShloMosaic.Tactic Idealize.ShloMosaic.ValueIdx
open Cert.Attn
open scoped BigOperators

/-- The key a part holds at one of its rows, among all the keys. -/
abbrev keyIx (p : Fin 6) (r : Fin 256) : Fin 1536 := (finProdFinEquiv : Fin 6 × Fin 256 ≃ Fin (6 * 256)) (p, r)

/-- Key `r` of part `p` is key `r + 256 p` of all. -/
theorem keyIx_val (p : Fin 6) (r : Fin 256) : (keyIx p r).val = r.val + 256 * p.val := rfl

section
variable (q : FVec Ideal S1024x256 .bf16)
  (kc : ∀ off : Fin 3 → ℕ, (∀ a, off a + S1x256x128.size a ≤ S1x512x512.size a) → Vec Ideal S1x256x128 .bf16)
  (kn : ∀ off : Fin 2 → ℕ, (∀ a, off a + S256x128.size a ≤ S1024x512.size a) → Vec Ideal S256x128 .bf16)
  (vc : ∀ off : Fin 3 → ℕ, (∀ a, off a + S1x64x256.size a ≤ S1x256x512.size a) → Vec Ideal S1x64x256 .bf16)
  (vn : ∀ off : Fin 2 → ℕ, (∀ a, off a + S64x256.size a ≤ S256x1024.size a) → Vec Ideal S64x256 .bf16)

/-- The queries of a pair, read at an index. -/
theorem pairQ_apply (u : Fin 8) (r : Fin 128) (b : Fin 2) (j : Fin 256) :
    pairQ q u (ix2 r ⟨b.val * 256 + j.val, by omega⟩) = if r.val / 64 = b.val then q (ix2 (⟨128 * u.val + r.val, by omega⟩ : Fin 1024) j) else 0 := by
  unfold pairQ
  rw [headPair_apply]
  congr 1
  exact slice2_axis0_apply (128 * u.val) q _ r j ⟨128 * u.val + r.val, by omega⟩ rfl

/-- A part's scores for one query of one of the two heads: the scaled real product. -/
theorem score_real (k : FVec Ideal S256x128 .bf16) (u : Fin 8) (b : Fin 2) (j : Fin 256) (r : Fin 256) (K Q : Fin 64 → ℝ)
    (hk : ∀ (e : Fin 2) (d : Fin 64), k (ix2 r (⟨e.val * 64 + d.val, by omega⟩ : Fin 128)) = (K d : EReal))
    (hq : ∀ d : Fin 64, q (ix2 (⟨128 * u.val + (b.val * 64 + d.val), by omega⟩ : Fin 1024) j) = ((Q d * qScale : ℝ) : EReal)) :
    score k (pairQ q u) (ix2 r ⟨b.val * 256 + j.val, by omega⟩) = (((∑ d, K d * Q d) * qScale : ℝ) : EReal) := by
  rw [score_apply]
  simp only [pairQ_apply]
  exact half_sum (fun l => k (ix2 r l)) (fun l => q (ix2 (⟨128 * u.val + l.val, by omega⟩ : Fin 1024) j)) K Q b hk hq

/-- The block's entry for one query, one head and one dimension: that query's attention over the keys of the head's group. -/
theorem blockOut_apply (g : Fin 4) (u : Fin 8) (b : Fin 2) (h : Fin 16) (hg : h.val / 4 = g.val) (hu : h.val / 2 = u.val) (hb : h.val % 2 = b.val)
    (j : Fin 256) (d : Fin 64) (Q : Fin 64 → ℝ) (K : Fin 1536 → Fin 64 → ℝ) (v : Fin 1536 → EReal)
    (hq : ∀ d : Fin 64, q (ix2 (⟨h.val * 64 + d.val, by omega⟩ : Fin 1024) j) = ((Q d * qScale : ℝ) : EReal))
    (hkc : ∀ (p : Fin 2) (r : Fin 256) (e : Fin 2) (d : Fin 64), kc ![0, 256 * p.val, 128 * g.val] (inb_kc g p)
      (ix3 (0 : Fin 1) r (⟨e.val * 64 + d.val, by omega⟩ : Fin 128)) = (K (keyIx ⟨p.val, by omega⟩ r) d : EReal))
    (hkn : ∀ (p : Fin 4) (r : Fin 256) (e : Fin 2) (d : Fin 64), kn ![256 * p.val, 128 * g.val] (inb_kn g p)
      (ix2 r (⟨e.val * 64 + d.val, by omega⟩ : Fin 128)) = (K (keyIx ⟨p.val + 2, by omega⟩ r) d : EReal))
    (hvc : ∀ (p : Fin 2) (r : Fin 256), vc ![0, 64 * g.val, 256 * p.val] (inb_vc g p) (ix3 (0 : Fin 1) d r) = v (keyIx ⟨p.val, by omega⟩ r))
    (hvn : ∀ (p : Fin 4) (r : Fin 256), vn ![64 * g.val, 256 * p.val] (inb_vn g p) (ix2 d r) = v (keyIx ⟨p.val + 2, by omega⟩ r)) :
    blockOut q kc kn vc vn (ix2 j (⟨h.val * 64 + d.val, by omega⟩ : Fin 1024))
      = attnAt (fun s d => (K s d : EReal)) v (fun d => (Q d : EReal)) := by
  have hq' : ∀ d : Fin 64, q (ix2 (⟨128 * u.val + (b.val * 64 + d.val), by omega⟩ : Fin 1024) j) = ((Q d * qScale : ℝ) : EReal) := by
    intro d
    rw [← hq d]
    congr 2
    apply Fin.ext
    show 128 * u.val + (b.val * 64 + d.val) = h.val * 64 + d.val
    omega
  unfold blockOut
  refine (show truncf .bf16 (transpose S256x1024 [1, 0] (concatenate S1024x256 0 _ (concatenates_heads (headOut q kc kn vc vn)))
    transposes_S1024x256_p1_0_S256x1024) bitsLt_bf16_f32 (ix2 j (⟨h.val * 64 + d.val, by omega⟩ : Fin 1024))
    = transpose S256x1024 [1, 0] (concatenate S1024x256 0 _ (concatenates_heads (headOut q kc kn vc vn)))
    transposes_S1024x256_p1_0_S256x1024 (ix2 j (⟨h.val * 64 + d.val, by omega⟩ : Fin 1024)) from rfl).trans ?_
  refine (transpose_ix2_apply (a := 1024) (b := 256) _ _ j (⟨h.val * 64 + d.val, by omega⟩ : Fin 1024)).trans ?_
  refine (concatenate_ofFn_apply (s₁ := S64x256) (t := S1024x256) 0 _ _ rfl 64 rfl _ h
    (by show (h.val * 64 + d.val) / 64 = h.val; omega) (ix2 d j : S64x256.Idx)
    (by show d.val = (h.val * 64 + d.val) % 64; omega) (fun c hc => by
      match c with
      | ⟨0, _⟩ => exact absurd rfl hc
      | ⟨1, _⟩ => rfl)).trans ?_
  unfold headOut
  refine (slice2_axis1_apply (256 * (h.val % 2)) _ _ d j ⟨b.val * 256 + j.val, by omega⟩ (by
    show b.val * 256 + j.val = 256 * (h.val % 2) + j.val; omega)).trans ?_
  rw [show (⟨h.val / 4, by omega⟩ : Fin 4) = g from Fin.ext hg, show (⟨h.val / 2, by omega⟩ : Fin 8) = u from Fin.ext hu]
  unfold pairOut
  have hsC : ∀ (p : Fin 2) (r : Fin 256), scoreC q kc g u p (ix2 r ⟨b.val * 256 + j.val, by omega⟩)
      = (((∑ d, K (keyIx ⟨p.val, by omega⟩ r) d * Q d) * qScale : ℝ) : EReal) := fun p r =>
    score_real q _ u b j r (K (keyIx ⟨p.val, by omega⟩ r)) Q (fun e d =>
      (shapeCast_1ab_ab_apply _ _ r (⟨e.val * 64 + d.val, by omega⟩ : Fin 128)).trans (hkc p r e d)) hq'
  have hsN : ∀ (p : Fin 4) (r : Fin 256), scoreN q kn g u p (ix2 r ⟨b.val * 256 + j.val, by omega⟩)
      = (((∑ d, K (keyIx ⟨p.val + 2, by omega⟩ r) d * Q d) * qScale : ℝ) : EReal) := fun p r =>
    score_real q _ u b j r (K (keyIx ⟨p.val + 2, by omega⟩ r)) Q (fun e d => by
      rw [shapeCast_self]; exact hkn p r e d) hq'
  have hV : ∀ (p : Fin 2) (r : Fin 256), valC vc g p (ix2 d r) = v (keyIx ⟨p.val, by omega⟩ r) := fun p r =>
    (shapeCast_1ab_ab_apply _ _ d r).trans (hvc p r)
  have hN : ∀ (p : Fin 4) (r : Fin 256), valN vn g p (ix2 d r) = v (keyIx ⟨p.val + 2, by omega⟩ r) := fun p r => by
    unfold valN; rw [shapeCast_self]; exact hvn p r
  let e : Fin 6 × Fin 256 ≃ Fin 1536 := (finProdFinEquiv : Fin 6 × Fin 256 ≃ Fin (6 * 256))
  let x : Fin 6 × Fin 256 → ℝ := fun i => ∑ d, K (e i) d * Q d
  obtain ⟨i₀, hi₀⟩ := sup_coe_attained x
  refine (unitOut_apply ![scoreC q kc g u 0, scoreC q kc g u 1, scoreN q kn g u 0, scoreN q kn g u 1, scoreN q kn g u 2, scoreN q kn g u 3]
    ![valC vc g 0, valC vc g 1, valN vn g 0, valN vn g 1, valN vn g 2, valN vn g 3] d ⟨b.val * 256 + j.val, by omega⟩ x ?_ _ i₀ hi₀ rfl).trans ?_
  · rintro ⟨p, r⟩
    match p with
    | ⟨0, _⟩ => exact hsC 0 r
    | ⟨1, _⟩ => exact hsC 1 r
    | ⟨2, _⟩ => exact hsN 0 r
    | ⟨3, _⟩ => exact hsN 1 r
    | ⟨4, _⟩ => exact hsN 2 r
    | ⟨5, _⟩ => exact hsN 3 r
  · rw [← attnAt_real e K v Q i₀ hi₀]
    refine Finset.sum_congr rfl ?_
    rintro ⟨p, r⟩ _
    congr 1
    match p with
    | ⟨0, _⟩ => exact hV 0 r
    | ⟨1, _⟩ => exact hV 1 r
    | ⟨2, _⟩ => exact hN 0 r
    | ⟨3, _⟩ => exact hN 1 r
    | ⟨4, _⟩ => exact hN 2 r
    | ⟨5, _⟩ => exact hN 3 r

end

/-- The scaled queries a block reads, at an index. -/
theorem scaledQ_apply (x : Vec Ideal S1x1024x256 .f32) (a : Fin 1024) (j : Fin 256) :
    k0_pay5 x (ix2 a j) = x (ix3 (0 : Fin 1) a j) * ((qScale : ℝ) : EReal) := by
  unfold k0_pay5
  show shapeCast S1024x256 x shapeCasts_S1x1024x256_S1024x256 (ix2 a j) * (Named.named (F := Ideal) (φ := .f32) κ "q_scale" 0x3E38AA3B#32 : EReal) = _
  rw [shapeCast_1ab_ab_apply, IdealRules.named_const.ideal_named_scalar _ _ _ _ rfl]
  rfl

end Cert.KernelIdeal.Gen
-- ==== Proof.Out.lean ====
module

public import proofs.«01_k».proof.Proof.BlockRead
public import proofs.«01_k».proof.Proof.Entry
public import proofs.«01_k».proof.Proof.RefValue

@[expose] public section

set_option maxRecDepth 16384

noncomputable section

namespace Cert.KernelIdeal.Gen

open Idealize.ShloMosaic hiding ix1 ix2 ix3 ix4
open Idealize.ShloMosaic.TcCoe Idealize.ShloMosaic.Tactic Idealize.ShloMosaic.ValueIdx
open Idealize.ShloMosaic.Pipeline (Dat Cfg Window cellOf)
open Cert.Attn Cert.KernelIdeal.Value
open scoped BigOperators

section weights
variable {F : FTy → Type} [FloatOps F] [Named F]
variable (m : (ℓ : Loc nD τ sig) → Buf (Elt F) ℓ)

/-- The body's run writes, as its piece of the second result, the cast of the weights it reads. -/
theorem run_piece9 (c : Dev nD) (t : Fin cfg0.N) : (outsAt0 m c t).2.1 = k0_pay2 (iblk m c 5 t) := by
  have e : iblk m c 5 t = View.readAt (Elt F) (ms0_5 t).view (Rect.unit (s := S1x2x1024x256) ![0, 0, 0, 0] S1x2x1024x256.size
      inb_S1x2x1024x256_S1x2x1024x256_0_0_0_0).toLoadRect ((hs0_5 t).unread (iblk m c 5 t)) := by
    rw [View.readAt_eq_ld, (hs0_5 t).read_unread]; exact (View.ld_unit_zero (S := S1x2x1024x256) (by decide) _ _).symm
  refine Eq.trans ?_ (congrArg (fun x => k0_pay2 x) e.symm)
  unfold outsAt0 out0_A_9
  dsimp only
  rw [View.read_writes_eq_canon _ _ _ (fun y => cover0_A_9 c _ _ _ _ _ _ _ _ _ _ _ _ _ _ _ _ _ _ _ _ _ _ _ _ _ _ _ _ _ _ _ _ _ y)]
  unfold kernelRun0_A
  dsimp only
  rw [View.canon_unit_zero (S := S1x2x1024x256) (by decide)]

/-- … of the third result. -/
theorem run_piece10 (c : Dev nD) (t : Fin cfg0.N) : (outsAt0 m c t).2.2.1 = k0_pay3 (iblk m c 6 t) := by
  have e : iblk m c 6 t = View.readAt (Elt F) (ms0_6 t).view (Rect.unit (s := S1x2x1024x256) ![0, 0, 0, 0] S1x2x1024x256.size
      inb_S1x2x1024x256_S1x2x1024x256_0_0_0_0).toLoadRect ((hs0_6 t).unread (iblk m c 6 t)) := by
    rw [View.readAt_eq_ld, (hs0_6 t).read_unread]; exact (View.ld_unit_zero (S := S1x2x1024x256) (by decide) _ _).symm
  refine Eq.trans ?_ (congrArg (fun x => k0_pay3 x) e.symm)
  unfold outsAt0 out0_A_10
  dsimp only
  rw [View.read_writes_eq_canon _ _ _ (fun y => cover0_A_10 c _ _ _ _ _ _ _ _ _ _ _ _ _ _ _ _ _ _ _ _ _ _ _ _ _ _ _ _ _ _ _ _ _ y)]
  unfold kernelRun0_A
  dsimp only
  rw [View.canon_unit_zero (S := S1x2x1024x256) (by decide)]

/-- … and of the fourth. -/
theorem run_piece11 (c : Dev nD) (t : Fin cfg0.N) : (outsAt0 m c t).2.2.2 = k0_pay4 (iblk m c 7 t) := by
  have e : iblk m c 7 t = View.readAt (Elt F) (ms0_7 t).view (Rect.unit (s := S1x2x256x1024) ![0, 0, 0, 0] S1x2x256x1024.size
      inb_S1x2x256x1024_S1x2x256x1024_0_0_0_0).toLoadRect ((hs0_7 t).unread (iblk m c 7 t)) := by
    rw [View.readAt_eq_ld, (hs0_7 t).read_unread]; exact (View.ld_unit_zero (S := S1x2x256x1024) (by decide) _ _).symm
  refine Eq.trans ?_ (congrArg (fun x => k0_pay4 x) e.symm)
  unfold outsAt0 out0_A_11
  dsimp only
  rw [View.read_writes_eq_canon _ _ _ (fun y => cover0_A_11 c _ _ _ _ _ _ _ _ _ _ _ _ _ _ _ _ _ _ _ _ _ _ _ _ _ _ _ _ _ _ _ _ _ y)]
  unfold kernelRun0_A
  dsimp only
  rw [View.canon_unit_zero (S := S1x2x256x1024) (by decide)]

/-- The call gets the gate weights as given. -/
theorem V_arg5 (c : Dev nD) : V m c main_arg5 = m ((c : Thread nD τ).loc main_arg5) := by unfold_abbrev_sides; after_results
/-- The call gets the up weights as given. -/
theorem V_arg6 (c : Dev nD) : V m c main_arg6 = m ((c : Thread nD τ).loc main_arg6) := by unfold_abbrev_sides; after_results
/-- The call gets the down weights as given. -/
theorem V_arg7 (c : Dev nD) : V m c main_arg7 = m ((c : Thread nD τ).loc main_arg7) := by unfold_abbrev_sides; after_results

/-- The second result: the first weights, cast. -/
theorem arr9 (c : Dev nD) : (dats m 0 c).arrAt 9 cfg0.N = (truncf .bf16 (m ((c : Thread nD τ).loc main_arg5) : FVec F S2x32x1024x256 .f32) bitsLt_bf16_f32 : FVec F S2x32x1024x256 .bf16) := by
  refine (dats m 0 c).arrAt_eq_of_covers 9 _ (by decide +kernel) fun t hf y => ?_
  rw [after0_9, run_piece9]
  obtain ⟨e5, e6, e7, e9, e10, e11⟩ := index0_w t
  show FloatOps.truncf .bf16 bitsLt_bf16_f32 (V m c main_arg5 (((cfg0.win 5).blk t).view.emb y)) = FloatOps.truncf .bf16 bitsLt_bf16_f32 (m ((c : Thread nD τ).loc main_arg5) (((cfg0.win 9).blk t).view.emb y))
  rw [V_arg5]
  congr 2
  blk_ext [e5, e9]

/-- The third result: the second weights, cast. -/
theorem arr10 (c : Dev nD) : (dats m 0 c).arrAt 10 cfg0.N = (truncf .bf16 (m ((c : Thread nD τ).loc main_arg6) : FVec F S2x32x1024x256 .f32) bitsLt_bf16_f32 : FVec F S2x32x1024x256 .bf16) := by
  refine (dats m 0 c).arrAt_eq_of_covers 10 _ (by decide +kernel) fun t hf y => ?_
  rw [after0_10, run_piece10]
  obtain ⟨e5, e6, e7, e9, e10, e11⟩ := index0_w t
  show FloatOps.truncf .bf16 bitsLt_bf16_f32 (V m c main_arg6 (((cfg0.win 6).blk t).view.emb y)) = FloatOps.truncf .bf16 bitsLt_bf16_f32 (m ((c : Thread nD τ).loc main_arg6) (((cfg0.win 10).blk t).view.emb y))
  rw [V_arg6]
  congr 2
  blk_ext [e6, e10]

/-- The fourth result: the third weights, cast. -/
theorem arr11 (c : Dev nD) : (dats m 0 c).arrAt 11 cfg0.N = (truncf .bf16 (m ((c : Thread nD τ).loc main_arg7) : FVec F S2x32x256x1024 .f32) bitsLt_bf16_f32 : FVec F S2x32x256x1024 .bf16) := by
  refine (dats m 0 c).arrAt_eq_of_covers 11 _ (by decide +kernel) fun t hf y => ?_
  rw [after0_11, run_piece11]
  obtain ⟨e5, e6, e7, e9, e10, e11⟩ := index0_w t
  show FloatOps.truncf .bf16 bitsLt_bf16_f32 (V m c main_arg7 (((cfg0.win 7).blk t).view.emb y)) = FloatOps.truncf .bf16 bitsLt_bf16_f32 (m ((c : Thread nD τ).loc main_arg7) (((cfg0.win 11).blk t).view.emb y))
  rw [V_arg7]
  congr 2
  blk_ext [e7, e11]

/-- The first result keeps the rows before the attended ones. -/
theorem arr8_kept (c : Dev nD) (r : Fin 16384) (j : Fin 1024) (hr : r.val < 8192) :
    (dats m 0 c).arrAt 8 cfg0.N (ix2 r j : S16384x1024.Idx) = m ((c : Thread nD τ).loc main_arg8) (ix2 r j : S16384x1024.Idx) := by
  rw [entry8 m c _ (fun t _ hm => ?_)]
  · exact congrFun (V_v14 m c) _
  · obtain ⟨e0, e1, e2, e3, e4, e8⟩ := index0 t
    have hm' : (ix2 r j : S16384x1024.Idx) ∈ ((View.whole main_v14_0).slice (win0_8.rect t)).set := hm
    rw [View.set_slice_whole, Rect.mem_set_unit] at hm'
    have h0 := (hm' 0).1
    have h1 : (win0_8.index t 0) * 256 ≤ r.val := h0
    rw [e8] at h1
    have h2 : (32 + t.val) * 256 ≤ r.val := h1
    omega

/-- The first result's row `8192 + 256 t + j` is row `j` of what point `t` leaves. -/
theorem arr8_block (c : Dev nD) (t : Fin cfg0.N) (j : Fin 256) (a : Fin 1024) :
    (dats m 0 c).arrAt 8 cfg0.N (ix2 (⟨8192 + t.val * 256 + j.val, by have : t.val < 32 := t.isLt; omega⟩ : Fin 16384) a : S16384x1024.Idx)
      = (outsAt0 m c t).1 (ix2 j a : S256x1024.Idx) := by
  have ht : t.val < 32 := t.isLt
  have hf : (cfg0.win 8).flush t = true := (by decide +kernel : ∀ t : Fin grid0.N, win0_8.flush t = true) t
  have hb := congrFun (blocks8 m c t hf) (ix2 j a : S256x1024.Idx)
  rw [flushed8] at hb
  refine Eq.trans (congrArg ((dats m 0 c).arrAt 8 cfg0.N) ?_) hb
  obtain ⟨e0, e1, e2, e3, e4, e8⟩ := index0 t
  symm
  show ((cfg0.win 8).blk t).view.emb (ix2 j a : S256x1024.Idx) = _
  blk_ext [e8]
  show (32 + t.val) * 256 + j.val = 8192 + t.val * 256 + j.val
  omega
end weights

end Cert.KernelIdeal.Gen
-- ==== Proof.Result.lean ====
module

public import proofs.«01_k».proof.Proof.Out

@[expose] public section

set_option maxRecDepth 16384

noncomputable section

namespace Cert.KernelIdeal.Gen

open Idealize.ShloMosaic hiding ix1 ix2 ix3 ix4
open Idealize.ShloMosaic.TcCoe Idealize.ShloMosaic.Tactic Idealize.ShloMosaic.ValueIdx
open Idealize.ShloMosaic.Pipeline (Dat Cfg Window cellOf)
open Cert.Attn
open scoped BigOperators

variable (m : (ℓ : Loc nD τ sig) → Buf (Elt Ideal) ℓ)

/-- What point `t` leaves at one query, one head and one dimension: that query's attention, its arguments real. -/
theorem block_attended (c : Dev nD) (t : Fin cfg0.N) (j : Fin 256) (h : Fin 16) (d : Fin 64) (b : Fin 8) (hb : b.val = t.val / 4) (r : Fin 16384)
    (hr : r.val = 8192 + t.val * 256 + j.val) (g : Fin 4) (hg : h.val / 4 = g.val)
    (Q : Fin 64 → ℝ) (hQ : ∀ d, queryAt (m ((c : Thread nD τ).loc main_arg0)) r h d = (Q d : EReal))
    (K : Fin 1536 → Fin 64 → ℝ)
    (hK : ∀ s d, rowAt (m ((c : Thread nD τ).loc main_arg3)) (m ((c : Thread nD τ).loc main_arg1)) b g s d = (K s d : EReal)) :
    (outsAt0 m c t).1 (ix2 j (⟨h.val * 64 + d.val, by omega⟩ : Fin 1024) : S256x1024.Idx)
      = attnAt (fun s d => (K s d : EReal)) (fun s => rowAt (m ((c : Thread nD τ).loc main_arg4)) (m ((c : Thread nD τ).loc main_arg2)) b g s d)
          (fun d => (Q d : EReal)) := by
  have ht : t.val < 32 := t.isLt
  have hbt : (⟨t.val / 4, by omega⟩ : Fin 8) = b := Fin.ext hb.symm
  have hkc : ∀ (p : Fin 2) (r : Fin 256), (keyIx ⟨p.val, by omega⟩ r).val = r.val + 256 * p.val := fun p r => rfl
  have hkn : ∀ (p : Fin 4) (r : Fin 256), (keyIx ⟨p.val + 2, by omega⟩ r).val = r.val + 256 * (p.val + 2) := fun p r => rfl
  rw [run_piece8]
  refine blockOut_apply _ _ _ _ _ g ⟨h.val / 2, by omega⟩ ⟨h.val % 2, by omega⟩ h hg rfl rfl j d Q K _ ?_ ?_ ?_ ?_ ?_
  · intro d
    rw [scaledQ_apply, iblk0_apply, V_v1_apply, EReal.coe_mul, ← hQ]
    unfold queryAt
    congr 3
    apply Fin.ext
    show (32 + t.val) * 256 + j.val = r.val
    omega
  · intro p r e d
    refine (View.ld_unit_apply_of _ _ _ _ _ (ix3 (0 : Fin 1) (⟨256 * p.val + r.val, by omega⟩ : Fin 512)
      (⟨g.val * 128 + e.val * 64 + d.val, by omega⟩ : Fin 512) : S1x512x512.Idx) (fun a => ?_)).trans ?_
    · match a with
      | ⟨0, _⟩ => rfl
      | ⟨1, _⟩ => rfl
      | ⟨2, _⟩ => show g.val * 128 + e.val * 64 + d.val = 128 * g.val + (e.val * 64 + d.val); omega
    · rw [iblk1_apply, V_v10_apply, ← hK, hbt]
      unfold rowAt
      rw [dif_pos (by rw [hkc]; omega)]
      congr 2
      apply Fin.ext
      show 256 * p.val + r.val = (keyIx ⟨p.val, by omega⟩ r).val
      rw [hkc]; omega
  · intro p r e d
    refine (View.ld_unit_apply_of _ _ _ _ _ (ix2 (⟨256 * p.val + r.val, by omega⟩ : Fin 1024)
      (⟨g.val * 128 + e.val * 64 + d.val, by omega⟩ : Fin 512) : S1024x512.Idx) (fun a => ?_)).trans ?_
    · match a with
      | ⟨0, _⟩ => rfl
      | ⟨1, _⟩ => show g.val * 128 + e.val * 64 + d.val = 128 * g.val + (e.val * 64 + d.val); omega
    · rw [iblk3_apply, V_v5_apply, ← hK]
      unfold rowAt
      rw [dif_neg (by rw [hkn]; omega)]
      congr 2
      apply Fin.ext
      show 8192 + t.val / 4 * 1024 + (256 * p.val + r.val) = 8192 + b.val * 1024 + ((keyIx ⟨p.val + 2, by omega⟩ r).val - 512)
      rw [hkn, hb]; omega
  · intro p r
    refine (View.ld_unit_apply_of _ _ _ _ _ (ix3 (0 : Fin 1) (⟨g.val * 64 + d.val, by omega⟩ : Fin 256)
      (⟨256 * p.val + r.val, by omega⟩ : Fin 512) : S1x256x512.Idx) (fun a => ?_)).trans ?_
    · match a with
      | ⟨0, _⟩ => rfl
      | ⟨1, _⟩ => show g.val * 64 + d.val = 64 * g.val + d.val; omega
      | ⟨2, _⟩ => rfl
    · rw [iblk2_apply, V_v13_apply, hbt]
      unfold rowAt
      rw [dif_pos (by rw [hkc]; omega)]
      congr 2
      apply Fin.ext
      show 256 * p.val + r.val = (keyIx ⟨p.val, by omega⟩ r).val
      rw [hkc]; omega
  · intro p r
    refine (View.ld_unit_apply_of _ _ _ _ _ (ix2 (⟨g.val * 64 + d.val, by omega⟩ : Fin 256)
      (⟨256 * p.val + r.val, by omega⟩ : Fin 1024) : S256x1024.Idx) (fun a => ?_)).trans ?_
    · match a with
      | ⟨0, _⟩ => show g.val * 64 + d.val = 64 * g.val + d.val; omega
      | ⟨1, _⟩ => rfl
    · rw [iblk4_apply, V_v7_apply]
      unfold rowAt
      rw [dif_neg (by rw [hkn]; omega)]
      congr 2
      apply Fin.ext
      show 8192 + t.val / 4 * 1024 + (256 * p.val + r.val) = 8192 + b.val * 1024 + ((keyIx ⟨p.val + 2, by omega⟩ r).val - 512)
      rw [hkn, hb]; omega

/-- The kernel's first result is the reference's, where the attended queries and keys are real. -/
theorem arr8 (c : Dev nD)
    (hq : ∀ (r : Fin 16384) (j : Fin 1024), 8192 ≤ r.val → ∃ x : ℝ, m ((c : Thread nD τ).loc main_arg0) (ix2 r j : S16384x1024.Idx) = (x : EReal))
    (hk : ∀ (r : Fin 16384) (j : Fin 256), 8192 ≤ r.val → ∃ x : ℝ, m ((c : Thread nD τ).loc main_arg1) (ix2 r j : S16384x256.Idx) = (x : EReal))
    (hc : ∀ i : S8x512x4x64.Idx, ∃ x : ℝ, m ((c : Thread nD τ).loc main_arg3) i = (x : EReal)) :
    (dats m 0 c).arrAt 8 cfg0.N = Cert.ReferenceIdeal.Read.val_main_v28 (F := Ideal) (m ((c : Thread nD τ).loc main_arg0)) (m ((c : Thread nD τ).loc main_arg1))
      (m ((c : Thread nD τ).loc main_arg2)) (m ((c : Thread nD τ).loc main_arg3)) (m ((c : Thread nD τ).loc main_arg4)) (m ((c : Thread nD τ).loc main_arg8)) := by
  funext i
  obtain ⟨r, a, rfl⟩ : ∃ (r : Fin 16384) (a : Fin 1024), i = (ix2 r a : S16384x1024.Idx) :=
    ⟨i 0, i 1, funext fun x => match x with | ⟨0, _⟩ => rfl | ⟨1, _⟩ => rfl⟩
  by_cases hr : r.val < 8192
  · exact (arr8_kept m c r a hr).trans (Cert.ReferenceIdeal.Read.result_kept _ _ _ _ _ _ r a hr).symm
  · obtain ⟨t, j, hj⟩ : ∃ (t : Fin 32) (j : Fin 256), r.val = 8192 + t.val * 256 + j.val :=
      ⟨⟨(r.val - 8192) / 256, by omega⟩, ⟨(r.val - 8192) % 256, by omega⟩, by show r.val = 8192 + (r.val - 8192) / 256 * 256 + (r.val - 8192) % 256; omega⟩
    obtain ⟨h, d, rfl⟩ : ∃ (h : Fin 16) (d : Fin 64), a = ⟨h.val * 64 + d.val, by omega⟩ :=
      ⟨⟨a.val / 64, by omega⟩, ⟨a.val % 64, by omega⟩, Fin.ext (by show a.val = a.val / 64 * 64 + a.val % 64; omega)⟩
    have e1 : r = ⟨8192 + t.val * 256 + j.val, by omega⟩ := Fin.ext hj
    have e2 : r = ⟨8192 + (⟨t.val / 4, by omega⟩ : Fin 8).val * 1024 + (⟨t.val % 4 * 256 + j.val, by omega⟩ : Fin 1024).val, by
        show 8192 + t.val / 4 * 1024 + (t.val % 4 * 256 + j.val) < 16384; omega⟩ :=
      Fin.ext (by show r.val = 8192 + t.val / 4 * 1024 + (t.val % 4 * 256 + j.val); omega)
    have hQ : ∀ d, ∃ x : ℝ, queryAt (m ((c : Thread nD τ).loc main_arg0)) r h d = (x : EReal) := fun d => hq _ _ (by omega)
    choose Q hQ using hQ
    have hK : ∀ s d, ∃ x : ℝ, rowAt (m ((c : Thread nD τ).loc main_arg3)) (m ((c : Thread nD τ).loc main_arg1)) ⟨t.val / 4, by omega⟩ ⟨h.val / 4, by omega⟩ s d = (x : EReal) := by
      intro s d
      unfold rowAt
      split
      · exact hc _
      · exact hk _ _ (by show 8192 ≤ 8192 + t.val / 4 * 1024 + _; omega)
    choose K hK using hK
    have hx := block_attended m c t j h d ⟨t.val / 4, by omega⟩ rfl r hj ⟨h.val / 4, by omega⟩ rfl Q hQ K hK
    have hy := Cert.ReferenceIdeal.Read.result_attended (m ((c : Thread nD τ).loc main_arg0)) (m ((c : Thread nD τ).loc main_arg1))
      (m ((c : Thread nD τ).loc main_arg2)) (m ((c : Thread nD τ).loc main_arg3)) (m ((c : Thread nD τ).loc main_arg4)) (m ((c : Thread nD τ).loc main_arg8))
      ⟨t.val / 4, by omega⟩ ⟨t.val % 4 * 256 + j.val, by omega⟩ h d
    rw [← e2] at hy
    have eK : (fun s d => (K s d : EReal)) = rowAt (m ((c : Thread nD τ).loc main_arg3)) (m ((c : Thread nD τ).loc main_arg1)) ⟨t.val / 4, by omega⟩ ⟨h.val / 4, by omega⟩ :=
      funext fun s => funext fun d => (hK s d).symm
    have eQ : (fun d => (Q d : EReal)) = queryAt (m ((c : Thread nD τ).loc main_arg0)) r h := funext fun d => (hQ d).symm
    rw [eK, eQ] at hx
    have e0 : (dats m 0 c).arrAt 8 cfg0.N (ix2 r (⟨h.val * 64 + d.val, by omega⟩ : Fin 1024) : S16384x1024.Idx)
        = (dats m 0 c).arrAt 8 cfg0.N (ix2 (⟨8192 + t.val * 256 + j.val, by omega⟩ : Fin 16384) (⟨h.val * 64 + d.val, by omega⟩ : Fin 1024) : S16384x1024.Idx) := by
      congr 2
    exact (e0.trans (arr8_block m c t j _)).trans (hx.trans hy.symm)

end Cert.KernelIdeal.Gen
-- ==== Proof.lean ====
module

public import proofs.«01_k».proof.Proof.Gen.Kernel2
public import proofs.«01_k».proof.Proof.Gen.Kernel2.Launch
public import proofs.«01_k».proof.Proof.Gen.Kernel2Ideal
public import proofs.«01_k».proof.Proof.Gen.Kernel2Ideal.Launch
public import proofs.«01_k».proof.Proof.Gen.Reference2Ideal
public import proofs.«01_k».proof.Proof.Gen.Reference2Ideal.Run
public import proofs.«01_k».proof.Proof.Gen.Reference2Ideal.Read
public import proofs.«01_k».proof.Proof.ExpertsAlgebraic
public import proofs.«01_k».proof.Proof.CombineClaims
public import proofs.«01_k».proof.Proof.AdaClaims
public import proofs.«01_k».proof.Proof.CtxClaims
public import proofs.«01_k».proof.Proof.Gen.Kernel3.Frame
public import proofs.«01_k».proof.Proof.Gen.Kernel3Ideal.Frame
public import proofs.«01_k».proof.Proof.Gen.Reference3Ideal.Run
public import proofs.«01_k».proof.Proof.Gen.Reference3Ideal.Read
public import proofs.«01_k».proof.Proof.Gen.Kernel4.Frame
public import proofs.«01_k».proof.Proof.Gen.Kernel4Ideal.Frame
public import proofs.«01_k».proof.Proof.Gen.Reference4Ideal.Run
public import proofs.«01_k».proof.Proof.Gen.Reference4Ideal.Read
public import proofs.«01_k».proof.Proof.Gen.Kernel5.Frame
public import proofs.«01_k».proof.Proof.Gen.Kernel5Ideal.Frame
public import proofs.«01_k».proof.Proof.Gen.Reference5Ideal.Run
public import proofs.«01_k».proof.Proof.Gen.Reference5Ideal.Read
public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Result
public import proofs.«01_k».proof.Proof.Precond
public import Idealize.ShloMosaic.Adequacy
public import Idealize.ShloMosaic.Init

@[expose] public section

noncomputable section

namespace Cert.Proof

open Idealize.ShloMosaic Idealize.SL.Sem

/-- The reference's run leaves its arguments and every semaphore counter at zero. -/
theorem frame_ref : Cert.quiescent_ReferenceIdeal (hReferenceIdeal := Cert.ReferenceIdeal.Gen.facts) := fun m ρ _ =>
  (θ_run Cert.ReferenceIdeal.defs _ _).mono (fun r h => ⟨fun c => (h c).2.2.2.2,
      Idealize.ShloMosaic.sem_eq_zero_of_no_sems (by decide) r.2⟩)
    (Cert.ReferenceIdeal.Value.run (F := Ideal) m ρ)

/-- The kernel's results are the reference's, the scores' arguments real. -/
theorem algebraic : Cert.algebraic_KernelIdeal_ReferenceIdeal_pre_finite_scores (hKernelIdeal := Cert.KernelIdeal.Gen.facts)
    (hReferenceIdeal := Cert.ReferenceIdeal.Gen.facts) (hPre_finite_scores := Cert.Pre_finite_scores.facts) := by
  intro m ρ m' ρ' hpre hagree
  refine ⟨_, _, _, _, Cert.KernelIdeal.Value.run_blocks (F := Ideal) m ρ, ?_⟩
  refine (θ_run Cert.ReferenceIdeal.defs _ _).mono (fun _ h c => ?_) (Cert.ReferenceIdeal.Value.run (F := Ideal) m' ρ')
  obtain ⟨h28, h29, h30, h31, hargs⟩ := h c
  obtain ⟨a0, a1, a2, a3, a4, a5, a6, a7, a8⟩ := hagree c
  obtain ⟨hq, hk, hc⟩ := @Cert.Pre_finite_scores.reals Cert.Pre_finite_scores.facts _ _ _ _ _ _ _ _ _ (hpre c)
  refine ⟨h28.trans ?_, h29.trans ?_, h30.trans ?_, h31.trans ?_, hargs⟩
  · rw [Cert.ReferenceIdeal.Read.val_main_v28_eq, a0, a1, a2, a3, a4, a8]
    exact (Cert.KernelIdeal.Gen.arr8 m c hq hk hc).symm
  · rw [a5]; exact (Cert.KernelIdeal.Gen.arr9 m c).symm
  · rw [a6]; exact (Cert.KernelIdeal.Gen.arr10 m c).symm
  · rw [a7]; exact (Cert.KernelIdeal.Gen.arr11 m c).symm

/-- Every claim of the certificate. -/
theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Pre_finite_scores.facts, Cert.Pre_planned.facts, Cert.Pre_finite_ctx.facts,
    fun m ρ _ => Cert.Kernel.Gen.frame m ρ, fun m ρ _ => Cert.KernelIdeal.Gen.frame m ρ, fun m ρ _ => Cert.KernelIdeal.Gen.frame m ρ,
    frame_ref, fun m ρ _ => frame_ref m ρ trivial,
    frame_experts, frame_experts_ideal, frame_experts_ref, fun m ρ _ => frame_experts_ref m ρ trivial,
    fun m ρ _ => Cert.Kernel3.Gen.frame m ρ, fun m ρ _ => Cert.Kernel3Ideal.Gen.frame m ρ, frame_combine_ref,
    fun m ρ _ => Cert.Kernel4.Gen.frame m ρ, fun m ρ _ => Cert.Kernel4Ideal.Gen.frame m ρ, frame_ada_ref,
    fun m ρ _ => Cert.Kernel5.Gen.frame m ρ, fun m ρ _ => Cert.Kernel5Ideal.Gen.frame m ρ, fun m ρ _ => Cert.Kernel5Ideal.Gen.frame m ρ,
    frame_ctx_ref, fun m ρ _ => frame_ctx_ref m ρ trivial,
    IdealRules.named_const.statement Cert.KernelIdeal.κ "q_scale" .f32 0x3E38AA3B#32 (((1 / 8) * (Real.log 2)⁻¹ : ℝ) : EReal) rfl,
    algebraic, preserves_experts, algebraic_experts, preserves_combine, algebraic_combine, preserves_ada, algebraic_ada,
    preserves_ctx, algebraic_ctx⟩

end Cert.Proof

end
